-- ==== Defs.lean ====
def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_finite [hPre_in_proj_finite : Cert.Pre_in_proj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).2.2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).2.2.2.2.2.1 = (fun _ => 1#1)
    ∧ (Cert.Pre_in_proj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7))).2.2.2.2.2.2 = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_in_proj_finite [hPre_in_proj_finite : Cert.Pre_in_proj_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).2.2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).2.2.2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).2.2.2.2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).2.2.2.2.2.1 = (fun _ => 1#1)
    ∧ (Cert.Pre_in_proj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7))).2.2.2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_tail_finite [hPre_tail_finite : Cert.Pre_tail_finite.Facts] (m : (ℓ : Loc Cert.TailIdeal.nD Cert.TailIdeal.τ Cert.TailIdeal.sig) → Buf (Elt Ideal) ℓ) : Prop :=
  ∀ c : Dev Cert.TailIdeal.nD,
    (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2.2.2.2.2.1 = (fun _ => 1#1)
    ∧ (Cert.Pre_tail_finite.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7))).2.2.2.2.2.2.2 = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_tail_finite [hPre_tail_finite : Cert.Pre_tail_finite.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2.2.2.2.2.1 = (fun _ => 1#1)
    ∧ (Cert.Pre_tail_finite.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7))).2.2.2.2.2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.1 = (fun _ => 1#1)
    ∧ (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))).2.2.2 = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.1 = (fun _ => 1#1)
    ∧ (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))).2.2.2 = (fun _ => 1#1)

def Pre_Param (m : (ℓ : Loc Cert.Param.nD Cert.Param.τ Cert.Param.sig) → Buf (Elt Bits) ℓ) : Prop :=
  True

def Pre_ParamIdeal (m : (ℓ : Loc Cert.ParamIdeal.nD Cert.ParamIdeal.τ Cert.ParamIdeal.sig) → Buf (Elt Ideal) ℓ) : Prop :=
  True

def Pre_ParamIdeal_steps_finite [hPre_steps_finite : Cert.Pre_steps_finite.Facts] (m : (ℓ : Loc Cert.ParamIdeal.nD Cert.ParamIdeal.τ Cert.ParamIdeal.sig) → Buf (Elt Ideal) ℓ) : Prop :=
  ∀ c : Dev Cert.ParamIdeal.nD,
    (Cert.Pre_steps_finite.fn (F := Ideal) (m ((c.tc : Thread Cert.ParamIdeal.nD Cert.ParamIdeal.τ).loc Cert.ParamIdeal.main_arg0)) (m ((c.tc : Thread Cert.ParamIdeal.nD Cert.ParamIdeal.τ).loc Cert.ParamIdeal.main_arg1)) (m ((c.tc : Thread Cert.ParamIdeal.nD Cert.ParamIdeal.τ).loc Cert.ParamIdeal.main_arg2)) (m ((c.tc : Thread Cert.ParamIdeal.nD Cert.ParamIdeal.τ).loc Cert.ParamIdeal.main_arg3)) (m ((c.tc : Thread Cert.ParamIdeal.nD Cert.ParamIdeal.τ).loc Cert.ParamIdeal.main_arg4)) (m ((c.tc : Thread Cert.ParamIdeal.nD Cert.ParamIdeal.τ).loc Cert.ParamIdeal.main_arg5)) (m ((c.tc : Thread Cert.ParamIdeal.nD Cert.ParamIdeal.τ).loc Cert.ParamIdeal.main_arg6)) (m ((c.tc : Thread Cert.ParamIdeal.nD Cert.ParamIdeal.τ).loc Cert.ParamIdeal.main_arg7)) (m ((c.tc : Thread Cert.ParamIdeal.nD Cert.ParamIdeal.τ).loc Cert.ParamIdeal.main_arg8))) = (fun _ => 1#1)

def Pre_ParamRefIdeal (m : (ℓ : Loc Cert.ParamRefIdeal.nD Cert.ParamRefIdeal.τ Cert.ParamRefIdeal.sig) → Buf (Elt Ideal) ℓ) : Prop :=
  True

def Pre_ParamRefIdeal_steps_finite [hPre_steps_finite : Cert.Pre_steps_finite.Facts] (m : (ℓ : Loc Cert.ParamRefIdeal.nD Cert.ParamRefIdeal.τ Cert.ParamRefIdeal.sig) → Buf (Elt Ideal) ℓ) : Prop :=
  ∀ c : Dev Cert.ParamRefIdeal.nD,
    (Cert.Pre_steps_finite.fn (F := Ideal) (m ((c.tc : Thread Cert.ParamRefIdeal.nD Cert.ParamRefIdeal.τ).loc Cert.ParamRefIdeal.main_arg0)) (m ((c.tc : Thread Cert.ParamRefIdeal.nD Cert.ParamRefIdeal.τ).loc Cert.ParamRefIdeal.main_arg1)) (m ((c.tc : Thread Cert.ParamRefIdeal.nD Cert.ParamRefIdeal.τ).loc Cert.ParamRefIdeal.main_arg2)) (m ((c.tc : Thread Cert.ParamRefIdeal.nD Cert.ParamRefIdeal.τ).loc Cert.ParamRefIdeal.main_arg3)) (m ((c.tc : Thread Cert.ParamRefIdeal.nD Cert.ParamRefIdeal.τ).loc Cert.ParamRefIdeal.main_arg4)) (m ((c.tc : Thread Cert.ParamRefIdeal.nD Cert.ParamRefIdeal.τ).loc Cert.ParamRefIdeal.main_arg5)) (m ((c.tc : Thread Cert.ParamRefIdeal.nD Cert.ParamRefIdeal.τ).loc Cert.ParamRefIdeal.main_arg6)) (m ((c.tc : Thread Cert.ParamRefIdeal.nD Cert.ParamRefIdeal.τ).loc Cert.ParamRefIdeal.main_arg7)) (m ((c.tc : Thread Cert.ParamRefIdeal.nD Cert.ParamRefIdeal.τ).loc Cert.ParamRefIdeal.main_arg8))) = (fun _ => 1#1)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ r.2.sem = fun _ => 0)

def quiescent_InProjBwdIdeal_pre_in_proj_finite [hInProjBwdIdeal : Cert.InProjBwdIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7))
      ∧ r.2.sem = fun _ => 0)

def quiescent_InProjBwdRefIdeal_pre_in_proj_finite [hInProjBwdRefIdeal : Cert.InProjBwdRefIdeal.Facts] [hPre_in_proj_finite : Cert.Pre_in_proj_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_in_proj_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailIdeal_pre_tail_finite [hTailIdeal : Cert.TailIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg), Pre_TailIdeal_tail_finite m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_TailRefIdeal_pre_tail_finite [hTailRefIdeal : Cert.TailRefIdeal.Facts] [hPre_tail_finite : Cert.Pre_tail_finite.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_tail_finite m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_Param [hParam : Cert.Param.Facts] : Prop :=
  ∀ (m : (ℓ : Loc Cert.Param.nD Cert.Param.τ Cert.Param.sig) → Buf (Elt Bits) ℓ) (g : Dev Cert.Param.nD → PrngReg), Pre_Param m →
    θ_run (Cert.Param.defs (F := Bits)) (onTc (τ := Cert.Param.τ) (Cert.Param.main (F := Bits))) ⟨m, fun _ => 0, g⟩ (fun r => (∀ c : Dev Cert.Param.nD,
      r.2.mem ((c.tc : Thread Cert.Param.nD Cert.Param.τ).loc Cert.Param.main_arg0) = m ((c.tc : Thread Cert.Param.nD Cert.Param.τ).loc Cert.Param.main_arg0)
      ∧ r.2.mem ((c.tc : Thread Cert.Param.nD Cert.Param.τ).loc Cert.Param.main_arg1) = m ((c.tc : Thread Cert.Param.nD Cert.Param.τ).loc Cert.Param.main_arg1)
      ∧ r.2.mem ((c.tc : Thread Cert.Param.nD Cert.Param.τ).loc Cert.Param.main_arg2) = m ((c.tc : Thread Cert.Param.nD Cert.Param.τ).loc Cert.Param.main_arg2)
      ∧ r.2.mem ((c.tc : Thread Cert.Param.nD Cert.Param.τ).loc Cert.Param.main_arg3) = m ((c.tc : Thread Cert.Param.nD Cert.Param.τ).loc Cert.Param.main_arg3)
      ∧ r.2.mem ((c.tc : Thread Cert.Param.nD Cert.Param.τ).loc Cert.Param.main_arg4) = m ((c.tc : Thread Cert.Param.nD Cert.Param.τ).loc Cert.Param.main_arg4)
      ∧ r.2.mem ((c.tc : Thread Cert.Param.nD Cert.Param.τ).loc Cert.Param.main_arg5) = m ((c.tc : Thread Cert.Param.nD Cert.Param.τ).loc Cert.Param.main_arg5)
      ∧ r.2.mem ((c.tc : Thread Cert.Param.nD Cert.Param.τ).loc Cert.Param.main_arg6) = m ((c.tc : Thread Cert.Param.nD Cert.Param.τ).loc Cert.Param.main_arg6)
      ∧ r.2.mem ((c.tc : Thread Cert.Param.nD Cert.Param.τ).loc Cert.Param.main_arg7) = m ((c.tc : Thread Cert.Param.nD Cert.Param.τ).loc Cert.Param.main_arg7)
      ∧ r.2.mem ((c.tc : Thread Cert.Param.nD Cert.Param.τ).loc Cert.Param.main_arg8) = m ((c.tc : Thread Cert.Param.nD Cert.Param.τ).loc Cert.Param.main_arg8))
      ∧ r.2.sem = fun _ => 0)

def quiescent_ParamIdeal [hParamIdeal : Cert.ParamIdeal.Facts] : Prop :=
  ∀ (m : (ℓ : Loc Cert.ParamIdeal.nD Cert.ParamIdeal.τ Cert.ParamIdeal.sig) → Buf (Elt Ideal) ℓ) (g : Dev Cert.ParamIdeal.nD → PrngReg), Pre_ParamIdeal m →
    θ_run (Cert.ParamIdeal.defs (F := Ideal)) (onTc (τ := Cert.ParamIdeal.τ) (Cert.ParamIdeal.main (F := Ideal))) ⟨m, fun _ => 0, g⟩ (fun r => (∀ c : Dev Cert.ParamIdeal.nD,
      r.2.mem ((c.tc : Thread Cert.ParamIdeal.nD Cert.ParamIdeal.τ).loc Cert.ParamIdeal.main_arg0) = m ((c.tc : Thread Cert.ParamIdeal.nD Cert.ParamIdeal.τ).loc Cert.ParamIdeal.main_arg0)
      ∧ r.2.mem ((c.tc : Thread Cert.ParamIdeal.nD Cert.ParamIdeal.τ).loc Cert.ParamIdeal.main_arg1) = m ((c.tc : Thread Cert.ParamIdeal.nD Cert.ParamIdeal.τ).loc Cert.ParamIdeal.main_arg1)
      ∧ r.2.mem ((c.tc : Thread Cert.ParamIdeal.nD Cert.ParamIdeal.τ).loc Cert.ParamIdeal.main_arg2) = m ((c.tc : Thread Cert.ParamIdeal.nD Cert.ParamIdeal.τ).loc Cert.ParamIdeal.main_arg2)
      ∧ r.2.mem ((c.tc : Thread Cert.ParamIdeal.nD Cert.ParamIdeal.τ).loc Cert.ParamIdeal.main_arg3) = m ((c.tc : Thread Cert.ParamIdeal.nD Cert.ParamIdeal.τ).loc Cert.ParamIdeal.main_arg3)
      ∧ r.2.mem ((c.tc : Thread Cert.ParamIdeal.nD Cert.ParamIdeal.τ).loc Cert.ParamIdeal.main_arg4) = m ((c.tc : Thread Cert.ParamIdeal.nD Cert.ParamIdeal.τ).loc Cert.ParamIdeal.main_arg4)
      ∧ r.2.mem ((c.tc : Thread Cert.ParamIdeal.nD Cert.ParamIdeal.τ).loc Cert.ParamIdeal.main_arg5) = m ((c.tc : Thread Cert.ParamIdeal.nD Cert.ParamIdeal.τ).loc Cert.ParamIdeal.main_arg5)
      ∧ r.2.mem ((c.tc : Thread Cert.ParamIdeal.nD Cert.ParamIdeal.τ).loc Cert.ParamIdeal.main_arg6) = m ((c.tc : Thread Cert.ParamIdeal.nD Cert.ParamIdeal.τ).loc Cert.ParamIdeal.main_arg6)
      ∧ r.2.mem ((c.tc : Thread Cert.ParamIdeal.nD Cert.ParamIdeal.τ).loc Cert.ParamIdeal.main_arg7) = m ((c.tc : Thread Cert.ParamIdeal.nD Cert.ParamIdeal.τ).loc Cert.ParamIdeal.main_arg7)
      ∧ r.2.mem ((c.tc : Thread Cert.ParamIdeal.nD Cert.ParamIdeal.τ).loc Cert.ParamIdeal.main_arg8) = m ((c.tc : Thread Cert.ParamIdeal.nD Cert.ParamIdeal.τ).loc Cert.ParamIdeal.main_arg8))
      ∧ r.2.sem = fun _ => 0)

def quiescent_ParamIdeal_pre_steps_finite [hParamIdeal : Cert.ParamIdeal.Facts] [hPre_steps_finite : Cert.Pre_steps_finite.Facts] : Prop :=
  ∀ (m : (ℓ : Loc Cert.ParamIdeal.nD Cert.ParamIdeal.τ Cert.ParamIdeal.sig) → Buf (Elt Ideal) ℓ) (g : Dev Cert.ParamIdeal.nD → PrngReg), Pre_ParamIdeal_steps_finite m →
    θ_run (Cert.ParamIdeal.defs (F := Ideal)) (onTc (τ := Cert.ParamIdeal.τ) (Cert.ParamIdeal.main (F := Ideal))) ⟨m, fun _ => 0, g⟩ (fun r => (∀ c : Dev Cert.ParamIdeal.nD,
      r.2.mem ((c.tc : Thread Cert.ParamIdeal.nD Cert.ParamIdeal.τ).loc Cert.ParamIdeal.main_arg0) = m ((c.tc : Thread Cert.ParamIdeal.nD Cert.ParamIdeal.τ).loc Cert.ParamIdeal.main_arg0)
      ∧ r.2.mem ((c.tc : Thread Cert.ParamIdeal.nD Cert.ParamIdeal.τ).loc Cert.ParamIdeal.main_arg1) = m ((c.tc : Thread Cert.ParamIdeal.nD Cert.ParamIdeal.τ).loc Cert.ParamIdeal.main_arg1)
      ∧ r.2.mem ((c.tc : Thread Cert.ParamIdeal.nD Cert.ParamIdeal.τ).loc Cert.ParamIdeal.main_arg2) = m ((c.tc : Thread Cert.ParamIdeal.nD Cert.ParamIdeal.τ).loc Cert.ParamIdeal.main_arg2)
      ∧ r.2.mem ((c.tc : Thread Cert.ParamIdeal.nD Cert.ParamIdeal.τ).loc Cert.ParamIdeal.main_arg3) = m ((c.tc : Thread Cert.ParamIdeal.nD Cert.ParamIdeal.τ).loc Cert.ParamIdeal.main_arg3)
      ∧ r.2.mem ((c.tc : Thread Cert.ParamIdeal.nD Cert.ParamIdeal.τ).loc Cert.ParamIdeal.main_arg4) = m ((c.tc : Thread Cert.ParamIdeal.nD Cert.ParamIdeal.τ).loc Cert.ParamIdeal.main_arg4)
      ∧ r.2.mem ((c.tc : Thread Cert.ParamIdeal.nD Cert.ParamIdeal.τ).loc Cert.ParamIdeal.main_arg5) = m ((c.tc : Thread Cert.ParamIdeal.nD Cert.ParamIdeal.τ).loc Cert.ParamIdeal.main_arg5)
      ∧ r.2.mem ((c.tc : Thread Cert.ParamIdeal.nD Cert.ParamIdeal.τ).loc Cert.ParamIdeal.main_arg6) = m ((c.tc : Thread Cert.ParamIdeal.nD Cert.ParamIdeal.τ).loc Cert.ParamIdeal.main_arg6)
      ∧ r.2.mem ((c.tc : Thread Cert.ParamIdeal.nD Cert.ParamIdeal.τ).loc Cert.ParamIdeal.main_arg7) = m ((c.tc : Thread Cert.ParamIdeal.nD Cert.ParamIdeal.τ).loc Cert.ParamIdeal.main_arg7)
      ∧ r.2.mem ((c.tc : Thread Cert.ParamIdeal.nD Cert.ParamIdeal.τ).loc Cert.ParamIdeal.main_arg8) = m ((c.tc : Thread Cert.ParamIdeal.nD Cert.ParamIdeal.τ).loc Cert.ParamIdeal.main_arg8))
      ∧ r.2.sem = fun _ => 0)

def quiescent_ParamRefIdeal [hParamRefIdeal : Cert.ParamRefIdeal.Facts] : Prop :=
  ∀ (m : (ℓ : Loc Cert.ParamRefIdeal.nD Cert.ParamRefIdeal.τ Cert.ParamRefIdeal.sig) → Buf (Elt Ideal) ℓ) (g : Dev Cert.ParamRefIdeal.nD → PrngReg), Pre_ParamRefIdeal m →
    θ_run (Cert.ParamRefIdeal.defs (F := Ideal)) (onTc (τ := Cert.ParamRefIdeal.τ) (Cert.ParamRefIdeal.main (F := Ideal))) ⟨m, fun _ => 0, g⟩ (fun r => (∀ c : Dev Cert.ParamRefIdeal.nD,
      r.2.mem ((c.tc : Thread Cert.ParamRefIdeal.nD Cert.ParamRefIdeal.τ).loc Cert.ParamRefIdeal.main_arg0) = m ((c.tc : Thread Cert.ParamRefIdeal.nD Cert.ParamRefIdeal.τ).loc Cert.ParamRefIdeal.main_arg0)
      ∧ r.2.mem ((c.tc : Thread Cert.ParamRefIdeal.nD Cert.ParamRefIdeal.τ).loc Cert.ParamRefIdeal.main_arg1) = m ((c.tc : Thread Cert.ParamRefIdeal.nD Cert.ParamRefIdeal.τ).loc Cert.ParamRefIdeal.main_arg1)
      ∧ r.2.mem ((c.tc : Thread Cert.ParamRefIdeal.nD Cert.ParamRefIdeal.τ).loc Cert.ParamRefIdeal.main_arg2) = m ((c.tc : Thread Cert.ParamRefIdeal.nD Cert.ParamRefIdeal.τ).loc Cert.ParamRefIdeal.main_arg2)
      ∧ r.2.mem ((c.tc : Thread Cert.ParamRefIdeal.nD Cert.ParamRefIdeal.τ).loc Cert.ParamRefIdeal.main_arg3) = m ((c.tc : Thread Cert.ParamRefIdeal.nD Cert.ParamRefIdeal.τ).loc Cert.ParamRefIdeal.main_arg3)
      ∧ r.2.mem ((c.tc : Thread Cert.ParamRefIdeal.nD Cert.ParamRefIdeal.τ).loc Cert.ParamRefIdeal.main_arg4) = m ((c.tc : Thread Cert.ParamRefIdeal.nD Cert.ParamRefIdeal.τ).loc Cert.ParamRefIdeal.main_arg4)
      ∧ r.2.mem ((c.tc : Thread Cert.ParamRefIdeal.nD Cert.ParamRefIdeal.τ).loc Cert.ParamRefIdeal.main_arg5) = m ((c.tc : Thread Cert.ParamRefIdeal.nD Cert.ParamRefIdeal.τ).loc Cert.ParamRefIdeal.main_arg5)
      ∧ r.2.mem ((c.tc : Thread Cert.ParamRefIdeal.nD Cert.ParamRefIdeal.τ).loc Cert.ParamRefIdeal.main_arg6) = m ((c.tc : Thread Cert.ParamRefIdeal.nD Cert.ParamRefIdeal.τ).loc Cert.ParamRefIdeal.main_arg6)
      ∧ r.2.mem ((c.tc : Thread Cert.ParamRefIdeal.nD Cert.ParamRefIdeal.τ).loc Cert.ParamRefIdeal.main_arg7) = m ((c.tc : Thread Cert.ParamRefIdeal.nD Cert.ParamRefIdeal.τ).loc Cert.ParamRefIdeal.main_arg7)
      ∧ r.2.mem ((c.tc : Thread Cert.ParamRefIdeal.nD Cert.ParamRefIdeal.τ).loc Cert.ParamRefIdeal.main_arg8) = m ((c.tc : Thread Cert.ParamRefIdeal.nD Cert.ParamRefIdeal.τ).loc Cert.ParamRefIdeal.main_arg8))
      ∧ r.2.sem = fun _ => 0)

def quiescent_ParamRefIdeal_pre_steps_finite [hParamRefIdeal : Cert.ParamRefIdeal.Facts] [hPre_steps_finite : Cert.Pre_steps_finite.Facts] : Prop :=
  ∀ (m : (ℓ : Loc Cert.ParamRefIdeal.nD Cert.ParamRefIdeal.τ Cert.ParamRefIdeal.sig) → Buf (Elt Ideal) ℓ) (g : Dev Cert.ParamRefIdeal.nD → PrngReg), Pre_ParamRefIdeal_steps_finite m →
    θ_run (Cert.ParamRefIdeal.defs (F := Ideal)) (onTc (τ := Cert.ParamRefIdeal.τ) (Cert.ParamRefIdeal.main (F := Ideal))) ⟨m, fun _ => 0, g⟩ (fun r => (∀ c : Dev Cert.ParamRefIdeal.nD,
      r.2.mem ((c.tc : Thread Cert.ParamRefIdeal.nD Cert.ParamRefIdeal.τ).loc Cert.ParamRefIdeal.main_arg0) = m ((c.tc : Thread Cert.ParamRefIdeal.nD Cert.ParamRefIdeal.τ).loc Cert.ParamRefIdeal.main_arg0)
      ∧ r.2.mem ((c.tc : Thread Cert.ParamRefIdeal.nD Cert.ParamRefIdeal.τ).loc Cert.ParamRefIdeal.main_arg1) = m ((c.tc : Thread Cert.ParamRefIdeal.nD Cert.ParamRefIdeal.τ).loc Cert.ParamRefIdeal.main_arg1)
      ∧ r.2.mem ((c.tc : Thread Cert.ParamRefIdeal.nD Cert.ParamRefIdeal.τ).loc Cert.ParamRefIdeal.main_arg2) = m ((c.tc : Thread Cert.ParamRefIdeal.nD Cert.ParamRefIdeal.τ).loc Cert.ParamRefIdeal.main_arg2)
      ∧ r.2.mem ((c.tc : Thread Cert.ParamRefIdeal.nD Cert.ParamRefIdeal.τ).loc Cert.ParamRefIdeal.main_arg3) = m ((c.tc : Thread Cert.ParamRefIdeal.nD Cert.ParamRefIdeal.τ).loc Cert.ParamRefIdeal.main_arg3)
      ∧ r.2.mem ((c.tc : Thread Cert.ParamRefIdeal.nD Cert.ParamRefIdeal.τ).loc Cert.ParamRefIdeal.main_arg4) = m ((c.tc : Thread Cert.ParamRefIdeal.nD Cert.ParamRefIdeal.τ).loc Cert.ParamRefIdeal.main_arg4)
      ∧ r.2.mem ((c.tc : Thread Cert.ParamRefIdeal.nD Cert.ParamRefIdeal.τ).loc Cert.ParamRefIdeal.main_arg5) = m ((c.tc : Thread Cert.ParamRefIdeal.nD Cert.ParamRefIdeal.τ).loc Cert.ParamRefIdeal.main_arg5)
      ∧ r.2.mem ((c.tc : Thread Cert.ParamRefIdeal.nD Cert.ParamRefIdeal.τ).loc Cert.ParamRefIdeal.main_arg6) = m ((c.tc : Thread Cert.ParamRefIdeal.nD Cert.ParamRefIdeal.τ).loc Cert.ParamRefIdeal.main_arg6)
      ∧ r.2.mem ((c.tc : Thread Cert.ParamRefIdeal.nD Cert.ParamRefIdeal.τ).loc Cert.ParamRefIdeal.main_arg7) = m ((c.tc : Thread Cert.ParamRefIdeal.nD Cert.ParamRefIdeal.τ).loc Cert.ParamRefIdeal.main_arg7)
      ∧ r.2.mem ((c.tc : Thread Cert.ParamRefIdeal.nD Cert.ParamRefIdeal.τ).loc Cert.ParamRefIdeal.main_arg8) = m ((c.tc : Thread Cert.ParamRefIdeal.nD Cert.ParamRefIdeal.τ).loc Cert.ParamRefIdeal.main_arg8))
      ∧ r.2.sem = fun _ => 0)

def preserves_InProjBwd_InProjBwdIdeal : Prop :=
  True

def algebraic_InProjBwdIdeal_InProjBwdRefIdeal_pre_in_proj_finite [hInProjBwdIdeal : Cert.InProjBwdIdeal.Facts] [hInProjBwdRefIdeal : Cert.InProjBwdRefIdeal.Facts] [hPre_in_proj_finite : Cert.Pre_in_proj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_in_proj_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)) →
    ∃ (v0 : (c : Dev Cert.InProjBwdIdeal.nD) → Buf (Elt Ideal) ((c.tc : Thread Cert.InProjBwdIdeal.nD Cert.InProjBwdIdeal.τ).loc Cert.InProjBwdIdeal.main_v15_0)) (v1 : (c : Dev Cert.InProjBwdIdeal.nD) → Buf (Elt Ideal) ((c.tc : Thread Cert.InProjBwdIdeal.nD Cert.InProjBwdIdeal.τ).loc Cert.InProjBwdIdeal.main_v15_1)) (v2 : (c : Dev Cert.InProjBwdIdeal.nD) → Buf (Elt Ideal) ((c.tc : Thread Cert.InProjBwdIdeal.nD Cert.InProjBwdIdeal.τ).loc Cert.InProjBwdIdeal.main_v15_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v15_0) = v0 c
          ∧ r.2.mem ((c.tc : Thread Cert.InProjBwdIdeal.nD Cert.InProjBwdIdeal.τ).loc Cert.InProjBwdIdeal.main_v15_1) = v1 c
          ∧ r.2.mem ((c.tc : Thread Cert.InProjBwdIdeal.nD Cert.InProjBwdIdeal.τ).loc Cert.InProjBwdIdeal.main_v15_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v46) = v0 c
          ∧ r.2.mem ((c.tc : Thread Cert.InProjBwdRefIdeal.nD Cert.InProjBwdRefIdeal.τ).loc Cert.InProjBwdRefIdeal.main_v49) = v1 c
          ∧ r.2.mem ((c.tc : Thread Cert.InProjBwdRefIdeal.nD Cert.InProjBwdRefIdeal.τ).loc Cert.InProjBwdRefIdeal.main_v45) = v2 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v4_0)) (v1 : (c : Dev Cert.AttnFwdIdeal.nD) → Buf (Elt Ideal) ((c.tc : Thread Cert.AttnFwdIdeal.nD Cert.AttnFwdIdeal.τ).loc Cert.AttnFwdIdeal.main_v4_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v4_0) = v0 c
          ∧ r.2.mem ((c.tc : Thread Cert.AttnFwdIdeal.nD Cert.AttnFwdIdeal.τ).loc Cert.AttnFwdIdeal.main_v4_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v40) = v0 c
          ∧ r.2.mem ((c.tc : Thread Cert.AttnFwdRefIdeal.nD Cert.AttnFwdRefIdeal.τ).loc Cert.AttnFwdRefIdeal.main_v43) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v45_0)) (v1 : (c : Dev Cert.AttnBwdIdeal.nD) → Buf (Elt Ideal) ((c.tc : Thread Cert.AttnBwdIdeal.nD Cert.AttnBwdIdeal.τ).loc Cert.AttnBwdIdeal.main_v45_1)) (v2 : (c : Dev Cert.AttnBwdIdeal.nD) → Buf (Elt Ideal) ((c.tc : Thread Cert.AttnBwdIdeal.nD Cert.AttnBwdIdeal.τ).loc Cert.AttnBwdIdeal.main_v45_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v45_0) = v0 c
          ∧ r.2.mem ((c.tc : Thread Cert.AttnBwdIdeal.nD Cert.AttnBwdIdeal.τ).loc Cert.AttnBwdIdeal.main_v45_1) = v1 c
          ∧ r.2.mem ((c.tc : Thread Cert.AttnBwdIdeal.nD Cert.AttnBwdIdeal.τ).loc Cert.AttnBwdIdeal.main_v45_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v96) = v0 c
          ∧ r.2.mem ((c.tc : Thread Cert.AttnBwdRefIdeal.nD Cert.AttnBwdRefIdeal.τ).loc Cert.AttnBwdRefIdeal.main_v97) = v1 c
          ∧ r.2.mem ((c.tc : Thread Cert.AttnBwdRefIdeal.nD Cert.AttnBwdRefIdeal.τ).loc Cert.AttnBwdRefIdeal.main_v94) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_Tail_TailIdeal : Prop :=
  True

def algebraic_TailIdeal_TailRefIdeal_pre_tail_finite [hTailIdeal : Cert.TailIdeal.Facts] [hTailRefIdeal : Cert.TailRefIdeal.Facts] [hPre_tail_finite : Cert.Pre_tail_finite.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_tail_finite m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v12_0)) (v1 : (c : Dev Cert.TailIdeal.nD) → Buf (Elt Ideal) ((c.tc : Thread Cert.TailIdeal.nD Cert.TailIdeal.τ).loc Cert.TailIdeal.main_v12_1)) (v2 : (c : Dev Cert.TailIdeal.nD) → Buf (Elt Ideal) ((c.tc : Thread Cert.TailIdeal.nD Cert.TailIdeal.τ).loc Cert.TailIdeal.main_v12_2)) (v3 : (c : Dev Cert.TailIdeal.nD) → Buf (Elt Ideal) ((c.tc : Thread Cert.TailIdeal.nD Cert.TailIdeal.τ).loc Cert.TailIdeal.main_v12_3)) (v4 : (c : Dev Cert.TailIdeal.nD) → Buf (Elt Ideal) ((c.tc : Thread Cert.TailIdeal.nD Cert.TailIdeal.τ).loc Cert.TailIdeal.main_v12_4)) (v5 : (c : Dev Cert.TailIdeal.nD) → Buf (Elt Ideal) ((c.tc : Thread Cert.TailIdeal.nD Cert.TailIdeal.τ).loc Cert.TailIdeal.main_v12_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12_0) = v0 c
          ∧ r.2.mem ((c.tc : Thread Cert.TailIdeal.nD Cert.TailIdeal.τ).loc Cert.TailIdeal.main_v12_1) = v1 c
          ∧ r.2.mem ((c.tc : Thread Cert.TailIdeal.nD Cert.TailIdeal.τ).loc Cert.TailIdeal.main_v12_2) = v2 c
          ∧ r.2.mem ((c.tc : Thread Cert.TailIdeal.nD Cert.TailIdeal.τ).loc Cert.TailIdeal.main_v12_3) = v3 c
          ∧ r.2.mem ((c.tc : Thread Cert.TailIdeal.nD Cert.TailIdeal.τ).loc Cert.TailIdeal.main_v12_4) = v4 c
          ∧ r.2.mem ((c.tc : Thread Cert.TailIdeal.nD Cert.TailIdeal.τ).loc Cert.TailIdeal.main_v12_5) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v68) = v0 c
          ∧ r.2.mem ((c.tc : Thread Cert.TailRefIdeal.nD Cert.TailRefIdeal.τ).loc Cert.TailRefIdeal.main_v70) = v1 c
          ∧ r.2.mem ((c.tc : Thread Cert.TailRefIdeal.nD Cert.TailRefIdeal.τ).loc Cert.TailRefIdeal.main_v72) = v2 c
          ∧ r.2.mem ((c.tc : Thread Cert.TailRefIdeal.nD Cert.TailRefIdeal.τ).loc Cert.TailRefIdeal.main_v73) = v3 c
          ∧ r.2.mem ((c.tc : Thread Cert.TailRefIdeal.nD Cert.TailRefIdeal.τ).loc Cert.TailRefIdeal.main_v59) = v4 c
          ∧ r.2.mem ((c.tc : Thread Cert.TailRefIdeal.nD Cert.TailRefIdeal.τ).loc Cert.TailRefIdeal.main_v74) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v16_0)) (v1 : (c : Dev Cert.PoolIdeal.nD) → Buf (Elt Ideal) ((c.tc : Thread Cert.PoolIdeal.nD Cert.PoolIdeal.τ).loc Cert.PoolIdeal.main_v19_0)) (v2 : (c : Dev Cert.PoolIdeal.nD) → Buf (Elt Ideal) ((c.tc : Thread Cert.PoolIdeal.nD Cert.PoolIdeal.τ).loc Cert.PoolIdeal.main_v28)) (v3 : (c : Dev Cert.PoolIdeal.nD) → Buf (Elt Ideal) ((c.tc : Thread Cert.PoolIdeal.nD Cert.PoolIdeal.τ).loc Cert.PoolIdeal.main_v19_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v16_0) = v0 c
          ∧ r.2.mem ((c.tc : Thread Cert.PoolIdeal.nD Cert.PoolIdeal.τ).loc Cert.PoolIdeal.main_v19_0) = v1 c
          ∧ r.2.mem ((c.tc : Thread Cert.PoolIdeal.nD Cert.PoolIdeal.τ).loc Cert.PoolIdeal.main_v28) = v2 c
          ∧ r.2.mem ((c.tc : Thread Cert.PoolIdeal.nD Cert.PoolIdeal.τ).loc Cert.PoolIdeal.main_v19_2) = v3 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v168) = v0 c
          ∧ r.2.mem ((c.tc : Thread Cert.PoolRefIdeal.nD Cert.PoolRefIdeal.τ).loc Cert.PoolRefIdeal.main_v170) = v1 c
          ∧ r.2.mem ((c.tc : Thread Cert.PoolRefIdeal.nD Cert.PoolRefIdeal.τ).loc Cert.PoolRefIdeal.main_v171) = v2 c
          ∧ r.2.mem ((c.tc : Thread Cert.PoolRefIdeal.nD Cert.PoolRefIdeal.τ).loc Cert.PoolRefIdeal.main_v165) = v3 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_Param_ParamIdeal : Prop :=
  True

def algebraic_ParamIdeal_ParamRefIdeal_pre_steps_finite [hParamIdeal : Cert.ParamIdeal.Facts] [hParamRefIdeal : Cert.ParamRefIdeal.Facts] [hPre_steps_finite : Cert.Pre_steps_finite.Facts] : Prop :=
  ∀ (m : (ℓ : Loc Cert.ParamIdeal.nD Cert.ParamIdeal.τ Cert.ParamIdeal.sig) → Buf (Elt Ideal) ℓ) (g : Dev Cert.ParamIdeal.nD → PrngReg)
    (m' : (ℓ : Loc Cert.ParamRefIdeal.nD Cert.ParamRefIdeal.τ Cert.ParamRefIdeal.sig) → Buf (Elt Ideal) ℓ) (g' : Dev Cert.ParamRefIdeal.nD → PrngReg), Pre_ParamIdeal_steps_finite m →
    (∀ c : Dev Cert.ParamIdeal.nD,
      m' ((c.tc : Thread Cert.ParamRefIdeal.nD Cert.ParamRefIdeal.τ).loc Cert.ParamRefIdeal.main_arg0) = m ((c.tc : Thread Cert.ParamIdeal.nD Cert.ParamIdeal.τ).loc Cert.ParamIdeal.main_arg0)
      ∧ m' ((c.tc : Thread Cert.ParamRefIdeal.nD Cert.ParamRefIdeal.τ).loc Cert.ParamRefIdeal.main_arg1) = m ((c.tc : Thread Cert.ParamIdeal.nD Cert.ParamIdeal.τ).loc Cert.ParamIdeal.main_arg1)
      ∧ m' ((c.tc : Thread Cert.ParamRefIdeal.nD Cert.ParamRefIdeal.τ).loc Cert.ParamRefIdeal.main_arg2) = m ((c.tc : Thread Cert.ParamIdeal.nD Cert.ParamIdeal.τ).loc Cert.ParamIdeal.main_arg2)
      ∧ m' ((c.tc : Thread Cert.ParamRefIdeal.nD Cert.ParamRefIdeal.τ).loc Cert.ParamRefIdeal.main_arg3) = m ((c.tc : Thread Cert.ParamIdeal.nD Cert.ParamIdeal.τ).loc Cert.ParamIdeal.main_arg3)
      ∧ m' ((c.tc : Thread Cert.ParamRefIdeal.nD Cert.ParamRefIdeal.τ).loc Cert.ParamRefIdeal.main_arg4) = m ((c.tc : Thread Cert.ParamIdeal.nD Cert.ParamIdeal.τ).loc Cert.ParamIdeal.main_arg4)
      ∧ m' ((c.tc : Thread Cert.ParamRefIdeal.nD Cert.ParamRefIdeal.τ).loc Cert.ParamRefIdeal.main_arg5) = m ((c.tc : Thread Cert.ParamIdeal.nD Cert.ParamIdeal.τ).loc Cert.ParamIdeal.main_arg5)
      ∧ m' ((c.tc : Thread Cert.ParamRefIdeal.nD Cert.ParamRefIdeal.τ).loc Cert.ParamRefIdeal.main_arg6) = m ((c.tc : Thread Cert.ParamIdeal.nD Cert.ParamIdeal.τ).loc Cert.ParamIdeal.main_arg6)
      ∧ m' ((c.tc : Thread Cert.ParamRefIdeal.nD Cert.ParamRefIdeal.τ).loc Cert.ParamRefIdeal.main_arg7) = m ((c.tc : Thread Cert.ParamIdeal.nD Cert.ParamIdeal.τ).loc Cert.ParamIdeal.main_arg7)
      ∧ m' ((c.tc : Thread Cert.ParamRefIdeal.nD Cert.ParamRefIdeal.τ).loc Cert.ParamRefIdeal.main_arg8) = m ((c.tc : Thread Cert.ParamIdeal.nD Cert.ParamIdeal.τ).loc Cert.ParamIdeal.main_arg8)) →
    ∃ (v0 : (c : Dev Cert.ParamIdeal.nD) → Buf (Elt Ideal) ((c.tc : Thread Cert.ParamIdeal.nD Cert.ParamIdeal.τ).loc Cert.ParamIdeal.main_v17_0)) (v1 : (c : Dev Cert.ParamIdeal.nD) → Buf (Elt Ideal) ((c.tc : Thread Cert.ParamIdeal.nD Cert.ParamIdeal.τ).loc Cert.ParamIdeal.main_v17_1)) (v2 : (c : Dev Cert.ParamIdeal.nD) → Buf (Elt Ideal) ((c.tc : Thread Cert.ParamIdeal.nD Cert.ParamIdeal.τ).loc Cert.ParamIdeal.main_v17_2)) (v3 : (c : Dev Cert.ParamIdeal.nD) → Buf (Elt Ideal) ((c.tc : Thread Cert.ParamIdeal.nD Cert.ParamIdeal.τ).loc Cert.ParamIdeal.main_v17_3)) (v4 : (c : Dev Cert.ParamIdeal.nD) → Buf (Elt Ideal) ((c.tc : Thread Cert.ParamIdeal.nD Cert.ParamIdeal.τ).loc Cert.ParamIdeal.main_v17_4)),
      θ_run (Cert.ParamIdeal.defs (F := Ideal)) (onTc (τ := Cert.ParamIdeal.τ) (Cert.ParamIdeal.main (F := Ideal))) ⟨m, fun _ => 0, g⟩ (fun r => ∀ c : Dev Cert.ParamIdeal.nD,
          r.2.mem ((c.tc : Thread Cert.ParamIdeal.nD Cert.ParamIdeal.τ).loc Cert.ParamIdeal.main_v17_0) = v0 c
          ∧ r.2.mem ((c.tc : Thread Cert.ParamIdeal.nD Cert.ParamIdeal.τ).loc Cert.ParamIdeal.main_v17_1) = v1 c
          ∧ r.2.mem ((c.tc : Thread Cert.ParamIdeal.nD Cert.ParamIdeal.τ).loc Cert.ParamIdeal.main_v17_2) = v2 c
          ∧ r.2.mem ((c.tc : Thread Cert.ParamIdeal.nD Cert.ParamIdeal.τ).loc Cert.ParamIdeal.main_v17_3) = v3 c
          ∧ r.2.mem ((c.tc : Thread Cert.ParamIdeal.nD Cert.ParamIdeal.τ).loc Cert.ParamIdeal.main_v17_4) = v4 c
          ∧ r.2.mem ((c.tc : Thread Cert.ParamIdeal.nD Cert.ParamIdeal.τ).loc Cert.ParamIdeal.main_arg0) = m ((c.tc : Thread Cert.ParamIdeal.nD Cert.ParamIdeal.τ).loc Cert.ParamIdeal.main_arg0)
          ∧ r.2.mem ((c.tc : Thread Cert.ParamIdeal.nD Cert.ParamIdeal.τ).loc Cert.ParamIdeal.main_arg1) = m ((c.tc : Thread Cert.ParamIdeal.nD Cert.ParamIdeal.τ).loc Cert.ParamIdeal.main_arg1)
          ∧ r.2.mem ((c.tc : Thread Cert.ParamIdeal.nD Cert.ParamIdeal.τ).loc Cert.ParamIdeal.main_arg2) = m ((c.tc : Thread Cert.ParamIdeal.nD Cert.ParamIdeal.τ).loc Cert.ParamIdeal.main_arg2)
          ∧ r.2.mem ((c.tc : Thread Cert.ParamIdeal.nD Cert.ParamIdeal.τ).loc Cert.ParamIdeal.main_arg3) = m ((c.tc : Thread Cert.ParamIdeal.nD Cert.ParamIdeal.τ).loc Cert.ParamIdeal.main_arg3)
          ∧ r.2.mem ((c.tc : Thread Cert.ParamIdeal.nD Cert.ParamIdeal.τ).loc Cert.ParamIdeal.main_arg4) = m ((c.tc : Thread Cert.ParamIdeal.nD Cert.ParamIdeal.τ).loc Cert.ParamIdeal.main_arg4)
          ∧ r.2.mem ((c.tc : Thread Cert.ParamIdeal.nD Cert.ParamIdeal.τ).loc Cert.ParamIdeal.main_arg5) = m ((c.tc : Thread Cert.ParamIdeal.nD Cert.ParamIdeal.τ).loc Cert.ParamIdeal.main_arg5)
          ∧ r.2.mem ((c.tc : Thread Cert.ParamIdeal.nD Cert.ParamIdeal.τ).loc Cert.ParamIdeal.main_arg6) = m ((c.tc : Thread Cert.ParamIdeal.nD Cert.ParamIdeal.τ).loc Cert.ParamIdeal.main_arg6)
          ∧ r.2.mem ((c.tc : Thread Cert.ParamIdeal.nD Cert.ParamIdeal.τ).loc Cert.ParamIdeal.main_arg7) = m ((c.tc : Thread Cert.ParamIdeal.nD Cert.ParamIdeal.τ).loc Cert.ParamIdeal.main_arg7)
          ∧ r.2.mem ((c.tc : Thread Cert.ParamIdeal.nD Cert.ParamIdeal.τ).loc Cert.ParamIdeal.main_arg8) = m ((c.tc : Thread Cert.ParamIdeal.nD Cert.ParamIdeal.τ).loc Cert.ParamIdeal.main_arg8))
      ∧ θ_run (Cert.ParamRefIdeal.defs (F := Ideal)) (onTc (τ := Cert.ParamRefIdeal.τ) (Cert.ParamRefIdeal.main (F := Ideal))) ⟨m', fun _ => 0, g'⟩ (fun r => ∀ c : Dev Cert.ParamRefIdeal.nD,
          r.2.mem ((c.tc : Thread Cert.ParamRefIdeal.nD Cert.ParamRefIdeal.τ).loc Cert.ParamRefIdeal.main_v143) = v0 c
          ∧ r.2.mem ((c.tc : Thread Cert.ParamRefIdeal.nD Cert.ParamRefIdeal.τ).loc Cert.ParamRefIdeal.main_v144) = v1 c
          ∧ r.2.mem ((c.tc : Thread Cert.ParamRefIdeal.nD Cert.ParamRefIdeal.τ).loc Cert.ParamRefIdeal.main_v146) = v2 c
          ∧ r.2.mem ((c.tc : Thread Cert.ParamRefIdeal.nD Cert.ParamRefIdeal.τ).loc Cert.ParamRefIdeal.main_v149) = v3 c
          ∧ r.2.mem ((c.tc : Thread Cert.ParamRefIdeal.nD Cert.ParamRefIdeal.τ).loc Cert.ParamRefIdeal.main_v152) = v4 c
          ∧ r.2.mem ((c.tc : Thread Cert.ParamRefIdeal.nD Cert.ParamRefIdeal.τ).loc Cert.ParamRefIdeal.main_arg0) = m' ((c.tc : Thread Cert.ParamRefIdeal.nD Cert.ParamRefIdeal.τ).loc Cert.ParamRefIdeal.main_arg0)
          ∧ r.2.mem ((c.tc : Thread Cert.ParamRefIdeal.nD Cert.ParamRefIdeal.τ).loc Cert.ParamRefIdeal.main_arg1) = m' ((c.tc : Thread Cert.ParamRefIdeal.nD Cert.ParamRefIdeal.τ).loc Cert.ParamRefIdeal.main_arg1)
          ∧ r.2.mem ((c.tc : Thread Cert.ParamRefIdeal.nD Cert.ParamRefIdeal.τ).loc Cert.ParamRefIdeal.main_arg2) = m' ((c.tc : Thread Cert.ParamRefIdeal.nD Cert.ParamRefIdeal.τ).loc Cert.ParamRefIdeal.main_arg2)
          ∧ r.2.mem ((c.tc : Thread Cert.ParamRefIdeal.nD Cert.ParamRefIdeal.τ).loc Cert.ParamRefIdeal.main_arg3) = m' ((c.tc : Thread Cert.ParamRefIdeal.nD Cert.ParamRefIdeal.τ).loc Cert.ParamRefIdeal.main_arg3)
          ∧ r.2.mem ((c.tc : Thread Cert.ParamRefIdeal.nD Cert.ParamRefIdeal.τ).loc Cert.ParamRefIdeal.main_arg4) = m' ((c.tc : Thread Cert.ParamRefIdeal.nD Cert.ParamRefIdeal.τ).loc Cert.ParamRefIdeal.main_arg4)
          ∧ r.2.mem ((c.tc : Thread Cert.ParamRefIdeal.nD Cert.ParamRefIdeal.τ).loc Cert.ParamRefIdeal.main_arg5) = m' ((c.tc : Thread Cert.ParamRefIdeal.nD Cert.ParamRefIdeal.τ).loc Cert.ParamRefIdeal.main_arg5)
          ∧ r.2.mem ((c.tc : Thread Cert.ParamRefIdeal.nD Cert.ParamRefIdeal.τ).loc Cert.ParamRefIdeal.main_arg6) = m' ((c.tc : Thread Cert.ParamRefIdeal.nD Cert.ParamRefIdeal.τ).loc Cert.ParamRefIdeal.main_arg6)
          ∧ r.2.mem ((c.tc : Thread Cert.ParamRefIdeal.nD Cert.ParamRefIdeal.τ).loc Cert.ParamRefIdeal.main_arg7) = m' ((c.tc : Thread Cert.ParamRefIdeal.nD Cert.ParamRefIdeal.τ).loc Cert.ParamRefIdeal.main_arg7)
          ∧ r.2.mem ((c.tc : Thread Cert.ParamRefIdeal.nD Cert.ParamRefIdeal.τ).loc Cert.ParamRefIdeal.main_arg8) = m' ((c.tc : Thread Cert.ParamRefIdeal.nD Cert.ParamRefIdeal.τ).loc Cert.ParamRefIdeal.main_arg8))

def Claim : Prop :=
  ∃ (hInProjBwd : Cert.InProjBwd.Facts) (hInProjBwdIdeal : Cert.InProjBwdIdeal.Facts) (hInProjBwdRefIdeal : Cert.InProjBwdRefIdeal.Facts) (hAttnFwd : Cert.AttnFwd.Facts) (hAttnFwdIdeal : Cert.AttnFwdIdeal.Facts) (hAttnFwdRefIdeal : Cert.AttnFwdRefIdeal.Facts) (hAttnBwd : Cert.AttnBwd.Facts) (hAttnBwdIdeal : Cert.AttnBwdIdeal.Facts) (hAttnBwdRefIdeal : Cert.AttnBwdRefIdeal.Facts) (hTail : Cert.Tail.Facts) (hTailIdeal : Cert.TailIdeal.Facts) (hTailRefIdeal : Cert.TailRefIdeal.Facts) (hPool : Cert.Pool.Facts) (hPoolIdeal : Cert.PoolIdeal.Facts) (hPoolRefIdeal : Cert.PoolRefIdeal.Facts) (hParam : Cert.Param.Facts) (hParamIdeal : Cert.ParamIdeal.Facts) (hParamRefIdeal : Cert.ParamRefIdeal.Facts) (hPre_in_proj_finite : Cert.Pre_in_proj_finite.Facts) (hPre_attn_finite : Cert.Pre_attn_finite.Facts) (hPre_tail_finite : Cert.Pre_tail_finite.Facts) (hPre_pool_finite : Cert.Pre_pool_finite.Facts) (hPre_steps_finite : Cert.Pre_steps_finite.Facts),
    quiescent_InProjBwd (hInProjBwd := hInProjBwd)
    ∧ quiescent_InProjBwdIdeal (hInProjBwdIdeal := hInProjBwdIdeal)
    ∧ quiescent_InProjBwdIdeal_pre_in_proj_finite (hInProjBwdIdeal := hInProjBwdIdeal) (hPre_in_proj_finite := hPre_in_proj_finite)
    ∧ quiescent_InProjBwdRefIdeal (hInProjBwdRefIdeal := hInProjBwdRefIdeal)
    ∧ quiescent_InProjBwdRefIdeal_pre_in_proj_finite (hInProjBwdRefIdeal := hInProjBwdRefIdeal) (hPre_in_proj_finite := hPre_in_proj_finite)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_Tail (hTail := hTail)
    ∧ quiescent_TailIdeal (hTailIdeal := hTailIdeal)
    ∧ quiescent_TailIdeal_pre_tail_finite (hTailIdeal := hTailIdeal) (hPre_tail_finite := hPre_tail_finite)
    ∧ quiescent_TailRefIdeal (hTailRefIdeal := hTailRefIdeal)
    ∧ quiescent_TailRefIdeal_pre_tail_finite (hTailRefIdeal := hTailRefIdeal) (hPre_tail_finite := hPre_tail_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Param (hParam := hParam)
    ∧ quiescent_ParamIdeal (hParamIdeal := hParamIdeal)
    ∧ quiescent_ParamIdeal_pre_steps_finite (hParamIdeal := hParamIdeal) (hPre_steps_finite := hPre_steps_finite)
    ∧ quiescent_ParamRefIdeal (hParamRefIdeal := hParamRefIdeal)
    ∧ quiescent_ParamRefIdeal_pre_steps_finite (hParamRefIdeal := hParamRefIdeal) (hPre_steps_finite := hPre_steps_finite)
    ∧ preserves_InProjBwd_InProjBwdIdeal
    ∧ algebraic_InProjBwdIdeal_InProjBwdRefIdeal_pre_in_proj_finite (hInProjBwdIdeal := hInProjBwdIdeal) (hInProjBwdRefIdeal := hInProjBwdRefIdeal) (hPre_in_proj_finite := hPre_in_proj_finite)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_Tail_TailIdeal
    ∧ algebraic_TailIdeal_TailRefIdeal_pre_tail_finite (hTailIdeal := hTailIdeal) (hTailRefIdeal := hTailRefIdeal) (hPre_tail_finite := hPre_tail_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Param_ParamIdeal
    ∧ algebraic_ParamIdeal_ParamRefIdeal_pre_steps_finite (hParamIdeal := hParamIdeal) (hParamRefIdeal := hParamRefIdeal) (hPre_steps_finite := hPre_steps_finite)
-- ==== Pre_attn_finite.lean ====
abbrev S4x2048x2048 : Shape := ⟨3, ![4, 2048, 2048]⟩
abbrev S4x256x1024 : Shape := ⟨3, ![4, 256, 1024]⟩
abbrev S1x1024 : Shape := ⟨2, ![1, 1024]⟩
abbrev S1x1024x512 : Shape := ⟨3, ![1, 1024, 512]⟩
abbrev S4x2048x1024 : Shape := ⟨3, ![4, 2048, 1024]⟩
abbrev S_ : Shape := ⟨0, ![]⟩

class Facts : Prop where
  bcast_S_S4x2048x2048 : S_.BroadcastsInDim S4x2048x2048 (![] : Fin 0 → Fin S4x2048x2048.rank)
  bcast_S_S4x256x1024 : S_.BroadcastsInDim S4x256x1024 (![] : Fin 0 → Fin S4x256x1024.rank)
  bcast_S_S1x1024 : S_.BroadcastsInDim S1x1024 (![] : Fin 0 → Fin S1x1024.rank)
  bcast_S_S1x1024x512 : S_.BroadcastsInDim S1x1024x512 (![] : Fin 0 → Fin S1x1024x512.rank)
  bcast_S_S4x2048x1024 : S_.BroadcastsInDim S4x2048x1024 (![] : Fin 0 → Fin S4x2048x1024.rank)

variable [Facts]

def fn_part1 {F : FTy → Type} [FloatOps F] (main_arg3 : FVec F S1x1024x512 .f32) (main_arg4 : FVec F S4x2048x1024 .f32) (main_v4 : IVec S4x2048x2048 1) (main_v9 : IVec S4x256x1024 1) (main_v14 : IVec S1x1024 1) (main_v16 : IVec S1x1024x512 1) : IVec S4x2048x2048 1 × IVec S4x256x1024 1 × IVec S1x1024 1 × IVec S1x1024x512 1 × IVec S4x2048x1024 1 :=
  let main_cst_6 : FVec F S_ .f32 := constant S_ .f32 0xFF800000#32
  let main_v17 : FVec F S1x1024x512 .f32 := broadcastInDim S1x1024x512 ![] bcast_S_S1x1024x512 main_cst_6
  let main_v18 : IVec S1x1024x512 1 := cmpf .ogt main_arg3 main_v17
  let main_v19 : IVec S1x1024x512 1 := andi main_v16 main_v18
  let main_cst_7 : FVec F S_ .f32 := constant S_ .f32 0x7F800000#32
  let main_v20 : FVec F S4x2048x1024 .f32 := broadcastInDim S4x2048x1024 ![] bcast_S_S4x2048x1024 main_cst_7
  let main_v21 : IVec S4x2048x1024 1 := cmpf .olt main_arg4 main_v20
  let main_cst_8 : FVec F S_ .f32 := constant S_ .f32 0xFF800000#32
  let main_v22 : FVec F S4x2048x1024 .f32 := broadcastInDim S4x2048x1024 ![] bcast_S_S4x2048x1024 main_cst_8
  let main_v23 : IVec S4x2048x1024 1 := cmpf .ogt main_arg4 main_v22
  let main_v24 : IVec S4x2048x1024 1 := andi main_v21 main_v23
  (main_v4, main_v9, main_v14, main_v19, main_v24)

def fn {F : FTy → Type} [FloatOps F] (main_arg0 : FVec F S4x2048x2048 .f32) (main_arg1 : FVec F S4x256x1024 .f32) (main_arg2 : FVec F S1x1024 .f32) (main_arg3 : FVec F S1x1024x512 .f32) (main_arg4 : FVec F S4x2048x1024 .f32) : IVec S4x2048x2048 1 × IVec S4x256x1024 1 × IVec S1x1024 1 × IVec S1x1024x512 1 × IVec S4x2048x1024 1 :=
  let main_cst : FVec F S_ .f32 := constant S_ .f32 0x7F800000#32
  let main_v0 : FVec F S4x2048x2048 .f32 := broadcastInDim S4x2048x2048 ![] bcast_S_S4x2048x2048 main_cst
  let main_v1 : IVec S4x2048x2048 1 := cmpf .olt main_arg0 main_v0
  let main_cst_0 : FVec F S_ .f32 := constant S_ .f32 0xFF800000#32
  let main_v2 : FVec F S4x2048x2048 .f32 := broadcastInDim S4x2048x2048 ![] bcast_S_S4x2048x2048 main_cst_0
  let main_v3 : IVec S4x2048x2048 1 := cmpf .ogt main_arg0 main_v2
  let main_v4 : IVec S4x2048x2048 1 := andi main_v1 main_v3
  let main_cst_1 : FVec F S_ .f32 := constant S_ .f32 0x7F800000#32
  let main_v5 : FVec F S4x256x1024 .f32 := broadcastInDim S4x256x1024 ![] bcast_S_S4x256x1024 main_cst_1
  let main_v6 : IVec S4x256x1024 1 := cmpf .olt main_arg1 main_v5
  let main_cst_2 : FVec F S_ .f32 := constant S_ .f32 0xFF800000#32
  let main_v7 : FVec F S4x256x1024 .f32 := broadcastInDim S4x256x1024 ![] bcast_S_S4x256x1024 main_cst_2
  let main_v8 : IVec S4x256x1024 1 := cmpf .ogt main_arg1 main_v7
  let main_v9 : IVec S4x256x1024 1 := andi main_v6 main_v8
  let main_cst_3 : FVec F S_ .f32 := constant S_ .f32 0x7F800000#32
  let main_v10 : FVec F S1x1024 .f32 := broadcastInDim S1x1024 ![] bcast_S_S1x1024 main_cst_3
  let main_v11 : IVec S1x1024 1 := cmpf .olt main_arg2 main_v10
  let main_cst_4 : FVec F S_ .f32 := constant S_ .f32 0xFF800000#32
  let main_v12 : FVec F S1x1024 .f32 := broadcastInDim S1x1024 ![] bcast_S_S1x1024 main_cst_4
  let main_v13 : IVec S1x1024 1 := cmpf .ogt main_arg2 main_v12
  let main_v14 : IVec S1x1024 1 := andi main_v11 main_v13
  let main_cst_5 : FVec F S_ .f32 := constant S_ .f32 0x7F800000#32
  let main_v15 : FVec F S1x1024x512 .f32 := broadcastInDim S1x1024x512 ![] bcast_S_S1x1024x512 main_cst_5
  let main_v16 : IVec S1x1024x512 1 := cmpf .olt main_arg3 main_v15
  fn_part1 (F := F) main_arg3 main_arg4 main_v4 main_v9 main_v14 main_v16
-- ==== Pre_in_proj_finite.lean ====
abbrev S4x2048x1024 : Shape := ⟨3, ![4, 2048, 1024]⟩
abbrev S1x1024 : Shape := ⟨2, ![1, 1024]⟩
abbrev S1x1024x2048 : Shape := ⟨3, ![1, 1024, 2048]⟩
abbrev S4x2048x384 : Shape := ⟨3, ![4, 2048, 384]⟩
abbrev S4x2048x256 : Shape := ⟨3, ![4, 2048, 256]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x2048 : S_.BroadcastsInDim S1x1024x2048 (![] : Fin 0 → Fin S1x1024x2048.rank)
  bcast_S_S4x2048x384 : S_.BroadcastsInDim S4x2048x384 (![] : Fin 0 → Fin S4x2048x384.rank)
  bcast_S_S4x2048x256 : S_.BroadcastsInDim S4x2048x256 (![] : Fin 0 → Fin S4x2048x256.rank)

variable [Facts]

def fn_part2 {F : FTy → Type} [FloatOps F] (main_v4 : IVec S4x2048x1024 1) (main_v9 : IVec S1x1024 1) (main_v14 : IVec S1x1024x2048 1) (main_v19 : IVec S4x2048x384 1) (main_v24 : IVec S4x2048x384 1) (main_v29 : IVec S4x2048x256 1) (main_v31 : IVec S4x2048x1024 1) (main_v33 : IVec S4x2048x1024 1) : IVec S4x2048x1024 1 × IVec S1x1024 1 × IVec S1x1024x2048 1 × IVec S4x2048x384 1 × IVec S4x2048x384 1 × IVec S4x2048x256 1 × IVec S4x2048x1024 1 :=
  let main_v34 : IVec S4x2048x1024 1 := andi main_v31 main_v33
  (main_v4, main_v9, main_v14, main_v19, main_v24, main_v29, main_v34)

def fn_part1 {F : FTy → Type} [FloatOps F] (main_arg3 : FVec F S4x2048x384 .f32) (main_arg4 : FVec F S4x2048x384 .f32) (main_arg5 : FVec F S4x2048x256 .f32) (main_arg6 : FVec F S4x2048x1024 .f32) (main_v4 : IVec S4x2048x1024 1) (main_v9 : IVec S1x1024 1) (main_v14 : IVec S1x1024x2048 1) (main_v16 : IVec S4x2048x384 1) : IVec S4x2048x1024 1 × IVec S1x1024 1 × IVec S1x1024x2048 1 × IVec S4x2048x384 1 × IVec S4x2048x384 1 × IVec S4x2048x256 1 × IVec S4x2048x1024 1 :=
  let main_cst_6 : FVec F S_ .f32 := constant S_ .f32 0xFF800000#32
  let main_v17 : FVec F S4x2048x384 .f32 := broadcastInDim S4x2048x384 ![] bcast_S_S4x2048x384 main_cst_6
  let main_v18 : IVec S4x2048x384 1 := cmpf .ogt main_arg3 main_v17
  let main_v19 : IVec S4x2048x384 1 := andi main_v16 main_v18
  let main_cst_7 : FVec F S_ .f32 := constant S_ .f32 0x7F800000#32
  let main_v20 : FVec F S4x2048x384 .f32 := broadcastInDim S4x2048x384 ![] bcast_S_S4x2048x384 main_cst_7
  let main_v21 : IVec S4x2048x384 1 := cmpf .olt main_arg4 main_v20
  let main_cst_8 : FVec F S_ .f32 := constant S_ .f32 0xFF800000#32
  let main_v22 : FVec F S4x2048x384 .f32 := broadcastInDim S4x2048x384 ![] bcast_S_S4x2048x384 main_cst_8
  let main_v23 : IVec S4x2048x384 1 := cmpf .ogt main_arg4 main_v22
  let main_v24 : IVec S4x2048x384 1 := andi main_v21 main_v23
  let main_cst_9 : FVec F S_ .f32 := constant S_ .f32 0x7F800000#32
  let main_v25 : FVec F S4x2048x256 .f32 := broadcastInDim S4x2048x256 ![] bcast_S_S4x2048x256 main_cst_9
  let main_v26 : IVec S4x2048x256 1 := cmpf .olt main_arg5 main_v25
  let main_cst_10 : FVec F S_ .f32 := constant S_ .f32 0xFF800000#32
  let main_v27 : FVec F S4x2048x256 .f32 := broadcastInDim S4x2048x256 ![] bcast_S_S4x2048x256 main_cst_10
  let main_v28 : IVec S4x2048x256 1 := cmpf .ogt main_arg5 main_v27
  let main_v29 : IVec S4x2048x256 1 := andi main_v26 main_v28
  let main_cst_11 : FVec F S_ .f32 := constant S_ .f32 0x7F800000#32
  let main_v30 : FVec F S4x2048x1024 .f32 := broadcastInDim S4x2048x1024 ![] bcast_S_S4x2048x1024 main_cst_11
  let main_v31 : IVec S4x2048x1024 1 := cmpf .olt main_arg6 main_v30
  let main_cst_12 : FVec F S_ .f32 := constant S_ .f32 0xFF800000#32
  let main_v32 : FVec F S4x2048x1024 .f32 := broadcastInDim S4x2048x1024 ![] bcast_S_S4x2048x1024 main_cst_12
  let main_v33 : IVec S4x2048x1024 1 := cmpf .ogt main_arg6 main_v32
  fn_part2 (F := F) main_v4 main_v9 main_v14 main_v19 main_v24 main_v29 main_v31 main_v33

def fn {F : FTy → Type} [FloatOps F] (main_arg0 : FVec F S4x2048x1024 .f32) (main_arg1 : FVec F S1x1024 .f32) (main_arg2 : FVec F S1x1024x2048 .f32) (main_arg3 : FVec F S4x2048x384 .f32) (main_arg4 : FVec F S4x2048x384 .f32) (main_arg5 : FVec F S4x2048x256 .f32) (main_arg6 : FVec F S4x2048x1024 .f32) (main_arg7 : FVec F S4x2048x1024 .f32) : IVec S4x2048x1024 1 × IVec S1x1024 1 × IVec S1x1024x2048 1 × IVec S4x2048x384 1 × IVec S4x2048x384 1 × IVec S4x2048x256 1 × IVec S4x2048x1024 1 :=
  let main_cst : FVec F S_ .f32 := constant S_ .f32 0x7F800000#32
  let main_v0 : FVec F S4x2048x1024 .f32 := broadcastInDim S4x2048x1024 ![] bcast_S_S4x2048x1024 main_cst
  let main_v1 : IVec S4x2048x1024 1 := cmpf .olt main_arg0 main_v0
  let main_cst_0 : FVec F S_ .f32 := constant S_ .f32 0xFF800000#32
  let main_v2 : FVec F S4x2048x1024 .f32 := broadcastInDim S4x2048x1024 ![] bcast_S_S4x2048x1024 main_cst_0
  let main_v3 : IVec S4x2048x1024 1 := cmpf .ogt main_arg0 main_v2
  let main_v4 : IVec S4x2048x1024 1 := andi main_v1 main_v3
  let main_cst_1 : FVec F S_ .f32 := constant S_ .f32 0x7F800000#32
  let main_v5 : FVec F S1x1024 .f32 := broadcastInDim S1x1024 ![] bcast_S_S1x1024 main_cst_1
  let main_v6 : IVec S1x1024 1 := cmpf .olt main_arg1 main_v5
  let main_cst_2 : FVec F S_ .f32 := constant S_ .f32 0xFF800000#32
  let main_v7 : FVec F S1x1024 .f32 := broadcastInDim S1x1024 ![] bcast_S_S1x1024 main_cst_2
  let main_v8 : IVec S1x1024 1 := cmpf .ogt main_arg1 main_v7
  let main_v9 : IVec S1x1024 1 := andi main_v6 main_v8
  let main_cst_3 : FVec F S_ .f32 := constant S_ .f32 0x7F800000#32
  let main_v10 : FVec F S1x1024x2048 .f32 := broadcastInDim S1x1024x2048 ![] bcast_S_S1x1024x2048 main_cst_3
  let main_v11 : IVec S1x1024x2048 1 := cmpf .olt main_arg2 main_v10
  let main_cst_4 : FVec F S_ .f32 := constant S_ .f32 0xFF800000#32
  let main_v12 : FVec F S1x1024x2048 .f32 := broadcastInDim S1x1024x2048 ![] bcast_S_S1x1024x2048 main_cst_4
  let main_v13 : IVec S1x1024x2048 1 := cmpf .ogt main_arg2 main_v12
  let main_v14 : IVec S1x1024x2048 1 := andi main_v11 main_v13
  let main_cst_5 : FVec F S_ .f32 := constant S_ .f32 0x7F800000#32
  let main_v15 : FVec F S4x2048x384 .f32 := broadcastInDim S4x2048x384 ![] bcast_S_S4x2048x384 main_cst_5
  let main_v16 : IVec S4x2048x384 1 := cmpf .olt main_arg3 main_v15
  fn_part1 (F := F) main_arg3 main_arg4 main_arg5 main_arg6 main_v4 main_v9 main_v14 main_v16
-- ==== Pre_pool_finite.lean ====
abbrev S4x2048x384 : Shape := ⟨3, ![4, 2048, 384]⟩
abbrev S1x4x96x96 : Shape := ⟨4, ![1, 4, 96, 96]⟩
abbrev S1x384 : Shape := ⟨2, ![1, 384]⟩
abbrev S_ : Shape := ⟨0, ![]⟩

class Facts : Prop where
  bcast_S_S4x2048x384 : S_.BroadcastsInDim S4x2048x384 (![] : Fin 0 → Fin S4x2048x384.rank)
  bcast_S_S1x4x96x96 : S_.BroadcastsInDim S1x4x96x96 (![] : Fin 0 → Fin S1x4x96x96.rank)
  bcast_S_S1x384 : S_.BroadcastsInDim S1x384 (![] : Fin 0 → Fin S1x384.rank)

variable [Facts]

def fn_part1 {F : FTy → Type} [FloatOps F] (main_arg3 : FVec F S4x2048x384 .f32) (main_v4 : IVec S4x2048x384 1) (main_v9 : IVec S1x4x96x96 1) (main_v14 : IVec S1x384 1) (main_v16 : IVec S4x2048x384 1) : IVec S4x2048x384 1 × IVec S1x4x96x96 1 × IVec S1x384 1 × IVec S4x2048x384 1 :=
  let main_cst_6 : FVec F S_ .f32 := constant S_ .f32 0xFF800000#32
  let main_v17 : FVec F S4x2048x384 .f32 := broadcastInDim S4x2048x384 ![] bcast_S_S4x2048x384 main_cst_6
  let main_v18 : IVec S4x2048x384 1 := cmpf .ogt main_arg3 main_v17
  let main_v19 : IVec S4x2048x384 1 := andi main_v16 main_v18
  (main_v4, main_v9, main_v14, main_v19)

def fn {F : FTy → Type} [FloatOps F] (main_arg0 : FVec F S4x2048x384 .f32) (main_arg1 : FVec F S1x4x96x96 .f32) (main_arg2 : FVec F S1x384 .f32) (main_arg3 : FVec F S4x2048x384 .f32) : IVec S4x2048x384 1 × IVec S1x4x96x96 1 × IVec S1x384 1 × IVec S4x2048x384 1 :=
  let main_cst : FVec F S_ .f32 := constant S_ .f32 0x7F800000#32
  let main_v0 : FVec F S4x2048x384 .f32 := broadcastInDim S4x2048x384 ![] bcast_S_S4x2048x384 main_cst
  let main_v1 : IVec S4x2048x384 1 := cmpf .olt main_arg0 main_v0
  let main_cst_0 : FVec F S_ .f32 := constant S_ .f32 0xFF800000#32
  let main_v2 : FVec F S4x2048x384 .f32 := broadcastInDim S4x2048x384 ![] bcast_S_S4x2048x384 main_cst_0
  let main_v3 : IVec S4x2048x384 1 := cmpf .ogt main_arg0 main_v2
  let main_v4 : IVec S4x2048x384 1 := andi main_v1 main_v3
  let main_cst_1 : FVec F S_ .f32 := constant S_ .f32 0x7F800000#32
  let main_v5 : FVec F S1x4x96x96 .f32 := broadcastInDim S1x4x96x96 ![] bcast_S_S1x4x96x96 main_cst_1
  let main_v6 : IVec S1x4x96x96 1 := cmpf .olt main_arg1 main_v5
  let main_cst_2 : FVec F S_ .f32 := constant S_ .f32 0xFF800000#32
  let main_v7 : FVec F S1x4x96x96 .f32 := broadcastInDim S1x4x96x96 ![] bcast_S_S1x4x96x96 main_cst_2
  let main_v8 : IVec S1x4x96x96 1 := cmpf .ogt main_arg1 main_v7
  let main_v9 : IVec S1x4x96x96 1 := andi main_v6 main_v8
  let main_cst_3 : FVec F S_ .f32 := constant S_ .f32 0x7F800000#32
  let main_v10 : FVec F S1x384 .f32 := broadcastInDim S1x384 ![] bcast_S_S1x384 main_cst_3
  let main_v11 : IVec S1x384 1 := cmpf .olt main_arg2 main_v10
  let main_cst_4 : FVec F S_ .f32 := constant S_ .f32 0xFF800000#32
  let main_v12 : FVec F S1x384 .f32 := broadcastInDim S1x384 ![] bcast_S_S1x384 main_cst_4
  let main_v13 : IVec S1x384 1 := cmpf .ogt main_arg2 main_v12
  let main_v14 : IVec S1x384 1 := andi main_v11 main_v13
  let main_cst_5 : FVec F S_ .f32 := constant S_ .f32 0x7F800000#32
  let main_v15 : FVec F S4x2048x384 .f32 := broadcastInDim S4x2048x384 ![] bcast_S_S4x2048x384 main_cst_5
  let main_v16 : IVec S4x2048x384 1 := cmpf .olt main_arg3 main_v15
  fn_part1 (F := F) main_arg3 main_v4 main_v9 main_v14 main_v16
-- ==== Pre_steps_finite.lean ====
abbrev S1x24x64 : Shape := ⟨3, ![1, 24, 64]⟩
abbrev S1x24 : Shape := ⟨2, ![1, 24]⟩
abbrev S1x24x64x16 : Shape := ⟨4, ![1, 24, 64, 16]⟩
abbrev S24x64 : Shape := ⟨2, ![24, 64]⟩
abbrev S24x64x16 : Shape := ⟨3, ![24, 64, 16]⟩
abbrev S_ : Shape := ⟨0, ![]⟩

class Facts : Prop where
  bcast_S_S1x24 : S_.BroadcastsInDim S1x24 (![] : Fin 0 → Fin S1x24.rank)

variable [Facts]

def fn {F : FTy → Type} [FloatOps F] (main_arg0 : FVec F S1x24x64 .f32) (main_arg1 : FVec F S1x24x64 .f32) (main_arg2 : FVec F S1x24 .f32) (main_arg3 : FVec F S1x24x64x16 .f32) (main_arg4 : FVec F S1x24x64x16 .f32) (main_arg5 : FVec F S24x64 .f32) (main_arg6 : FVec F S24x64 .f32) (main_arg7 : FVec F S24x64x16 .f32) (main_arg8 : FVec F S24x64x16 .f32) : IVec S1x24 1 :=
  let main_cst : FVec F S_ .f32 := constant S_ .f32 0x7F800000#32
  let main_v0 : FVec F S1x24 .f32 := broadcastInDim S1x24 ![] bcast_S_S1x24 main_cst
  let main_v1 : IVec S1x24 1 := cmpf .olt main_arg2 main_v0
  let main_cst_0 : FVec F S_ .f32 := constant S_ .f32 0xFF800000#32
  let main_v2 : FVec F S1x24 .f32 := broadcastInDim S1x24 ![] bcast_S_S1x24 main_cst_0
  let main_v3 : IVec S1x24 1 := cmpf .ogt main_arg2 main_v2
  let main_v4 : IVec S1x24 1 := andi main_v1 main_v3
  main_v4
-- ==== Pre_tail_finite.lean ====
abbrev S4x2048x384 : Shape := ⟨3, ![4, 2048, 384]⟩
abbrev S4x2048x256 : Shape := ⟨3, ![4, 2048, 256]⟩
abbrev S4x2048x2048 : Shape := ⟨3, ![4, 2048, 2048]⟩
abbrev S4x2048x1024 : Shape := ⟨3, ![4, 2048, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S4x2048x384 : S_.BroadcastsInDim S4x2048x384 (![] : Fin 0 → Fin S4x2048x384.rank)
  bcast_S_S4x2048x256 : S_.BroadcastsInDim S4x2048x256 (![] : Fin 0 → Fin S4x2048x256.rank)
  bcast_S_S4x2048x2048 : S_.BroadcastsInDim S4x2048x2048 (![] : Fin 0 → Fin S4x2048x2048.rank)
  bcast_S_S4x2048x1024 : S_.BroadcastsInDim S4x2048x1024 (![] : Fin 0 → Fin S4x2048x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn_part2 {F : FTy → Type} [FloatOps F] (main_arg7 : FVec F S1x1024 .f32) (main_v4 : IVec S4x2048x384 1) (main_v9 : IVec S4x2048x384 1) (main_v14 : IVec S4x2048x256 1) (main_v19 : IVec S4x2048x2048 1) (main_v24 : IVec S4x2048x1024 1) (main_v29 : IVec S4x2048x1024 1) (main_v31 : IVec S1x1024x1024 1) (main_v33 : IVec S1x1024x1024 1) : IVec S4x2048x384 1 × IVec S4x2048x384 1 × IVec S4x2048x256 1 × IVec S4x2048x2048 1 × IVec S4x2048x1024 1 × IVec S4x2048x1024 1 × IVec S1x1024x1024 1 × IVec S1x1024 1 :=
  let main_v34 : IVec S1x1024x1024 1 := andi main_v31 main_v33
  let main_cst_13 : FVec F S_ .f32 := constant S_ .f32 0x7F800000#32
  let main_v35 : FVec F S1x1024 .f32 := broadcastInDim S1x1024 ![] bcast_S_S1x1024 main_cst_13
  let main_v36 : IVec S1x1024 1 := cmpf .olt main_arg7 main_v35
  let main_cst_14 : FVec F S_ .f32 := constant S_ .f32 0xFF800000#32
  let main_v37 : FVec F S1x1024 .f32 := broadcastInDim S1x1024 ![] bcast_S_S1x1024 main_cst_14
  let main_v38 : IVec S1x1024 1 := cmpf .ogt main_arg7 main_v37
  let main_v39 : IVec S1x1024 1 := andi main_v36 main_v38
  (main_v4, main_v9, main_v14, main_v19, main_v24, main_v29, main_v34, main_v39)

def fn_part1 {F : FTy → Type} [FloatOps F] (main_arg3 : FVec F S4x2048x2048 .f32) (main_arg4 : FVec F S4x2048x1024 .f32) (main_arg5 : FVec F S4x2048x1024 .f32) (main_arg6 : FVec F S1x1024x1024 .f32) (main_arg7 : FVec F S1x1024 .f32) (main_v4 : IVec S4x2048x384 1) (main_v9 : IVec S4x2048x384 1) (main_v14 : IVec S4x2048x256 1) (main_v16 : IVec S4x2048x2048 1) : IVec S4x2048x384 1 × IVec S4x2048x384 1 × IVec S4x2048x256 1 × IVec S4x2048x2048 1 × IVec S4x2048x1024 1 × IVec S4x2048x1024 1 × IVec S1x1024x1024 1 × IVec S1x1024 1 :=
  let main_cst_6 : FVec F S_ .f32 := constant S_ .f32 0xFF800000#32
  let main_v17 : FVec F S4x2048x2048 .f32 := broadcastInDim S4x2048x2048 ![] bcast_S_S4x2048x2048 main_cst_6
  let main_v18 : IVec S4x2048x2048 1 := cmpf .ogt main_arg3 main_v17
  let main_v19 : IVec S4x2048x2048 1 := andi main_v16 main_v18
  let main_cst_7 : FVec F S_ .f32 := constant S_ .f32 0x7F800000#32
  let main_v20 : FVec F S4x2048x1024 .f32 := broadcastInDim S4x2048x1024 ![] bcast_S_S4x2048x1024 main_cst_7
  let main_v21 : IVec S4x2048x1024 1 := cmpf .olt main_arg4 main_v20
  let main_cst_8 : FVec F S_ .f32 := constant S_ .f32 0xFF800000#32
  let main_v22 : FVec F S4x2048x1024 .f32 := broadcastInDim S4x2048x1024 ![] bcast_S_S4x2048x1024 main_cst_8
  let main_v23 : IVec S4x2048x1024 1 := cmpf .ogt main_arg4 main_v22
  let main_v24 : IVec S4x2048x1024 1 := andi main_v21 main_v23
  let main_cst_9 : FVec F S_ .f32 := constant S_ .f32 0x7F800000#32
  let main_v25 : FVec F S4x2048x1024 .f32 := broadcastInDim S4x2048x1024 ![] bcast_S_S4x2048x1024 main_cst_9
  let main_v26 : IVec S4x2048x1024 1 := cmpf .olt main_arg5 main_v25
  let main_cst_10 : FVec F S_ .f32 := constant S_ .f32 0xFF800000#32
  let main_v27 : FVec F S4x2048x1024 .f32 := broadcastInDim S4x2048x1024 ![] bcast_S_S4x2048x1024 main_cst_10
  let main_v28 : IVec S4x2048x1024 1 := cmpf .ogt main_arg5 main_v27
  let main_v29 : IVec S4x2048x1024 1 := andi main_v26 main_v28
  let main_cst_11 : FVec F S_ .f32 := constant S_ .f32 0x7F800000#32
  let main_v30 : FVec F S1x1024x1024 .f32 := broadcastInDim S1x1024x1024 ![] bcast_S_S1x1024x1024 main_cst_11
  let main_v31 : IVec S1x1024x1024 1 := cmpf .olt main_arg6 main_v30
  let main_cst_12 : FVec F S_ .f32 := constant S_ .f32 0xFF800000#32
  let main_v32 : FVec F S1x1024x1024 .f32 := broadcastInDim S1x1024x1024 ![] bcast_S_S1x1024x1024 main_cst_12
  let main_v33 : IVec S1x1024x1024 1 := cmpf .ogt main_arg6 main_v32
  fn_part2 (F := F) main_arg7 main_v4 main_v9 main_v14 main_v19 main_v24 main_v29 main_v31 main_v33

def fn {F : FTy → Type} [FloatOps F] (main_arg0 : FVec F S4x2048x384 .f32) (main_arg1 : FVec F S4x2048x384 .f32) (main_arg2 : FVec F S4x2048x256 .f32) (main_arg3 : FVec F S4x2048x2048 .f32) (main_arg4 : FVec F S4x2048x1024 .f32) (main_arg5 : FVec F S4x2048x1024 .f32) (main_arg6 : FVec F S1x1024x1024 .f32) (main_arg7 : FVec F S1x1024 .f32) : IVec S4x2048x384 1 × IVec S4x2048x384 1 × IVec S4x2048x256 1 × IVec S4x2048x2048 1 × IVec S4x2048x1024 1 × IVec S4x2048x1024 1 × IVec S1x1024x1024 1 × IVec S1x1024 1 :=
  let main_cst : FVec F S_ .f32 := constant S_ .f32 0x7F800000#32
  let main_v0 : FVec F S4x2048x384 .f32 := broadcastInDim S4x2048x384 ![] bcast_S_S4x2048x384 main_cst
  let main_v1 : IVec S4x2048x384 1 := cmpf .olt main_arg0 main_v0
  let main_cst_0 : FVec F S_ .f32 := constant S_ .f32 0xFF800000#32
  let main_v2 : FVec F S4x2048x384 .f32 := broadcastInDim S4x2048x384 ![] bcast_S_S4x2048x384 main_cst_0
  let main_v3 : IVec S4x2048x384 1 := cmpf .ogt main_arg0 main_v2
  let main_v4 : IVec S4x2048x384 1 := andi main_v1 main_v3
  let main_cst_1 : FVec F S_ .f32 := constant S_ .f32 0x7F800000#32
  let main_v5 : FVec F S4x2048x384 .f32 := broadcastInDim S4x2048x384 ![] bcast_S_S4x2048x384 main_cst_1
  let main_v6 : IVec S4x2048x384 1 := cmpf .olt main_arg1 main_v5
  let main_cst_2 : FVec F S_ .f32 := constant S_ .f32 0xFF800000#32
  let main_v7 : FVec F S4x2048x384 .f32 := broadcastInDim S4x2048x384 ![] bcast_S_S4x2048x384 main_cst_2
  let main_v8 : IVec S4x2048x384 1 := cmpf .ogt main_arg1 main_v7
  let main_v9 : IVec S4x2048x384 1 := andi main_v6 main_v8
  let main_cst_3 : FVec F S_ .f32 := constant S_ .f32 0x7F800000#32
  let main_v10 : FVec F S4x2048x256 .f32 := broadcastInDim S4x2048x256 ![] bcast_S_S4x2048x256 main_cst_3
  let main_v11 : IVec S4x2048x256 1 := cmpf .olt main_arg2 main_v10
  let main_cst_4 : FVec F S_ .f32 := constant S_ .f32 0xFF800000#32
  let main_v12 : FVec F S4x2048x256 .f32 := broadcastInDim S4x2048x256 ![] bcast_S_S4x2048x256 main_cst_4
  let main_v13 : IVec S4x2048x256 1 := cmpf .ogt main_arg2 main_v12
  let main_v14 : IVec S4x2048x256 1 := andi main_v11 main_v13
  let main_cst_5 : FVec F S_ .f32 := constant S_ .f32 0x7F800000#32
  let main_v15 : FVec F S4x2048x2048 .f32 := broadcastInDim S4x2048x2048 ![] bcast_S_S4x2048x2048 main_cst_5
  let main_v16 : IVec S4x2048x2048 1 := cmpf .olt main_arg3 main_v15
  fn_part1 (F := F) main_arg3 main_arg4 main_arg5 main_arg6 main_arg7 main_v4 main_v9 main_v14 main_v16
-- ==== InProjBwd.lean ====
abbrev S4x2048x1024 : Shape := ⟨3, ![4, 2048, 1024]⟩
abbrev S1x1024 : Shape := ⟨2, ![1, 1024]⟩
abbrev S1x1024x2048 : Shape := ⟨3, ![1, 1024, 2048]⟩
abbrev S4x2048x384 : Shape := ⟨3, ![4, 2048, 384]⟩
abbrev S4x2048x256 : Shape := ⟨3, ![4, 2048, 256]⟩
abbrev S1024x2048 : Shape := ⟨2, ![1024, 2048]⟩
abbrev S1024x4x512 : Shape := ⟨3, ![1024, 4, 512]⟩
abbrev S4x1024x512 : Shape := ⟨3, ![4, 1024, 512]⟩
abbrev S8192x384 : Shape := ⟨2, ![8192, 384]⟩
abbrev S8192x256 : Shape := ⟨2, ![8192, 256]⟩
abbrev S8192x1024 : Shape := ⟨2, ![8192, 1024]⟩
abbrev S512x384 : Shape := ⟨2, ![512, 384]⟩
abbrev S512x256 : Shape := ⟨2, ![512, 256]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 26
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2048, .f32⟩
  | .hbm, ⟨3, _⟩ => ⟨S4x2048x384, .f32⟩
  | .hbm, ⟨4, _⟩ => ⟨S4x2048x384, .f32⟩
  | .hbm, ⟨5, _⟩ => ⟨S4x2048x256, .f32⟩
  | .hbm, ⟨6, _⟩ => ⟨S4x2048x1024, .f32⟩
  | .hbm, ⟨7, _⟩ => ⟨S4x2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | .hbm, ⟨12, _⟩ => ⟨S8192x384, .f32⟩
  | .hbm, ⟨13, _⟩ => ⟨S8192x384, .bf16⟩
  | .hbm, ⟨14, _⟩ => ⟨S8192x384, .f32⟩
  | .hbm, ⟨15, _⟩ => ⟨S8192x384, .bf16⟩
  | .hbm, ⟨16, _⟩ => ⟨S8192x256, .f32⟩
  | .hbm, ⟨17, _⟩ => ⟨S8192x256, .bf16⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x1024, .f32⟩
  | .hbm, ⟨24, _⟩ => ⟨S4x1024x512, .f32⟩
  | .hbm, ⟨25, _⟩ => ⟨S1x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S4x1024x512, .bf16⟩
  | .local _ .vmem, ⟨14, _⟩ => ⟨S512x1024, .f32⟩
  | .local _ .vmem, ⟨15, _⟩ => ⟨S512x1024, .f32⟩
  | .local _ .vmem, ⟨16, _⟩ => ⟨S4x1024x512, .f32⟩
  | .local _ .vmem, ⟨17, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjBwdRefIdeal.lean ====
abbrev S4x2048x1024 : Shape := ⟨3, ![4, 2048, 1024]⟩
abbrev S1x1024 : Shape := ⟨2, ![1, 1024]⟩
abbrev S1x1024x2048 : Shape := ⟨3, ![1, 1024, 2048]⟩
abbrev S4x2048x384 : Shape := ⟨3, ![4, 2048, 384]⟩
abbrev S4x2048x256 : Shape := ⟨3, ![4, 2048, 256]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x2048 : Shape := ⟨2, ![1024, 2048]⟩
abbrev S4x2048x2048 : Shape := ⟨3, ![4, 2048, 2048]⟩
abbrev S2048x1024 : Shape := ⟨2, ![2048, 1024]⟩
abbrev S8192x1024 : Shape := ⟨2, ![8192, 1024]⟩
abbrev S1024x4x512 : Shape := ⟨3, ![1024, 4, 512]⟩
abbrev S4x1024x512 : Shape := ⟨3, ![4, 1024, 512]⟩

abbrev nBuf : Space → Nat
  | .hbm => 67
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x2048, .f32⟩
  | .hbm, ⟨3, _⟩ => ⟨S4x2048x384, .f32⟩
  | .hbm, ⟨4, _⟩ => ⟨S4x2048x384, .f32⟩
  | .hbm, ⟨5, _⟩ => ⟨S4x2048x256, .f32⟩
  | .hbm, ⟨6, _⟩ => ⟨S4x2048x1024, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S1024x2048, .f32⟩
  | .hbm, ⟨30, _⟩ => ⟨S4x2048x2048, .f32⟩
  | .hbm, ⟨31, _⟩ => ⟨S4x2048x2048, .f32⟩
  | .hbm, ⟨32, _⟩ => ⟨S2048x1024, .f32⟩
  | .hbm, ⟨33, _⟩ => ⟨S1024x2048, .f32⟩
  | .hbm, ⟨34, _⟩ => ⟨S4x2048x1024, .f32⟩
  | .hbm, ⟨35, _⟩ => ⟨S1x1024x2048, .f32⟩
  | .hbm, ⟨36, _⟩ => ⟨S4x2048x1024, .f32⟩
  | .hbm, ⟨37, _⟩ => ⟨S_, .f32⟩
  | .hbm, ⟨38, _⟩ => ⟨S1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S_, .f32⟩
  | .hbm, ⟨56, _⟩ => ⟨S4x2048, .f32⟩
  | .hbm, ⟨57, _⟩ => ⟨S4x2048x1024, .f32⟩
  | .hbm, ⟨58, _⟩ => ⟨S4x2048x1024, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S1x1024, .f32⟩
  | .hbm, ⟨63, _⟩ => ⟨S8192x1024, .f32⟩
  | .hbm, ⟨64, _⟩ => ⟨S1024x2048, .f32⟩
  | .hbm, ⟨65, _⟩ => ⟨S1024x4x512, .f32⟩
  | .hbm, ⟨66, _⟩ => ⟨S4x1024x512, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AttnFwd.lean ====
abbrev S4x2048x2048 : Shape := ⟨3, ![4, 2048, 2048]⟩
abbrev S4x256x1024 : Shape := ⟨3, ![4, 256, 1024]⟩
abbrev S1x1024 : Shape := ⟨2, ![1, 1024]⟩
abbrev S1x1024x512 : Shape := ⟨3, ![1, 1024, 512]⟩
abbrev S8192x2048 : Shape := ⟨2, ![8192, 2048]⟩
abbrev S1024x512 : Shape := ⟨2, ![1024, 512]⟩
abbrev S8192x256 : Shape := ⟨2, ![8192, 256]⟩
abbrev S8192x1024 : Shape := ⟨2, ![8192, 1024]⟩
abbrev S2048x256 : Shape := ⟨2, ![2048, 256]⟩
abbrev S1x256x1024 : Shape := ⟨3, ![1, 256, 1024]⟩
abbrev S2048x1024 : Shape := ⟨2, ![2048, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .f32⟩
  | .hbm, ⟨2, _⟩ => ⟨S1x1024, .f32⟩
  | .hbm, ⟨3, _⟩ => ⟨S1x1024x512, .f32⟩
  | .hbm, ⟨4, _⟩ => ⟨S8192x2048, .f32⟩
  | .hbm, ⟨5, _⟩ => ⟨S8192x2048, .bf16⟩
  | .hbm, ⟨6, _⟩ => ⟨S1024x512, .f32⟩
  | .hbm, ⟨7, _⟩ => ⟨S1024x512, .bf16⟩
  | .hbm, ⟨8, _⟩ => ⟨S8192x256, .bf16⟩
  | .hbm, ⟨9, _⟩ => ⟨S8192x1024, .bf16⟩
  | .local _ .vmem, ⟨0, _⟩ => ⟨S2048x256, .bf16⟩
  | .local _ .vmem, ⟨1, _⟩ => ⟨S2048x256, .bf16⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x512, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S2048x1024, .bf16⟩
  | .local _ .vmem, ⟨10, _⟩ => ⟨S1024x256, .bf16⟩
  | .local _ .vmem, ⟨11, _⟩ => ⟨S1024x256, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdRefIdeal.lean ====
abbrev S4x2048x2048 : Shape := ⟨3, ![4, 2048, 2048]⟩
abbrev S4x256x1024 : Shape := ⟨3, ![4, 256, 1024]⟩
abbrev S1x1024 : Shape := ⟨2, ![1, 1024]⟩
abbrev S1x1024x512 : Shape := ⟨3, ![1, 1024, 512]⟩
abbrev S4x2048x256 : Shape := ⟨3, ![4, 2048, 256]⟩
abbrev S1024 : Shape := ⟨1, ![1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S8192x256 : Shape := ⟨2, ![8192, 256]⟩
abbrev S4x2048x4x256 : Shape := ⟨4, ![4, 2048, 4, 256]⟩
abbrev S8192x1024 : Shape := ⟨2, ![8192, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .f32⟩
  | .hbm, ⟨2, _⟩ => ⟨S1x1024, .f32⟩
  | .hbm, ⟨3, _⟩ => ⟨S1x1024x512, .f32⟩
  | .hbm, ⟨4, _⟩ => ⟨S4x2048x256, .f32⟩
  | .hbm, ⟨5, _⟩ => ⟨S1024, .f32⟩
  | .hbm, ⟨6, _⟩ => ⟨S1024x512, .f32⟩
  | .hbm, ⟨7, _⟩ => ⟨S4x256x1024, .f32⟩
  | .hbm, ⟨8, _⟩ => ⟨S_, .f32⟩
  | .hbm, ⟨9, _⟩ => ⟨S4x256, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1, .f32⟩
  | .hbm, ⟨18, _⟩ => ⟨S4x256x1024, .f32⟩
  | .hbm, ⟨19, _⟩ => ⟨S4x256x1024, .f32⟩
  | .hbm, ⟨20, _⟩ => ⟨S1x1x1024, .f32⟩
  | .hbm, ⟨21, _⟩ => ⟨S4x256x1024, .f32⟩
  | .hbm, ⟨22, _⟩ => ⟨S4x256x1024, .f32⟩
  | .hbm, ⟨23, _⟩ => ⟨S4x256x512, .f32⟩
  | .hbm, ⟨24, _⟩ => ⟨S4x256x256, .f32⟩
  | .hbm, ⟨25, _⟩ => ⟨S4x256x4x64, .f32⟩
  | .hbm, ⟨26, _⟩ => ⟨S4x256x256, .f32⟩
  | .hbm, ⟨27, _⟩ => ⟨S4x256x4x64, .f32⟩
  | .hbm, ⟨28, _⟩ => ⟨S4x2048x4x64, .f32⟩
  | .hbm, ⟨29, _⟩ => ⟨S4x4x2048x256, .f32⟩
  | .hbm, ⟨30, _⟩ => ⟨S_, .f32⟩
  | .hbm, ⟨31, _⟩ => ⟨S4x4x2048x256, .f32⟩
  | .hbm, ⟨32, _⟩ => ⟨S4x4x2048x256, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x64x2048, .f32⟩
  | .hbm, ⟨48, _⟩ => ⟨S4x2048x4x64, .f32⟩
  | .hbm, ⟨49, _⟩ => ⟨S4x2048x256, .f32⟩
  | .hbm, ⟨50, _⟩ => ⟨S8192x256, .f32⟩
  | .hbm, ⟨51, _⟩ => ⟨S8192x256, .bf16⟩
  | .hbm, ⟨52, _⟩ => ⟨S4x2048x4x256, .f32⟩
  | .hbm, ⟨53, _⟩ => ⟨S8192x1024, .f32⟩
  | .hbm, ⟨54, _⟩ => ⟨S8192x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== AttnBwd.lean ====
abbrev S4x2048x2048 : Shape := ⟨3, ![4, 2048, 2048]⟩
abbrev S4x256x1024 : Shape := ⟨3, ![4, 256, 1024]⟩
abbrev S1x1024 : Shape := ⟨2, ![1, 1024]⟩
abbrev S1x1024x512 : Shape := ⟨3, ![1, 1024, 512]⟩
abbrev S4x2048x1024 : Shape := ⟨3, ![4, 2048, 1024]⟩
abbrev S4x2048x256 : Shape := ⟨3, ![4, 2048, 256]⟩
abbrev S1024 : Shape := ⟨1, ![1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x2048x4x256 : Shape := ⟨4, ![4, 2048, 4, 256]⟩
abbrev S8192x1024 : Shape := ⟨2, ![8192, 1024]⟩
abbrev S8192x2048 : Shape := ⟨2, ![8192, 2048]⟩
abbrev S8192x256 : Shape := ⟨2, ![8192, 256]⟩
abbrev S2048x256 : Shape := ⟨2, ![2048, 256]⟩
abbrev S2048x1024 : Shape := ⟨2, ![2048, 1024]⟩
abbrev S1x256x1024 : Shape := ⟨3, ![1, 256, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x256 : Shape := ⟨2, ![256, 256]⟩
abbrev S1x256 : Shape := ⟨2, ![1, 256]⟩
abbrev S2048 : Shape := ⟨1, ![2048]⟩
abbrev S2048x1 : Shape := ⟨2, ![2048, 1]⟩

abbrev nBuf : Space → Nat
  | .hbm => 60
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .f32⟩
  | .hbm, ⟨2, _⟩ => ⟨S1x1024, .f32⟩
  | .hbm, ⟨3, _⟩ => ⟨S1x1024x512, .f32⟩
  | .hbm, ⟨4, _⟩ => ⟨S4x2048x1024, .f32⟩
  | .hbm, ⟨5, _⟩ => ⟨S4x2048x256, .f32⟩
  | .hbm, ⟨6, _⟩ => ⟨S1024, .f32⟩
  | .hbm, ⟨7, _⟩ => ⟨S1024x512, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S4x256x512, .f32⟩
  | .hbm, ⟨25, _⟩ => ⟨S4x256x256, .f32⟩
  | .hbm, ⟨26, _⟩ => ⟨S4x256x4x64, .f32⟩
  | .hbm, ⟨27, _⟩ => ⟨S4x256x256, .f32⟩
  | .hbm, ⟨28, _⟩ => ⟨S4x256x4x64, .f32⟩
  | .hbm, ⟨29, _⟩ => ⟨S4x2048x4x64, .f32⟩
  | .hbm, ⟨30, _⟩ => ⟨S4x4x2048x256, .f32⟩
  | .hbm, ⟨31, _⟩ => ⟨S_, .f32⟩
  | .hbm, ⟨32, _⟩ => ⟨S4x4x2048x256, .f32⟩
  | .hbm, ⟨33, _⟩ => ⟨S4x4x2048x256, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S4x4x2048x1, .f32⟩
  | .hbm, ⟨40, _⟩ => ⟨S4x4x2048x256, .f32⟩
  | .hbm, ⟨41, _⟩ => ⟨S4x4x2048x256, .f32⟩
  | .hbm, ⟨42, _⟩ => ⟨S4x4x2048x256, .f32⟩
  | .hbm, ⟨43, _⟩ => ⟨S_, .f32⟩
  | .hbm, ⟨44, _⟩ => ⟨S4x4x2048, .f32⟩
  | .hbm, ⟨45, _⟩ => ⟨S4x4x2048x1, .f32⟩
  | .hbm, ⟨46, _⟩ => ⟨S4x4x2048x256, .f32⟩
  | .hbm, ⟨47, _⟩ => ⟨S4x4x2048x256, .f32⟩
  | .hbm, ⟨48, _⟩ => ⟨S4x2048x4x256, .f32⟩
  | .hbm, ⟨49, _⟩ => ⟨S8192x1024, .f32⟩
  | .hbm, ⟨50, _⟩ => ⟨S8192x1024, .bf16⟩
  | .hbm, ⟨51, _⟩ => ⟨S8192x2048, .f32⟩
  | .hbm, ⟨52, _⟩ => ⟨S8192x2048, .bf16⟩
  | .hbm, ⟨53, _⟩ => ⟨S8192x1024, .f32⟩
  | .hbm, ⟨54, _⟩ => ⟨S8192x1024, .bf16⟩
  | .hbm, ⟨55, _⟩ => ⟨S1024x512, .f32⟩
  | .hbm, ⟨56, _⟩ => ⟨S1024x512, .bf16⟩
  | .hbm, ⟨57, _⟩ => ⟨S8192x256, .bf16⟩
  | .hbm, ⟨58, _⟩ => ⟨S1024x512, .f32⟩
  | .hbm, ⟨59, _⟩ => ⟨S1x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1024x512, .bf16⟩
  | .local _ .vmem, ⟨10, _⟩ => ⟨S2048x256, .bf16⟩
  | .local _ .vmem, ⟨11, _⟩ => ⟨S2048x256, .bf16⟩
  | .local _ .vmem, ⟨12, _⟩ => ⟨S1024x512, .f32⟩
  | .local _ .vmem, ⟨13, _⟩ => ⟨S1x1024, .f32⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S1024x256, .f32⟩
  | .local _ .vmem, ⟨18, _⟩ => ⟨S1024x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond3 (i : grid0.Coords) : BitVec 1 :=
  let arg1 : BitVec 32 := BitVec.ofNat 32 (i 1).val
  let c0_i32_34 : BitVec 32 := 0#32
  let v83 : BitVec 1 := Scalar.cmpi .eq arg1 c0_i32_34
  let v84 : BitVec 32 := Scalar.extui v83
  let c0_i32_35 : BitVec 32 := 0#32
  let v85 : BitVec 1 := Scalar.cmpi .ne v84 c0_i32_35
  v85

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== AttnBwdRefIdeal.lean ====
abbrev S4x2048x2048 : Shape := ⟨3, ![4, 2048, 2048]⟩
abbrev S4x256x1024 : Shape := ⟨3, ![4, 256, 1024]⟩
abbrev S1x1024 : Shape := ⟨2, ![1, 1024]⟩
abbrev S1x1024x512 : Shape := ⟨3, ![1, 1024, 512]⟩
abbrev S4x2048x1024 : Shape := ⟨3, ![4, 2048, 1024]⟩
abbrev S4x2048x256 : Shape := ⟨3, ![4, 2048, 256]⟩
abbrev S1024 : Shape := ⟨1, ![1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩
abbrev S512x1024 : Shape := ⟨2, ![512, 1024]⟩
abbrev S8192x256 : Shape := ⟨2, ![8192, 256]⟩

abbrev nBuf : Space → Nat
  | .hbm => 124
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x256x1024, .f32⟩
  | .hbm, ⟨2, _⟩ => ⟨S1x1024, .f32⟩
  | .hbm, ⟨3, _⟩ => ⟨S1x1024x512, .f32⟩
  | .hbm, ⟨4, _⟩ => ⟨S4x2048x1024, .f32⟩
  | .hbm, ⟨5, _⟩ => ⟨S4x2048x256, .f32⟩
  | .hbm, ⟨6, _⟩ => ⟨S1024, .f32⟩
  | .hbm, ⟨7, _⟩ => ⟨S1024x512, .f32⟩
  | .hbm, ⟨8, _⟩ => ⟨S4x256x1024, .f32⟩
  | .hbm, ⟨9, _⟩ => ⟨S_, .f32⟩
  | .hbm, ⟨10, _⟩ => ⟨S4x256, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S_, .f32⟩
  | .hbm, ⟨16, _⟩ => ⟨S4x256x1, .f32⟩
  | .hbm, ⟨17, _⟩ => ⟨S4x256x1, .f32⟩
  | .hbm, ⟨18, _⟩ => ⟨S4x256x1, .f32⟩
  | .hbm, ⟨19, _⟩ => ⟨S4x256x1024, .f32⟩
  | .hbm, ⟨20, _⟩ => ⟨S4x256x1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S4x256x512, .f32⟩
  | .hbm, ⟨25, _⟩ => ⟨S4x256x256, .f32⟩
  | .hbm, ⟨26, _⟩ => ⟨S4x256x4x64, .f32⟩
  | .hbm, ⟨27, _⟩ => ⟨S4x256x256, .f32⟩
  | .hbm, ⟨28, _⟩ => ⟨S4x256x4x64, .f32⟩
  | .hbm, ⟨29, _⟩ => ⟨S4x2048x4x64, .f32⟩
  | .hbm, ⟨30, _⟩ => ⟨S4x4x2048x256, .f32⟩
  | .hbm, ⟨31, _⟩ => ⟨S_, .f32⟩
  | .hbm, ⟨32, _⟩ => ⟨S4x4x2048x256, .f32⟩
  | .hbm, ⟨33, _⟩ => ⟨S4x4x2048x256, .f32⟩
  | .hbm, ⟨34, _⟩ => ⟨S_, .f32⟩
  | .hbm, ⟨35, _⟩ => ⟨S4x4x2048, .f32⟩
  | .hbm, ⟨36, _⟩ => ⟨S4x4x2048x1, .f32⟩
  | .hbm, ⟨37, _⟩ => ⟨S4x4x2048x256, .f32⟩
  | .hbm, ⟨38, _⟩ => ⟨S4x4x2048x256, .i1⟩
  | .hbm, ⟨39, _⟩ => ⟨S4x4x2048x256, .f32⟩
  | .hbm, ⟨40, _⟩ => ⟨S_, .f32⟩
  | .hbm, ⟨41, _⟩ => ⟨S4x4x2048, .f32⟩
  | .hbm, ⟨42, _⟩ => ⟨S_, .f32⟩
  | .hbm, ⟨43, _⟩ => ⟨S4x4x2048, .f32⟩
  | .hbm, ⟨44, _⟩ => ⟨S4x4x2048, .f32⟩
  | .hbm, ⟨45, _⟩ => ⟨S_, .f32⟩
  | .hbm, ⟨46, _⟩ => ⟨S4x4x2048, .f32⟩
  | .hbm, ⟨47, _⟩ => ⟨S4x4x2048, .i1⟩
  | .hbm, ⟨48, _⟩ => ⟨S_, .f32⟩
  | .hbm, ⟨49, _⟩ => ⟨S4x4x2048, .f32⟩
  | .hbm, ⟨50, _⟩ => ⟨S4x4x2048, .i1⟩
  | .hbm, ⟨51, _⟩ => ⟨S_, .f32⟩
  | .hbm, ⟨52, _⟩ => ⟨S4x4x2048, .f32⟩
  | .hbm, ⟨53, _⟩ => ⟨S_, .f32⟩
  | .hbm, ⟨54, _⟩ => ⟨S4x4x2048, .f32⟩
  | .hbm, ⟨55, _⟩ => ⟨S_, .f32⟩
  | .hbm, ⟨56, _⟩ => ⟨S4x4x2048, .f32⟩
  | .hbm, ⟨57, _⟩ => ⟨S4x4x2048, .f32⟩
  | .hbm, ⟨58, _⟩ => ⟨S4x4x2048, .f32⟩
  | .hbm, ⟨59, _⟩ => ⟨S4x4x2048x1, .f32⟩
  | .hbm, ⟨60, _⟩ => ⟨S4x4x2048x256, .f32⟩
  | .hbm, ⟨61, _⟩ => ⟨S4x4x2048x256, .f32⟩
  | .hbm, ⟨62, _⟩ => ⟨S4x4x2048x256, .f32⟩
  | .hbm, ⟨63, _⟩ => ⟨S_, .f32⟩
  | .hbm, ⟨64, _⟩ => ⟨S4x4x2048, .f32⟩
  | .hbm, ⟨65, _⟩ => ⟨S4x4x2048x1, .f32⟩
  | .hbm, ⟨66, _⟩ => ⟨S4x4x2048x256, .f32⟩
  | .hbm, ⟨67, _⟩ => ⟨S4x4x2048x256, .f32⟩
  | .hbm, ⟨68, _⟩ => ⟨S4x4x2048x1, .f32⟩
  | .hbm, ⟨69, _⟩ => ⟨S_, .f32⟩
  | .hbm, ⟨70, _⟩ => ⟨S4x4x2048x1, .f32⟩
  | .hbm, ⟨71, _⟩ => ⟨S4x4x2048x1, .f32⟩
  | .hbm, ⟨72, _⟩ => ⟨S4x4x64x2048, .f32⟩
  | .hbm, ⟨73, _⟩ => ⟨S4x2048x4x64, .f32⟩
  | .hbm, ⟨74, _⟩ => ⟨S4x2048x256, .f32⟩
  | .hbm, ⟨75, _⟩ => ⟨S4x2048x256, .f32⟩
  | .hbm, ⟨76, _⟩ => ⟨S4x2048x4x64, .f32⟩
  | .hbm, ⟨77, _⟩ => ⟨S4x4x64x2048, .f32⟩
  | .hbm, ⟨78, _⟩ => ⟨S4x4x2048x256, .f32⟩
  | .hbm, ⟨79, _⟩ => ⟨S4x4x64x256, .f32⟩
  | .hbm, ⟨80, _⟩ => ⟨S4x256x4x64, .f32⟩
  | .hbm, ⟨81, _⟩ => ⟨S4x4x2048x256, .f32⟩
  | .hbm, ⟨82, _⟩ => ⟨S4x4x2048x256, .f32⟩
  | .hbm, ⟨83, _⟩ => ⟨S4x4x2048x256, .f32⟩
  | .hbm, ⟨84, _⟩ => ⟨S_, .f32⟩
  | .hbm, ⟨85, _⟩ => ⟨S4x4x2048, .f32⟩
  | .hbm, ⟨86, _⟩ => ⟨S4x4x2048x1, .f32⟩
  | .hbm, ⟨87, _⟩ => ⟨S4x4x2048x1, .f32⟩
  | .hbm, ⟨88, _⟩ => ⟨S4x4x2048x256, .f32⟩
  | .hbm, ⟨89, _⟩ => ⟨S4x4x2048x256, .f32⟩
  | .hbm, ⟨90, _⟩ => ⟨S_, .f32⟩
  | .hbm, ⟨91, _⟩ => ⟨S4x4x2048, .f32⟩
  | .hbm, ⟨92, _⟩ => ⟨S4x4x2048x256, .f32⟩
  | .hbm, ⟨93, _⟩ => ⟨S4x4x2048x256, .f32⟩
  | .hbm, ⟨94, _⟩ => ⟨S4x4x2048x256, .f32⟩
  | .hbm, ⟨95, _⟩ => ⟨S_, .f32⟩
  | .hbm, ⟨96, _⟩ => ⟨S4x4x2048x256, .f32⟩
  | .hbm, ⟨97, _⟩ => ⟨S4x4x2048x256, .f32⟩
  | .hbm, ⟨98, _⟩ => ⟨S4x4x256x64, .f32⟩
  | .hbm, ⟨99, _⟩ => ⟨S4x256x4x64, .f32⟩
  | .hbm, ⟨100, _⟩ => ⟨S4x4x2048x64, .f32⟩
  | .hbm, ⟨101, _⟩ => ⟨S4x2048x4x64, .f32⟩
  | .hbm, ⟨102, _⟩ => ⟨S4x2048x256, .f32⟩
  | .hbm, ⟨103, _⟩ => ⟨S4x256x256, .f32⟩
  | .hbm, ⟨104, _⟩ => ⟨S_, .f32⟩
  | .hbm, ⟨105, _⟩ => ⟨S4x256x512, .f32⟩
  | .hbm, ⟨106, _⟩ => ⟨S4x256x256, .f32⟩
  | .hbm, ⟨107, _⟩ => ⟨S_, .f32⟩
  | .hbm, ⟨108, _⟩ => ⟨S4x256x512, .f32⟩
  | .hbm, ⟨109, _⟩ => ⟨S4x256x512, .f32⟩
  | .hbm, ⟨110, _⟩ => ⟨S512x1024, .f32⟩
  | .hbm, ⟨111, _⟩ => ⟨S1024x512, .f32⟩
  | .hbm, ⟨112, _⟩ => ⟨S4x256x1024, .f32⟩
  | .hbm, ⟨113, _⟩ => ⟨S4x256x1024, .f32⟩
  | .hbm, ⟨114, _⟩ => ⟨S_, .f32⟩
  | .hbm, ⟨115, _⟩ => ⟨S1024, .f32⟩
  | .hbm, ⟨116, _⟩ => ⟨S1x1x1024, .f32⟩
  | .hbm, ⟨117, _⟩ => ⟨S_, .f32⟩
  | .hbm, ⟨118, _⟩ => ⟨S1024, .f32⟩
  | .hbm, ⟨119, _⟩ => ⟨S1x1024x512, .f32⟩
  | .hbm, ⟨120, _⟩ => ⟨S1x1024, .f32⟩
  | .hbm, ⟨121, _⟩ => ⟨S8192x256, .f32⟩
  | .hbm, ⟨122, _⟩ => ⟨S8192x256, .bf16⟩
  | .hbm, ⟨123, _⟩ => ⟨S1024x512, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_15 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_18 : Ref sig .tc := ⟨.hbm, 114, rfl⟩
abbrev main_v90 : Ref sig .tc := ⟨.hbm, 115, rfl⟩
abbrev main_v91 : Ref sig .tc := ⟨.hbm, 116, rfl⟩
abbrev main_cst_19 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩

abbrev nD : Nat := 1
abbrev τ : Topo := Topo.v7x

variable {F : FTy → Type} [FloatOps F]
-- ==== Tail.lean ====
abbrev S4x2048x384 : Shape := ⟨3, ![4, 2048, 384]⟩
abbrev S4x2048x256 : Shape := ⟨3, ![4, 2048, 256]⟩
abbrev S4x2048x2048 : Shape := ⟨3, ![4, 2048, 2048]⟩
abbrev S4x2048x1024 : Shape := ⟨3, ![4, 2048, 1024]⟩
abbrev S1x1024x1024 : Shape := ⟨3, ![1, 1024, 1024]⟩
abbrev S1x1024 : Shape := ⟨2, ![1, 1024]⟩
abbrev S8192x384 : Shape := ⟨2, ![8192, 384]⟩
abbrev S8192x256 : Shape := ⟨2, ![8192, 256]⟩
abbrev S8192x2048 : Shape := ⟨2, ![8192, 2048]⟩
abbrev S8192x1024 : Shape := ⟨2, ![8192, 1024]⟩
abbrev S1024x1024 : Shape := ⟨2, ![1024, 1024]⟩
abbrev S1x128 : Shape := ⟨2, ![1, 128]⟩
abbrev S512x384 : Shape := ⟨2, ![512, 384]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 26
  | .vmem => 23
  | .smem => 0
  | _ => 0

abbrev bufTy : (tb : Table) → Fin (tcTables nBuf tb) → BufTy
  | .hbm, ⟨0, _⟩ => ⟨S4x2048x384, .f32⟩
  | .hbm, ⟨1, _⟩ => ⟨S4x2048x384, .f32⟩
  | .hbm, ⟨2, _⟩ => ⟨S4x2048x256, .f32⟩
  | .hbm, ⟨3, _⟩ => ⟨S4x2048x2048, .f32⟩
  | .hbm, ⟨4, _⟩ => ⟨S4x2048x1024, .f32⟩
  | .hbm, ⟨5, _⟩ => ⟨S4x2048x1024, .f32⟩
  | .hbm, ⟨6, _⟩ => ⟨S1x1024x1024, .f32⟩
  | .hbm, ⟨7, _⟩ => ⟨S1x1024, .f32⟩
  | .hbm, ⟨8, _⟩ => ⟨S8192x384, .f32⟩
  | .hbm, ⟨9, _⟩ => ⟨S8192x384, .bf16⟩
  | .hbm, ⟨10, _⟩ => ⟨S8192x384, .f32⟩
  | .hbm, ⟨11, _⟩ => ⟨S8192x384, .bf16⟩
  | .hbm, ⟨12, _⟩ => ⟨S8192x256, .f32⟩
  | .hbm, ⟨13, _⟩ => ⟨S8192x256, .bf16⟩
  | .hbm, ⟨14, _⟩ => ⟨S8192x2048, .f32⟩
  | .hbm, ⟨15, _⟩ => ⟨S8192x2048, .bf16⟩
  | .hbm, ⟨16, _⟩ => ⟨S8192x1024, .f32⟩
  | .hbm, ⟨17, _⟩ => ⟨S8192x1024, .f32⟩
  | .hbm, ⟨18, _⟩ => ⟨S1024x1024, .f32⟩
  | .hbm, ⟨19, _⟩ => ⟨S1024x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S1024x1024, .f32⟩
  | .hbm, ⟨24, _⟩ => ⟨S1x1024, .f32⟩
  | .hbm, ⟨25, _⟩ => ⟨S1x128, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x256, .bf16⟩
  | .local _ .vmem, ⟨5, _⟩ => ⟨S512x256, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1024x1024, .f32⟩
  | .local _ .vmem, ⟨21, _⟩ => ⟨S1x1024, .f32⟩
  | .local _ .vmem, ⟨22, _⟩ => ⟨S1x128, .f32⟩
  | _, _ => ⟨S4x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== TailRefIdeal.lean ====
abbrev S4x2048x384 : Shape := ⟨3, ![4, 2048, 384]⟩
abbrev S4x2048x256 : Shape := ⟨3, ![4, 2048, 256]⟩
abbrev S4x2048x2048 : Shape := ⟨3, ![4, 2048, 2048]⟩
abbrev S4x2048x1024 : Shape := ⟨3, ![4, 2048, 1024]⟩
abbrev S1x1024x1024 : Shape := ⟨3, ![1, 1024, 1024]⟩
abbrev S1x1024 : Shape := ⟨2, ![1, 1024]⟩
abbrev S_ : Shape := ⟨0, ![]⟩
abbrev S1024x1024 : Shape := ⟨2, ![1024, 1024]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S4x2048x384, .f32⟩
  | .hbm, ⟨1, _⟩ => ⟨S4x2048x384, .f32⟩
  | .hbm, ⟨2, _⟩ => ⟨S4x2048x256, .f32⟩
  | .hbm, ⟨3, _⟩ => ⟨S4x2048x2048, .f32⟩
  | .hbm, ⟨4, _⟩ => ⟨S4x2048x1024, .f32⟩
  | .hbm, ⟨5, _⟩ => ⟨S4x2048x1024, .f32⟩
  | .hbm, ⟨6, _⟩ => ⟨S1x1024x1024, .f32⟩
  | .hbm, ⟨7, _⟩ => ⟨S1x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S_, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S1024x1024, .f32⟩
  | .hbm, ⟨25, _⟩ => ⟨S4x2048x1024, .f32⟩
  | .hbm, ⟨26, _⟩ => ⟨S1024, .f32⟩
  | .hbm, ⟨27, _⟩ => ⟨S4x2048x1024, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x1, .f32⟩
  | .hbm, ⟨39, _⟩ => ⟨S_, .f32⟩
  | .hbm, ⟨40, _⟩ => ⟨S4x2048x1, .f32⟩
  | .hbm, ⟨41, _⟩ => ⟨S4x2048x1, .f32⟩
  | .hbm, ⟨42, _⟩ => ⟨S4x2048x1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S4x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4x2048, .f32⟩
  | .hbm, ⟨66, _⟩ => ⟨S_, .f32⟩
  | .hbm, ⟨67, _⟩ => ⟨S4x2048, .f32⟩
  | .hbm, ⟨68, _⟩ => ⟨S4x2048, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S_, .f32⟩
  | .hbm, ⟨73, _⟩ => ⟨S1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | .hbm, ⟨77, _⟩ => ⟨S_, .f32⟩
  | .hbm, ⟨78, _⟩ => ⟨S1024, .f32⟩
  | .hbm, ⟨79, _⟩ => ⟨S4x2048x1024, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S4x2048x1024, .f32⟩
  | .hbm, ⟨84, _⟩ => ⟨S4x2048x1024, .f32⟩
  | .hbm, ⟨85, _⟩ => ⟨S4x2048x1, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S_, .f32⟩
  | .hbm, ⟨90, _⟩ => ⟨S4x2048, .f32⟩
  | .hbm, ⟨91, _⟩ => ⟨S4x2048x1024, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S1x1024, .f32⟩
  | .hbm, ⟨97, _⟩ => ⟨S1024x1024, .f32⟩
  | .hbm, ⟨98, _⟩ => ⟨S1024x1024, .f32⟩
  | .hbm, ⟨99, _⟩ => ⟨S4x2048x1024, .f32⟩
  | .hbm, ⟨100, _⟩ => ⟨S1x1024x1024, .f32⟩
  | .hbm, ⟨101, _⟩ => ⟨S4x2048x1024, .f32⟩
  | .hbm, ⟨102, _⟩ => ⟨S4x2048x1024, .f32⟩
  | .hbm, ⟨103, _⟩ => ⟨S4x2048x1024, .f32⟩
  | .hbm, ⟨104, _⟩ => ⟨S4x2048x1024, .f32⟩
  | .hbm, ⟨105, _⟩ => ⟨S4x2048x1024, .f32⟩
  | .hbm, ⟨106, _⟩ => ⟨S4x2048x1024, .f32⟩
  | .hbm, ⟨107, _⟩ => ⟨S8192x1024, .f32⟩
  | .hbm, ⟨108, _⟩ => ⟨S8192x1024, .bf16⟩
  | .hbm, ⟨109, _⟩ => ⟨S8192x1024, .f32⟩
  | .hbm, ⟨110, _⟩ => ⟨S8192x1024, .bf16⟩
  | .hbm, ⟨111, _⟩ => ⟨S8192x1024, .f32⟩
  | .hbm, ⟨112, _⟩ => ⟨S8192x1024, .bf16⟩
  | .hbm, ⟨113, _⟩ => ⟨S1024x1024, .f32⟩
  | .hbm, ⟨114, _⟩ => ⟨S1x128, .f32⟩
  | _, _ => ⟨S4x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_cst_5 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_cst_8 : Ref sig .tc := ⟨.hbm, 62, rfl⟩
abbrev main_cst_9 : Ref sig .tc := ⟨.hbm, 63, rfl⟩
abbrev main_v33 : Ref sig .tc := ⟨.hbm, 64, rfl⟩
abbrev main_v34 : Ref sig .tc := ⟨.hbm, 65, rfl⟩
abbrev main_cst_10 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_12 : Ref sig .tc := ⟨.hbm, 77, rfl⟩
abbrev main_v44 : Ref sig .tc := ⟨.hbm, 78, rfl⟩
abbrev main_v45 : Ref sig .tc := ⟨.hbm, 79, rfl⟩
abbrev main_cst_13 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_14 : Ref sig .tc := ⟨.hbm, 86, rfl⟩
abbrev main_v51 : Ref sig .tc := ⟨.hbm, 87, rfl⟩
abbrev main_v52 : Ref sig .tc := ⟨.hbm, 88, rfl⟩
abbrev main_cst_15 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]
-- ==== Pool.lean ====
abbrev S4x2048x384 : Shape := ⟨3, ![4, 2048, 384]⟩
abbrev S1x4x96x96 : Shape := ⟨4, ![1, 4, 96, 96]⟩
abbrev S1x384 : Shape := ⟨2, ![1, 384]⟩
abbrev S1x1x96x96 : Shape := ⟨4, ![1, 1, 96, 96]⟩
abbrev S96x96 : Shape := ⟨2, ![96, 96]⟩
abbrev S_ : Shape := ⟨0, ![]⟩
abbrev S96x384 : Shape := ⟨2, ![96, 384]⟩
abbrev S384x384 : Shape := ⟨2, ![384, 384]⟩
abbrev S8192x384 : Shape := ⟨2, ![8192, 384]⟩
abbrev S2048x384 : Shape := ⟨2, ![2048, 384]⟩
abbrev S2064x384 : Shape := ⟨2, ![2064, 384]⟩
abbrev S16x384 : Shape := ⟨2, ![16, 384]⟩
abbrev S2032x384 : Shape := ⟨2, ![2032, 384]⟩
abbrev S384 : Shape := ⟨1, ![384]⟩
abbrev S1x96x96 : Shape := ⟨3, ![1, 96, 96]⟩
abbrev S4x96x96 : Shape := ⟨3, ![4, 96, 96]⟩

abbrev nBuf : Space → Nat
  | .hbm => 44
  | .vmem => 20
  | .smem => 0
  | _ => 0

abbrev bufTy : (tb : Table) → Fin (tcTables nBuf tb) → BufTy
  | .hbm, ⟨0, _⟩ => ⟨S4x2048x384, .f32⟩
  | .hbm, ⟨1, _⟩ => ⟨S1x4x96x96, .f32⟩
  | .hbm, ⟨2, _⟩ => ⟨S1x384, .f32⟩
  | .hbm, ⟨3, _⟩ => ⟨S4x2048x384, .f32⟩
  | .hbm, ⟨4, _⟩ => ⟨S1x1x96x96, .f32⟩
  | .hbm, ⟨5, _⟩ => ⟨S96x96, .f32⟩
  | .hbm, ⟨6, _⟩ => ⟨S_, .i32⟩
  | .hbm, ⟨7, _⟩ => ⟨S_, .f32⟩
  | .hbm, ⟨8, _⟩ => ⟨S96x384, .f32⟩
  | .hbm, ⟨9, _⟩ => ⟨S1x1x96x96, .f32⟩
  | .hbm, ⟨10, _⟩ => ⟨S96x96, .f32⟩
  | .hbm, ⟨11, _⟩ => ⟨S_, .i32⟩
  | .hbm, ⟨12, _⟩ => ⟨S_, .f32⟩
  | .hbm, ⟨13, _⟩ => ⟨S96x384, .f32⟩
  | .hbm, ⟨14, _⟩ => ⟨S1x1x96x96, .f32⟩
  | .hbm, ⟨15, _⟩ => ⟨S96x96, .f32⟩
  | .hbm, ⟨16, _⟩ => ⟨S_, .i32⟩
  | .hbm, ⟨17, _⟩ => ⟨S_, .f32⟩
  | .hbm, ⟨18, _⟩ => ⟨S96x384, .f32⟩
  | .hbm, ⟨19, _⟩ => ⟨S1x1x96x96, .f32⟩
  | .hbm, ⟨20, _⟩ => ⟨S96x96, .f32⟩
  | .hbm, ⟨21, _⟩ => ⟨S_, .i32⟩
  | .hbm, ⟨22, _⟩ => ⟨S_, .f32⟩
  | .hbm, ⟨23, _⟩ => ⟨S96x384, .f32⟩
  | .hbm, ⟨24, _⟩ => ⟨S384x384, .f32⟩
  | .hbm, ⟨25, _⟩ => ⟨S384x384, .bf16⟩
  | .hbm, ⟨26, _⟩ => ⟨S8192x384, .f32⟩
  | .hbm, ⟨27, _⟩ => ⟨S8192x384, .bf16⟩
  | .hbm, ⟨28, _⟩ => ⟨S8192x384, .bf16⟩
  | .hbm, ⟨29, _⟩ => ⟨S8192x384, .bf16⟩
  | .hbm, ⟨30, _⟩ => ⟨S8192x384, .f32⟩
  | .hbm, ⟨31, _⟩ => ⟨S8192x384, .bf16⟩
  | .hbm, ⟨32, _⟩ => ⟨S8192x384, .bf16⟩
  | .hbm, ⟨33, _⟩ => ⟨S384x384, .f32⟩
  | .hbm, ⟨34, _⟩ => ⟨S1x384, .f32⟩
  | .hbm, ⟨35, _⟩ => ⟨S96x96, .f32⟩
  | .hbm, ⟨36, _⟩ => ⟨S96x96, .f32⟩
  | .hbm, ⟨37, _⟩ => ⟨S96x96, .f32⟩
  | .hbm, ⟨38, _⟩ => ⟨S96x96, .f32⟩
  | .hbm, ⟨39, _⟩ => ⟨S1x96x96, .f32⟩
  | .hbm, ⟨40, _⟩ => ⟨S1x96x96, .f32⟩
  | .hbm, ⟨41, _⟩ => ⟨S1x96x96, .f32⟩
  | .hbm, ⟨42, _⟩ => ⟨S1x96x96, .f32⟩
  | .hbm, ⟨43, _⟩ => ⟨S4x96x96, .f32⟩
  | .local _ .vmem, ⟨0, _⟩ => ⟨S2048x384, .bf16⟩
  | .local _ .vmem, ⟨1, _⟩ => ⟨S2048x384, .bf16⟩
  | .local _ .vmem, ⟨2, _⟩ => ⟨S384x384, .bf16⟩
  | .local _ .vmem, ⟨3, _⟩ => ⟨S1x384, .f32⟩
  | .local _ .vmem, ⟨4, _⟩ => ⟨S2048x384, .bf16⟩
  | .local _ .vmem, ⟨5, _⟩ => ⟨S2048x384, .bf16⟩
  | .local _ .vmem, ⟨6, _⟩ => ⟨S2048x384, .bf16⟩
  | .local _ .vmem, ⟨7, _⟩ => ⟨S2048x384, .bf16⟩
  | .local _ .vmem, ⟨8, _⟩ => ⟨S2064x384, .f32⟩
  | .local _ .vmem, ⟨9, _⟩ => ⟨S2048x384, .bf16⟩
  | .local _ .vmem, ⟨10, _⟩ => ⟨S2048x384, .bf16⟩
  | .local _ .vmem, ⟨11, _⟩ => ⟨S2048x384, .bf16⟩
  | .local _ .vmem, ⟨12, _⟩ => ⟨S2048x384, .bf16⟩
  | .local _ .vmem, ⟨13, _⟩ => ⟨S384x384, .bf16⟩
  | .local _ .vmem, ⟨14, _⟩ => ⟨S1x384, .f32⟩
  | .local _ .vmem, ⟨15, _⟩ => ⟨S2048x384, .bf16⟩
  | .local _ .vmem, ⟨16, _⟩ => ⟨S2048x384, .bf16⟩
  | .local _ .vmem, ⟨17, _⟩ => ⟨S384x384, .f32⟩
  | .local _ .vmem, ⟨18, _⟩ => ⟨S1x384, .f32⟩
  | .local _ .vmem, ⟨19, _⟩ => ⟨S2064x384, .f32⟩
  | _, _ => ⟨S4x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S384x384 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x384 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S384x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== PoolRefIdeal.lean ====
abbrev S4x2048x384 : Shape := ⟨3, ![4, 2048, 384]⟩
abbrev S1x4x96x96 : Shape := ⟨4, ![1, 4, 96, 96]⟩
abbrev S1x384 : Shape := ⟨2, ![1, 384]⟩
abbrev S4x96x96 : Shape := ⟨3, ![4, 96, 96]⟩
abbrev S384 : Shape := ⟨1, ![384]⟩
abbrev S_ : Shape := ⟨0, ![]⟩
abbrev S4x1x384 : Shape := ⟨3, ![4, 1, 384]⟩
abbrev S4x2049x384 : Shape := ⟨3, ![4, 2049, 384]⟩
abbrev S2048 : Shape := ⟨1, ![2048]⟩
abbrev S1x2048x1 : Shape := ⟨3, ![1, 2048, 1]⟩
abbrev S4x2049x96 : Shape := ⟨3, ![4, 2049, 96]⟩
abbrev S4x1x96 : Shape := ⟨3, ![4, 1, 96]⟩
abbrev S4x2047x96 : Shape := ⟨3, ![4, 2047, 96]⟩
abbrev S4x2048x96 : Shape := ⟨3, ![4, 2048, 96]⟩
abbrev S1x96x96 : Shape := ⟨3, ![1, 96, 96]⟩
abbrev S96x96 : Shape := ⟨2, ![96, 96]⟩
abbrev S4x3x96 : Shape := ⟨3, ![4, 3, 96]⟩
abbrev S4x2045x96 : Shape := ⟨3, ![4, 2045, 96]⟩
abbrev S4x7x96 : Shape := ⟨3, ![4, 7, 96]⟩
abbrev S4x2041x96 : Shape := ⟨3, ![4, 2041, 96]⟩
abbrev S4x15x96 : Shape := ⟨3, ![4, 15, 96]⟩
abbrev S4x2033x96 : Shape := ⟨3, ![4, 2033, 96]⟩
abbrev S1x1x384 : Shape := ⟨3, ![1, 1, 384]⟩
abbrev S8192x384 : Shape := ⟨2, ![8192, 384]⟩

abbrev nBuf : Space → Nat
  | .hbm => 217
  | .vmem => 0
  | .smem => 0
  | _ => 0

abbrev hbmTy0_0 (i : Nat) : BufTy := match i % 128 with
  | 0 => ⟨S4x2048x384, .f32⟩
  | 1 => ⟨S1x4x96x96, .f32⟩
  | 2 => ⟨S1x384, .f32⟩
  | 3 => ⟨S4x2048x384, .f32⟩
  | 4 => ⟨S4x96x96, .f32⟩
  | 5 => ⟨S384, .f32⟩
  | 6 => ⟨S_, .f32⟩
  | 7 => ⟨S4x1x384, .f32⟩
  | 8 => ⟨S_, .f32⟩
  | 9 => ⟨S_, .f32⟩
  | 10 => ⟨S4x2048x384, .f32⟩
  | 11 => ⟨S4x2049x384, .f32⟩
  | 12 => ⟨S_, .f32⟩
  | 13 => ⟨S4x1x384, .f32⟩
  | 14 => ⟨S2048, .f32⟩
  | 15 => ⟨S_, .f32⟩
  | 16 => ⟨S2048, .f32⟩
  | 17 => ⟨S2048, .f32⟩
  | 18 => ⟨S1x2048x1, .f32⟩
  | 19 => ⟨S4x2049x96, .f32⟩
  | 20 => ⟨S_, .f32⟩
  | 21 => ⟨S4x1x96, .f32⟩
  | 22 => ⟨S4x2047x96, .f32⟩
  | 23 => ⟨S4x2048x96, .f32⟩
  | 24 => ⟨S_, .f32⟩
  | 25 => ⟨S4x1x96, .f32⟩
  | 26 => ⟨S4x2048x96, .f32⟩
  | 27 => ⟨S4x2048x96, .f32⟩
  | 28 => ⟨S_, .f32⟩
  | 29 => ⟨S1x2048x1, .f32⟩
  | 30 => ⟨S1x2048x1, .f32⟩
  | 31 => ⟨S4x2048x96, .f32⟩
  | 32 => ⟨S4x2048x96, .f32⟩
  | 33 => ⟨S4x2048x96, .f32⟩
  | 34 => ⟨S4x2048x96, .f32⟩
  | 35 => ⟨S1x96x96, .f32⟩
  | 36 => ⟨S96x96, .f32⟩
  | 37 => ⟨S4x2048x96, .f32⟩
  | 38 => ⟨S4x2049x96, .f32⟩
  | 39 => ⟨S_, .f32⟩
  | 40 => ⟨S4x3x96, .f32⟩
  | 41 => ⟨S4x2045x96, .f32⟩
  | 42 => ⟨S4x2048x96, .f32⟩
  | 43 => ⟨S_, .f32⟩
  | 44 => ⟨S4x3x96, .f32⟩
  | 45 => ⟨S4x2048x96, .f32⟩
  | 46 => ⟨S4x2048x96, .f32⟩
  | 47 => ⟨S_, .f32⟩
  | 48 => ⟨S1x2048x1, .f32⟩
  | 49 => ⟨S1x2048x1, .f32⟩
  | 50 => ⟨S4x2048x96, .f32⟩
  | 51 => ⟨S4x2048x96, .f32⟩
  | 52 => ⟨S4x2048x96, .f32⟩
  | 53 => ⟨S4x2048x96, .f32⟩
  | 54 => ⟨S1x96x96, .f32⟩
  | 55 => ⟨S96x96, .f32⟩
  | 56 => ⟨S4x2048x96, .f32⟩
  | 57 => ⟨S4x2049x96, .f32⟩
  | 58 => ⟨S_, .f32⟩
  | 59 => ⟨S4x7x96, .f32⟩
  | 60 => ⟨S4x2041x96, .f32⟩
  | 61 => ⟨S4x2048x96, .f32⟩
  | 62 => ⟨S_, .f32⟩
  | 63 => ⟨S4x7x96, .f32⟩
  | 64 => ⟨S4x2048x96, .f32⟩
  | 65 => ⟨S4x2048x96, .f32⟩
  | 66 => ⟨S_, .f32⟩
  | 67 => ⟨S1x2048x1, .f32⟩
  | 68 => ⟨S1x2048x1, .f32⟩
  | 69 => ⟨S4x2048x96, .f32⟩
  | 70 => ⟨S4x2048x96, .f32⟩
  | 71 => ⟨S4x2048x96, .f32⟩
  | 72 => ⟨S4x2048x96, .f32⟩
  | 73 => ⟨S1x96x96, .f32⟩
  | 74 => ⟨S96x96, .f32⟩
  | 75 => ⟨S4x2048x96, .f32⟩
  | 76 => ⟨S4x2049x96, .f32⟩
  | 77 => ⟨S_, .f32⟩
  | 78 => ⟨S4x15x96, .f32⟩
  | 79 => ⟨S4x2033x96, .f32⟩
  | 80 => ⟨S4x2048x96, .f32⟩
  | 81 => ⟨S_, .f32⟩
  | 82 => ⟨S4x15x96, .f32⟩
  | 83 => ⟨S4x2048x96, .f32⟩
  | 84 => ⟨S4x2048x96, .f32⟩
  | 85 => ⟨S_, .f32⟩
  | 86 => ⟨S1x2048x1, .f32⟩
  | 87 => ⟨S1x2048x1, .f32⟩
  | 88 => ⟨S4x2048x96, .f32⟩
  | 89 => ⟨S4x2048x96, .f32⟩
  | 90 => ⟨S4x2048x96, .f32⟩
  | 91 => ⟨S4x2048x96, .f32⟩
  | 92 => ⟨S1x96x96, .f32⟩
  | 93 => ⟨S96x96, .f32⟩
  | 94 => ⟨S4x2048x96, .f32⟩
  | 95 => ⟨S4x2048x384, .f32⟩
  | 96 => ⟨S1x1x384, .f32⟩
  | 97 => ⟨S4x2048x384, .f32⟩
  | 98 => ⟨S4x2048x384, .f32⟩
  | 99 => ⟨S4x2048x384, .f32⟩
  | 100 => ⟨S_, .f32⟩
  | 101 => ⟨S384, .f32⟩
  | 102 => ⟨S1x1x384, .f32⟩
  | 103 => ⟨S4x2048x384, .f32⟩
  | 104 => ⟨S4x2048x384, .f32⟩
  | 105 => ⟨S_, .f32⟩
  | 106 => ⟨S384, .f32⟩
  | 107 => ⟨S4x2048x96, .f32⟩
  | 108 => ⟨S4x2048x96, .f32⟩
  | 109 => ⟨S4x2048x96, .f32⟩
  | 110 => ⟨S4x2048x96, .f32⟩
  | 111 => ⟨S96x96, .f32⟩
  | 112 => ⟨S96x96, .f32⟩
  | 113 => ⟨S4x2048x96, .f32⟩
  | 114 => ⟨S1x96x96, .f32⟩
  | 115 => ⟨S_, .f32⟩
  | 116 => ⟨S4x96x96, .f32⟩
  | 117 => ⟨S4x2048x96, .f32⟩
  | 118 => ⟨S_, .f32⟩
  | 119 => ⟨S4x2048x384, .f32⟩
  | 120 => ⟨S4x2048x96, .f32⟩
  | 121 => ⟨S4x2048x96, .f32⟩
  | 122 => ⟨S4x2048x96, .f32⟩
  | 123 => ⟨S_, .f32⟩
  | 124 => ⟨S4x2049x96, .f32⟩
  | 125 => ⟨S4x15x96, .f32⟩
  | 126 => ⟨S4x2033x96, .f32⟩
  | 127 => ⟨S_, .f32⟩
  | _ => ⟨S4x2048x384, .f32⟩

abbrev hbmTy0_1 (i : Nat) : BufTy := match i % 128 with
  | 0 => ⟨S4x2049x96, .f32⟩
  | 1 => ⟨S4x2049x96, .f32⟩
  | 2 => ⟨S_, .f32⟩
  | 3 => ⟨S4x2049x384, .f32⟩
  | 4 => ⟨S96x96, .f32⟩
  | 5 => ⟨S96x96, .f32⟩
  | 6 => ⟨S4x2048x96, .f32⟩
  | 7 => ⟨S1x96x96, .f32⟩
  | 8 => ⟨S_, .f32⟩
  | 9 => ⟨S4x96x96, .f32⟩
  | 10 => ⟨S4x96x96, .f32⟩
  | 11 => ⟨S4x2048x96, .f32⟩
  | 12 => ⟨S_, .f32⟩
  | 13 => ⟨S4x2048x384, .f32⟩
  | 14 => ⟨S4x2048x384, .f32⟩
  | 15 => ⟨S4x2048x96, .f32⟩
  | 16 => ⟨S4x2048x96, .f32⟩
  | 17 => ⟨S4x2048x96, .f32⟩
  | 18 => ⟨S_, .f32⟩
  | 19 => ⟨S4x2049x96, .f32⟩
  | 20 => ⟨S4x7x96, .f32⟩
  | 21 => ⟨S4x2041x96, .f32⟩
  | 22 => ⟨S_, .f32⟩
  | 23 => ⟨S4x2049x96, .f32⟩
  | 24 => ⟨S4x2049x96, .f32⟩
  | 25 => ⟨S_, .f32⟩
  | 26 => ⟨S4x2049x384, .f32⟩
  | 27 => ⟨S4x2049x384, .f32⟩
  | 28 => ⟨S96x96, .f32⟩
  | 29 => ⟨S96x96, .f32⟩
  | 30 => ⟨S4x2048x96, .f32⟩
  | 31 => ⟨S1x96x96, .f32⟩
  | 32 => ⟨S_, .f32⟩
  | 33 => ⟨S4x96x96, .f32⟩
  | 34 => ⟨S4x96x96, .f32⟩
  | 35 => ⟨S4x2048x96, .f32⟩
  | 36 => ⟨S_, .f32⟩
  | 37 => ⟨S4x2048x384, .f32⟩
  | 38 => ⟨S4x2048x384, .f32⟩
  | 39 => ⟨S4x2048x96, .f32⟩
  | 40 => ⟨S4x2048x96, .f32⟩
  | 41 => ⟨S4x2048x96, .f32⟩
  | 42 => ⟨S_, .f32⟩
  | 43 => ⟨S4x2049x96, .f32⟩
  | 44 => ⟨S4x3x96, .f32⟩
  | 45 => ⟨S4x2045x96, .f32⟩
  | 46 => ⟨S_, .f32⟩
  | 47 => ⟨S4x2049x96, .f32⟩
  | 48 => ⟨S4x2049x96, .f32⟩
  | 49 => ⟨S_, .f32⟩
  | 50 => ⟨S4x2049x384, .f32⟩
  | 51 => ⟨S4x2049x384, .f32⟩
  | 52 => ⟨S96x96, .f32⟩
  | 53 => ⟨S96x96, .f32⟩
  | 54 => ⟨S4x2048x96, .f32⟩
  | 55 => ⟨S1x96x96, .f32⟩
  | 56 => ⟨S_, .f32⟩
  | 57 => ⟨S4x96x96, .f32⟩
  | 58 => ⟨S4x96x96, .f32⟩
  | 59 => ⟨S4x2048x96, .f32⟩
  | 60 => ⟨S_, .f32⟩
  | 61 => ⟨S4x2048x384, .f32⟩
  | 62 => ⟨S4x2048x384, .f32⟩
  | 63 => ⟨S4x2048x96, .f32⟩
  | 64 => ⟨S4x2048x96, .f32⟩
  | 65 => ⟨S4x2048x96, .f32⟩
  | 66 => ⟨S_, .f32⟩
  | 67 => ⟨S4x2049x96, .f32⟩
  | 68 => ⟨S4x1x96, .f32⟩
  | 69 => ⟨S4x2047x96, .f32⟩
  | 70 => ⟨S_, .f32⟩
  | 71 => ⟨S4x2049x96, .f32⟩
  | 72 => ⟨S4x2049x96, .f32⟩
  | 73 => ⟨S_, .f32⟩
  | 74 => ⟨S4x2049x384, .f32⟩
  | 75 => ⟨S4x2049x384, .f32⟩
  | 76 => ⟨S4x1x384, .f32⟩
  | 77 => ⟨S4x2048x384, .f32⟩
  | 78 => ⟨S_, .f32⟩
  | 79 => ⟨S_, .f32⟩
  | 80 => ⟨S4x2048x384, .f32⟩
  | 81 => ⟨S4x2048x384, .f32⟩
  | 82 => ⟨S1x384, .f32⟩
  | 83 => ⟨S1x4x96x96, .f32⟩
  | 84 => ⟨S8192x384, .f32⟩
  | 85 => ⟨S8192x384, .bf16⟩
  | 86 => ⟨S8192x384, .f32⟩
  | 87 => ⟨S8192x384, .bf16⟩
  | 88 => ⟨S4x96x96, .f32⟩
  | _ => ⟨S4x2048x384, .f32⟩

abbrev hbmTy (i : Nat) : BufTy := match i / 128 with
  | 0 => hbmTy0_0 i
  | 1 => hbmTy0_1 i
  | _ => ⟨S4x2048x384, .f32⟩

abbrev bufTy : (tb : Table) → Fin (tcTables nBuf tb) → BufTy
  | .hbm, ⟨i, _⟩ => hbmTy i
  | _, _ => ⟨S4x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_call0_call0_cst : Ref sig .tc := ⟨.hbm, 8, rfl⟩
abbrev main_call0_call0_v0 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_14 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_15 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_16 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_18 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_19 : Ref sig .tc := ⟨.hbm, 127, rfl⟩
abbrev main_v101 : Ref sig .tc := ⟨.hbm, 128, rfl⟩
abbrev main_v102 : Ref sig .tc := ⟨.hbm, 129, rfl⟩
abbrev main_cst_20 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_21 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_22 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_23 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_24 : Ref sig .tc := ⟨.hbm, 150, rfl⟩
abbrev main_v119 : Ref sig .tc := ⟨.hbm, 151, rfl⟩
abbrev main_v120 : Ref sig .tc := ⟨.hbm, 152, rfl⟩
abbrev main_cst_25 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_26 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_27 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_28 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_29 : Ref sig .tc := ⟨.hbm, 174, rfl⟩
abbrev main_v138 : Ref sig .tc := ⟨.hbm, 175, rfl⟩
abbrev main_v139 : Ref sig .tc := ⟨.hbm, 176, rfl⟩
abbrev main_cst_30 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_31 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_cst_32 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_cst_33 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_cst_34 : Ref sig .tc := ⟨.hbm, 198, rfl⟩
abbrev main_v157 : Ref sig .tc := ⟨.hbm, 199, rfl⟩
abbrev main_v158 : Ref sig .tc := ⟨.hbm, 200, rfl⟩
abbrev main_cst_35 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_call1_call0_cst : Ref sig .tc := ⟨.hbm, 206, rfl⟩
abbrev main_call1_call0_v0 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩

abbrev nD : Nat := 1
abbrev τ : Topo := Topo.v7x

variable {F : FTy → Type} [FloatOps F]
-- ==== Param.lean ====
abbrev S1x24x64 : Shape := ⟨3, ![1, 24, 64]⟩
abbrev S1x24 : Shape := ⟨2, ![1, 24]⟩
abbrev S1x24x64x16 : Shape := ⟨4, ![1, 24, 64, 16]⟩
abbrev S24x64 : Shape := ⟨2, ![24, 64]⟩
abbrev S24x64x16 : Shape := ⟨3, ![24, 64, 16]⟩
abbrev S24x1 : Shape := ⟨2, ![24, 1]⟩
abbrev S1x1536 : Shape := ⟨2, ![1, 1536]⟩
abbrev S16x24x64 : Shape := ⟨3, ![16, 24, 64]⟩
abbrev S16x1536 : Shape := ⟨2, ![16, 1536]⟩
abbrev S1x128 : Shape := ⟨2, ![1, 128]⟩
abbrev S1536 : Shape := ⟨1, ![1536]⟩
abbrev S1536x128 : Shape := ⟨2, ![1536, 128]⟩

abbrev nBuf : Space → Nat
  | .hbm => 31
  | .vmem => 14
  | .smem => 0
  | _ => 0

abbrev bufTy : (tb : Table) → Fin (tcTables nBuf tb) → BufTy
  | .hbm, ⟨0, _⟩ => ⟨S1x24x64, .f32⟩
  | .hbm, ⟨1, _⟩ => ⟨S1x24x64, .f32⟩
  | .hbm, ⟨2, _⟩ => ⟨S1x24, .f32⟩
  | .hbm, ⟨3, _⟩ => ⟨S1x24x64x16, .f32⟩
  | .hbm, ⟨4, _⟩ => ⟨S1x24x64x16, .f32⟩
  | .hbm, ⟨5, _⟩ => ⟨S24x64, .f32⟩
  | .hbm, ⟨6, _⟩ => ⟨S24x64, .f32⟩
  | .hbm, ⟨7, _⟩ => ⟨S24x64x16, .f32⟩
  | .hbm, ⟨8, _⟩ => ⟨S24x64x16, .f32⟩
  | .hbm, ⟨9, _⟩ => ⟨S24x1, .f32⟩
  | .hbm, ⟨10, _⟩ => ⟨S24x64, .f32⟩
  | .hbm, ⟨11, _⟩ => ⟨S1x1536, .f32⟩
  | .hbm, ⟨12, _⟩ => ⟨S1x1536, .f32⟩
  | .hbm, ⟨13, _⟩ => ⟨S1x1536, .f32⟩
  | .hbm, ⟨14, _⟩ => ⟨S24x64x16, .f32⟩
  | .hbm, ⟨15, _⟩ => ⟨S16x24x64, .f32⟩
  | .hbm, ⟨16, _⟩ => ⟨S16x1536, .f32⟩
  | .hbm, ⟨17, _⟩ => ⟨S24x64x16, .f32⟩
  | .hbm, ⟨18, _⟩ => ⟨S16x24x64, .f32⟩
  | .hbm, ⟨19, _⟩ => ⟨S16x1536, .f32⟩
  | .hbm, ⟨20, _⟩ => ⟨S1x1536, .f32⟩
  | .hbm, ⟨21, _⟩ => ⟨S1x1536, .f32⟩
  | .hbm, ⟨22, _⟩ => ⟨S16x24x64, .f32⟩
  | .hbm, ⟨23, _⟩ => ⟨S16x1536, .f32⟩
  | .hbm, ⟨24, _⟩ => ⟨S16x24x64, .f32⟩
  | .hbm, ⟨25, _⟩ => ⟨S16x1536, .f32⟩
  | .hbm, ⟨26, _⟩ => ⟨S1x1536, .f32⟩
  | .hbm, ⟨27, _⟩ => ⟨S1x1536, .f32⟩
  | .hbm, ⟨28, _⟩ => ⟨S1x128, .f32⟩
  | .hbm, ⟨29, _⟩ => ⟨S16x1536, .f32⟩
  | .hbm, ⟨30, _⟩ => ⟨S16x1536, .f32⟩
  | .local _ .vmem, ⟨0, _⟩ => ⟨S1x1536, .f32⟩
  | .local _ .vmem, ⟨1, _⟩ => ⟨S1x1536, .f32⟩
  | .local _ .vmem, ⟨2, _⟩ => ⟨S1x1536, .f32⟩
  | .local _ .vmem, ⟨3, _⟩ => ⟨S16x1536, .f32⟩
  | .local _ .vmem, ⟨4, _⟩ => ⟨S16x1536, .f32⟩
  | .local _ .vmem, ⟨5, _⟩ => ⟨S1x1536, .f32⟩
  | .local _ .vmem, ⟨6, _⟩ => ⟨S1x1536, .f32⟩
  | .local _ .vmem, ⟨7, _⟩ => ⟨S16x1536, .f32⟩
  | .local _ .vmem, ⟨8, _⟩ => ⟨S16x1536, .f32⟩
  | .local _ .vmem, ⟨9, _⟩ => ⟨S1x1536, .f32⟩
  | .local _ .vmem, ⟨10, _⟩ => ⟨S1x1536, .f32⟩
  | .local _ .vmem, ⟨11, _⟩ => ⟨S1x128, .f32⟩
  | .local _ .vmem, ⟨12, _⟩ => ⟨S16x1536, .f32⟩
  | .local _ .vmem, ⟨13, _⟩ => ⟨S16x1536, .f32⟩
  | _, _ => ⟨S1x24x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev main_v17_4 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ParamRefIdeal.lean ====
abbrev S1x24x64 : Shape := ⟨3, ![1, 24, 64]⟩
abbrev S1x24 : Shape := ⟨2, ![1, 24]⟩
abbrev S1x24x64x16 : Shape := ⟨4, ![1, 24, 64, 16]⟩
abbrev S24x64 : Shape := ⟨2, ![24, 64]⟩
abbrev S24x64x16 : Shape := ⟨3, ![24, 64, 16]⟩
abbrev S24 : Shape := ⟨1, ![24]⟩
abbrev S24x1 : Shape := ⟨2, ![24, 1]⟩
abbrev S_ : Shape := ⟨0, ![]⟩
abbrev S24x64x1 : Shape := ⟨3, ![24, 64, 1]⟩
abbrev S1x1536 : Shape := ⟨2, ![1, 1536]⟩
abbrev S1x104 : Shape := ⟨2, ![1, 104]⟩
abbrev S1x128 : Shape := ⟨2, ![1, 128]⟩
abbrev S16x24x64 : Shape := ⟨3, ![16, 24, 64]⟩
abbrev S16x1536 : Shape := ⟨2, ![16, 1536]⟩

abbrev nBuf : Space → Nat
  | .hbm => 176
  | .vmem => 0
  | .smem => 0
  | _ => 0

abbrev hbmTy0_0 (i : Nat) : BufTy := match i % 128 with
  | 0 => ⟨S1x24x64, .f32⟩
  | 1 => ⟨S1x24x64, .f32⟩
  | 2 => ⟨S1x24, .f32⟩
  | 3 => ⟨S1x24x64x16, .f32⟩
  | 4 => ⟨S1x24x64x16, .f32⟩
  | 5 => ⟨S24x64, .f32⟩
  | 6 => ⟨S24x64, .f32⟩
  | 7 => ⟨S24x64x16, .f32⟩
  | 8 => ⟨S24x64x16, .f32⟩
  | 9 => ⟨S24x64, .f32⟩
  | 10 => ⟨S24x64, .f32⟩
  | 11 => ⟨S24, .f32⟩
  | 12 => ⟨S24x64x16, .f32⟩
  | 13 => ⟨S24x64x16, .f32⟩
  | 14 => ⟨S24, .f32⟩
  | 15 => ⟨S24x1, .f32⟩
  | 16 => ⟨S24x64, .f32⟩
  | 17 => ⟨S24x64, .f32⟩
  | 18 => ⟨S24x64, .f32⟩
  | 19 => ⟨S24x64, .f32⟩
  | 20 => ⟨S24x64, .f32⟩
  | 21 => ⟨S24x64, .f32⟩
  | 22 => ⟨S24x64, .f32⟩
  | 23 => ⟨S24x64, .f32⟩
  | 24 => ⟨S24x64, .f32⟩
  | 25 => ⟨S24x64, .f32⟩
  | 26 => ⟨S24x64, .f32⟩
  | 27 => ⟨S24x64, .f32⟩
  | 28 => ⟨S24x64, .f32⟩
  | 29 => ⟨S24x64, .f32⟩
  | 30 => ⟨S_, .f32⟩
  | 31 => ⟨S24x64, .f32⟩
  | 32 => ⟨S24x64, .f32⟩
  | 33 => ⟨S24x64, .f32⟩
  | 34 => ⟨S24x64, .f32⟩
  | 35 => ⟨S24x64, .f32⟩
  | 36 => ⟨S24x64, .f32⟩
  | 37 => ⟨S24x64, .f32⟩
  | 38 => ⟨S_, .f32⟩
  | 39 => ⟨S24x64, .f32⟩
  | 40 => ⟨S24x64, .f32⟩
  | 41 => ⟨S24x64x1, .f32⟩
  | 42 => ⟨S24x64, .f32⟩
  | 43 => ⟨S_, .f32⟩
  | 44 => ⟨S24x64, .f32⟩
  | 45 => ⟨S24x64, .f32⟩
  | 46 => ⟨S24x64, .f32⟩
  | 47 => ⟨S24x64, .f32⟩
  | 48 => ⟨S24x64, .f32⟩
  | 49 => ⟨S24x64, .f32⟩
  | 50 => ⟨S_, .f32⟩
  | 51 => ⟨S24x64, .f32⟩
  | 52 => ⟨S24x64, .f32⟩
  | 53 => ⟨S24x64x1, .f32⟩
  | 54 => ⟨S24x64x16, .f32⟩
  | 55 => ⟨S24x64x16, .f32⟩
  | 56 => ⟨S24x64x16, .f32⟩
  | 57 => ⟨S24x64x16, .f32⟩
  | 58 => ⟨S24x64x16, .f32⟩
  | 59 => ⟨S24x64x16, .f32⟩
  | 60 => ⟨S24x64x16, .f32⟩
  | 61 => ⟨S24x64x16, .f32⟩
  | 62 => ⟨S24x64x16, .f32⟩
  | 63 => ⟨S24x64x16, .f32⟩
  | 64 => ⟨S24x64x16, .f32⟩
  | 65 => ⟨S24x64x16, .f32⟩
  | 66 => ⟨S24x64x16, .f32⟩
  | 67 => ⟨S24x64x16, .f32⟩
  | 68 => ⟨S24x64x16, .f32⟩
  | 69 => ⟨S_, .f32⟩
  | 70 => ⟨S24x64, .f32⟩
  | 71 => ⟨S24x64x1, .f32⟩
  | 72 => ⟨S24x64x16, .f32⟩
  | 73 => ⟨S24x64x16, .f32⟩
  | 74 => ⟨S24x64x16, .f32⟩
  | 75 => ⟨S_, .f32⟩
  | 76 => ⟨S24x64, .f32⟩
  | 77 => ⟨S24x64x1, .f32⟩
  | 78 => ⟨S24x64x16, .f32⟩
  | 79 => ⟨S24x64x16, .f32⟩
  | 80 => ⟨S24x64x16, .f32⟩
  | 81 => ⟨S24x64x16, .f32⟩
  | 82 => ⟨S24x64x16, .f32⟩
  | 83 => ⟨S24x64x16, .f32⟩
  | 84 => ⟨S_, .f32⟩
  | 85 => ⟨S24x64, .f32⟩
  | 86 => ⟨S24x64x1, .f32⟩
  | 87 => ⟨S24x64x1, .f32⟩
  | 88 => ⟨S24x64x16, .f32⟩
  | 89 => ⟨S24x64x16, .f32⟩
  | 90 => ⟨S24x64x16, .f32⟩
  | 91 => ⟨S24x64x16, .f32⟩
  | 92 => ⟨S_, .f32⟩
  | 93 => ⟨S24x64, .f32⟩
  | 94 => ⟨S24x64x1, .f32⟩
  | 95 => ⟨S24x64x1, .f32⟩
  | 96 => ⟨S_, .f32⟩
  | 97 => ⟨S24x64, .f32⟩
  | 98 => ⟨S24x64, .f32⟩
  | 99 => ⟨S24x64, .f32⟩
  | 100 => ⟨S24x64, .f32⟩
  | 101 => ⟨S24x64, .f32⟩
  | 102 => ⟨S24x64, .f32⟩
  | 103 => ⟨S24x64, .f32⟩
  | 104 => ⟨S24x64, .f32⟩
  | 105 => ⟨S24x64, .f32⟩
  | 106 => ⟨S24x64, .f32⟩
  | 107 => ⟨S24x64, .f32⟩
  | 108 => ⟨S24x64, .f32⟩
  | 109 => ⟨S_, .f32⟩
  | 110 => ⟨S24x64, .f32⟩
  | 111 => ⟨S24x64, .f32⟩
  | 112 => ⟨S24x64, .f32⟩
  | 113 => ⟨S24x64, .f32⟩
  | 114 => ⟨S24x64, .f32⟩
  | 115 => ⟨S24x64, .f32⟩
  | 116 => ⟨S24x64, .f32⟩
  | 117 => ⟨S24x64, .f32⟩
  | 118 => ⟨S24x64, .f32⟩
  | 119 => ⟨S24x64, .f32⟩
  | 120 => ⟨S24x64, .f32⟩
  | 121 => ⟨S24x64, .f32⟩
  | 122 => ⟨S24x64, .f32⟩
  | 123 => ⟨S24x64, .f32⟩
  | 124 => ⟨S24x64, .f32⟩
  | 125 => ⟨S24x64, .f32⟩
  | 126 => ⟨S24x64, .f32⟩
  | 127 => ⟨S24x64, .f32⟩
  | _ => ⟨S1x24x64, .f32⟩

abbrev hbmTy0_1 (i : Nat) : BufTy := match i % 128 with
  | 0 => ⟨S24x64, .f32⟩
  | 1 => ⟨S24x64, .f32⟩
  | 2 => ⟨S24x64, .f32⟩
  | 3 => ⟨S24x64, .f32⟩
  | 4 => ⟨S24x64, .f32⟩
  | 5 => ⟨S24x64, .f32⟩
  | 6 => ⟨S24x64, .f32⟩
  | 7 => ⟨S24x64, .f32⟩
  | 8 => ⟨S24x64, .f32⟩
  | 9 => ⟨S24x64, .f32⟩
  | 10 => ⟨S24x64, .f32⟩
  | 11 => ⟨S24x64, .f32⟩
  | 12 => ⟨S24x64, .f32⟩
  | 13 => ⟨S24x64, .f32⟩
  | 14 => ⟨S_, .f32⟩
  | 15 => ⟨S24, .f32⟩
  | 16 => ⟨S24x1, .f32⟩
  | 17 => ⟨S24x64, .f32⟩
  | 18 => ⟨S24x64, .f32⟩
  | 19 => ⟨S24x64, .f32⟩
  | 20 => ⟨S24x64, .f32⟩
  | 21 => ⟨S24x64, .f32⟩
  | 22 => ⟨S_, .f32⟩
  | 23 => ⟨S24, .f32⟩
  | 24 => ⟨S24x1, .f32⟩
  | 25 => ⟨S24x1, .f32⟩
  | 26 => ⟨S24x64, .f32⟩
  | 27 => ⟨S24x64, .f32⟩
  | 28 => ⟨S24x64, .f32⟩
  | 29 => ⟨S_, .f32⟩
  | 30 => ⟨S24, .f32⟩
  | 31 => ⟨S24, .f32⟩
  | 32 => ⟨S1x24x64x16, .f32⟩
  | 33 => ⟨S1x24x64x16, .f32⟩
  | 34 => ⟨S1x24, .f32⟩
  | 35 => ⟨S1x24x64, .f32⟩
  | 36 => ⟨S1x24x64, .f32⟩
  | 37 => ⟨S1x1536, .f32⟩
  | 38 => ⟨S1x1536, .f32⟩
  | 39 => ⟨S_, .f32⟩
  | 40 => ⟨S1x104, .f32⟩
  | 41 => ⟨S1x128, .f32⟩
  | 42 => ⟨S24x64x16, .f32⟩
  | 43 => ⟨S16x24x64, .f32⟩
  | 44 => ⟨S16x1536, .f32⟩
  | 45 => ⟨S24x64x16, .f32⟩
  | 46 => ⟨S16x24x64, .f32⟩
  | 47 => ⟨S16x1536, .f32⟩
  | _ => ⟨S1x24x64, .f32⟩

abbrev hbmTy (i : Nat) : BufTy := match i / 128 with
  | 0 => hbmTy0_0 i
  | 1 => hbmTy0_1 i
  | _ => ⟨S1x24x64, .f32⟩

abbrev bufTy : (tb : Table) → Fin (tcTables nBuf tb) → BufTy
  | .hbm, ⟨i, _⟩ => hbmTy i
  | _, _ => ⟨S1x24x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_2 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_4 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_5 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_6 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_7 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_8 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_9 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_10 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_11 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_12 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩

abbrev nD : Nat := 1
abbrev τ : Topo := Topo.v7x

variable {F : FTy → Type} [FloatOps F]
-- ==== Proof.Math.Real.lean ====
module

public import Idealize.ShloMosaic.Lib.Pointwise
public import Idealize.ShloMosaic.Lib.IdealHost

/-!
  # Finite numbers among the extended reals, and the gradient of the root-mean-square norm

  `IsReal a` says that an extended real is a real number. Sums, products and differences of such numbers stay such, and on them the two ways to write
  the norm's gradient agree.
-/

@[expose] public section

noncomputable section

namespace Cert.StepMath

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.add {a b : EReal} (ha : IsReal a) (hb : IsReal b) : IsReal (a + b) := by
  obtain ⟨x, rfl⟩ := ha; obtain ⟨y, rfl⟩ := hb; exact ⟨x + y, (EReal.coe_add x y).symm⟩

/-- A finite sum of real numbers, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- A number strictly between the two infinities is real. -/
theorem isReal_of_lt {a : EReal} (h : a < ⊤) (h' : ⊥ < a) : IsReal a :=
  ⟨a.toReal, (EReal.coe_toReal h.ne h'.ne').symm⟩

/-- The width of a row, as the programs write it. -/
theorem word_1024 : Ideal.ofBits .f32 1149239296#32 = ((1024 : ℝ) : EReal) := by
  simp [Ideal.ofBits, Ideal.ieee, -EReal.coe_mul]; norm_num

theorem word_neg_half : Ideal.ofBits .f32 3204448256#32 = ((-(1 / 2) : ℝ) : EReal) := by
  simp [Ideal.ofBits, Ideal.ieee, -EReal.coe_mul]; norm_num

/-- The norm's epsilon is a positive real. -/
theorem word_eps : ∃ e : ℝ, 0 < e ∧ Ideal.ofBits .f32 897988541#32 = (e : EReal) := by
  refine ⟨_, ?_, by simp [Ideal.ofBits, Ideal.ieee, -EReal.coe_mul]; rfl⟩
  norm_num

/-- The mean square of a row, plus epsilon. -/
def msq (x : Fin 1024 → EReal) : EReal :=
  Ideal.div (∑ k, x k * x k) (Ideal.ofBits .f32 1149239296#32) + Ideal.ofBits .f32 897988541#32

/-- The mean square of a row of reals is a positive real. -/
theorem msq_real (x : Fin 1024 → ℝ) : ∃ v : ℝ, 0 < v ∧ msq (fun k => (x k : EReal)) = (v : EReal) := by
  obtain ⟨e, he, hw⟩ := word_eps
  refine ⟨(∑ k, x k * x k) * (1 / 1024) + e, ?_, ?_⟩
  · have : 0 ≤ ∑ k, x k * x k := Finset.sum_nonneg fun k _ => mul_self_nonneg _
    positivity
  · simp only [msq, hw, word_1024, ← EReal.coe_mul, coe_sum]
    rw [Ideal.div_coe (by norm_num), ← EReal.coe_mul, ← EReal.coe_add]

/-- The two ways to write the gradient of a root-mean-square norm at entry `l` of a row `x` whose normed entries have the cotangents `d`: through
    the normed row, and by the derivative of the reciprocal root. -/
theorem rms_grad (x d : Fin 1024 → EReal) (hx : ∀ k, IsReal (x k)) (hd : ∀ k, IsReal (d k)) (z : EReal) (l : Fin 1024) :
    z + Ideal.rsqrt (msq x) * (d l - x l * Ideal.rsqrt (msq x) *
        Ideal.div (∑ k, d k * (x k * Ideal.rsqrt (msq x))) (Ideal.ofBits .f32 1149239296#32)) =
      z + d l * Ideal.rsqrt (msq x) + x l * Ideal.div ((∑ k, x k * d k) *
          (Ideal.ofBits .f32 3204448256#32 * Ideal.div (Ideal.rsqrt (msq x)) (msq x))) (Ideal.ofBits .f32 1149239296#32)
        + Ideal.div ((∑ k, x k * d k) *
          (Ideal.ofBits .f32 3204448256#32 * Ideal.div (Ideal.rsqrt (msq x)) (msq x))) (Ideal.ofBits .f32 1149239296#32) * x l := by
  choose x' hx' using hx
  choose d' hd' using hd
  obtain rfl : x = fun k => (x' k : EReal) := funext hx'
  obtain rfl : d = fun k => (d' k : EReal) := funext hd'
  obtain ⟨v, hv, hm⟩ := msq_real x'
  have hn : ¬ v < 0 := not_lt.mpr hv.le
  rw [hm, Ideal.rsqrt_coe, if_neg hn, if_neg hv.ne', word_1024, word_neg_half, add_assoc, add_assoc]
  simp only [← EReal.coe_mul, coe_sum]
  rw [Ideal.div_coe hv.ne', Ideal.div_coe (by norm_num : (1024 : ℝ) ≠ 0)]
  simp only [← EReal.coe_mul, ← EReal.coe_add, ← EReal.coe_sub]
  rw [Ideal.div_coe (by norm_num : (1024 : ℝ) ≠ 0)]
  simp only [← EReal.coe_mul, ← EReal.coe_add, ← EReal.coe_sub]
  refine congrArg (fun a : ℝ => z + (a : EReal)) ?_
  have hs : (√v)⁻¹ * (√v)⁻¹ = 1 / v := by
    rw [← mul_inv, Real.mul_self_sqrt hv.le, one_div]
  rw [← hs]
  have hsum : ∑ k, d' k * (x' k * (√v)⁻¹) = (∑ k, x' k * d' k) * (√v)⁻¹ := by
    rw [Finset.sum_mul]; exact Finset.sum_congr rfl fun k _ => by ring
  rw [hsum]
  ring

section lead2
variable {A B C : Nat}

/-- Rank 3, reduced axes 0 and 1: the indices that drop to `j` are those with `j`'s coordinate on the last axis. -/
theorem fiber_lead2 (h : (⟨3, ![A, B, C]⟩ : Shape).ReducesTo [0, 1] ⟨1, ![C]⟩) (j : Fin C) (i : (⟨3, ![A, B, C]⟩ : Shape).Idx) :
    h.drop i = ix1 j ↔ ∃ k : Fin A × Fin B, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.zero_lt_one⟩)).symm
  · rintro ⟨k, rfl⟩
    funext b
    apply Fin.ext
    match b with
    | ⟨0, _⟩ => rfl

/-- A host's sum over the first two of three axes, entry by entry. -/
theorem hostReduceAdd_lead2 (h : (⟨3, ![A, B, C]⟩ : Shape).ReducesTo [0, 1] ⟨1, ![C]⟩) (x : (⟨3, ![A, B, C]⟩ : Shape).Idx → EReal) (c : EReal) (q : Fin C) :
    Ideal.hostReduceAdd h x c (ix1 q) = c + ∑ a : Fin A, ∑ b : Fin B, x (ix3 a b q) := by
  refine congrArg (c + ·) ?_
  rw [Finset.sum_filter_eq_sum_of_fiber _ (fun k : Fin A × Fin B => (ix3 k.1 k.2 q : (⟨3, ![A, B, C]⟩ : Shape).Idx))
    (fun k k' e => Prod.ext (congrFun e 0) (congrFun e 1)) (fiber_lead2 h q) x, Fintype.sum_prod_type]

end lead2

end Cert.StepMath
-- ==== Proof.InProj.Kernel.lean ====
module

public import proofs.«01_k».proof.Proof.Gen.InProjBwdIdeal.Frame
public import proofs.«01_k».proof.Proof.Math.Real
public import Idealize.ShloMosaic.Lib.Pipeline.ValueKit
public import Idealize.ShloMosaic.Lib.Pipeline.ReadBack
public import Idealize.ShloMosaic.Lib.Pointwise
public import Idealize.ShloMosaic.Lib.Claim

/-! # The input projection's backward kernel: what one grid point reads and computes -/

@[expose] public section

set_option maxRecDepth 16384

noncomputable section

namespace Cert.InProjBwdIdeal.Hand

open Cert.InProjBwdIdeal Cert.InProjBwdIdeal.Gen Idealize.ShloMosaic Idealize.ShloMosaic.TcCoe Idealize.SL.Sem
open Idealize.ShloMosaic.Pipeline (Dat)
open Cert.StepMath

/-! ## Payloads -/

theorem pay5_at (x : Vec Ideal S512x1024 .f32) (r : Fin 512) : k0_pay5 x (ix2 r 0) = Ideal.rsqrt (msq fun k => x (ix2 r k)) := by
  pointwise [k0_pay5, k0_pay4, msq]

theorem pay6_at (x : Vec Ideal S512x1024 .f32) (r : Fin 512) (q : Fin 1024) :
    k0_pay6 x (ix2 r q) = x (ix2 r q) * Ideal.rsqrt (msq fun k => x (ix2 r k)) := by
  pointwise [k0_pay6, k0_pay5, k0_pay4, msq]

theorem pay7_at (x : Vec Ideal S512x1024 .f32) (g : Vec Ideal S1x1024 .f32) (r : Fin 512) (q : Fin 1024) :
    k0_pay7 x g (ix2 r q) = x (ix2 r q) * Ideal.rsqrt (msq fun k => x (ix2 r k)) * g (ix2 0 q) := by
  pointwise [k0_pay7, k0_pay6, k0_pay5, k0_pay4, msq]

/-- The cotangent of the normed rows: the four shards' products, added up. -/
def dh (a b : Vec Ideal S512x384 .bf16) (c : Vec Ideal S512x256 .bf16) (d : Vec Ideal S512x1024 .bf16) (w : Vec Ideal S4x1024x512 .bf16) :
    FVec Ideal S512x1024 .f32 :=
  k0_pay20 (k0_pay3 a b c d)
    (k0_pay14 (k0_pay3 a b c d) k0_pay8 (k0_pay9 a b c d)
      (View.ld w (Rect.unit ![0, 0, 0] ![1, 1024, 512] inb_S4x1024x512_S1x1024x512_0_0_0))
      (View.ld w (Rect.unit ![1, 0, 0] ![1, 1024, 512] inb_S4x1024x512_S1x1024x512_1_0_0)))
    (k0_pay17 (k0_pay3 a b c d) (View.ld w (Rect.unit ![2, 0, 0] ![1, 1024, 512] inb_S4x1024x512_S1x1024x512_2_0_0)))
    (View.ld w (Rect.unit ![3, 0, 0] ![1, 1024, 512] inb_S4x1024x512_S1x1024x512_3_0_0))

/-- A sum over the rows' 2048 columns, cut into four shards. -/
theorem sum_shards (f : Fin 2048 → EReal) :
    ∑ n, f n = (∑ k : Fin 512, f ⟨k.val, by omega⟩) + (∑ k : Fin 512, f ⟨512 + k.val, by omega⟩)
      + (∑ k : Fin 512, f ⟨1024 + k.val, by omega⟩) + ∑ k : Fin 512, f ⟨1536 + k.val, by omega⟩ := by
  rw [Fin.sum_univ_tiles 4 512 rfl f, Fin.sum_univ_four]
  refine congrArg₂ (· + ·) (congrArg₂ (· + ·) (congrArg₂ (· + ·) ?_ ?_) ?_) ?_ <;>
    exact Finset.sum_congr rfl fun k _ => congrArg f (Fin.ext (by simp))

theorem dh_at (a b : Vec Ideal S512x384 .bf16) (c : Vec Ideal S512x256 .bf16) (d : Vec Ideal S512x1024 .bf16) (w : Vec Ideal S4x1024x512 .bf16)
    (r : Fin 512) (q : Fin 1024) :
    dh a b c d w (ix2 r q) = ∑ n : Fin 2048, k0_pay3 a b c d (ix2 r n) * w (ix3 ⟨n.val / 512, by omega⟩ q ⟨n.val % 512, by omega⟩) := by
  rw [sum_shards]
  pointwise [dh, k0_pay20, k0_pay14, k0_pay17, k0_pay8, k0_pay9, k0_pay12, k0_pay15, k0_pay18]
  refine congrArg₂ (· + ·) (congrArg₂ (· + ·) (congrArg₂ (· + ·) ?_ ?_) ?_) ?_ <;>
    exact Finset.sum_congr rfl fun k _ => congrArg (k0_pay3 a b c d _ * ·) (congrArg w
      (congrArg₂ (fun s l => ix3 s q l) (Fin.ext (by simp <;> omega)) (Fin.ext (by simp <;> omega))))

/-- The weight gradient's buffer after a grid point that found `o` there. -/
def dwStep (p : FVec Ideal S512x2048 .bf16) (h : FVec Ideal S512x1024 .bf16) (o : Vec Ideal S4x1024x512 .f32) : Vec Ideal S4x1024x512 .f32 :=
  fun y => o y + ∑ r : Fin 512, h (ix2 r (y 1)) * p (ix2 r ⟨(y 0).val * 512 + (y 2).val, by idx_bounds; omega⟩)

/-- Where a slab's own index lands in the whole buffer. -/
theorem slab_emb (s : Fin 4) (inb : ∀ a, ![s.val, 0, 0] a + ![1, 1024, 512] a ≤ S4x1024x512.size a) (z : S1x1024x512.Idx) :
    (Rect.unit (s := S4x1024x512) ![s.val, 0, 0] ![1, 1024, 512] inb).emb z = ix3 s (z 1) (z 2) := by
  funext a; apply Fin.ext; idx_bounds
  match a with
  | ⟨0, _⟩ => show s.val + 1 * (z 0).val = s.val; omega
  | ⟨1, _⟩ => show 0 + 1 * (z 1).val = (z 1).val; omega
  | ⟨2, _⟩ => show 0 + 1 * (z 2).val = (z 2).val; omega

theorem dw_pieces (a b : Vec Ideal S512x384 .bf16) (c : Vec Ideal S512x256 .bf16) (d : Vec Ideal S512x1024 .bf16) (x : Vec Ideal S512x1024 .f32)
    (g : Vec Ideal S1x1024 .f32) (o : Vec Ideal S4x1024x512 .f32) (L' : List (View.Piece (Elt Ideal) S4x1024x512 .f32)) (y : S4x1024x512.Idx) :
    View.canon (⟨Rect.unit ![3, 0, 0] ![1, 1024, 512] inb_S4x1024x512_S1x1024x512_3_0_0, k0_pay19 (k0_pay3 a b c d) (k0_pay7 x g)
          (View.ld o (Rect.unit ![3, 0, 0] ![1, 1024, 512] inb_S4x1024x512_S1x1024x512_3_0_0))⟩ ::
        ⟨Rect.unit ![2, 0, 0] ![1, 1024, 512] inb_S4x1024x512_S1x1024x512_2_0_0, k0_pay16 (k0_pay3 a b c d) (k0_pay7 x g)
          (View.ld o (Rect.unit ![2, 0, 0] ![1, 1024, 512] inb_S4x1024x512_S1x1024x512_2_0_0))⟩ ::
        ⟨Rect.unit ![1, 0, 0] ![1, 1024, 512] inb_S4x1024x512_S1x1024x512_1_0_0, k0_pay13 (k0_pay3 a b c d) (k0_pay7 x g)
          (View.ld o (Rect.unit ![1, 0, 0] ![1, 1024, 512] inb_S4x1024x512_S1x1024x512_1_0_0))⟩ ::
        ⟨Rect.unit ![0, 0, 0] ![1, 1024, 512] inb_S4x1024x512_S1x1024x512_0_0_0, k0_pay11 (k0_pay10 a b c d x g
          (View.ld o (Rect.unit ![0, 0, 0] ![1, 1024, 512] inb_S4x1024x512_S1x1024x512_0_0_0)))⟩ :: L') y =
      dwStep (k0_pay3 a b c d) (k0_pay7 x g) o y := by
  refine View.canon_append_of_piecesOf (dwStep (k0_pay3 a b c d) (k0_pay7 x g) o) L' [_, _, _, _] ⟨fun z => ?_, fun z => ?_, fun z => ?_, fun z => ?_, trivial⟩ y ?_
  · rw [show (Rect.unit (s := S4x1024x512) ![3, 0, 0] ![1, 1024, 512] inb_S4x1024x512_S1x1024x512_3_0_0).emb z = ix3 (3 : Fin 4) (z 1) (z 2) from slab_emb 3 _ z]
    pointwise [k0_pay19, k0_pay18, dwStep]
  · rw [show (Rect.unit (s := S4x1024x512) ![2, 0, 0] ![1, 1024, 512] inb_S4x1024x512_S1x1024x512_2_0_0).emb z = ix3 (2 : Fin 4) (z 1) (z 2) from slab_emb 2 _ z]
    pointwise [k0_pay16, k0_pay15, dwStep]
  · rw [show (Rect.unit (s := S4x1024x512) ![1, 0, 0] ![1, 1024, 512] inb_S4x1024x512_S1x1024x512_1_0_0).emb z = ix3 (1 : Fin 4) (z 1) (z 2) from slab_emb 1 _ z]
    pointwise [k0_pay13, k0_pay12, dwStep]
  · rw [show (Rect.unit (s := S4x1024x512) ![0, 0, 0] ![1, 1024, 512] inb_S4x1024x512_S1x1024x512_0_0_0).emb z = ix3 (0 : Fin 4) (z 1) (z 2) from slab_emb 0 _ z]
    pointwise [k0_pay11, k0_pay10, k0_pay9, dwStep]
  · simp only [List.exists_mem_cons_iff, Rect.mem_set_unit, Fin.forall_fin_succ, Fin.forall_fin_zero]
    idx_bounds
    simp
    omega

theorem pay21_at (p : FVec Ideal S512x2048 .bf16) (h : FVec Ideal S512x1024 .f32) (e f : FVec Ideal S512x1024 .f32) (w : Vec Ideal S1x1024x512 .bf16)
    (o : Vec Ideal S1x1024 .f32) (q : Fin 1024) :
    k0_pay21 p h e f w o (ix2 0 q) = o (ix2 0 q) + ∑ r : Fin 512, k0_pay20 p e f w (ix2 r q) * h (ix2 r q) := by
  generalize hk : k0_pay20 p e f w = y
  pointwise [k0_pay21, hk]

theorem pay22_at (p : FVec Ideal S512x2048 .bf16) (s : FVec Ideal S512x1 .f32) (h : FVec Ideal S512x1024 .f32) (g : Vec Ideal S1x1024 .f32)
    (e f : FVec Ideal S512x1024 .f32) (w : Vec Ideal S1x1024x512 .bf16) (z : Vec Ideal S512x1024 .bf16) (r : Fin 512) (q : Fin 1024) :
    k0_pay22 p s h g e f w z (ix2 r q) = z (ix2 r q) + s (ix2 r 0) * (k0_pay20 p e f w (ix2 r q) * g (ix2 0 q) - h (ix2 r q) *
      Ideal.div (∑ k, k0_pay20 p e f w (ix2 r k) * g (ix2 0 k) * h (ix2 r k)) (Ideal.ofBits .f32 1149239296#32)) := by
  generalize hk : k0_pay20 p e f w = y
  pointwise [k0_pay22, hk]

theorem pay21_dh (a b : Vec Ideal S512x384 .bf16) (c : Vec Ideal S512x256 .bf16) (d : Vec Ideal S512x1024 .bf16) (w : Vec Ideal S4x1024x512 .bf16)
    (h : FVec Ideal S512x1024 .f32) (o : Vec Ideal S1x1024 .f32) (q : Fin 1024) :
    k0_pay21 (k0_pay3 a b c d) h (k0_pay14 (k0_pay3 a b c d) k0_pay8 (k0_pay9 a b c d)
        (View.ld w (Rect.unit ![0, 0, 0] ![1, 1024, 512] inb_S4x1024x512_S1x1024x512_0_0_0))
        (View.ld w (Rect.unit ![1, 0, 0] ![1, 1024, 512] inb_S4x1024x512_S1x1024x512_1_0_0)))
      (k0_pay17 (k0_pay3 a b c d) (View.ld w (Rect.unit ![2, 0, 0] ![1, 1024, 512] inb_S4x1024x512_S1x1024x512_2_0_0)))
      (View.ld w (Rect.unit ![3, 0, 0] ![1, 1024, 512] inb_S4x1024x512_S1x1024x512_3_0_0)) o (ix2 0 q) =
      o (ix2 0 q) + ∑ r : Fin 512, dh a b c d w (ix2 r q) * h (ix2 r q) := pay21_at ..

theorem pay22_dh (a b : Vec Ideal S512x384 .bf16) (c : Vec Ideal S512x256 .bf16) (d : Vec Ideal S512x1024 .bf16) (w : Vec Ideal S4x1024x512 .bf16)
    (s : FVec Ideal S512x1 .f32) (h : FVec Ideal S512x1024 .f32) (g : Vec Ideal S1x1024 .f32) (z : Vec Ideal S512x1024 .bf16) (r : Fin 512) (q : Fin 1024) :
    k0_pay22 (k0_pay3 a b c d) s h g (k0_pay14 (k0_pay3 a b c d) k0_pay8 (k0_pay9 a b c d)
        (View.ld w (Rect.unit ![0, 0, 0] ![1, 1024, 512] inb_S4x1024x512_S1x1024x512_0_0_0))
        (View.ld w (Rect.unit ![1, 0, 0] ![1, 1024, 512] inb_S4x1024x512_S1x1024x512_1_0_0)))
      (k0_pay17 (k0_pay3 a b c d) (View.ld w (Rect.unit ![2, 0, 0] ![1, 1024, 512] inb_S4x1024x512_S1x1024x512_2_0_0)))
      (View.ld w (Rect.unit ![3, 0, 0] ![1, 1024, 512] inb_S4x1024x512_S1x1024x512_3_0_0)) z (ix2 r q) =
      z (ix2 r q) + s (ix2 r 0) * (dh a b c d w (ix2 r q) * g (ix2 0 q) - h (ix2 r q) *
        Ideal.div (∑ k, dh a b c d w (ix2 r k) * g (ix2 0 k) * h (ix2 r k)) (Ideal.ofBits .f32 1149239296#32)) := pay22_at ..

/-! ## What a grid point's windows hold -/

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0, 0]
    ∧ win0_8.index t = ![t.val, 0] ∧ win0_9.index t = ![0, 0, 0] ∧ win0_10.index t = ![0, 0] :=
  (by decide +kernel : ∀ t : Fin grid0.N, _)

end Cert.InProjBwdIdeal.Hand
-- ==== Proof.InProj.Ref.lean ====
module

public import proofs.«01_k».proof.Proof.Gen.InProjBwdRefIdeal.Read
public import proofs.«01_k».proof.Proof.Math.Real
public import Idealize.ShloMosaic.Lib.Pointwise
public import Idealize.ShloMosaic.Lib.IdealHost

/-! # The input projection's gradients as the reference writes them, entry by entry -/

@[expose] public section

set_option maxRecDepth 16384

noncomputable section

namespace Cert.InProjBwdRefIdeal.Hand

open Cert.InProjBwdRefIdeal Cert.InProjBwdRefIdeal.Read Idealize.ShloMosaic
open Cert.StepMath

variable (x0 : Vec Ideal S4x2048x1024 .f32) (x1 : Vec Ideal S1x1024 .f32) (x2 : Vec Ideal S1x1024x2048 .f32) (x3 x4 : Vec Ideal S4x2048x384 .f32)
  (x5 : Vec Ideal S4x2048x256 .f32) (x6 x7 : Vec Ideal S4x2048x1024 .f32)

/-- The norm's scale of one row. -/
theorem scale_at (a : Fin 4) (b : Fin 2048) : val_main_v8 (F := Ideal) x0 (ix3 a b 0) = Ideal.rsqrt (msq fun k => x0 (ix3 a b k)) := by
  pointwise [val_main_v8, val_main_v7, val_main_v6, val_main_v5, val_main_v4, val_main_v3, val_main_v2, val_main_v1, val_main_cst, val_main_cst_0, val_main_cst_1, msq]

/-- The cotangent of the normed rows. -/
theorem dh_at (a : Fin 4) (b : Fin 2048) (q : Fin 1024) :
    val_main_v22 (F := Ideal) x2 x3 x4 x5 x6 (ix3 a b q) = ∑ n, val_main_v19 (F := Ideal) x3 x4 x5 x6 (ix3 a b n) * x2 (ix3 0 q n) := by
  pointwise [val_main_v22, val_main_v17]

/-- The gradient of the weights. -/
theorem dw_at (s : Fin 4) (q : Fin 1024) (k : Fin 512) :
    val_main_v49 (F := Ideal) x0 x1 x3 x4 x5 x6 (ix3 s q k) = ∑ a : Fin 4, ∑ b : Fin 2048, val_main_v19 (F := Ideal) x3 x4 x5 x6 (ix3 a b ⟨s.val * 512 + k.val, by omega⟩) *
      (x0 (ix3 a b q) * Ideal.rsqrt (msq fun l => x0 (ix3 a b l)) * x1 (ix2 0 q)) := by
  simp only [← scale_at]
  pointwise [val_main_v49, val_main_v48, val_main_v47, val_main_v23, val_main_v21, val_main_v20, val_main_v16, val_main_v13, val_main_v12, val_main_v15, val_main_v14, val_main_v0]

/-- The gradient of the norm's gain. -/
theorem dg_at (q : Fin 1024) :
    val_main_v45 (F := Ideal) x0 x2 x3 x4 x5 x6 (ix2 0 q) = ∑ a : Fin 4, ∑ b : Fin 2048,
      x0 (ix3 a b q) * Ideal.rsqrt (msq fun l => x0 (ix3 a b l)) * val_main_v22 (F := Ideal) x2 x3 x4 x5 x6 (ix3 a b q) := by
  simp only [← scale_at]
  pointwise [val_main_v45, val_main_v29, val_main_v26, val_main_v25, val_main_cst_4, val_main_cst_3, val_main_v24, val_main_v13, val_main_v12, hostReduceAdd_lead2]
  simp only [Fin.sum_univ_one]

/-- The gradient of the rows. -/
theorem dx_at (a : Fin 4) (b : Fin 2048) (q : Fin 1024) (x : Fin 1024 → EReal) (d : Fin 1024 → EReal) (hx : ∀ k, x0 (ix3 a b k) = x k)
    (hd : ∀ k, val_main_v22 (F := Ideal) x2 x3 x4 x5 x6 (ix3 a b k) * x1 (ix2 0 k) = d k) :
    val_main_v44 (F := Ideal) x0 x1 x2 x3 x4 x5 x6 x7 (ix3 a b q) = x7 (ix3 a b q) + d q * Ideal.rsqrt (msq x) + x q * Ideal.div ((∑ k, x k * d k) *
          (Ideal.ofBits .f32 3204448256#32 * Ideal.div (Ideal.rsqrt (msq x)) (msq x))) (Ideal.ofBits .f32 1149239296#32)
        + Ideal.div ((∑ k, x k * d k) *
          (Ideal.ofBits .f32 3204448256#32 * Ideal.div (Ideal.rsqrt (msq x)) (msq x))) (Ideal.ofBits .f32 1149239296#32) * x q := by
  simp only [← hx, ← hd, msq]
  pointwise [val_main_v44, val_main_v43, val_main_v42, val_main_v41, val_main_v40, val_main_v39, val_main_v38, val_main_v37, val_main_v36, val_main_v35, val_main_v34, val_main_v33, val_main_v32, val_main_v31, val_main_v30, val_main_v28, val_main_v27, val_main_v14, val_main_v0, val_main_v11, val_main_v10, val_main_v9, val_main_v8, val_main_v7, val_main_v6, val_main_v5, val_main_v4, val_main_v3, val_main_v2, val_main_v1, val_main_cst, val_main_cst_0, val_main_cst_1, val_main_cst_2, val_main_cst_5, val_main_cst_6, val_main_cst_7, Fin.sum_univ_one]

end Cert.InProjBwdRefIdeal.Hand
-- ==== Proof.InProj.Blocks.lean ====
module

public import proofs.«01_k».proof.Proof.InProj.Kernel
public import proofs.«01_k».proof.Proof.InProj.Ref

/-! # The input projection's backward kernel: its windows' blocks, of the arguments -/

@[expose] public section

set_option maxRecDepth 16384

noncomputable section

namespace Cert.InProjBwdIdeal.Hand

open Cert.InProjBwdIdeal Cert.InProjBwdIdeal.Gen Idealize.ShloMosaic Idealize.ShloMosaic.TcCoe Idealize.SL.Sem
open Idealize.ShloMosaic.Pipeline (Dat)
open Cert.StepMath
open Cert.InProjBwdRefIdeal.Read

variable (m : (ℓ : Loc nD τ sig) → Buf (Elt Ideal) ℓ)

/-! ## The arguments -/

abbrev A0 (c : Dev nD) : Vec Ideal Cert.InProjBwdRefIdeal.S4x2048x1024 .f32 := m (c, Proc.tc.devRef main_arg0)
abbrev A1 (c : Dev nD) : Vec Ideal Cert.InProjBwdRefIdeal.S1x1024 .f32 := m (c, Proc.tc.devRef main_arg1)
abbrev A2 (c : Dev nD) : Vec Ideal Cert.InProjBwdRefIdeal.S1x1024x2048 .f32 := m (c, Proc.tc.devRef main_arg2)
abbrev A3 (c : Dev nD) : Vec Ideal Cert.InProjBwdRefIdeal.S4x2048x384 .f32 := m (c, Proc.tc.devRef main_arg3)
abbrev A4 (c : Dev nD) : Vec Ideal Cert.InProjBwdRefIdeal.S4x2048x384 .f32 := m (c, Proc.tc.devRef main_arg4)
abbrev A5 (c : Dev nD) : Vec Ideal Cert.InProjBwdRefIdeal.S4x2048x256 .f32 := m (c, Proc.tc.devRef main_arg5)
abbrev A6 (c : Dev nD) : Vec Ideal Cert.InProjBwdRefIdeal.S4x2048x1024 .f32 := m (c, Proc.tc.devRef main_arg6)
abbrev A7 (c : Dev nD) : Vec Ideal Cert.InProjBwdRefIdeal.S4x2048x1024 .f32 := m (c, Proc.tc.devRef main_arg7)

/-- The sequence and the step of a grid point's row. -/
def seqOf (t : Fin cfg0.N) (r : Fin 512) : Fin 4 := ⟨(t.val * 512 + r.val) / 2048, by have : t.val < 16 := lt_of_lt_of_eq t.isLt N_0; omega⟩
def stepOf (t : Fin cfg0.N) (r : Fin 512) : Fin 2048 := ⟨(t.val * 512 + r.val) % 2048, by omega⟩

theorem d0_at (c : Dev nD) (t : Fin cfg0.N) (r : Fin 512) (k : Fin 384) : iblk m c 0 t (ix2 r k) = A3 m c (ix3 (seqOf t r) (stepOf t r) k) := by
  blk_point [iblk, V, idx t, seqOf, stepOf]

theorem d1_at (c : Dev nD) (t : Fin cfg0.N) (r : Fin 512) (k : Fin 384) : iblk m c 1 t (ix2 r k) = A4 m c (ix3 (seqOf t r) (stepOf t r) k) := by
  blk_point [iblk, V, idx t, seqOf, stepOf]

theorem d2_at (c : Dev nD) (t : Fin cfg0.N) (r : Fin 512) (k : Fin 256) : iblk m c 2 t (ix2 r k) = A5 m c (ix3 (seqOf t r) (stepOf t r) k) := by
  blk_point [iblk, V, idx t, seqOf, stepOf]

theorem d3_at (c : Dev nD) (t : Fin cfg0.N) (r : Fin 512) (k : Fin 1024) : iblk m c 3 t (ix2 r k) = A6 m c (ix3 (seqOf t r) (stepOf t r) k) := by
  blk_point [iblk, V, idx t, seqOf, stepOf]

theorem x_at (c : Dev nD) (t : Fin cfg0.N) (r : Fin 512) (k : Fin 1024) : iblk m c 4 t (ix2 r k) = A0 m c (ix3 (seqOf t r) (stepOf t r) k) := by
  blk_point [iblk, V, idx t, seqOf, stepOf]

theorem z_at (c : Dev nD) (t : Fin cfg0.N) (r : Fin 512) (k : Fin 1024) : iblk m c 5 t (ix2 r k) = A7 m c (ix3 (seqOf t r) (stepOf t r) k) := by
  blk_point [iblk, V, idx t, seqOf, stepOf]

theorem g_at (c : Dev nD) (t : Fin cfg0.N) (k : Fin 1024) : iblk m c 6 t (ix2 0 k) = A1 m c (ix2 0 k) := by
  blk_point [iblk, V, idx t]

theorem w_at (c : Dev nD) (t : Fin cfg0.N) (q : Fin 1024) (n : Fin 2048) :
    iblk m c 7 t (ix3 ⟨n.val / 512, by omega⟩ q ⟨n.val % 512, by omega⟩) = A2 m c (ix3 0 q n) := by
  blk_point [iblk, V, idx t]

theorem dproj_at (c : Dev nD) (t : Fin cfg0.N) (r : Fin 512) (n : Fin 2048) :
    k0_pay3 (iblk m c 0 t) (iblk m c 1 t) (iblk m c 2 t) (iblk m c 3 t) (ix2 r n) =
      val_main_v19 (F := Ideal) (A3 m c) (A4 m c) (A5 m c) (A6 m c) (ix3 (seqOf t r) (stepOf t r) n) := by
  pointwise [k0_pay3, val_main_v19]
  simp only [d0_at m, d1_at m, d2_at m, d3_at m]

theorem dh_point (c : Dev nD) (t : Fin cfg0.N) (r : Fin 512) (q : Fin 1024) :
    dh (iblk m c 0 t) (iblk m c 1 t) (iblk m c 2 t) (iblk m c 3 t) (iblk m c 7 t) (ix2 r q) =
      val_main_v22 (F := Ideal) (A2 m c) (A3 m c) (A4 m c) (A5 m c) (A6 m c) (ix3 (seqOf t r) (stepOf t r) q) := by
  rw [dh_at, Cert.InProjBwdRefIdeal.Hand.dh_at]
  exact Finset.sum_congr rfl fun n _ => congrArg₂ (· * ·) (dproj_at m c t r n) (w_at m c t q n)

end Cert.InProjBwdIdeal.Hand
-- ==== Proof.InProj.Value.lean ====
module

public import proofs.«01_k».proof.Proof.InProj.Blocks

/-! # The input projection's backward kernel: its results are the gradients -/

@[expose] public section

set_option maxRecDepth 16384

noncomputable section

namespace Cert.InProjBwdIdeal.Hand

open Cert.InProjBwdIdeal Cert.InProjBwdIdeal.Gen Idealize.ShloMosaic Idealize.ShloMosaic.TcCoe Idealize.SL.Sem
open Idealize.ShloMosaic.Pipeline (Dat)
open Cert.StepMath
open Cert.InProjBwdRefIdeal.Read

variable (m : (ℓ : Loc nD τ sig) → Buf (Elt Ideal) ℓ)

/-! ## The rows' gradient -/

/-- A grid point's row of gradients, from the finite numbers it reads. -/
theorem gx_row (c : Dev nD) (t : Fin cfg0.N) (hx : ∀ i, IsReal (A0 m c i)) (hg : ∀ i, IsReal (A1 m c i)) (hw : ∀ i, IsReal (A2 m c i))
    (h3 : ∀ i, IsReal (A3 m c i)) (h4 : ∀ i, IsReal (A4 m c i)) (h5 : ∀ i, IsReal (A5 m c i)) (h6 : ∀ i, IsReal (A6 m c i)) (r : Fin 512) (q : Fin 1024)
    (x d : Fin 1024 → EReal) (ex : ∀ k, A0 m c (ix3 (seqOf t r) (stepOf t r) k) = x k)
    (ed : ∀ k, val_main_v22 (F := Ideal) (A2 m c) (A3 m c) (A4 m c) (A5 m c) (A6 m c) (ix3 (seqOf t r) (stepOf t r) k) * A1 m c (ix2 0 k) = d k) :
    A7 m c (ix3 (seqOf t r) (stepOf t r) q) + Ideal.rsqrt (msq x) * (d q - x q * Ideal.rsqrt (msq x) *
        Ideal.div (∑ k, d k * (x k * Ideal.rsqrt (msq x))) (Ideal.ofBits .f32 1149239296#32)) =
      val_main_v44 (F := Ideal) (A0 m c) (A1 m c) (A2 m c) (A3 m c) (A4 m c) (A5 m c) (A6 m c) (A7 m c) (ix3 (seqOf t r) (stepOf t r) q) := by
  have hdh : ∀ k, IsReal (val_main_v22 (F := Ideal) (A2 m c) (A3 m c) (A4 m c) (A5 m c) (A6 m c) (ix3 (seqOf t r) (stepOf t r) k)) := fun k => by
    rw [Cert.InProjBwdRefIdeal.Hand.dh_at]
    refine IsReal.sum _ fun n => IsReal.mul ?_ (hw _)
    pointwise [val_main_v19]
    split_ifs <;> first | exact h3 _ | exact h4 _ | exact h5 _ | exact h6 _
  rw [Cert.InProjBwdRefIdeal.Hand.dx_at _ _ _ _ _ _ _ _ _ _ q x d ex ed]
  exact rms_grad _ _ (fun k => ex k ▸ hx _) (fun k => ed k ▸ (hdh k).mul (hg _)) _ q

/-- The reference's rows at a block's own index. -/
theorem v46_at (c : Dev nD) (t : Fin cfg0.N) (r : Fin 512) (q : Fin 1024) :
    val_main_v46 (F := Ideal) (A0 m c) (A1 m c) (A2 m c) (A3 m c) (A4 m c) (A5 m c) (A6 m c) (A7 m c) (((View.whole main_v15_0).slice (win0_8.rect t)).emb (ix2 r q)) =
      val_main_v44 (F := Ideal) (A0 m c) (A1 m c) (A2 m c) (A3 m c) (A4 m c) (A5 m c) (A6 m c) (A7 m c) (ix3 (seqOf t r) (stepOf t r) q) := by
  rw [show ((View.whole main_v15_0).slice (win0_8.rect t)).emb (ix2 r q) =
    ix2 (⟨t.val * 512 + r.val, by have : t.val < 16 := lt_of_lt_of_eq t.isLt N_0; omega⟩ : Fin 8192) q from by blk_ext [idx t]]
  pointwise [val_main_v46, seqOf, stepOf]

theorem final8 (c : Dev nD) (hx : ∀ i, IsReal (A0 m c i)) (hg : ∀ i, IsReal (A1 m c i)) (hw : ∀ i, IsReal (A2 m c i)) (h3 : ∀ i, IsReal (A3 m c i))
    (h4 : ∀ i, IsReal (A4 m c i)) (h5 : ∀ i, IsReal (A5 m c i)) (h6 : ∀ i, IsReal (A6 m c i)) :
    (dats m 0 c).arrAt 8 cfg0.N = val_main_v46 (F := Ideal) (A0 m c) (A1 m c) (A2 m c) (A3 m c) (A4 m c) (A5 m c) (A6 m c) (A7 m c) := by
  refine (dats m 0 c).arrAt_eq_of_covers 8 _ (by decide +kernel) fun t _ y => ?_
  blk_simp
  rw [after0_8]
  obtain ⟨r, q, rfl⟩ : ∃ (r : Fin 512) (q : Fin 1024), y = ix2 r q := ⟨y 0, y 1, by blk_ext []⟩
  refine Eq.trans ?_ (v46_at m c t r q).symm
  refine Eq.trans ?_ (gx_row m c t hx hg hw h3 h4 h5 h6 r q _ _ (fun _ => rfl) (fun _ => rfl))
  by_cases h : t.val % 16 = 0
  · rw [outsAt0_A m c t h]; frame_out
    refine (pay22_dh ..).trans ?_
    simp only [dh_point m, pay5_at, pay6_at, x_at m, z_at m, g_at m]
  · rw [outsAt0_B m c t h]; frame_out
    refine (pay22_dh ..).trans ?_
    simp only [dh_point m, pay5_at, pay6_at, x_at m, z_at m, g_at m]

/-! ## The two gradients summed over the rows -/

/-- The sequences' steps are the grid points' rows. -/
theorem sum_rows (f : Fin 4 → Fin 2048 → EReal) : ∑ t : Fin cfg0.N, ∑ r : Fin 512, f (seqOf t r) (stepOf t r) = ∑ a, ∑ b, f a b := by
  have hN : 8192 = cfg0.N * 512 := by rw [show cfg0.N = 16 from N_0]
  rw [← Fin.sum_divmod_congr (F := fun n : Fin 8192 => f ⟨n.val / 2048, by omega⟩ ⟨n.val % 2048, by omega⟩) fun _ _ _ => rfl]
  exact Fin.sum_mul_add_fin cfg0.N 512 (fun n : Fin 8192 => f ⟨n.val / 2048, by omega⟩ ⟨n.val % 2048, by omega⟩) hN

/-- A grid point's step of the gain's gradient. -/
theorem dg_point (c : Dev nD) (t : Fin cfg0.N) (o : EReal) (q : Fin 1024) :
    o + ∑ r : Fin 512, dh (iblk m c 0 t) (iblk m c 1 t) (iblk m c 2 t) (iblk m c 3 t) (iblk m c 7 t) (ix2 r q) * k0_pay6 (iblk m c 4 t) (ix2 r q) =
    o + ∑ r : Fin 512, A0 m c (ix3 (seqOf t r) (stepOf t r) q) * Ideal.rsqrt (msq fun l => A0 m c (ix3 (seqOf t r) (stepOf t r) l)) *
      val_main_v22 (F := Ideal) (A2 m c) (A3 m c) (A4 m c) (A5 m c) (A6 m c) (ix3 (seqOf t r) (stepOf t r) q) := by
  refine congrArg (o + ·) (Finset.sum_congr rfl fun r _ => ?_)
  simp only [dh_point m, pay6_at, x_at m]
  exact mul_comm _ _

/-- A grid point's step of the weights' gradient. -/
theorem dw_point (c : Dev nD) (t : Fin cfg0.N) (o : Vec Ideal S4x1024x512 .f32) (j : S4x1024x512.Idx) :
    dwStep (k0_pay3 (iblk m c 0 t) (iblk m c 1 t) (iblk m c 2 t) (iblk m c 3 t)) (k0_pay7 (iblk m c 4 t) (iblk m c 6 t)) o j =
      o j + ∑ r : Fin 512, val_main_v19 (F := Ideal) (A3 m c) (A4 m c) (A5 m c) (A6 m c) (ix3 (seqOf t r) (stepOf t r) ⟨(j 0).val * 512 + (j 2).val, by idx_bounds; omega⟩) *
        (A0 m c (ix3 (seqOf t r) (stepOf t r) (j 1)) * Ideal.rsqrt (msq fun l => A0 m c (ix3 (seqOf t r) (stepOf t r) l)) * A1 m c (ix2 0 (j 1))) := by
  obtain ⟨s, q, k, rfl⟩ : ∃ (s : Fin 4) (q : Fin 1024) (k : Fin 512), j = ix3 s q k := ⟨j 0, j 1, j 2, by blk_ext []⟩
  refine congrArg (o (ix3 s q k) + ·) (Finset.sum_congr rfl fun r _ => ?_)
  show k0_pay7 (iblk m c 4 t) (iblk m c 6 t) (ix2 r q) *
      k0_pay3 (iblk m c 0 t) (iblk m c 1 t) (iblk m c 2 t) (iblk m c 3 t) (ix2 r ⟨s.val * 512 + k.val, _⟩) = _
  rw [dproj_at, pay7_at, g_at]
  simp only [x_at m]
  exact mul_comm _ _

theorem final10 (c : Dev nD) : (dats m 0 c).arrAt 10 cfg0.N = val_main_v45 (F := Ideal) (A0 m c) (A2 m c) (A3 m c) (A4 m c) (A5 m c) (A6 m c) := by
  refine (dats m 0 c).arrAt_eq_of_after_last 10 t0_15 (by decide +kernel) _ fun j => ?_
  blk_simp
  obtain ⟨q, rfl⟩ : ∃ q : Fin 1024, j = ix2 0 q := ⟨j 1, by blk_ext []⟩
  rw [after0_10, Cert.InProjBwdRefIdeal.Hand.dg_at, ← sum_rows, Pipeline.eq_sum_fin_of_reset_step_apply_last (fun n h => (outsAt0 m c n h).2.2) 16 (fun _ => 0)
    (fun t j => ∑ r : Fin 512, A0 m c (ix3 (seqOf t r) (stepOf t r) (j 1)) * Ideal.rsqrt (msq fun l => A0 m c (ix3 (seqOf t r) (stepOf t r) l)) *
      val_main_v22 (F := Ideal) (A2 m c) (A3 m c) (A4 m c) (A5 m c) (A6 m c) (ix3 (seqOf t r) (stepOf t r) (j 1)))
    (fun t h j => by
      obtain ⟨q, rfl⟩ : ∃ q : Fin 1024, j = ix2 0 q := ⟨j 1, by blk_ext []⟩
      rw [outsAt0_A m c t h]; frame_out
      refine ((pay21_dh ..).trans (dg_point m c t _ q)).trans (congrArg (· + _) ?_)
      pointwise [k0_pay2])
    (fun t h j => by
      obtain ⟨q, rfl⟩ : ∃ q : Fin 1024, j = ix2 0 q := ⟨j 1, by blk_ext []⟩
      rw [outsAt0_B m c t h]; frame_out
      exact (pay21_dh ..).trans (dg_point m c t _ q)) (le_of_eq N_0) t0_15 rfl, zero_add]
  rfl

theorem final9 (c : Dev nD) : (dats m 0 c).arrAt 9 cfg0.N = val_main_v49 (F := Ideal) (A0 m c) (A1 m c) (A3 m c) (A4 m c) (A5 m c) (A6 m c) := by
  refine (dats m 0 c).arrAt_eq_of_after_last 9 t0_15 (by decide +kernel) _ fun j => ?_
  blk_simp
  obtain ⟨s, q, k, rfl⟩ : ∃ (s : Fin 4) (q : Fin 1024) (k : Fin 512), j = ix3 s q k := ⟨j 0, j 1, j 2, by blk_ext []⟩
  rw [after0_9, Cert.InProjBwdRefIdeal.Hand.dw_at, ← sum_rows, Pipeline.eq_sum_fin_of_reset_step_apply_last (fun n h => (outsAt0 m c n h).2.1) 16 (fun _ => 0)
    (fun t j => ∑ r : Fin 512, val_main_v19 (F := Ideal) (A3 m c) (A4 m c) (A5 m c) (A6 m c) (ix3 (seqOf t r) (stepOf t r) ⟨(j 0).val * 512 + (j 2).val, by idx_bounds; omega⟩) *
      (A0 m c (ix3 (seqOf t r) (stepOf t r) (j 1)) * Ideal.rsqrt (msq fun l => A0 m c (ix3 (seqOf t r) (stepOf t r) l)) * A1 m c (ix2 0 (j 1))))
    (fun t h j => by
      rw [outsAt0_A m c t h]; frame_out
      simp (disch := decide) only [↓View.readCov_skip, ↓View.readCov_fill]
      refine (dw_pieces _ _ _ _ _ _ _ _ j).trans ((dw_point m c t _ j).trans (congrArg (· + _) ?_))
      pointwise [k0_pay1])
    (fun t h j => by
      rw [outsAt0_B m c t h]; frame_out
      exact (dw_pieces _ _ _ _ _ _ _ [] j).trans (dw_point m c t _ j)) (le_of_eq N_0) t0_15 rfl, zero_add]
  rfl

end Cert.InProjBwdIdeal.Hand
-- ==== Proof.Math.Finite.lean ====
module

public import proofs.«01_k».proof.Proof.Math.Real
public import Idealize.ShloMosaic.PureOps.Ideal
public import Idealize.ShloMosaic.Lib.StableHlo

/-! # The precondition that an argument is finite, read entry by entry -/

@[expose] public section

noncomputable section

namespace Cert.StepMath

open Idealize.ShloMosaic

/-- An array below the positive and above the negative infinity everywhere holds real numbers. -/
theorem isReal_of_ones {s : Shape} (x : FVec Ideal s .f32) (h : (⟨0, ![]⟩ : Shape).BroadcastsInDim s (![] : Fin 0 → Fin s.rank))
    (e : andi (cmpf .olt x (broadcastInDim s ![] h (constant (F := Ideal) ⟨0, ![]⟩ .f32 0x7F800000#32)))
      (cmpf .ogt x (broadcastInDim s ![] h (constant (F := Ideal) ⟨0, ![]⟩ .f32 0xFF800000#32))) = fun _ => 1#1) (i : s.Idx) : IsReal (x i) := by
  have e' := congrFun e i
  have ht : Ideal.ofBits .f32 0x7F800000#32 = ⊤ := by simp [Ideal.ofBits, Ideal.ieee]
  have hb : Ideal.ofBits .f32 0xFF800000#32 = ⊥ := by simp [Ideal.ofBits, Ideal.ieee]
  simp [andi, cmpf, broadcastInDim, constant] at e'
  rw [ht, hb] at e'
  by_cases h1 : x i < ⊤
  · by_cases h2 : ⊥ < x i
    · exact isReal_of_lt h1 h2
    · have : Ideal.cmp .ogt (x i) ⊥ = 0#1 := by simp only [Ideal.cmp, h2]; decide
      simp [FloatOps.cmpf, IntOp.andi, this] at e'
  · have : Ideal.cmp .olt (x i) ⊤ = 0#1 := by simp only [Ideal.cmp, h1]; decide
    simp [FloatOps.cmpf, IntOp.andi, this] at e'

end Cert.StepMath
-- ==== Proof.InProj.Claims.lean ====
module

public import proofs.«01_k».proof.Defs
public import proofs.«01_k».proof.Proof.Gen.InProjBwd
public import proofs.«01_k».proof.Proof.Gen.InProjBwd.Frame
public import proofs.«01_k».proof.Proof.Gen.InProjBwdRefIdeal.Run
public import proofs.«01_k».proof.Proof.Gen.Pre_in_proj_finite
public import proofs.«01_k».proof.Proof.InProj.Value
public import proofs.«01_k».proof.Proof.Math.Finite

/-! # The claims about the input projection's backward call -/

@[expose] public section

set_option maxRecDepth 16384

noncomputable section

namespace Cert.InProj

open Idealize.ShloMosaic Idealize.ShloMosaic.TcCoe Idealize.SL.Sem
open Cert.StepMath

attribute [local instance] Cert.InProjBwd.Gen.facts Cert.InProjBwdIdeal.Gen.facts Cert.InProjBwdRefIdeal.Gen.facts Cert.Pre_in_proj_finite.Gen.facts

theorem frame_ref : Cert.quiescent_InProjBwdRefIdeal := by
  intro m g _
  exact (θ_run Cert.InProjBwdRefIdeal.defs _ _).mono (fun r h => ⟨fun c => (h c).2.2.2, sem_eq_zero_of_no_sems (by decide) r.2⟩)
    (Cert.InProjBwdRefIdeal.Value.run m g)

theorem frame_ref_pre : Cert.quiescent_InProjBwdRefIdeal_pre_in_proj_finite := fun m g _ => frame_ref m g trivial

section
variable (m : (ℓ : Loc Cert.InProjBwdIdeal.nD Cert.InProjBwdIdeal.τ Cert.InProjBwdIdeal.sig) → Buf (Elt Ideal) ℓ)
  (m' : (ℓ : Loc Cert.InProjBwdRefIdeal.nD Cert.InProjBwdRefIdeal.τ Cert.InProjBwdRefIdeal.sig) → Buf (Elt Ideal) ℓ) (c : Dev Cert.InProjBwdIdeal.nD)
open Cert.InProjBwdIdeal.Hand Cert.InProjBwdRefIdeal.Read

/-- The two programs were given the same arrays. -/
def Agree : Prop := m' ((c.tc : Thread Cert.InProjBwdRefIdeal.nD Cert.InProjBwdRefIdeal.τ).loc Cert.InProjBwdRefIdeal.main_arg0) = A0 m c
    ∧ m' ((c.tc : Thread Cert.InProjBwdRefIdeal.nD Cert.InProjBwdRefIdeal.τ).loc Cert.InProjBwdRefIdeal.main_arg1) = A1 m c
    ∧ m' ((c.tc : Thread Cert.InProjBwdRefIdeal.nD Cert.InProjBwdRefIdeal.τ).loc Cert.InProjBwdRefIdeal.main_arg2) = A2 m c
    ∧ m' ((c.tc : Thread Cert.InProjBwdRefIdeal.nD Cert.InProjBwdRefIdeal.τ).loc Cert.InProjBwdRefIdeal.main_arg3) = A3 m c
    ∧ m' ((c.tc : Thread Cert.InProjBwdRefIdeal.nD Cert.InProjBwdRefIdeal.τ).loc Cert.InProjBwdRefIdeal.main_arg4) = A4 m c
    ∧ m' ((c.tc : Thread Cert.InProjBwdRefIdeal.nD Cert.InProjBwdRefIdeal.τ).loc Cert.InProjBwdRefIdeal.main_arg5) = A5 m c
    ∧ m' ((c.tc : Thread Cert.InProjBwdRefIdeal.nD Cert.InProjBwdRefIdeal.τ).loc Cert.InProjBwdRefIdeal.main_arg6) = A6 m c
    ∧ m' ((c.tc : Thread Cert.InProjBwdRefIdeal.nD Cert.InProjBwdRefIdeal.τ).loc Cert.InProjBwdRefIdeal.main_arg7) = A7 m c

/-- What the kernel's run leaves: its three results, and its arguments unchanged. -/
theorem kernel_run (g : Dev Cert.InProjBwdIdeal.nD → PrngReg) :
    θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
      r.2.mem ((c.tc : Thread Cert.InProjBwdIdeal.nD Cert.InProjBwdIdeal.τ).loc Cert.InProjBwdIdeal.main_v15_0) = (Cert.InProjBwdIdeal.Gen.dats m 0 c).arrAt 8 Cert.InProjBwdIdeal.cfg0.N
      ∧ r.2.mem ((c.tc : Thread Cert.InProjBwdIdeal.nD Cert.InProjBwdIdeal.τ).loc Cert.InProjBwdIdeal.main_v15_1) = (Cert.InProjBwdIdeal.Gen.dats m 0 c).arrAt 9 Cert.InProjBwdIdeal.cfg0.N
      ∧ r.2.mem ((c.tc : Thread Cert.InProjBwdIdeal.nD Cert.InProjBwdIdeal.τ).loc Cert.InProjBwdIdeal.main_v15_2) = (Cert.InProjBwdIdeal.Gen.dats m 0 c).arrAt 10 Cert.InProjBwdIdeal.cfg0.N
      ∧ r.2.mem ((c.tc : Thread Cert.InProjBwdIdeal.nD Cert.InProjBwdIdeal.τ).loc Cert.InProjBwdIdeal.main_arg0) = A0 m c
      ∧ r.2.mem ((c.tc : Thread Cert.InProjBwdIdeal.nD Cert.InProjBwdIdeal.τ).loc Cert.InProjBwdIdeal.main_arg1) = A1 m c
      ∧ r.2.mem ((c.tc : Thread Cert.InProjBwdIdeal.nD Cert.InProjBwdIdeal.τ).loc Cert.InProjBwdIdeal.main_arg2) = A2 m c
      ∧ r.2.mem ((c.tc : Thread Cert.InProjBwdIdeal.nD Cert.InProjBwdIdeal.τ).loc Cert.InProjBwdIdeal.main_arg3) = A3 m c
      ∧ r.2.mem ((c.tc : Thread Cert.InProjBwdIdeal.nD Cert.InProjBwdIdeal.τ).loc Cert.InProjBwdIdeal.main_arg4) = A4 m c
      ∧ r.2.mem ((c.tc : Thread Cert.InProjBwdIdeal.nD Cert.InProjBwdIdeal.τ).loc Cert.InProjBwdIdeal.main_arg5) = A5 m c
      ∧ r.2.mem ((c.tc : Thread Cert.InProjBwdIdeal.nD Cert.InProjBwdIdeal.τ).loc Cert.InProjBwdIdeal.main_arg6) = A6 m c
      ∧ r.2.mem ((c.tc : Thread Cert.InProjBwdIdeal.nD Cert.InProjBwdIdeal.τ).loc Cert.InProjBwdIdeal.main_arg7) = A7 m c) := by
  run_from Cert.InProjBwdIdeal.Gen.run_main m g

/-- The gradient of `x`: what the reference ends with is what the kernel ends with, when the arguments agree. -/
theorem grad_x (hpre : Cert.Pre_InProjBwdIdeal_in_proj_finite m) (h : Agree m m' c) :
    Cert.InProjBwdRefIdeal.Value.res_main_v46 m' c = (Cert.InProjBwdIdeal.Gen.dats m 0 c).arrAt 8 Cert.InProjBwdIdeal.cfg0.N := by
  obtain ⟨h0, h1, h2, h3, h4, h5, h6⟩ := hpre c
  obtain ⟨e0, e1, e2, e3, e4, e5, e6, e7⟩ := h
  refine (val_main_v46_eq m' c).trans (Eq.trans ?_ (final8 m c (isReal_of_ones _ _ h0) (isReal_of_ones _ _ h1) (isReal_of_ones _ _ h2)
    (isReal_of_ones _ _ h3) (isReal_of_ones _ _ h4) (isReal_of_ones _ _ h5) (isReal_of_ones _ _ h6)).symm)
  rw [e0, e1, e2, e3, e4, e5, e6, e7]

theorem algebraic : Cert.algebraic_InProjBwdIdeal_InProjBwdRefIdeal_pre_in_proj_finite := by
  intro m g m' g' hpre hagree
  refine ⟨_, _, _, kernel_run m g, (θ_run _ _ _).mono (fun r h c => ?_) (Cert.InProjBwdRefIdeal.Value.run m' g')⟩
  have ha : Agree m m' c := hagree c
  refine ⟨(h c).1.trans (grad_x m m' c hpre ha), (h c).2.1.trans ?_, (h c).2.2.1.trans ?_, (h c).2.2.2⟩
  all_goals obtain ⟨e0, e1, e2, e3, e4, e5, e6, e7⟩ := ha
  · refine (val_main_v49_eq (F := Ideal) _ _ _ _ _ _).trans (Eq.trans ?_ (final9 m c).symm)
    rw [e0, e1, e3, e4, e5, e6]
  · refine (val_main_v45_eq (F := Ideal) _ _ _ _ _ _).trans (Eq.trans ?_ (final10 m c).symm)
    rw [e0, e2, e3, e4, e5, e6]

end

end Cert.InProj
-- ==== Proof.Math.Softmax.lean ====
module

public import proofs.«01_k».proof.Proof.Math.Real

/-! # The softmax of a row of 256 scores, and sums over heads -/

@[expose] public section

noncomputable section

namespace Cert.StepMath

open Idealize.ShloMosaic

/-- The greatest score of a row, not below the negative infinity that the programs start from. -/
def top (s : Fin 256 → EReal) : EReal :=
  max (Ideal.ofBits .f32 4286578688#32) (Finset.fold max (Ideal.ofBits .f32 4286578688#32) s Finset.univ)

/-- The softmax of a row, as the programs compute it. -/
def softmax (s : Fin 256 → EReal) (n : Fin 256) : EReal := Ideal.div (Ideal.exp (s n - top s)) (∑ k, Ideal.exp (s k - top s))

/-- Starting twice from the negative infinity changes nothing. -/
theorem top_eq (s : Fin 256 → EReal) : Finset.fold max (Ideal.ofBits .f32 4286578688#32) s Finset.univ = top s := by
  refine (max_eq_right ?_).symm
  rw [show Ideal.ofBits .f32 4286578688#32 = ⊥ by simp [Ideal.ofBits, Ideal.ieee]]
  exact bot_le

/-- The greatest of the last axis, as the reference's reduction reads it. -/
theorem hostReduceMax_last {n0 n1 n2 n3 : ℕ} {u : Shape} (x : FVec Ideal ⟨4, ![n0, n1, n2, n3]⟩ .f32) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf (F := Ideal) (φ := .f32)) x init h hu (ix3 a b c) =
      Finset.fold max (init (Shape.Idx.first hu)) (fun k => x (ix4 a b c k)) Finset.univ := by
  rw [Host.reduce_eq_fold, Shape.ReducesTo.fold_fiber_r4_a3]
  rfl

/-- A sum over 256 columns that counts one head of 64 only. -/
theorem sum_head (h : Fin 4) (f g : Fin 256 → EReal) :
    ∑ c : Fin 256, f c * (if c.val / 64 = h.val then g c else 0) = ∑ d : Fin 64, f ⟨h.val * 64 + d.val, by omega⟩ * g ⟨h.val * 64 + d.val, by omega⟩ := by
  rw [Fin.sum_univ_tiles 4 64 rfl, Finset.sum_eq_single h]
  · refine Finset.sum_congr rfl fun d _ => ?_
    rw [if_pos (by simp; omega)]
  · intro b _ hb
    refine Finset.sum_eq_zero fun d _ => ?_
    rw [if_neg (by simp; omega), mul_zero]
  · intro h'; exact absurd (Finset.mem_univ h) h'

/-- A sum over four heads' 256 tokens that counts one head only. -/
theorem sum_tokens (h : Fin 4) (f : Fin 1024 → EReal) (g : Fin 256 → EReal) :
    ∑ j : Fin 1024, f j * (if h.val = j.val / 256 then g ⟨j.val % 256, by omega⟩ else 0) = ∑ n : Fin 256, f ⟨h.val * 256 + n.val, by omega⟩ * g n := by
  rw [Fin.sum_univ_tiles 4 256 rfl, Finset.sum_eq_single h]
  · refine Finset.sum_congr rfl fun d _ => ?_
    rw [if_pos (by simp; omega)]
    exact congrArg _ (congrArg g (Fin.ext (by simp)))
  · intro b _ hb
    refine Finset.sum_eq_zero fun d _ => ?_
    rw [if_neg (by simp; omega), mul_zero]
  · intro h'; exact absurd (Finset.mem_univ h) h'

end Cert.StepMath
-- ==== Proof.Math.Heads.lean ====
module

public import proofs.«01_k».proof.Proof.Math.Softmax
public import Idealize.ShloMosaic.Lib.Pipeline.ValueKit
public import Idealize.ShloMosaic.Lib.Pipeline.ReadBack
public import Idealize.ShloMosaic.Lib.Pointwise

/-! # Four heads stacked: a block of tokens for each head, and in it that head's 64 columns only -/

@[expose] public section

set_option maxRecDepth 16384

noncomputable section

namespace Cert.StepMath

open Idealize.ShloMosaic Idealize.ShloMosaic.TcCoe

/-- The mask of a head's columns: the kernel compares the number of the column with the head's first and the next head's. -/
theorem lane_mask : ∀ (h : Fin 4) (q : Fin 256),
    IntOp.andi (IntOp.cmpi CmpIPredicate.sge (BitVec.ofNat 32 q.val) (BitVec.ofNat 32 (64 * h.val)))
      (IntOp.cmpi CmpIPredicate.slt (BitVec.ofNat 32 q.val) (BitVec.ofNat 32 (64 * h.val + 64))) = if q.val / 64 = h.val then 1#1 else 0#1 := by
  decide +kernel

/-- What the mask selects. -/
theorem lane_select (h : Fin 4) (q : Fin 256) (x : EReal) :
    Scalar.select (α := EReal) (IntOp.andi (IntOp.cmpi CmpIPredicate.sge (BitVec.ofNat 32 q.val) (BitVec.ofNat 32 (64 * h.val)))
      (IntOp.cmpi CmpIPredicate.slt (BitVec.ofNat 32 q.val) (BitVec.ofNat 32 (64 * h.val + 64)))) x 0 = if q.val / 64 = h.val then x else 0 := by
  rw [lane_mask]
  split <;> rfl

/-- A block of 256 of the stacked rows. -/
theorem block_emb (b : Fin 4) (inb : ∀ a, ![b.val * 256, 0] a + ![256, 256] a ≤ (⟨2, ![1024, 256]⟩ : Shape).size a) (z : (⟨2, ![256, 256]⟩ : Shape).Idx) :
    (Rect.unit (s := ⟨2, ![1024, 256]⟩) ![b.val * 256, 0] ![256, 256] inb).emb z = ix2 ⟨b.val * 256 + (z 0).val, by have := (z 0).isLt; simp at this; omega⟩ (z 1) := by
  funext a; apply Fin.ext; idx_bounds
  match a with
  | ⟨0, _⟩ => show b.val * 256 + 1 * (z 0).val = b.val * 256 + (z 0).val; omega
  | ⟨1, _⟩ => show 0 + 1 * (z 1).val = (z 1).val; omega

/-- Row `j` of the stack is token `j mod 256` of head `j / 256`. -/
def stack (a : Fin 256 → Fin 256 → EReal) (y : (⟨2, ![1024, 256]⟩ : Shape).Idx) : EReal :=
  if (y 1).val / 64 = (y 0).val / 256 then a ⟨(y 0).val % 256, Nat.mod_lt _ (by omega)⟩ (y 1) else 0

/-- The stack on a row of one block. -/
theorem stack_block (a : Fin 256 → Fin 256 → EReal) (b : Fin 4) (n : Fin 256) (q : Fin 256) (hb : b.val * 256 + n.val < 1024) :
    stack a (ix2 ⟨b.val * 256 + n.val, hb⟩ q) = if q.val / 64 = b.val then a n q else 0 := by
  have h1 : (b.val * 256 + n.val) / 256 = b.val := by omega
  have h2 : (b.val * 256 + n.val) % 256 = n.val := by omega
  show (if q.val / 64 = (b.val * 256 + n.val) / 256 then a ⟨(b.val * 256 + n.val) % 256, _⟩ q else 0) = _
  simp only [h1, h2]

/-- A row's product with one row of the stack counts that row's head only. -/
theorem sum_stack_row (a : Fin 256 → Fin 256 → EReal) (h : Fin 4) (n : Fin 256) (hb : h.val * 256 + n.val < 1024) (f : Fin 256 → EReal) :
    ∑ c : Fin 256, f c * stack a (ix2 ⟨h.val * 256 + n.val, hb⟩ c) = ∑ d : Fin 64, f ⟨h.val * 64 + d.val, by omega⟩ * a n ⟨h.val * 64 + d.val, by omega⟩ := by
  simp only [stack_block]
  exact sum_head h f (a n)

/-- A sum over the stack's rows counts the tokens of the column's head only. -/
theorem sum_stack_col (a : Fin 256 → Fin 256 → EReal) (c : Fin 256) (f : Fin 1024 → EReal) :
    ∑ j : Fin 1024, f j * stack a (ix2 j c) = ∑ n : Fin 256, f ⟨c.val / 64 * 256 + n.val, by omega⟩ * a n c :=
  sum_tokens ⟨c.val / 64, by omega⟩ f fun n => a n c

/-- The scratch after its four blocks were stored is the stack of them. -/
theorem stack_read {sig : RefSig} {κ : Kind} {sp : Space} (v : View sig κ sp ⟨2, ![1024, 256]⟩ .bf16) (a : Fin 256 → Fin 256 → EReal)
    (w0 w1 w2 w3 : Vec Ideal ⟨2, ![256, 256]⟩ .bf16)
    (h0 : ∀ n q, w0 (ix2 n q) = if q.val / 64 = 0 then a n q else 0) (h1 : ∀ n q, w1 (ix2 n q) = if q.val / 64 = 1 then a n q else 0)
    (h2 : ∀ n q, w2 (ix2 n q) = if q.val / 64 = 2 then a n q else 0) (h3 : ∀ n q, w3 (ix2 n q) = if q.val / 64 = 3 then a n q else 0)
    (i0 : ∀ d, ![0, 0] d + ![256, 256] d ≤ (⟨2, ![1024, 256]⟩ : Shape).size d) (i1 : ∀ d, ![256, 0] d + ![256, 256] d ≤ (⟨2, ![1024, 256]⟩ : Shape).size d)
    (i2 : ∀ d, ![512, 0] d + ![256, 256] d ≤ (⟨2, ![1024, 256]⟩ : Shape).size d) (i3 : ∀ d, ![768, 0] d + ![256, 256] d ≤ (⟨2, ![1024, 256]⟩ : Shape).size d)
    (i : ∀ d, ![0, 0] d + ![1024, 256] d ≤ (⟨2, ![1024, 256]⟩ : Shape).size d) :
    v.readCov (Val := Elt Ideal) [⟨Rect.unit (s := ⟨2, ![1024, 256]⟩) ![768, 0] ![256, 256] i3, w3⟩, ⟨Rect.unit (s := ⟨2, ![1024, 256]⟩) ![512, 0] ![256, 256] i2, w2⟩, ⟨Rect.unit (s := ⟨2, ![1024, 256]⟩) ![256, 0] ![256, 256] i1, w1⟩,
      ⟨Rect.unit (s := ⟨2, ![1024, 256]⟩) ![0, 0] ![256, 256] i0, w0⟩] (Rect.unit (s := ⟨2, ![1024, 256]⟩) ![0, 0] ![1024, 256] i).toLoadRect = stack a := by
  rw [View.readCov_eq_canon']
  funext y
  have hy : (Rect.unit (s := ⟨2, ![1024, 256]⟩) ![0, 0] ![1024, 256] i).toLoadRect.idx y = y := by
    funext d; apply Fin.ext; idx_bounds
    match d with
    | ⟨0, _⟩ => show 0 + 1 * (y 0).val = (y 0).val; omega
    | ⟨1, _⟩ => show 0 + 1 * (y 1).val = (y 1).val; omega
  show View.canon _ _ = _
  rw [hy]
  refine View.canon_append_of_piecesOf (Val := Elt Ideal) (e := .bf16) (s := ⟨2, ![1024, 256]⟩) (stack a) [] [_, _, _, _] ⟨fun z => ?_, fun z => ?_, fun z => ?_, fun z => ?_, trivial⟩ y ?_
  · rw [show (Rect.unit (s := ⟨2, ![1024, 256]⟩) ![768, 0] ![256, 256] i3).emb z = _ from block_emb 3 i3 z]
    exact (congrArg w3 (by blk_ext [])).trans ((h3 (z 0) (z 1)).trans (stack_block a 3 _ _ _).symm)
  · rw [show (Rect.unit (s := ⟨2, ![1024, 256]⟩) ![512, 0] ![256, 256] i2).emb z = _ from block_emb 2 i2 z]
    exact (congrArg w2 (by blk_ext [])).trans ((h2 (z 0) (z 1)).trans (stack_block a 2 _ _ _).symm)
  · rw [show (Rect.unit (s := ⟨2, ![1024, 256]⟩) ![256, 0] ![256, 256] i1).emb z = _ from block_emb 1 i1 z]
    exact (congrArg w1 (by blk_ext [])).trans ((h1 (z 0) (z 1)).trans (stack_block a 1 _ _ _).symm)
  · rw [show (Rect.unit (s := ⟨2, ![1024, 256]⟩) ![0, 0] ![256, 256] i0).emb z = _ from block_emb 0 i0 z]
    exact (congrArg w0 (by blk_ext [])).trans ((h0 (z 0) (z 1)).trans (stack_block a 0 _ _ _).symm)
  · simp only [List.exists_mem_cons_iff, Rect.mem_set_unit, Fin.forall_fin_succ, Fin.forall_fin_zero]
    idx_bounds
    simp
    omega

/-- A lane's mask, as the kernels spell it. -/
def lane (h : Fin 4) (q : Fin 256) : BitVec 1 :=
  IntOp.andi (IntOp.cmpi CmpIPredicate.sge (BitVec.ofNat 32 q.val) (BitVec.ofNat 32 (64 * h.val))) (IntOp.cmpi CmpIPredicate.slt (BitVec.ofNat 32 q.val) (BitVec.ofNat 32 (64 * h.val + 64)))

/-- The masked sum of the four blocks keeps, in each column, the block of its head. -/
theorem fold_heads (a : (⟨2, ![1024, 256]⟩ : Shape).Idx → EReal) (n q : Fin 256) :
    Scalar.select (α := EReal) (lane 0 q) (a (ix2 ⟨n.val, by omega⟩ q)) 0 + Scalar.select (α := EReal) (lane 1 q) (a (ix2 ⟨256 + n.val, by omega⟩ q)) 0
      + Scalar.select (α := EReal) (lane 2 q) (a (ix2 ⟨512 + n.val, by omega⟩ q)) 0 + Scalar.select (α := EReal) (lane 3 q) (a (ix2 ⟨768 + n.val, by omega⟩ q)) 0
      = a (ix2 ⟨q.val / 64 * 256 + n.val, by omega⟩ q) := by
  simp only [lane, lane_select]
  have hq : q.val / 64 = 0 ∨ q.val / 64 = 1 ∨ q.val / 64 = 2 ∨ q.val / 64 = 3 := by omega
  rcases hq with h | h | h | h <;> simp [h]

end Cert.StepMath
-- ==== Proof.Attn.FwdKernel.lean ====
module

public import proofs.«01_k».proof.Proof.Gen.AttnFwdIdeal.Frame
public import proofs.«01_k».proof.Proof.Math.Heads
public import Idealize.ShloMosaic.Lib.Pipeline.ValueKit
public import Idealize.ShloMosaic.Lib.Pipeline.ReadBack
public import Idealize.ShloMosaic.Lib.Pointwise
public import Idealize.ShloMosaic.Lib.Claim

/-! # The attention's forward kernel: what one grid point computes -/

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)
open Cert.StepMath

variable (m : (ℓ : Loc nD τ sig) → Buf (Elt Ideal) ℓ)

/-- The keys and values of one sequence's memory tokens. -/
theorem kv_at (x : Vec Ideal S1x256x1024 .f32) (g : Vec Ideal S1x1024 .f32) (w : Vec Ideal S1024x512 .bf16) (n : Fin 256) (j : Fin 512) :
    k0_pay3 x g w (ix2 n j) = ∑ k, x (ix3 0 n k) * Ideal.rsqrt (msq fun l => x (ix3 0 n l)) * g (ix2 0 k) * w (ix2 k j) := by
  pointwise [k0_pay3, msq]

/-- The keys are the first half of the columns. -/
theorem k_at (x : Vec Ideal S1x256x1024 .f32) (g : Vec Ideal S1x1024 .f32) (w : Vec Ideal S1024x512 .bf16) (n q : Fin 256) :
    k0_pay4 x g w (ix2 n q) = k0_pay3 x g w (ix2 n ⟨q.val, by omega⟩) := by
  generalize hk : k0_pay3 x g w = a
  pointwise [k0_pay4, hk]

/-- The values are the second half. -/
theorem v_at (x : Vec Ideal S1x256x1024 .f32) (g : Vec Ideal S1x1024 .f32) (w : Vec Ideal S1024x512 .bf16) (n q : Fin 256) :
    k0_pay5 x g w (ix2 n q) = k0_pay3 x g w (ix2 n ⟨256 + q.val, by omega⟩) := by
  generalize hk : k0_pay3 x g w = a
  pointwise [k0_pay5, hk]

/-- The keys of the four heads, stacked. -/
def keys (x : Vec Ideal S1x256x1024 .f32) (g : Vec Ideal S1x1024 .f32) (w : Vec Ideal S1024x512 .bf16) : Vec Ideal S1024x256 .bf16 := stack fun n q => k0_pay3 x g w (ix2 n ⟨q.val, by omega⟩)

/-- The values of the four heads, stacked. -/
def values (x : Vec Ideal S1x256x1024 .f32) (g : Vec Ideal S1x1024 .f32) (w : Vec Ideal S1024x512 .bf16) : Vec Ideal S1024x256 .bf16 := stack fun n q => k0_pay3 x g w (ix2 n ⟨256 + q.val, by omega⟩)

/-- The keys of head 0: the other heads' lanes are zero. -/
theorem key_block0 (x : Vec Ideal S1x256x1024 .f32) (g : Vec Ideal S1x1024 .f32) (w : Vec Ideal S1024x512 .bf16) (n q : Fin 256) :
    k0_pay6 x g w (ix2 n q) = if q.val / 64 = 0 then k0_pay3 x g w (ix2 n ⟨q.val, by omega⟩) else 0 := by
  rw [← k_at x g w n q]
  generalize hk : k0_pay4 x g w = a
  pointwise [k0_pay6, hk]
  exact lane_select 0 q (a (ix2 n q))

/-- The keys of head 1: the other heads' lanes are zero. -/
theorem key_block1 (x : Vec Ideal S1x256x1024 .f32) (g : Vec Ideal S1x1024 .f32) (w : Vec Ideal S1024x512 .bf16) (n q : Fin 256) :
    k0_pay9 (k0_pay4 x g w) k0_pay7 k0_pay8 (ix2 n q) = if q.val / 64 = 1 then k0_pay3 x g w (ix2 n ⟨q.val, by omega⟩) else 0 := by
  rw [← k_at x g w n q]
  generalize hk : k0_pay4 x g w = a
  pointwise [k0_pay9, k0_pay7, k0_pay8]
  exact lane_select 1 q (a (ix2 n q))

/-- The keys of head 2: the other heads' lanes are zero. -/
theorem key_block2 (x : Vec Ideal S1x256x1024 .f32) (g : Vec Ideal S1x1024 .f32) (w : Vec Ideal S1024x512 .bf16) (n q : Fin 256) :
    k0_pay10 (k0_pay4 x g w) (ix2 n q) = if q.val / 64 = 2 then k0_pay3 x g w (ix2 n ⟨q.val, by omega⟩) else 0 := by
  rw [← k_at x g w n q]
  generalize hk : k0_pay4 x g w = a
  pointwise [k0_pay10]
  exact lane_select 2 q (a (ix2 n q))

/-- The keys of head 3: the other heads' lanes are zero. -/
theorem key_block3 (x : Vec Ideal S1x256x1024 .f32) (g : Vec Ideal S1x1024 .f32) (w : Vec Ideal S1024x512 .bf16) (n q : Fin 256) :
    k0_pay11 (k0_pay4 x g w) (ix2 n q) = if q.val / 64 = 3 then k0_pay3 x g w (ix2 n ⟨q.val, by omega⟩) else 0 := by
  rw [← k_at x g w n q]
  generalize hk : k0_pay4 x g w = a
  pointwise [k0_pay11]
  exact lane_select 3 q (a (ix2 n q))

/-- The values of head 0. -/
theorem value_block0 (x : Vec Ideal S1x256x1024 .f32) (g : Vec Ideal S1x1024 .f32) (w : Vec Ideal S1024x512 .bf16) (n q : Fin 256) :
    k0_pay14 (k0_pay5 x g w) k0_pay12 k0_pay13 (ix2 n q) = if q.val / 64 = 0 then k0_pay3 x g w (ix2 n ⟨256 + q.val, by omega⟩) else 0 := by
  rw [← v_at x g w n q]
  generalize hk : k0_pay5 x g w = a
  pointwise [k0_pay14, k0_pay12, k0_pay13]
  exact lane_select 0 q (a (ix2 n q))

/-- The values of head 1. -/
theorem value_block1 (x : Vec Ideal S1x256x1024 .f32) (g : Vec Ideal S1x1024 .f32) (w : Vec Ideal S1024x512 .bf16) (n q : Fin 256) :
    k0_pay15 (k0_pay5 x g w) (ix2 n q) = if q.val / 64 = 1 then k0_pay3 x g w (ix2 n ⟨256 + q.val, by omega⟩) else 0 := by
  rw [← v_at x g w n q]
  generalize hk : k0_pay5 x g w = a
  pointwise [k0_pay15]
  exact lane_select 1 q (a (ix2 n q))

/-- The values of head 2. -/
theorem value_block2 (x : Vec Ideal S1x256x1024 .f32) (g : Vec Ideal S1x1024 .f32) (w : Vec Ideal S1024x512 .bf16) (n q : Fin 256) :
    k0_pay16 (k0_pay5 x g w) (ix2 n q) = if q.val / 64 = 2 then k0_pay3 x g w (ix2 n ⟨256 + q.val, by omega⟩) else 0 := by
  rw [← v_at x g w n q]
  generalize hk : k0_pay5 x g w = a
  pointwise [k0_pay16]
  exact lane_select 2 q (a (ix2 n q))

/-- The values of head 3. -/
theorem value_block3 (x : Vec Ideal S1x256x1024 .f32) (g : Vec Ideal S1x1024 .f32) (w : Vec Ideal S1024x512 .bf16) (n q : Fin 256) :
    k0_pay18 (k0_pay17 (k0_pay5 x g w)) (ix2 n q) = if q.val / 64 = 3 then k0_pay3 x g w (ix2 n ⟨256 + q.val, by omega⟩) else 0 := by
  rw [← v_at x g w n q]
  generalize hk : k0_pay5 x g w = a
  pointwise [k0_pay18, k0_pay17]
  exact lane_select 3 q (a (ix2 n q))

/-- The scratch of the keys once its four blocks are stored. -/
theorem keys_read (x : Vec Ideal S1x256x1024 .f32) (g : Vec Ideal S1x1024 .f32) (w : Vec Ideal S1024x512 .bf16) :
    (View.whole cc0_scratch0).readCov (Val := Elt Ideal)
      [⟨Rect.unit (s := S1024x256) ![768, 0] ![256, 256] inb_S1024x256_S256x256_768_0, k0_pay11 (k0_pay4 x g w)⟩,
        ⟨Rect.unit (s := S1024x256) ![512, 0] ![256, 256] inb_S1024x256_S256x256_512_0, k0_pay10 (k0_pay4 x g w)⟩,
        ⟨Rect.unit (s := S1024x256) ![256, 0] ![256, 256] inb_S1024x256_S256x256_256_0, k0_pay9 (k0_pay4 x g w) k0_pay7 k0_pay8⟩,
        ⟨Rect.unit (s := S1024x256) ![0, 0] ![256, 256] inb_S1024x256_S256x256_0_0, k0_pay6 x g w⟩]
      (Rect.unit (s := S1024x256) ![0, 0] ![1024, 256] inb_S1024x256_S1024x256_0_0).toLoadRect = keys x g w :=
  stack_read _ _ _ _ _ _ (key_block0 x g w) (key_block1 x g w) (key_block2 x g w) (key_block3 x g w) _ _ _ _ _

/-- The scratch of the values once its four blocks are stored. -/
theorem values_read (x : Vec Ideal S1x256x1024 .f32) (g : Vec Ideal S1x1024 .f32) (w : Vec Ideal S1024x512 .bf16) :
    (View.whole cc0_scratch1).readCov (Val := Elt Ideal)
      [⟨Rect.unit (s := S1024x256) ![768, 0] ![256, 256] inb_S1024x256_S256x256_768_0, k0_pay18 (k0_pay17 (k0_pay5 x g w))⟩,
        ⟨Rect.unit (s := S1024x256) ![512, 0] ![256, 256] inb_S1024x256_S256x256_512_0, k0_pay16 (k0_pay5 x g w)⟩,
        ⟨Rect.unit (s := S1024x256) ![256, 0] ![256, 256] inb_S1024x256_S256x256_256_0, k0_pay15 (k0_pay5 x g w)⟩,
        ⟨Rect.unit (s := S1024x256) ![0, 0] ![256, 256] inb_S1024x256_S256x256_0_0, k0_pay14 (k0_pay5 x g w) k0_pay12 k0_pay13⟩]
      (Rect.unit (s := S1024x256) ![0, 0] ![1024, 256] inb_S1024x256_S1024x256_0_0).toLoadRect = values x g w :=
  stack_read _ _ _ _ _ _ (value_block0 x g w) (value_block1 x g w) (value_block2 x g w) (value_block3 x g w) _ _ _ _ _

/-- The scores of all heads of one row. -/
theorem s_at (q : Vec Ideal S2048x256 .bf16) (k : Vec Ideal S1024x256 .bf16) (r : Fin 2048) (j : Fin 1024) :
    k0_pay19 q k (ix2 r j) = (∑ c : Fin 256, q (ix2 r c) * k (ix2 j c)) * Ideal.ofBits .f32 0x3E000000#32 := by
  pointwise [k0_pay19]

theorem head0 (q : Vec Ideal S2048x256 .bf16) (k : Vec Ideal S1024x256 .bf16) (r : Fin 2048) (n : Fin 256) :
    k0_pay20 q k (ix2 r n) = softmax (fun l : Fin 256 => k0_pay19 q k (ix2 r ⟨l.val, by omega⟩)) n := by
  generalize hk : k0_pay19 q k = a
  pointwise [k0_pay20, hk]
  simp only [softmax, ← top_eq]

theorem head1 (q : Vec Ideal S2048x256 .bf16) (k : Vec Ideal S1024x256 .bf16) (r : Fin 2048) (n : Fin 256) :
    k0_pay21 q k (ix2 r n) = softmax (fun l : Fin 256 => k0_pay19 q k (ix2 r ⟨256 + l.val, by omega⟩)) n := by
  generalize hk : k0_pay19 q k = a
  pointwise [k0_pay21, hk]
  simp only [softmax, ← top_eq]

theorem head2 (q : Vec Ideal S2048x256 .bf16) (k : Vec Ideal S1024x256 .bf16) (r : Fin 2048) (n : Fin 256) :
    k0_pay22 q k (ix2 r n) = softmax (fun l : Fin 256 => k0_pay19 q k (ix2 r ⟨512 + l.val, by omega⟩)) n := by
  generalize hk : k0_pay19 q k = a
  pointwise [k0_pay22, hk]
  simp only [softmax, ← top_eq]

/-- The weights of all heads of one row. -/
def weights (q : Vec Ideal S2048x256 .bf16) (k : Vec Ideal S1024x256 .bf16) : FVec Ideal S2048x1024 .bf16 :=
  k0_pay1 (k0_pay20 q k) (k0_pay21 q k) (k0_pay22 q k) (k0_pay23 q k) (k0_pay24 q k)

theorem weights_at (q : Vec Ideal S2048x256 .bf16) (k : Vec Ideal S1024x256 .bf16) (r : Fin 2048) (h : Fin 4) (n : Fin 256) :
    weights q k (ix2 r ⟨h.val * 256 + n.val, by omega⟩) = softmax (fun l : Fin 256 => k0_pay19 q k (ix2 r ⟨h.val * 256 + l.val, by omega⟩)) n := by
  unfold weights
  have e0 := head0 q k r n
  have e1 := head1 q k r n
  have e2 := head2 q k r n
  generalize k0_pay20 q k = p0 at *
  generalize k0_pay21 q k = p1 at *
  generalize k0_pay22 q k = p2 at *
  fin_cases h
  · pointwise [k0_pay1]
    exact e0
  · pointwise [k0_pay1]
    exact e1
  · pointwise [k0_pay1]
    rw [dif_neg (by omega), dif_neg (by omega), dif_pos (by omega)]
    exact (congrArg (fun l => p2 (ix2 r l)) (Fin.ext (by show 512 + n.val - 256 - 256 = n.val; omega))).trans e2
  · clear e0 e1 e2
    generalize hk : k0_pay19 q k = a
    pointwise [k0_pay1, k0_pay24, k0_pay23, hk]
    rw [dif_neg (by omega), dif_neg (by omega), dif_neg (by omega)]
    have e : 768 + n.val - 256 - 256 - 256 = n.val := by omega
    simp only [softmax, ← top_eq, e]

/-- The attention's output from the weights and the stacked values. -/
theorem o_at (q : Vec Ideal S2048x256 .bf16) (k v : Vec Ideal S1024x256 .bf16) (r : Fin 2048) (c : Fin 256) :
    k0_pay2 (k0_pay20 q k) (k0_pay21 q k) (k0_pay22 q k) (k0_pay23 q k) (k0_pay24 q k) v (ix2 r c) = ∑ j : Fin 1024, weights q k (ix2 r j) * v (ix2 j c) := by
  generalize hk : weights q k = a
  unfold weights at hk
  pointwise [k0_pay2, hk]

/-- The weights that one grid point stores. -/
theorem after_p (c : Dev nD) (t : Fin cfg0.N) :
    (outsAt0 m c t).2 = weights (iblk m c 0 t) (keys (iblk m c 1 t) (iblk m c 2 t) (iblk m c 3 t)) := by
  funext y
  unfold outsAt0
  frame_out
  rw [keys_read]
  rfl

/-- The output that one grid point stores. -/
theorem after_o (c : Dev nD) (t : Fin cfg0.N) (r : Fin 2048) (q : Fin 256) :
    (outsAt0 m c t).1 (ix2 r q) = ∑ j : Fin 1024, weights (iblk m c 0 t) (keys (iblk m c 1 t) (iblk m c 2 t) (iblk m c 3 t)) (ix2 r j) *
      values (iblk m c 1 t) (iblk m c 2 t) (iblk m c 3 t) (ix2 j q) := by
  rw [← o_at]
  unfold outsAt0
  frame_out
  rw [keys_read, values_read]

end Cert.AttnFwdIdeal.Hand
-- ==== Proof.Attn.FwdBlocks.lean ====
module

public import proofs.«01_k».proof.Proof.Attn.FwdKernel
public import proofs.«01_k».proof.Proof.Gen.AttnFwdIdeal.Value

/-! # The attention's forward kernel: what a grid point reads, and its results in the arguments -/

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)
open Cert.StepMath

variable (m : (ℓ : Loc nD τ sig) → Buf (Elt Ideal) ℓ)

abbrev A0 (c : Dev nD) : Vec Ideal S4x2048x2048 .f32 := m (c, Proc.tc.devRef main_arg0)
abbrev A1 (c : Dev nD) : Vec Ideal S4x256x1024 .f32 := m (c, Proc.tc.devRef main_arg1)
abbrev A2 (c : Dev nD) : Vec Ideal S1x1024 .f32 := m (c, Proc.tc.devRef main_arg2)
abbrev A3 (c : Dev nD) : Vec Ideal S1x1024x512 .f32 := m (c, Proc.tc.devRef main_arg3)

/-- The sequence of a grid point. -/
def seqOf (t : Fin cfg0.N) : Fin 4 := ⟨t.val, lt_of_lt_of_eq t.isLt N_0⟩

/-- The windows' blocks at a grid point. -/
theorem idx : ∀ t : Fin cfg0.N, win0_0.index t = ![t.val, 3] ∧ win0_1.index t = ![t.val, 0, 0] ∧ win0_2.index t = ![0, 0] ∧ win0_3.index t = ![0, 0] ∧
    win0_4.index t = ![t.val, 0] ∧ win0_5.index t = ![t.val, 0] := by
  decide +kernel

theorem q_block (c : Dev nD) (t : Fin cfg0.N) (r : Fin 2048) (k : Fin 256) : iblk m c 0 t (ix2 r k) = A0 m c (ix3 (seqOf t) r ⟨768 + k.val, by omega⟩) := by
  blk_point [iblk, V, idx t, seqOf]

theorem mem_block (c : Dev nD) (t : Fin cfg0.N) (n : Fin 256) (k : Fin 1024) : iblk m c 1 t (ix3 0 n k) = A1 m c (ix3 (seqOf t) n k) := by
  blk_point [iblk, V, idx t, seqOf]

theorem g_block (c : Dev nD) (t : Fin cfg0.N) (k : Fin 1024) : iblk m c 2 t (ix2 0 k) = A2 m c (ix2 0 k) := by
  blk_point [iblk, V, idx t]

theorem w_block (c : Dev nD) (t : Fin cfg0.N) (k : Fin 1024) (j : Fin 512) : iblk m c 3 t (ix2 k j) = A3 m c (ix3 0 k j) := by
  blk_point [iblk, V, idx t]

/-- The keys and values of a sequence's memory, in the arguments. -/
def kv (c : Dev nD) (a : Fin 4) (n : Fin 256) (j : Fin 512) : EReal :=
  ∑ k, A1 m c (ix3 a n k) * Ideal.rsqrt (msq fun l => A1 m c (ix3 a n l)) * A2 m c (ix2 0 k) * A3 m c (ix3 0 k j)

theorem kv_block (c : Dev nD) (t : Fin cfg0.N) (n : Fin 256) (j : Fin 512) : k0_pay3 (iblk m c 1 t) (iblk m c 2 t) (iblk m c 3 t) (ix2 n j) = kv m c (seqOf t) n j := by
  rw [kv_at]
  simp only [mem_block m, g_block m, w_block m, kv]

/-- A head's scores of one query, in the arguments. -/
def score (c : Dev nD) (a h : Fin 4) (r : Fin 2048) (n : Fin 256) : EReal :=
  (∑ d : Fin 64, A0 m c (ix3 a r ⟨768 + (h.val * 64 + d.val), by omega⟩) * kv m c a n ⟨h.val * 64 + d.val, by omega⟩) * Ideal.ofBits .f32 0x3E000000#32

theorem p_point (c : Dev nD) (t : Fin cfg0.N) (r : Fin 2048) (h : Fin 4) (n : Fin 256) :
    weights (iblk m c 0 t) (keys (iblk m c 1 t) (iblk m c 2 t) (iblk m c 3 t)) (ix2 r ⟨h.val * 256 + n.val, by omega⟩) = softmax (score m c (seqOf t) h r) n := by
  rw [weights_at]
  refine congrArg (fun s => softmax s n) (funext fun l => ?_)
  rw [s_at, keys, sum_stack_row]
  simp only [q_block m, kv_block m, score]

theorem o_point (c : Dev nD) (t : Fin cfg0.N) (r : Fin 2048) (q : Fin 256) :
    (outsAt0 m c t).1 (ix2 r q) = ∑ n : Fin 256, softmax (score m c (seqOf t) ⟨q.val / 64, by omega⟩ r) n * kv m c (seqOf t) n ⟨256 + q.val, by omega⟩ := by
  rw [after_o, values, sum_stack_col]
  refine Finset.sum_congr rfl fun n _ => congrArg₂ (· * ·) (p_point m c t r ⟨q.val / 64, by omega⟩ n) (kv_block m c t n _)

end Cert.AttnFwdIdeal.Hand
-- ==== Proof.Attn.FwdRef.lean ====
module

public import proofs.«01_k».proof.Proof.Gen.AttnFwdRefIdeal.Read
public import proofs.«01_k».proof.Proof.Math.Softmax
public import Idealize.ShloMosaic.Lib.Pointwise
public import Idealize.ShloMosaic.Lib.IdealHost

/-! # The attention into memory as the reference writes it, entry by entry -/

@[expose] public section

set_option maxRecDepth 16384

noncomputable section

namespace Cert.AttnFwdRefIdeal.Hand

open Cert.AttnFwdRefIdeal Cert.AttnFwdRefIdeal.Read Idealize.ShloMosaic
open Cert.StepMath

variable (x0 : Vec Ideal S4x2048x2048 .f32) (x1 : Vec Ideal S4x256x1024 .f32) (x2 : Vec Ideal S1x1024 .f32) (x3 : Vec Ideal S1x1024x512 .f32)

theorem kv_at (a : Fin 4) (n : Fin 256) (j : Fin 512) : val_main_v16 (F := Ideal) x1 x2 x3 (ix3 a n j) =
    ∑ k, x1 (ix3 a n k) * Ideal.rsqrt (msq fun l => x1 (ix3 a n l)) * x2 (ix2 0 k) * x3 (ix3 0 k j) := by
  pointwise [val_main_v16, val_main_v15, val_main_v14, val_main_v13, val_main_v12, val_main_v11, val_main_v10, val_main_v9, val_main_v8, val_main_v7, val_main_v6, val_main_v5, val_main_v4, val_main_v3, val_main_v2, val_main_v1, val_main_cst, val_main_cst_0, val_main_cst_1, msq]

theorem score_at (a h : Fin 4) (r : Fin 2048) (n : Fin 256) : val_main_v24 (F := Ideal) x0 x1 x2 x3 (ix4 a h r n) =
    (∑ d : Fin 64, x0 (ix3 a r ⟨768 + (h.val * 64 + d.val), by omega⟩) * val_main_v16 (F := Ideal) x1 x2 x3 (ix3 a n ⟨h.val * 64 + d.val, by omega⟩)) * Ideal.ofBits .f32 0x3E000000#32 := by
  pointwise [val_main_v24, val_main_v23, val_main_v22, val_main_v21, val_main_v18, val_main_v17, val_main_v0, val_main_cst_2]

/-- A row's greatest score, over any scores. -/
theorem rowmax_at (s : FVec Ideal S4x4x2048x256 .f32) (a h : Fin 4) (r : Fin 2048) :
    Host.reduce (FloatOps.maximumf (F := Ideal) (φ := .f32)) s (val_main_cst_3 (F := Ideal)) Gen.reducesTo_S4x4x2048x256_S4x4x2048_d3 Gen.h_S_ (ix3 a h r) =
      Finset.fold max (Ideal.ofBits .f32 4286578688#32) (fun n => s (ix4 a h r n)) Finset.univ := by
  have e : val_main_cst_3 (F := Ideal) (Shape.Idx.first Gen.h_S_) = Ideal.ofBits .f32 4286578688#32 := by unfold val_main_cst_3; rfl
  refine (hostReduceMax_last s (val_main_cst_3 (F := Ideal)) Gen.reducesTo_S4x4x2048x256_S4x4x2048_d3 Gen.h_S_ a h r).trans ?_
  rw [e]

theorem top_at (a h : Fin 4) (r : Fin 2048) : val_main_v27 (F := Ideal) x0 x1 x2 x3 (ix3 a h r) = top fun n => val_main_v24 (F := Ideal) x0 x1 x2 x3 (ix4 a h r n) := by
  rw [val_main_v27_apply, val_main_v25, rowmax_at, top]
  refine congrArg₂ max ?_ rfl
  unfold val_main_v26 val_main_cst_4
  pointwise []

theorem e_at (a h : Fin 4) (r : Fin 2048) (n : Fin 256) : val_main_v31 (F := Ideal) x0 x1 x2 x3 (ix4 a h r n) =
    Ideal.exp (val_main_v24 (F := Ideal) x0 x1 x2 x3 (ix4 a h r n) - top fun n => val_main_v24 (F := Ideal) x0 x1 x2 x3 (ix4 a h r n)) := by
  rw [← top_at]
  unfold val_main_v31 val_main_v30 val_main_v29 val_main_v28
  generalize val_main_v24 (F := Ideal) x0 x1 x2 x3 = s
  generalize val_main_v27 (F := Ideal) x0 x1 x2 x3 = u
  pointwise []

theorem p_at (a h : Fin 4) (r : Fin 2048) (n : Fin 256) : val_main_v35 (F := Ideal) x0 x1 x2 x3 (ix4 a h r n) =
    softmax (fun n => val_main_v24 (F := Ideal) x0 x1 x2 x3 (ix4 a h r n)) n := by
  have e : val_main_v35 (F := Ideal) x0 x1 x2 x3 (ix4 a h r n) = Ideal.div (val_main_v31 (F := Ideal) x0 x1 x2 x3 (ix4 a h r n))
      (∑ k, val_main_v31 (F := Ideal) x0 x1 x2 x3 (ix4 a h r k)) := by
    unfold val_main_v35 val_main_v34 val_main_v33 val_main_v32
    generalize val_main_v31 (F := Ideal) x0 x1 x2 x3 = s
    pointwise [val_main_cst_5]
  rw [e]
  simp only [e_at, softmax]

theorem o_at (c : Fin 256) (g : Fin 8192) : val_main_v40 (F := Ideal) x0 x1 x2 x3 (ix2 g c) =
    ∑ n : Fin 256, val_main_v16 (F := Ideal) x1 x2 x3 (ix3 ⟨g.val / 2048, by omega⟩ n ⟨256 + c.val, by omega⟩) *
      val_main_v35 (F := Ideal) x0 x1 x2 x3 (ix4 ⟨g.val / 2048, by omega⟩ ⟨c.val / 64, by omega⟩ ⟨g.val % 2048, by omega⟩ n) := by
  pointwise [val_main_v40, val_main_v39, val_main_v38, val_main_v37, val_main_v36, val_main_v20, val_main_v19]

theorem pp_at (g : Fin 8192) (j : Fin 1024) : val_main_v43 (F := Ideal) x0 x1 x2 x3 (ix2 g j) =
      val_main_v35 (F := Ideal) x0 x1 x2 x3 (ix4 ⟨g.val / 2048, by omega⟩ ⟨j.val / 256, by omega⟩ ⟨g.val % 2048, by omega⟩ ⟨j.val % 256, by omega⟩) := by
  pointwise [val_main_v43, val_main_v42, val_main_v41]

end Cert.AttnFwdRefIdeal.Hand
-- ==== Proof.Attn.FwdValue.lean ====
module

public import proofs.«01_k».proof.Proof.Attn.FwdBlocks
public import proofs.«01_k».proof.Proof.Attn.FwdRef

/-! # The attention's forward kernel: its results are the reference's -/

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)
open Cert.StepMath
open Cert.AttnFwdRefIdeal.Read

variable (m : (ℓ : Loc nD τ sig) → Buf (Elt Ideal) ℓ)

theorem kv_ref (c : Dev nD) (a : Fin 4) (n : Fin 256) (j : Fin 512) : val_main_v16 (F := Ideal) (A1 m c) (A2 m c) (A3 m c) (ix3 a n j) = kv m c a n j :=
  Cert.AttnFwdRefIdeal.Hand.kv_at ..

theorem score_ref (c : Dev nD) (a h : Fin 4) (r : Fin 2048) (n : Fin 256) :
    val_main_v24 (F := Ideal) (A0 m c) (A1 m c) (A2 m c) (A3 m c) (ix4 a h r n) = score m c a h r n := by
  rw [Cert.AttnFwdRefIdeal.Hand.score_at]
  simp only [kv_ref m, score]

theorem p_ref (c : Dev nD) (a h : Fin 4) (r : Fin 2048) (n : Fin 256) :
    val_main_v35 (F := Ideal) (A0 m c) (A1 m c) (A2 m c) (A3 m c) (ix4 a h r n) = softmax (score m c a h r) n := by
  rw [Cert.AttnFwdRefIdeal.Hand.p_at]
  exact congrArg (fun s => softmax s n) (funext fun l => score_ref m c a h r l)

theorem o_ref (c : Dev nD) (t : Fin cfg0.N) (r : Fin 2048) (q : Fin 256) (g : Fin 8192) (hg : g.val = t.val * 2048 + r.val) :
    val_main_v40 (F := Ideal) (A0 m c) (A1 m c) (A2 m c) (A3 m c) (ix2 g q) = (outsAt0 m c t).1 (ix2 r q) := by
  have ht : t.val < 4 := lt_of_lt_of_eq t.isLt N_0
  have e1 : (⟨g.val / 2048, by omega⟩ : Fin 4) = seqOf t := Fin.ext (by show g.val / 2048 = t.val; omega)
  have e2 : (⟨g.val % 2048, by omega⟩ : Fin 2048) = r := Fin.ext (by show g.val % 2048 = r.val; omega)
  rw [o_point, Cert.AttnFwdRefIdeal.Hand.o_at]
  refine Finset.sum_congr rfl fun n _ => ?_
  rw [e1, e2, kv_ref m, p_ref m c (seqOf t) _ r, mul_comm]

/-- The attention's output. -/
theorem final4 (c : Dev nD) : (dats m 0 c).arrAt 4 cfg0.N = val_main_v40 (F := Ideal) (A0 m c) (A1 m c) (A2 m c) (A3 m c) := by
  refine (dats m 0 c).arrAt_eq_of_covers 4 _ (by decide +kernel) fun t _ y => ?_
  blk_simp
  rw [after0_4]
  obtain ⟨r, q, rfl⟩ : ∃ (r : Fin 2048) (q : Fin 256), y = ix2 r q := ⟨y 0, y 1, by blk_ext []⟩
  have ht : t.val < 4 := lt_of_lt_of_eq t.isLt N_0
  rw [show ((View.whole main_v4_0).slice (win0_4.rect t)).emb (ix2 r q) = ix2 (⟨t.val * 2048 + r.val, by omega⟩ : Fin 8192) q from by blk_ext [idx t]]
  exact (o_ref m c t r q _ rfl).symm

/-- The attention's weights. -/
theorem final5 (c : Dev nD) : (dats m 0 c).arrAt 5 cfg0.N = val_main_v43 (F := Ideal) (A0 m c) (A1 m c) (A2 m c) (A3 m c) := by
  refine (dats m 0 c).arrAt_eq_of_covers 5 _ (by decide +kernel) fun t _ y => ?_
  blk_simp
  rw [after0_5, after_p]
  obtain ⟨r, j, rfl⟩ : ∃ (r : Fin 2048) (j : Fin 1024), y = ix2 r j := ⟨y 0, y 1, by blk_ext []⟩
  have ht : t.val < 4 := lt_of_lt_of_eq t.isLt N_0
  rw [show ((View.whole main_v4_1).slice (win0_5.rect t)).emb (ix2 r j) = ix2 (⟨t.val * 2048 + r.val, by omega⟩ : Fin 8192) j from by blk_ext [idx t]]
  rw [Cert.AttnFwdRefIdeal.Hand.pp_at, p_ref]
  have e1 : (⟨(t.val * 2048 + r.val) / 2048, by omega⟩ : Fin 4) = seqOf t := Fin.ext (by show (t.val * 2048 + r.val) / 2048 = t.val; omega)
  have e2 : (⟨(t.val * 2048 + r.val) % 2048, by omega⟩ : Fin 2048) = r := Fin.ext (by show (t.val * 2048 + r.val) % 2048 = r.val; omega)
  rw [e1, e2, ← p_point]
  exact congrArg (fun l => weights _ _ (ix2 r l)) (Fin.ext (by show j.val = j.val / 256 * 256 + j.val % 256; omega))

end Cert.AttnFwdIdeal.Hand
-- ==== Proof.Attn.FwdClaims.lean ====
module

public import proofs.«01_k».proof.Defs
public import proofs.«01_k».proof.Proof.Gen.AttnFwd
public import proofs.«01_k».proof.Proof.Gen.AttnFwd.Frame
public import proofs.«01_k».proof.Proof.Gen.AttnFwdRefIdeal.Run
public import proofs.«01_k».proof.Proof.Attn.FwdValue

/-! # The claims about the attention's forward call -/

@[expose] public section

set_option maxRecDepth 16384

noncomputable section

namespace Cert.AttnFwdClaims

open Idealize.ShloMosaic Idealize.ShloMosaic.TcCoe Idealize.SL.Sem
open Cert.StepMath

attribute [local instance] Cert.AttnFwd.Gen.facts Cert.AttnFwdIdeal.Gen.facts Cert.AttnFwdRefIdeal.Gen.facts

theorem frame_ref : Cert.quiescent_AttnFwdRefIdeal := by
  intro m g _
  exact (θ_run Cert.AttnFwdRefIdeal.defs _ _).mono (fun r h => ⟨fun c => (h c).2.2, sem_eq_zero_of_no_sems (by decide) r.2⟩)
    (Cert.AttnFwdRefIdeal.Value.run m g)

section
variable (m : (ℓ : Loc Cert.AttnFwdIdeal.nD Cert.AttnFwdIdeal.τ Cert.AttnFwdIdeal.sig) → Buf (Elt Ideal) ℓ)
  (m' : (ℓ : Loc Cert.AttnFwdRefIdeal.nD Cert.AttnFwdRefIdeal.τ Cert.AttnFwdRefIdeal.sig) → Buf (Elt Ideal) ℓ) (c : Dev Cert.AttnFwdIdeal.nD)
open Cert.AttnFwdIdeal.Hand Cert.AttnFwdRefIdeal.Read

/-- The two programs were given the same arrays. -/
def Agree : Prop := m' ((c.tc : Thread Cert.AttnFwdRefIdeal.nD Cert.AttnFwdRefIdeal.τ).loc Cert.AttnFwdRefIdeal.main_arg0) = A0 m c
    ∧ m' ((c.tc : Thread Cert.AttnFwdRefIdeal.nD Cert.AttnFwdRefIdeal.τ).loc Cert.AttnFwdRefIdeal.main_arg1) = A1 m c
    ∧ m' ((c.tc : Thread Cert.AttnFwdRefIdeal.nD Cert.AttnFwdRefIdeal.τ).loc Cert.AttnFwdRefIdeal.main_arg2) = A2 m c
    ∧ m' ((c.tc : Thread Cert.AttnFwdRefIdeal.nD Cert.AttnFwdRefIdeal.τ).loc Cert.AttnFwdRefIdeal.main_arg3) = A3 m c

/-- What the kernel's run leaves: its two results, and its arguments unchanged. -/
theorem kernel_run (g : Dev Cert.AttnFwdIdeal.nD → PrngReg) :
    θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
      r.2.mem ((c.tc : Thread Cert.AttnFwdIdeal.nD Cert.AttnFwdIdeal.τ).loc Cert.AttnFwdIdeal.main_v4_0) = (Cert.AttnFwdIdeal.Gen.dats m 0 c).arrAt 4 Cert.AttnFwdIdeal.cfg0.N
      ∧ r.2.mem ((c.tc : Thread Cert.AttnFwdIdeal.nD Cert.AttnFwdIdeal.τ).loc Cert.AttnFwdIdeal.main_v4_1) = (Cert.AttnFwdIdeal.Gen.dats m 0 c).arrAt 5 Cert.AttnFwdIdeal.cfg0.N
      ∧ r.2.mem ((c.tc : Thread Cert.AttnFwdIdeal.nD Cert.AttnFwdIdeal.τ).loc Cert.AttnFwdIdeal.main_arg0) = A0 m c
      ∧ r.2.mem ((c.tc : Thread Cert.AttnFwdIdeal.nD Cert.AttnFwdIdeal.τ).loc Cert.AttnFwdIdeal.main_arg1) = A1 m c
      ∧ r.2.mem ((c.tc : Thread Cert.AttnFwdIdeal.nD Cert.AttnFwdIdeal.τ).loc Cert.AttnFwdIdeal.main_arg2) = A2 m c
      ∧ r.2.mem ((c.tc : Thread Cert.AttnFwdIdeal.nD Cert.AttnFwdIdeal.τ).loc Cert.AttnFwdIdeal.main_arg3) = A3 m c) := by
  run_from Cert.AttnFwdIdeal.Gen.run_main m g

theorem algebraic : Cert.algebraic_AttnFwdIdeal_AttnFwdRefIdeal := by
  intro m g m' g' _ hagree
  refine ⟨_, _, kernel_run m g, (θ_run _ _ _).mono (fun r h c => ?_) (Cert.AttnFwdRefIdeal.Value.run m' g')⟩
  have ha : Agree m m' c := hagree c
  refine ⟨(h c).1.trans ?_, (h c).2.1.trans ?_, (h c).2.2⟩
  all_goals obtain ⟨e0, e1, e2, e3⟩ := ha
  · refine (val_main_v40_eq m' c).trans (Eq.trans ?_ (final4 m c).symm)
    rw [e0, e1, e2, e3]
  · refine (val_main_v43_eq m' c).trans (Eq.trans ?_ (final5 m c).symm)
    rw [e0, e1, e2, e3]

end

end Cert.AttnFwdClaims
-- ==== Proof.Attn.BwdKernel.lean ====
module

public import proofs.«01_k».proof.Proof.Gen.AttnBwdIdeal.Frame
public import proofs.«01_k».proof.Proof.Attn.FwdKernel

/-! # The attention's backward kernel: what one grid point computes -/

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.StepMath

variable (m : (ℓ : Loc nD τ sig) → Buf (Elt Ideal) ℓ)

/-- The scratch of the keys: the text of the forward kernel. -/
theorem keys_read (x : Vec Ideal S1x256x1024 .f32) (g : Vec Ideal S1x1024 .f32) (w : Vec Ideal S1024x512 .bf16) :
    (View.whole cc0_scratch0).readCov (Val := Elt Ideal)
      [⟨Rect.unit (s := S1024x256) ![768, 0] ![256, 256] inb_S1024x256_S256x256_768_0, k0_pay11 (k0_pay4 x g w)⟩,
        ⟨Rect.unit (s := S1024x256) ![512, 0] ![256, 256] inb_S1024x256_S256x256_512_0, k0_pay10 (k0_pay4 x g w)⟩,
        ⟨Rect.unit (s := S1024x256) ![256, 0] ![256, 256] inb_S1024x256_S256x256_256_0, k0_pay9 (k0_pay4 x g w) k0_pay7 k0_pay8⟩,
        ⟨Rect.unit (s := S1024x256) ![0, 0] ![256, 256] inb_S1024x256_S256x256_0_0, k0_pay6 x g w⟩]
      (Rect.unit (s := S1024x256) ![0, 0] ![1024, 256] inb_S1024x256_S1024x256_0_0).toLoadRect = AttnFwdIdeal.Hand.keys x g w :=
  stack_read _ _ _ _ _ _ (AttnFwdIdeal.Hand.key_block0 x g w) (AttnFwdIdeal.Hand.key_block1 x g w) (AttnFwdIdeal.Hand.key_block2 x g w) (AttnFwdIdeal.Hand.key_block3 x g w) _ _ _ _ _

/-- The scratch of the values. -/
theorem values_read (x : Vec Ideal S1x256x1024 .f32) (g : Vec Ideal S1x1024 .f32) (w : Vec Ideal S1024x512 .bf16) :
    (View.whole cc0_scratch1).readCov (Val := Elt Ideal)
      [⟨Rect.unit (s := S1024x256) ![768, 0] ![256, 256] inb_S1024x256_S256x256_768_0, k0_pay29 (k0_pay17 (k0_pay5 x g w))⟩,
        ⟨Rect.unit (s := S1024x256) ![512, 0] ![256, 256] inb_S1024x256_S256x256_512_0, k0_pay16 (k0_pay5 x g w)⟩,
        ⟨Rect.unit (s := S1024x256) ![256, 0] ![256, 256] inb_S1024x256_S256x256_256_0, k0_pay15 (k0_pay5 x g w)⟩,
        ⟨Rect.unit (s := S1024x256) ![0, 0] ![256, 256] inb_S1024x256_S256x256_0_0, k0_pay14 (k0_pay5 x g w) k0_pay12 k0_pay13⟩]
      (Rect.unit (s := S1024x256) ![0, 0] ![1024, 256] inb_S1024x256_S1024x256_0_0).toLoadRect = AttnFwdIdeal.Hand.values x g w :=
  stack_read _ _ _ _ _ _ (AttnFwdIdeal.Hand.value_block0 x g w) (AttnFwdIdeal.Hand.value_block1 x g w) (AttnFwdIdeal.Hand.value_block2 x g w) (AttnFwdIdeal.Hand.value_block3 x g w) _ _ _ _ _

/-- One row's derivative of the scores of one head. -/
def score_grad (p dp : Fin 256 → EReal) (n : Fin 256) : EReal :=
  p n * (dp n - ∑ l, dp l * p l) * Ideal.ofBits .f32 0x3E000000#32

/-- The derivatives of all heads' weights. -/
theorem dp_at (dO : Vec Ideal S2048x256 .bf16) (v : Vec Ideal S1024x256 .bf16) (r : Fin 2048) (j : Fin 1024) :
    k0_pay37 dO v (ix2 r j) = ∑ c : Fin 256, dO (ix2 r c) * v (ix2 j c) := by
  pointwise [k0_pay37, k0_pay34]

theorem p_at (p : Vec Ideal S2048x1024 .bf16) (r : Fin 2048) (j : Fin 1024) : k0_pay36 p (ix2 r j) = p (ix2 r j) := by
  pointwise [k0_pay36, k0_pay35]

/-- The derivatives of all heads' scores. -/
def ds (dO : Vec Ideal S2048x256 .bf16) (p : Vec Ideal S2048x1024 .bf16) (v : Vec Ideal S1024x256 .bf16) : FVec Ideal S2048x1024 .bf16 :=
  k0_pay42 (k0_pay36 p) (k0_pay37 dO v) (k0_pay38 dO p v) (k0_pay39 p) (k0_pay40 dO v) (k0_pay41 dO p v)

theorem ds_at (dO : Vec Ideal S2048x256 .bf16) (p : Vec Ideal S2048x1024 .bf16) (v : Vec Ideal S1024x256 .bf16) (r : Fin 2048) (h : Fin 4) (n : Fin 256) :
    ds dO p v (ix2 r ⟨h.val * 256 + n.val, by omega⟩)
      = score_grad (fun l => p (ix2 r ⟨h.val * 256 + l.val, by omega⟩)) (fun l => k0_pay37 dO v (ix2 r ⟨h.val * 256 + l.val, by omega⟩)) n := by
  simp only [← p_at p]
  unfold ds score_grad
  generalize hp : k0_pay36 p = a
  generalize hd : k0_pay37 dO v = b
  fin_cases h
  · pointwise [k0_pay42, k0_pay38, hp, hd]
  · pointwise [k0_pay42, k0_pay39, k0_pay40, k0_pay41, hp, hd]
  · generalize k0_pay38 dO p v = z0
    generalize k0_pay39 p = z1
    generalize k0_pay40 dO v = z2
    generalize k0_pay41 dO p v = z3
    pointwise [k0_pay42]
    rw [dif_neg (by omega), dif_neg (by omega), dif_pos (by omega)]
    have e : 512 + n.val - 256 - 256 = n.val := by omega
    simp only [e]
  · generalize k0_pay38 dO p v = z0
    generalize k0_pay39 p = z1
    generalize k0_pay40 dO v = z2
    generalize k0_pay41 dO p v = z3
    pointwise [k0_pay42]
    rw [dif_neg (by omega), dif_neg (by omega), dif_neg (by omega)]
    have e : 768 + n.val - 256 - 256 - 256 = n.val := by omega
    simp only [e]

/-- The queries' derivatives. -/
theorem dq_at (k : Vec Ideal S1024x256 .bf16) (dO : Vec Ideal S2048x256 .bf16) (p : Vec Ideal S2048x1024 .bf16) (v : Vec Ideal S1024x256 .bf16) (r : Fin 2048) (c : Fin 256) :
    k0_pay43 k (k0_pay36 p) (k0_pay37 dO v) (k0_pay38 dO p v) (k0_pay39 p) (k0_pay40 dO v) (k0_pay41 dO p v) (ix2 r c) = ∑ j : Fin 1024, ds dO p v (ix2 r j) * k (ix2 j c) := by
  generalize hk : ds dO p v = a
  unfold ds at hk
  pointwise [k0_pay43, hk]

/-- The stacked keys' derivatives. -/
def dk (q dO : Vec Ideal S2048x256 .bf16) (p : Vec Ideal S2048x1024 .bf16) (v : Vec Ideal S1024x256 .bf16) : FVec Ideal S1024x256 .f32 :=
  k0_pay44 (k0_pay33 q) (k0_pay36 p) (k0_pay37 dO v) (k0_pay38 dO p v) (k0_pay39 p) (k0_pay40 dO v) (k0_pay41 dO p v) (k0_pay31 (F := Ideal))

theorem dk_at (q dO : Vec Ideal S2048x256 .bf16) (p : Vec Ideal S2048x1024 .bf16) (v : Vec Ideal S1024x256 .bf16) (j : Fin 1024) (c : Fin 256) :
    dk q dO p v (ix2 j c) = ∑ r : Fin 2048, ds dO p v (ix2 r j) * q (ix2 r c) := by
  unfold dk
  generalize hk : ds dO p v = a
  unfold ds at hk
  pointwise [k0_pay44, k0_pay33, k0_pay31, hk]

/-- The stacked values' derivatives. -/
def dv (dO : Vec Ideal S2048x256 .bf16) (p : Vec Ideal S2048x1024 .bf16) : FVec Ideal S1024x256 .f32 :=
  k0_pay1 (k0_pay32 (F := Ideal)) (k0_pay45 (k0_pay34 dO) (k0_pay35 p))

theorem dv_at (dO : Vec Ideal S2048x256 .bf16) (p : Vec Ideal S2048x1024 .bf16) (j : Fin 1024) (c : Fin 256) :
    dv dO p (ix2 j c) = ∑ r : Fin 2048, p (ix2 r j) * dO (ix2 r c) := by
  unfold dv
  pointwise [k0_pay1, k0_pay32, k0_pay45, k0_pay34, k0_pay35]

/-- The keys' and values' derivatives, the stacked blocks folded together. -/
def dkv (a b : FVec Ideal S1024x256 .f32) : FVec Ideal S256x512 .bf16 :=
  k0_pay24 (F := Ideal) (k0_pay21 (k0_pay18 a) k0_pay19 (k0_pay20 a) (FloatOps.ofBits .f32 0#32)) b (k0_pay22 b) (iota .tc S1x256 32 [1] iota_S1x256_d1_w32) k0_pay23 256#32

theorem dkv_left (a b : FVec Ideal S1024x256 .f32) (n q : Fin 256) :
    dkv a b (ix2 n ⟨q.val, by omega⟩) = a (ix2 ⟨q.val / 64 * 256 + n.val, by omega⟩ q) := by
  unfold dkv
  generalize hb : k0_pay22 (F := Ideal) b = b'
  pointwise [k0_pay24, k0_pay21, k0_pay18, k0_pay19, k0_pay20]
  exact fold_heads a n q

theorem dkv_right (a b : FVec Ideal S1024x256 .f32) (n q : Fin 256) :
    dkv a b (ix2 n ⟨256 + q.val, by omega⟩) = b (ix2 ⟨q.val / 64 * 256 + n.val, by omega⟩ q) := by
  unfold dkv
  generalize ha : k0_pay21 (F := Ideal) (k0_pay18 a) k0_pay19 (k0_pay20 a) (FloatOps.ofBits .f32 0#32) = a'
  pointwise [k0_pay24, k0_pay22, k0_pay23]
  exact fold_heads b n q

/-- The normed memory. -/
theorem nm_at (x : Vec Ideal S1x256x1024 .f32) (g : Vec Ideal S1x1024 .f32) (n : Fin 256) (k : Fin 1024) :
    k0_pay30 (k0_pay2 x g) (ix2 n k) = x (ix3 0 n k) * Ideal.rsqrt (msq fun l => x (ix3 0 n l)) * g (ix2 0 k) := by
  pointwise [k0_pay30, k0_pay2, msq]

/-- What a grid point adds to the derivative of the weights, -/
def w_term (d : FVec Ideal S256x512 .bf16) (x : Vec Ideal S256x1024 .bf16) (k : Fin 1024) (j : Fin 512) : EReal := ∑ n : Fin 256, x (ix2 n k) * d (ix2 n j)

/-- and to the derivative of the gain. -/
def g_term (d : FVec Ideal S256x512 .bf16) (x : Vec Ideal S1x256x1024 .f32) (w : Vec Ideal S1024x512 .bf16) (k : Fin 1024) : EReal :=
  ∑ n : Fin 256, (∑ j : Fin 512, d (ix2 n j) * w (ix2 k j)) * (x (ix3 0 n k) * Ideal.rsqrt (msq fun l => x (ix3 0 n l)))

theorem dw_at (a b : FVec Ideal S1024x256 .f32) (o : Vec Ideal S1024x512 .f32) (x : Vec Ideal S256x1024 .bf16) (k : Fin 1024) (j : Fin 512) :
    k0_pay25 (F := Ideal) (k0_pay21 (k0_pay18 a) k0_pay19 (k0_pay20 a) (FloatOps.ofBits .f32 0#32)) b (k0_pay22 b) (iota .tc S1x256 32 [1] iota_S1x256_d1_w32) k0_pay23 256#32 o x (ix2 k j)
      = o (ix2 k j) + w_term (dkv a b) x k j := by
  unfold w_term dkv
  generalize k0_pay21 (F := Ideal) (k0_pay18 a) k0_pay19 (k0_pay20 a) (FloatOps.ofBits .f32 0#32) = u
  generalize hk : k0_pay24 (F := Ideal) u b (k0_pay22 b) (iota .tc S1x256 32 [1] iota_S1x256_d1_w32) k0_pay23 256#32 = z
  pointwise [k0_pay25, hk]

theorem dg_at (a b : FVec Ideal S1024x256 .f32) (x : Vec Ideal S1x256x1024 .f32) (o : Vec Ideal S1x1024 .f32) (w : Vec Ideal S1024x512 .bf16) (k : Fin 1024) :
    k0_pay26 (F := Ideal) (k0_pay21 (k0_pay18 a) k0_pay19 (k0_pay20 a) (FloatOps.ofBits .f32 0#32)) b (k0_pay22 b) (iota .tc S1x256 32 [1] iota_S1x256_d1_w32) k0_pay23 256#32 x o w (ix2 0 k)
      = o (ix2 0 k) + g_term (dkv a b) x w k := by
  unfold g_term dkv
  generalize k0_pay21 (F := Ideal) (k0_pay18 a) k0_pay19 (k0_pay20 a) (FloatOps.ofBits .f32 0#32) = u
  generalize hk : k0_pay24 (F := Ideal) u b (k0_pay22 b) (iota .tc S1x256 32 [1] iota_S1x256_d1_w32) k0_pay23 256#32 = z
  pointwise [k0_pay26, msq, hk]

/-- The queries' derivatives a grid point stores. -/
theorem after_dq (c : Dev nD) (t : Fin cfg0.N) (r : Fin 2048) (q : Fin 256) : (outsAt0 m c t.val t.isLt).1 (ix2 r q) =
    ∑ j : Fin 1024, ds (iblk m c 1 t) (iblk m c 2 t) (AttnFwdIdeal.Hand.values (iblk m c 3 t) (iblk m c 4 t) (iblk m c 5 t)) (ix2 r j) *
      AttnFwdIdeal.Hand.keys (iblk m c 3 t) (iblk m c 4 t) (iblk m c 5 t) (ix2 j q) := by
  by_cases h : t.val % 4 = 0
  · rw [outsAt0_A m c t h]; frame_out
    rw [keys_read, values_read]
    exact dq_at ..
  · rw [outsAt0_B m c t h]; frame_out
    rw [keys_read, values_read]
    exact dq_at ..

/-- The keys' and values' derivatives of a grid point's sequence. -/
def dkvAt (c : Dev nD) (t : Fin cfg0.N) : FVec Ideal S256x512 .bf16 :=
  dkv (dk (iblk m c 0 t) (iblk m c 1 t) (iblk m c 2 t) (AttnFwdIdeal.Hand.values (iblk m c 3 t) (iblk m c 4 t) (iblk m c 5 t))) (dv (iblk m c 1 t) (iblk m c 2 t))

/-- The first grid point starts the derivative of the weights from zero; -/
theorem first_dw (c : Dev nD) (t : Fin cfg0.N) (h : t.val % 4 = 0) (k : Fin 1024) (j : Fin 512) : (outsAt0 m c t.val t.isLt).2.1 (ix2 k j) =
    0 + w_term (dkvAt m c t) (k0_pay30 (k0_pay2 (iblk m c 3 t) (iblk m c 4 t))) k j := by
  rw [outsAt0_A m c t h]; frame_out
  rw [values_read, ← dk, ← dv, dw_at]
  refine congrArg (· + _) ?_
  pointwise [k0_pay27]

/-- the others add to what the one before left. -/
theorem next_dw (c : Dev nD) (t : Fin cfg0.N) (h : ¬ t.val % 4 = 0) (k : Fin 1024) (j : Fin 512) : (outsAt0 m c t.val t.isLt).2.1 (ix2 k j) =
    (outsAt0 m c (t.val - 1) (by omega)).2.1 (ix2 k j) + w_term (dkvAt m c t) (k0_pay30 (k0_pay2 (iblk m c 3 t) (iblk m c 4 t))) k j := by
  rw [outsAt0_B m c t h]; frame_out
  rw [values_read, ← dk, ← dv, dw_at]
  rfl

theorem first_dg (c : Dev nD) (t : Fin cfg0.N) (h : t.val % 4 = 0) (k : Fin 1024) : (outsAt0 m c t.val t.isLt).2.2 (ix2 0 k) =
    0 + g_term (dkvAt m c t) (iblk m c 3 t) (iblk m c 5 t) k := by
  rw [outsAt0_A m c t h]; frame_out
  rw [values_read, ← dk, ← dv, dg_at]
  refine congrArg (· + _) ?_
  pointwise [k0_pay28]

theorem next_dg (c : Dev nD) (t : Fin cfg0.N) (h : ¬ t.val % 4 = 0) (k : Fin 1024) : (outsAt0 m c t.val t.isLt).2.2 (ix2 0 k) =
    (outsAt0 m c (t.val - 1) (by omega)).2.2 (ix2 0 k) +
      g_term (dkvAt m c t) (iblk m c 3 t) (iblk m c 5 t) k := by
  rw [outsAt0_B m c t h]; frame_out
  rw [values_read, ← dk, ← dv, dg_at]
  rfl

end Cert.AttnBwdIdeal.Hand
-- ==== Proof.Math.SoftmaxGrad.lean ====
module

public import proofs.«01_k».proof.Proof.Math.Real
public import proofs.«01_k».proof.Proof.Math.Softmax

/-! # The derivative of a softmax, over the reals -/

@[expose] public section

noncomputable section

namespace Cert.StepMath

open Idealize.ShloMosaic

/-- The scale of the scores is a real. -/
theorem word_eighth : IsReal (Ideal.ofBits .f32 0x3E000000#32) :=
  ⟨1 / 8, by simp [Ideal.ofBits, Ideal.ieee, -EReal.coe_mul]; norm_num⟩

/-- The norm's factor of a row of reals is a real. -/
theorem rms_real (x : Fin 1024 → EReal) (h : ∀ k, IsReal (x k)) : IsReal (Ideal.rsqrt (msq x)) := by
  choose r hr using h
  obtain ⟨v, hv, e⟩ := msq_real r
  rw [show x = fun k => (r k : EReal) from funext hr, e, Ideal.rsqrt_coe]
  rw [if_neg (not_lt.mpr hv.le), if_neg hv.ne']
  exact ⟨_, rfl⟩

/-- The greatest of real scores is one of them. -/
theorem top_real (s : Fin 256 → EReal) (h : ∀ i, IsReal (s i)) : IsReal (top s) := by
  rw [← top_eq, show Ideal.ofBits .f32 4286578688#32 = ⊥ by simp [Ideal.ofBits, Ideal.ieee]]
  obtain ⟨i, _, hi⟩ := Finset.exists_mem_eq_sup Finset.univ ⟨(0 : Fin 256), Finset.mem_univ _⟩ s
  rw [show Finset.fold max ⊥ s Finset.univ = Finset.univ.sup s from rfl, hi]
  exact h i

/-- The shifted exponentials of real scores are positive reals. -/
theorem exp_top (s : Fin 256 → EReal) (h : ∀ i, IsReal (s i)) : ∃ e : Fin 256 → ℝ, (∀ i, 0 < e i) ∧ ∀ i, Ideal.exp (s i - top s) = (e i : EReal) := by
  obtain ⟨M, hM⟩ := top_real s h
  choose r hr using h
  exact ⟨fun i => Real.exp (r i - M), fun i => Real.exp_pos _, fun i => by rw [hM, hr, ← EReal.coe_sub, Ideal.exp_coe]⟩

theorem softmax_real (s : Fin 256 → EReal) (h : ∀ i, IsReal (s i)) (n : Fin 256) : IsReal (softmax s n) := by
  obtain ⟨e, he, hs⟩ := exp_top s h
  have hZ : 0 < ∑ i, e i := Finset.sum_pos (fun i _ => he i) ⟨0, Finset.mem_univ _⟩
  unfold softmax
  simp only [hs, coe_sum]
  rw [Ideal.div_coe hZ.ne', ← EReal.coe_mul]
  exact ⟨_, rfl⟩

/-- Differentiating the quotient of the exponentials term by term gives the usual derivative of a softmax. -/
theorem softmax_grad (s d : Fin 256 → EReal) (h : ∀ i, IsReal (s i)) (hd : ∀ i, IsReal (d i)) (n : Fin 256) :
    (Ideal.div (d n) (∑ k, Ideal.exp (s k - top s)) +
      -(∑ l, d l * Ideal.div 1 ((∑ k, Ideal.exp (s k - top s)) * ∑ k, Ideal.exp (s k - top s)) * Ideal.exp (s l - top s))) * Ideal.exp (s n - top s) =
      softmax s n * (d n - ∑ l, d l * softmax s l) := by
  obtain ⟨e, he, hs⟩ := exp_top s h
  choose x hx using hd
  have hZ : 0 < ∑ i, e i := Finset.sum_pos (fun i _ => he i) ⟨0, Finset.mem_univ _⟩
  unfold softmax
  simp only [hs, hx, coe_sum]
  generalize hz : ∑ i, e i = Z at *
  rw [← EReal.coe_mul, ← EReal.coe_one]
  simp only [Ideal.div_coe hZ.ne', Ideal.div_coe (mul_pos hZ hZ).ne', ← EReal.coe_mul, ← EReal.coe_neg, ← EReal.coe_add, ← EReal.coe_sub, coe_sum]
  congr 1
  have e1 : ∀ l, x l * (1 * (1 / (Z * Z))) * e l = x l * (e l * (1 / Z)) * (1 / Z) := fun l => by field_simp
  simp only [e1, ← Finset.sum_mul]
  field_simp
  ring

end Cert.StepMath
-- ==== Proof.Attn.BwdRef.lean ====
module

public import proofs.«01_k».proof.Proof.Gen.AttnBwdRefIdeal.Read
public import proofs.«01_k».proof.Proof.Attn.FwdRef
public import proofs.«01_k».proof.Proof.Math.SoftmaxGrad

/-! # The attention's reference derivative, entry by entry -/

@[expose] public section

set_option maxRecDepth 16384

noncomputable section

namespace Cert.AttnBwdRefIdeal.Hand

open Cert.AttnBwdRefIdeal Cert.AttnBwdRefIdeal.Read Idealize.ShloMosaic Idealize.SL.Sem
open Cert.StepMath

variable (x0 : Vec Ideal S4x2048x2048 .f32) (x1 : Vec Ideal S4x256x1024 .f32) (x2 : Vec Ideal S1x1024 .f32) (x3 : Vec Ideal S1x1024x512 .f32) (x4 : Vec Ideal S4x2048x1024 .f32)

/-- The keys and values are the forward call's. -/
theorem kv_same : val_main_v16 (F := Ideal) x1 x2 x3 = AttnFwdRefIdeal.Read.val_main_v16 (F := Ideal) x1 x2 x3 := rfl

theorem score_same : val_main_v24 (F := Ideal) x0 x1 x2 x3 = AttnFwdRefIdeal.Read.val_main_v24 (F := Ideal) x0 x1 x2 x3 := rfl

/-- So are the exponentials and the weights. -/
theorem e_same : val_main_v45 (F := Ideal) x0 x1 x2 x3 = AttnFwdRefIdeal.Read.val_main_v31 (F := Ideal) x0 x1 x2 x3 := rfl

theorem p_same : val_main_v49 (F := Ideal) x0 x1 x2 x3 = AttnFwdRefIdeal.Read.val_main_v35 (F := Ideal) x0 x1 x2 x3 := rfl

/-- The derivatives of the weights. -/
theorem dp_at (a h : Fin 4) (r : Fin 2048) (n : Fin 256) : val_main_v59 (F := Ideal) x1 x2 x3 x4 (ix4 a h r n) =
    ∑ d : Fin 64, x4 (ix3 a r ⟨768 + (h.val * 64 + d.val), by omega⟩) * val_main_v16 (F := Ideal) x1 x2 x3 (ix3 a n ⟨256 + (h.val * 64 + d.val), by omega⟩) := by
  generalize hk : val_main_v16 (F := Ideal) x1 x2 x3 = y
  pointwise [val_main_v59, val_main_v58, val_main_v57, val_main_v56, val_main_v20, val_main_v19, hk]

/-- The derivatives of the scores, as the derivative's rules write them. -/
theorem ds_raw (a h : Fin 4) (r : Fin 2048) (n : Fin 256) : val_main_v75 (F := Ideal) x0 x1 x2 x3 x4 (ix4 a h r n) =
    (Ideal.div (val_main_v59 (F := Ideal) x1 x2 x3 x4 (ix4 a h r n)) (∑ k, val_main_v45 (F := Ideal) x0 x1 x2 x3 (ix4 a h r k)) +
      -(∑ l, val_main_v59 (F := Ideal) x1 x2 x3 x4 (ix4 a h r l) * Ideal.div 1 ((∑ k, val_main_v45 (F := Ideal) x0 x1 x2 x3 (ix4 a h r k)) * ∑ k, val_main_v45 (F := Ideal) x0 x1 x2 x3 (ix4 a h r k))
        * val_main_v45 (F := Ideal) x0 x1 x2 x3 (ix4 a h r l))) * val_main_v45 (F := Ideal) x0 x1 x2 x3 (ix4 a h r n) * Ideal.ofBits .f32 0x3E000000#32 := by
  unfold val_main_v75 val_main_v74 val_main_v73 val_main_v72 val_main_v71 val_main_v70 val_main_v69 val_main_v68 val_main_v67 val_main_v66 val_main_v65 val_main_v64 val_main_v63 val_main_v62 val_main_v52 val_main_v51 val_main_v50 val_main_v47 val_main_v46
  generalize val_main_v59 (F := Ideal) x1 x2 x3 x4 = d
  generalize val_main_v45 (F := Ideal) x0 x1 x2 x3 = e
  pointwise [val_main_cst_11, val_main_cst_12, val_main_cst_13, val_main_cst_14, val_main_cst_15]
  simp only [Fin.sum_univ_one]

/-- The queries' derivatives. -/
theorem dq_at (g : Fin 8192) (c : Fin 256) : val_main_v96 (F := Ideal) x0 x1 x2 x3 x4 (ix2 g c) =
    ∑ n : Fin 256, val_main_v75 (F := Ideal) x0 x1 x2 x3 x4 (ix4 ⟨g.val / 2048, by omega⟩ ⟨c.val / 64, by omega⟩ ⟨g.val % 2048, by omega⟩ n) *
      val_main_v16 (F := Ideal) x1 x2 x3 (ix3 ⟨g.val / 2048, by omega⟩ n ⟨c.val, by omega⟩) := by
  generalize hk : val_main_v16 (F := Ideal) x1 x2 x3 = y
  generalize hs : val_main_v75 (F := Ideal) x0 x1 x2 x3 x4 = z
  pointwise [val_main_v96, val_main_v95, val_main_v80, val_main_v79, val_main_v78, val_main_v18, val_main_v17, hk, hs]

/-- The keys' derivatives. -/
theorem dk_at (a : Fin 4) (n q : Fin 256) : val_main_v83 (F := Ideal) x0 x1 x2 x3 x4 (ix3 a n q) =
    ∑ r : Fin 2048, val_main_v75 (F := Ideal) x0 x1 x2 x3 x4 (ix4 a ⟨q.val / 64, by omega⟩ r n) * x0 (ix3 a r ⟨768 + q.val, by omega⟩) := by
  generalize hs : val_main_v75 (F := Ideal) x0 x1 x2 x3 x4 = z
  pointwise [val_main_v83, val_main_v77, val_main_v76, val_main_v21, val_main_v0, hs]

/-- The values' derivatives. -/
theorem dv_at (a : Fin 4) (n q : Fin 256) : val_main_v81 (F := Ideal) x0 x1 x2 x3 x4 (ix3 a n q) =
    ∑ r : Fin 2048, x4 (ix3 a r ⟨768 + q.val, by omega⟩) * val_main_v49 (F := Ideal) x0 x1 x2 x3 (ix4 a ⟨q.val / 64, by omega⟩ r n) := by
  generalize hs : val_main_v49 (F := Ideal) x0 x1 x2 x3 = z
  pointwise [val_main_v81, val_main_v61, val_main_v60, val_main_v58, val_main_v57, val_main_v56, hs]

/-- Both, side by side. -/
theorem dkv_left (a : Fin 4) (n q : Fin 256) : val_main_v85 (F := Ideal) x0 x1 x2 x3 x4 (ix3 a n ⟨q.val, by omega⟩) = val_main_v83 (F := Ideal) x0 x1 x2 x3 x4 (ix3 a n q) := by
  unfold val_main_v85 val_main_v82 val_main_v84
  generalize val_main_v83 (F := Ideal) x0 x1 x2 x3 x4 = y
  generalize val_main_v81 (F := Ideal) x0 x1 x2 x3 x4 = z
  pointwise [val_main_cst_16, val_main_cst_17]
  rw [dif_neg (by simp), zero_add]

theorem dkv_right (a : Fin 4) (n q : Fin 256) : val_main_v85 (F := Ideal) x0 x1 x2 x3 x4 (ix3 a n ⟨256 + q.val, by omega⟩) = val_main_v81 (F := Ideal) x0 x1 x2 x3 x4 (ix3 a n q) := by
  unfold val_main_v85 val_main_v82 val_main_v84
  generalize val_main_v83 (F := Ideal) x0 x1 x2 x3 x4 = y
  generalize val_main_v81 (F := Ideal) x0 x1 x2 x3 x4 = z
  pointwise [val_main_cst_16, val_main_cst_17]

/-- The derivative of the keys' and values' weights. -/
theorem dw_at (k : Fin 1024) (j : Fin 512) : val_main_v97 (F := Ideal) x0 x1 x2 x3 x4 (ix2 k j) =
    ∑ a : Fin 4, ∑ n : Fin 256, val_main_v85 (F := Ideal) x0 x1 x2 x3 x4 (ix3 a n j) * (x1 (ix3 a n k) * Ideal.rsqrt (msq fun l => x1 (ix3 a n l)) * x2 (ix2 0 k)) := by
  generalize hs : val_main_v85 (F := Ideal) x0 x1 x2 x3 x4 = z
  pointwise [val_main_v97, val_main_v93, val_main_v87, val_main_v86, val_main_v15, val_main_v14, val_main_v13, val_main_v12, val_main_v11, val_main_v10, val_main_v9, val_main_v8, val_main_v7, val_main_v6, val_main_v5, val_main_v4, val_main_v3, val_main_v1, val_main_cst, val_main_cst_0, val_main_cst_1, msq, hs]

/-- The derivative of the memory's gain. -/
theorem dg_at (k : Fin 1024) : val_main_v94 (F := Ideal) x0 x1 x2 x3 x4 (ix2 0 k) =
    ∑ a : Fin 4, ∑ n : Fin 256, x1 (ix3 a n k) * Ideal.rsqrt (msq fun l => x1 (ix3 a n l)) * ∑ j : Fin 512, val_main_v85 (F := Ideal) x0 x1 x2 x3 x4 (ix3 a n j) * x3 (ix3 0 k j) := by
  generalize hs : val_main_v85 (F := Ideal) x0 x1 x2 x3 x4 = z
  pointwise [hostReduceAdd_lead2, val_main_v94, val_main_v92, val_main_v91, val_main_v90, val_main_v89, val_main_v88, val_main_v12, val_main_v11, val_main_v10, val_main_v9, val_main_v8, val_main_v7, val_main_v6, val_main_v5, val_main_v4, val_main_v3, val_main_v2, val_main_cst, val_main_cst_0, val_main_cst_1, val_main_cst_18, val_main_cst_19, msq, hs]
  simp only [Fin.sum_univ_one]

section Reals

variable (h0 : ∀ i, IsReal (x0 i)) (h1 : ∀ i, IsReal (x1 i)) (h2 : ∀ i, IsReal (x2 i)) (h3 : ∀ i, IsReal (x3 i)) (h4 : ∀ i, IsReal (x4 i))

include h1 h2 h3 in
/-- Real arguments have real keys and values. -/
theorem kv_real (a : Fin 4) (n : Fin 256) (j : Fin 512) : IsReal (val_main_v16 (F := Ideal) x1 x2 x3 (ix3 a n j)) := by
  rw [kv_same, AttnFwdRefIdeal.Hand.kv_at]
  refine IsReal.sum _ fun k => (((h1 _).mul (rms_real _ fun l => h1 _)).mul (h2 _)).mul (h3 _)

include h0 h1 h2 h3 in
theorem score_real (a h : Fin 4) (r : Fin 2048) (n : Fin 256) : IsReal (val_main_v24 (F := Ideal) x0 x1 x2 x3 (ix4 a h r n)) := by
  rw [score_same, AttnFwdRefIdeal.Hand.score_at, ← kv_same]
  exact (IsReal.sum _ fun d => (h0 _).mul (kv_real x1 x2 x3 h1 h2 h3 ..)).mul word_eighth

include h1 h2 h3 h4 in
theorem dp_real (a h : Fin 4) (r : Fin 2048) (n : Fin 256) : IsReal (val_main_v59 (F := Ideal) x1 x2 x3 x4 (ix4 a h r n)) := by
  rw [dp_at]
  exact IsReal.sum _ fun d => (h4 _).mul (kv_real x1 x2 x3 h1 h2 h3 ..)

include h0 h1 h2 h3 h4 in
/-- The derivatives of the scores, from the weights. -/
theorem ds_at (a h : Fin 4) (r : Fin 2048) (n : Fin 256) : val_main_v75 (F := Ideal) x0 x1 x2 x3 x4 (ix4 a h r n) =
    val_main_v49 (F := Ideal) x0 x1 x2 x3 (ix4 a h r n) * (val_main_v59 (F := Ideal) x1 x2 x3 x4 (ix4 a h r n) -
      ∑ l, val_main_v59 (F := Ideal) x1 x2 x3 x4 (ix4 a h r l) * val_main_v49 (F := Ideal) x0 x1 x2 x3 (ix4 a h r l)) * Ideal.ofBits .f32 0x3E000000#32 := by
  rw [ds_raw]
  simp only [p_same, e_same, AttnFwdRefIdeal.Hand.e_at, AttnFwdRefIdeal.Hand.p_at, ← score_same]
  exact congrArg (· * _) (softmax_grad _ (fun n => val_main_v59 (F := Ideal) x1 x2 x3 x4 (ix4 a h r n)) (score_real x0 x1 x2 x3 h0 h1 h2 h3 a h r) (dp_real x1 x2 x3 x4 h1 h2 h3 h4 a h r) n)

end Reals

end Cert.AttnBwdRefIdeal.Hand
-- ==== Proof.Attn.BwdBlocks.lean ====
module

public import proofs.«01_k».proof.Proof.Attn.BwdKernel
public import proofs.«01_k».proof.Proof.Attn.BwdRef
public import Idealize.ShloMosaic.Lib.StableHlo.RunRead
public import Idealize.ShloMosaic.Lib.StableHlo.ReadAt

/-! # The attention's backward kernel: its blocks, in the arguments -/

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.StepMath

variable (m : (ℓ : Loc nD τ sig) → Buf (Elt Ideal) ℓ)

abbrev A0 (c : Dev nD) : Vec Ideal S4x2048x2048 .f32 := m (c, Proc.tc.devRef main_arg0)
abbrev A1 (c : Dev nD) : Vec Ideal S4x256x1024 .f32 := m (c, Proc.tc.devRef main_arg1)
abbrev A2 (c : Dev nD) : Vec Ideal S1x1024 .f32 := m (c, Proc.tc.devRef main_arg2)
abbrev A3 (c : Dev nD) : Vec Ideal S1x1024x512 .f32 := m (c, Proc.tc.devRef main_arg3)
abbrev A4 (c : Dev nD) : Vec Ideal S4x2048x1024 .f32 := m (c, Proc.tc.devRef main_arg4)

/-- The sequence of a grid point. -/
def seqOf (t : Fin cfg0.N) : Fin 4 := ⟨t.val, lt_of_lt_of_eq t.isLt N_0⟩

/-- The windows' blocks at a grid point. -/
theorem idx : ∀ t : Fin cfg0.N, win0_0.index t = ![t.val, 3] ∧ win0_1.index t = ![t.val, 3] ∧ win0_2.index t = ![t.val, 0] ∧ win0_3.index t = ![t.val, 0, 0] ∧
    win0_4.index t = ![0, 0] ∧ win0_5.index t = ![0, 0] ∧ win0_6.index t = ![t.val, 0] ∧ win0_7.index t = ![0, 0] ∧ win0_8.index t = ![0, 0] := by
  decide +kernel

/-- The projection's array, as the host prepares it. -/
theorem q_host (c : Dev nD) (g : Fin 8192) (k : Fin 2048) : V m c main_v40 (ix2 g k) = A0 m c (ix3 (⟨g.val / 2048, by omega⟩ : Fin 4) (⟨g.val % 2048, by omega⟩ : Fin 2048) k) := by
  unfold V
  after_reads_at

/-- The output's derivative. -/
theorem dy_host (c : Dev nD) (g : Fin 8192) (k : Fin 1024) : V m c main_v42 (ix2 g k) = A4 m c (ix3 (⟨g.val / 2048, by omega⟩ : Fin 4) (⟨g.val % 2048, by omega⟩ : Fin 2048) k) := by
  unfold V
  after_reads_at

/-- The saved weights, as the host prepares them. -/
theorem p_host (c : Dev nD) : V m c main_v38 = AttnFwdRefIdeal.Read.val_main_v43 (F := Ideal) (A0 m c) (A1 m c) (A2 m c) (A3 m c) := by
  unfold V
  after_reads_simp
  rfl

theorem q_block (c : Dev nD) (t : Fin cfg0.N) (r : Fin 2048) (k : Fin 256) : iblk m c 0 t (ix2 r k) = A0 m c (ix3 (seqOf t) r ⟨768 + k.val, by omega⟩) := by
  have ht : t.val < 4 := lt_of_lt_of_eq t.isLt N_0
  have e : iblk m c 0 t (ix2 r k) = V m c main_v40 (ix2 (⟨t.val * 2048 + r.val, by omega⟩ : Fin 8192) (⟨768 + k.val, by omega⟩ : Fin 2048)) := by
    blk_point [iblk, idx t]
  rw [e, q_host]
  exact congrArg₂ (fun a b => A0 m c (ix3 a b _)) (Fin.ext (by show (t.val * 2048 + r.val) / 2048 = t.val; omega)) (Fin.ext (by show (t.val * 2048 + r.val) % 2048 = r.val; omega))

theorem dy_block (c : Dev nD) (t : Fin cfg0.N) (r : Fin 2048) (k : Fin 256) : iblk m c 1 t (ix2 r k) = A4 m c (ix3 (seqOf t) r ⟨768 + k.val, by omega⟩) := by
  have ht : t.val < 4 := lt_of_lt_of_eq t.isLt N_0
  have e : iblk m c 1 t (ix2 r k) = V m c main_v42 (ix2 (⟨t.val * 2048 + r.val, by omega⟩ : Fin 8192) (⟨768 + k.val, by omega⟩ : Fin 1024)) := by
    blk_point [iblk, idx t]
  rw [e, dy_host]
  exact congrArg₂ (fun a b => A4 m c (ix3 a b _)) (Fin.ext (by show (t.val * 2048 + r.val) / 2048 = t.val; omega)) (Fin.ext (by show (t.val * 2048 + r.val) % 2048 = r.val; omega))

/-- The saved weights of a head, in the reference's order. -/
theorem p_block (c : Dev nD) (t : Fin cfg0.N) (r : Fin 2048) (h : Fin 4) (n : Fin 256) :
    iblk m c 2 t (ix2 r ⟨h.val * 256 + n.val, by omega⟩) = AttnBwdRefIdeal.Read.val_main_v49 (F := Ideal) (A0 m c) (A1 m c) (A2 m c) (A3 m c) (ix4 (seqOf t) h r n) := by
  have ht : t.val < 4 := lt_of_lt_of_eq t.isLt N_0
  have e : iblk m c 2 t (ix2 r ⟨h.val * 256 + n.val, by omega⟩) = V m c main_v38 (ix2 (⟨t.val * 2048 + r.val, by omega⟩ : Fin 8192) (⟨h.val * 256 + n.val, by omega⟩ : Fin 1024)) := by
    blk_point [iblk, idx t]
  rw [e, p_host, AttnFwdRefIdeal.Hand.pp_at, AttnBwdRefIdeal.Hand.p_same]
  refine congrArg _ ?_
  blk_ext [seqOf]

theorem mem_block (c : Dev nD) (t : Fin cfg0.N) (n : Fin 256) (k : Fin 1024) : iblk m c 3 t (ix3 0 n k) = A1 m c (ix3 (seqOf t) n k) := by
  have e : iblk m c 3 t (ix3 0 n k) = V m c main_arg1 (ix3 (seqOf t) n k) := by
    blk_point [iblk, idx t, seqOf]
  rw [e, V_main_arg1]

theorem g_block (c : Dev nD) (t : Fin cfg0.N) (k : Fin 1024) : iblk m c 4 t (ix2 0 k) = A2 m c (ix2 0 k) := by
  have e : iblk m c 4 t (ix2 0 k) = V m c main_arg2 (ix2 0 k) := by
    blk_point [iblk, idx t]
  rw [e, V_main_arg2]

theorem w_block (c : Dev nD) (t : Fin cfg0.N) (k : Fin 1024) (j : Fin 512) : iblk m c 5 t (ix2 k j) = A3 m c (ix3 0 k j) := by
  have e : iblk m c 5 t (ix2 k j) = V m c main_v44 (ix2 k j) := by
    blk_point [iblk, idx t]
  rw [e]
  unfold V
  after_reads_at

open Cert.AttnBwdRefIdeal.Read

theorem kv_block (c : Dev nD) (t : Fin cfg0.N) (n : Fin 256) (j : Fin 512) :
    AttnFwdIdeal.Gen.k0_pay3 (iblk m c 3 t) (iblk m c 4 t) (iblk m c 5 t) (ix2 n j) = val_main_v16 (F := Ideal) (A1 m c) (A2 m c) (A3 m c) (ix3 (seqOf t) n j) := by
  rw [AttnFwdIdeal.Hand.kv_at, AttnBwdRefIdeal.Hand.kv_same, AttnFwdRefIdeal.Hand.kv_at]
  simp only [mem_block m, g_block m, w_block m]

/-- The derivatives of a head's weights are the reference's. -/
theorem dp_point (c : Dev nD) (t : Fin cfg0.N) (r : Fin 2048) (h : Fin 4) (n : Fin 256) :
    k0_pay37 (iblk m c 1 t) (AttnFwdIdeal.Hand.values (iblk m c 3 t) (iblk m c 4 t) (iblk m c 5 t)) (ix2 r ⟨h.val * 256 + n.val, by omega⟩) =
      val_main_v59 (F := Ideal) (A1 m c) (A2 m c) (A3 m c) (A4 m c) (ix4 (seqOf t) h r n) := by
  rw [dp_at, AttnFwdIdeal.Hand.values, sum_stack_row, AttnBwdRefIdeal.Hand.dp_at]
  simp only [dy_block m, kv_block m]

/-- A column belongs to the keys or to the values. -/
theorem halves (j : Fin 512) : (∃ q : Fin 256, j = ⟨q.val, by omega⟩) ∨ ∃ q : Fin 256, j = ⟨256 + q.val, by omega⟩ := by
  by_cases hj : j.val < 256
  · exact .inl ⟨⟨j.val, hj⟩, rfl⟩
  · exact .inr ⟨⟨j.val - 256, by omega⟩, Fin.ext (by show j.val = 256 + (j.val - 256); omega)⟩

section Reals

variable (c : Dev nD) (h0 : ∀ i, IsReal (A0 m c i)) (h1 : ∀ i, IsReal (A1 m c i)) (h2 : ∀ i, IsReal (A2 m c i)) (h3 : ∀ i, IsReal (A3 m c i)) (h4 : ∀ i, IsReal (A4 m c i))

include h0 h1 h2 h3 h4

/-- So are the derivatives of its scores, at real arguments. -/
theorem ds_point (t : Fin cfg0.N) (r : Fin 2048) (h : Fin 4) (n : Fin 256) :
    ds (iblk m c 1 t) (iblk m c 2 t) (AttnFwdIdeal.Hand.values (iblk m c 3 t) (iblk m c 4 t) (iblk m c 5 t)) (ix2 r ⟨h.val * 256 + n.val, by omega⟩) =
      val_main_v75 (F := Ideal) (A0 m c) (A1 m c) (A2 m c) (A3 m c) (A4 m c) (ix4 (seqOf t) h r n) := by
  rw [ds_at, score_grad, AttnBwdRefIdeal.Hand.ds_at _ _ _ _ _ h0 h1 h2 h3 h4]
  simp only [p_block m, dp_point m]

/-- The queries' derivatives. -/
theorem dq_point (t : Fin cfg0.N) (r : Fin 2048) (q : Fin 256) (g : Fin 8192) (hg : g.val = t.val * 2048 + r.val) :
    (outsAt0 m c t.val t.isLt).1 (ix2 r q) = val_main_v96 (F := Ideal) (A0 m c) (A1 m c) (A2 m c) (A3 m c) (A4 m c) (ix2 g q) := by
  have ht : t.val < 4 := lt_of_lt_of_eq t.isLt N_0
  have e1 : (⟨g.val / 2048, by omega⟩ : Fin 4) = seqOf t := Fin.ext (by show g.val / 2048 = t.val; omega)
  have e2 : (⟨g.val % 2048, by omega⟩ : Fin 2048) = r := Fin.ext (by show g.val % 2048 = r.val; omega)
  rw [after_dq, AttnFwdIdeal.Hand.keys, sum_stack_col, AttnBwdRefIdeal.Hand.dq_at, e1, e2]
  exact Finset.sum_congr rfl fun n _ => congrArg₂ (· * ·) (ds_point m c h0 h1 h2 h3 h4 t r ⟨q.val / 64, by omega⟩ n) (kv_block m c t n _)

/-- The keys' and values' derivatives. -/
theorem dkv_point (t : Fin cfg0.N) (n : Fin 256) (j : Fin 512) :
    dkvAt m c t (ix2 n j) = val_main_v85 (F := Ideal) (A0 m c) (A1 m c) (A2 m c) (A3 m c) (A4 m c) (ix3 (seqOf t) n j) := by
  rcases halves j with ⟨q, rfl⟩ | ⟨q, rfl⟩
  · rw [dkvAt, dkv_left, dk_at, AttnBwdRefIdeal.Hand.dkv_left, AttnBwdRefIdeal.Hand.dk_at]
    exact Finset.sum_congr rfl fun r _ => congrArg₂ (· * ·) (ds_point m c h0 h1 h2 h3 h4 t r ⟨q.val / 64, by omega⟩ n) (q_block m c t r q)
  · rw [dkvAt, dkv_right, dv_at, AttnBwdRefIdeal.Hand.dkv_right, AttnBwdRefIdeal.Hand.dv_at]
    refine Finset.sum_congr rfl fun r _ => ?_
    rw [mul_comm]
    exact congrArg₂ (· * ·) (dy_block m c t r q) (p_block m c t r ⟨q.val / 64, by omega⟩ n)

/-- A sequence's part of the derivative of the weights. -/
theorem w_point (t : Fin cfg0.N) (k : Fin 1024) (j : Fin 512) :
    w_term (dkvAt m c t) (k0_pay30 (k0_pay2 (iblk m c 3 t) (iblk m c 4 t))) k j =
      ∑ n : Fin 256, val_main_v85 (F := Ideal) (A0 m c) (A1 m c) (A2 m c) (A3 m c) (A4 m c) (ix3 (seqOf t) n j) *
        (A1 m c (ix3 (seqOf t) n k) * Ideal.rsqrt (msq fun l => A1 m c (ix3 (seqOf t) n l)) * A2 m c (ix2 0 k)) := by
  refine Finset.sum_congr rfl fun n _ => ?_
  rw [nm_at, dkv_point m c h0 h1 h2 h3 h4, mul_comm]
  simp only [mem_block m, g_block m]

/-- Its part of the derivative of the gain. -/
theorem g_point (t : Fin cfg0.N) (k : Fin 1024) :
    g_term (dkvAt m c t) (iblk m c 3 t) (iblk m c 5 t) k =
      ∑ n : Fin 256, A1 m c (ix3 (seqOf t) n k) * Ideal.rsqrt (msq fun l => A1 m c (ix3 (seqOf t) n l)) *
        ∑ j : Fin 512, val_main_v85 (F := Ideal) (A0 m c) (A1 m c) (A2 m c) (A3 m c) (A4 m c) (ix3 (seqOf t) n j) * A3 m c (ix3 0 k j) := by
  refine Finset.sum_congr rfl fun n _ => ?_
  rw [mul_comm]
  simp only [dkv_point m c h0 h1 h2 h3 h4, mem_block m, w_block m]

end Reals

end Cert.AttnBwdIdeal.Hand
-- ==== Proof.Attn.BwdValue.lean ====
module

public import proofs.«01_k».proof.Proof.Attn.BwdBlocks
public import proofs.«01_k».proof.Proof.Gen.AttnBwdIdeal.Value

/-! # The attention's backward kernel ends with the reference's derivatives -/

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)
open Cert.StepMath
open Cert.AttnBwdRefIdeal.Read

variable (m : (ℓ : Loc nD τ sig) → Buf (Elt Ideal) ℓ) (c : Dev nD)
variable (h0 : ∀ i, IsReal (A0 m c i)) (h1 : ∀ i, IsReal (A1 m c i)) (h2 : ∀ i, IsReal (A2 m c i)) (h3 : ∀ i, IsReal (A3 m c i)) (h4 : ∀ i, IsReal (A4 m c i))

/-- A sum over the grid points is a sum over the sequences. -/
theorem sum_seq (f : Fin 4 → EReal) : ∑ t : Fin cfg0.N, f (seqOf t) = ∑ a, f a :=
  Fintype.sum_equiv (finCongr N_0) _ _ fun _ => rfl

include h0 h1 h2 h3 h4

/-- The queries' derivatives. -/
theorem final6 : (dats m 0 c).arrAt 6 cfg0.N = val_main_v96 (F := Ideal) (A0 m c) (A1 m c) (A2 m c) (A3 m c) (A4 m c) := by
  refine (dats m 0 c).arrAt_eq_of_covers 6 _ (by decide +kernel) fun t _ y => ?_
  blk_simp
  rw [after0_6]
  obtain ⟨r, q, rfl⟩ : ∃ (r : Fin 2048) (q : Fin 256), y = ix2 r q := ⟨y 0, y 1, by blk_ext []⟩
  have ht : t.val < 4 := lt_of_lt_of_eq t.isLt N_0
  rw [show ((View.whole main_v45_0).slice (win0_6.rect t)).emb (ix2 r q) = ix2 (⟨t.val * 2048 + r.val, by omega⟩ : Fin 8192) q from by blk_ext [idx t]]
  exact dq_point m c h0 h1 h2 h3 h4 t r q _ rfl

/-- What the last grid point leaves of the derivative of the weights. -/
theorem dw_last (k : Fin 1024) (l : Fin 512) : (outsAt0 m c t0_3.val t0_3.isLt).2.1 (ix2 k l) = val_main_v97 (F := Ideal) (A0 m c) (A1 m c) (A2 m c) (A3 m c) (A4 m c) (ix2 k l) := by
  rw [AttnBwdRefIdeal.Hand.dw_at, ← sum_seq, Pipeline.eq_sum_fin_of_reset_step_apply_last (fun n h => (outsAt0 m c n h).2.1) 4 (fun _ => 0)
    (fun t j => w_term (dkvAt m c t) (k0_pay30 (k0_pay2 (iblk m c 3 t) (iblk m c 4 t))) (j 0) (j 1))
    (fun t h j => by
      obtain ⟨k, l, rfl⟩ : ∃ (k : Fin 1024) (l : Fin 512), j = ix2 k l := ⟨j 0, j 1, by blk_ext []⟩
      exact first_dw m c t h k l)
    (fun t h j => by
      obtain ⟨k, l, rfl⟩ : ∃ (k : Fin 1024) (l : Fin 512), j = ix2 k l := ⟨j 0, j 1, by blk_ext []⟩
      exact next_dw m c t h k l) (le_of_eq N_0) t0_3 rfl, zero_add]
  exact Finset.sum_congr rfl fun t _ => w_point m c h0 h1 h2 h3 h4 t k l

/-- The derivative of the keys' and values' weights. -/
theorem final7 : (dats m 0 c).arrAt 7 cfg0.N = val_main_v97 (F := Ideal) (A0 m c) (A1 m c) (A2 m c) (A3 m c) (A4 m c) := by
  refine (dats m 0 c).arrAt_eq_of_after_last 7 t0_3 (by decide +kernel) _ fun j => ?_
  blk_simp
  obtain ⟨k, l, rfl⟩ : ∃ (k : Fin 1024) (l : Fin 512), j = ix2 k l := ⟨j 0, j 1, by blk_ext []⟩
  rw [after0_7]
  exact dw_last m c h0 h1 h2 h3 h4 k l

/-- What the last grid point leaves of the derivative of the gain. -/
theorem dg_last (k : Fin 1024) : (outsAt0 m c t0_3.val t0_3.isLt).2.2 (ix2 0 k) = val_main_v94 (F := Ideal) (A0 m c) (A1 m c) (A2 m c) (A3 m c) (A4 m c) (ix2 0 k) := by
  rw [AttnBwdRefIdeal.Hand.dg_at, ← sum_seq, Pipeline.eq_sum_fin_of_reset_step_apply_last (fun n h => (outsAt0 m c n h).2.2) 4 (fun _ => 0)
    (fun t j => g_term (dkvAt m c t) (iblk m c 3 t) (iblk m c 5 t) (j 1))
    (fun t h j => by
      obtain ⟨k, rfl⟩ : ∃ k : Fin 1024, j = ix2 0 k := ⟨j 1, by blk_ext []⟩
      exact first_dg m c t h k)
    (fun t h j => by
      obtain ⟨k, rfl⟩ : ∃ k : Fin 1024, j = ix2 0 k := ⟨j 1, by blk_ext []⟩
      exact next_dg m c t h k) (le_of_eq N_0) t0_3 rfl, zero_add]
  exact Finset.sum_congr rfl fun t _ => g_point m c h0 h1 h2 h3 h4 t k

/-- The derivative of the memory's gain. -/
theorem final8 : (dats m 0 c).arrAt 8 cfg0.N = val_main_v94 (F := Ideal) (A0 m c) (A1 m c) (A2 m c) (A3 m c) (A4 m c) := by
  refine (dats m 0 c).arrAt_eq_of_after_last 8 t0_3 (by decide +kernel) _ fun j => ?_
  blk_simp
  obtain ⟨k, rfl⟩ : ∃ k : Fin 1024, j = ix2 0 k := ⟨j 1, by blk_ext []⟩
  rw [after0_8]
  exact dg_last m c h0 h1 h2 h3 h4 k

end Cert.AttnBwdIdeal.Hand
-- ==== Proof.Attn.BwdClaims.lean ====
module

public import proofs.«01_k».proof.Defs
public import proofs.«01_k».proof.Proof.Gen.AttnBwd
public import proofs.«01_k».proof.Proof.Gen.AttnBwd.Frame
public import proofs.«01_k».proof.Proof.Gen.AttnBwdRefIdeal.Run
public import proofs.«01_k».proof.Proof.Gen.Pre_attn_finite
public import proofs.«01_k».proof.Proof.Attn.BwdValue
public import proofs.«01_k».proof.Proof.Math.Finite

/-! # The claims about the attention's backward call -/

@[expose] public section

set_option maxRecDepth 16384

noncomputable section

namespace Cert.AttnBwdClaims

open Idealize.ShloMosaic Idealize.ShloMosaic.TcCoe Idealize.SL.Sem
open Cert.StepMath

attribute [local instance] Cert.AttnBwd.Gen.facts Cert.AttnBwdIdeal.Gen.facts Cert.AttnBwdRefIdeal.Gen.facts Cert.Pre_attn_finite.Gen.facts

theorem frame_ref : Cert.quiescent_AttnBwdRefIdeal := by
  intro m g _
  exact (θ_run Cert.AttnBwdRefIdeal.defs _ _).mono (fun r h => ⟨fun c => (h c).2.2.2, sem_eq_zero_of_no_sems (by decide) r.2⟩)
    (Cert.AttnBwdRefIdeal.Value.run m g)

theorem frame_ref_pre : Cert.quiescent_AttnBwdRefIdeal_pre_attn_finite := fun m g _ => frame_ref m g trivial

section
variable (m : (ℓ : Loc Cert.AttnBwdIdeal.nD Cert.AttnBwdIdeal.τ Cert.AttnBwdIdeal.sig) → Buf (Elt Ideal) ℓ)
  (m' : (ℓ : Loc Cert.AttnBwdRefIdeal.nD Cert.AttnBwdRefIdeal.τ Cert.AttnBwdRefIdeal.sig) → Buf (Elt Ideal) ℓ) (c : Dev Cert.AttnBwdIdeal.nD)
open Cert.AttnBwdIdeal.Hand Cert.AttnBwdRefIdeal.Read

/-- The two programs were given the same arrays. -/
def Agree : Prop := m' ((c.tc : Thread Cert.AttnBwdRefIdeal.nD Cert.AttnBwdRefIdeal.τ).loc Cert.AttnBwdRefIdeal.main_arg0) = A0 m c
    ∧ m' ((c.tc : Thread Cert.AttnBwdRefIdeal.nD Cert.AttnBwdRefIdeal.τ).loc Cert.AttnBwdRefIdeal.main_arg1) = A1 m c
    ∧ m' ((c.tc : Thread Cert.AttnBwdRefIdeal.nD Cert.AttnBwdRefIdeal.τ).loc Cert.AttnBwdRefIdeal.main_arg2) = A2 m c
    ∧ m' ((c.tc : Thread Cert.AttnBwdRefIdeal.nD Cert.AttnBwdRefIdeal.τ).loc Cert.AttnBwdRefIdeal.main_arg3) = A3 m c
    ∧ m' ((c.tc : Thread Cert.AttnBwdRefIdeal.nD Cert.AttnBwdRefIdeal.τ).loc Cert.AttnBwdRefIdeal.main_arg4) = A4 m c

/-- What the kernel's run leaves: its three results, and its arguments unchanged. -/
theorem kernel_run (g : Dev Cert.AttnBwdIdeal.nD → PrngReg) :
    θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
      r.2.mem ((c.tc : Thread Cert.AttnBwdIdeal.nD Cert.AttnBwdIdeal.τ).loc Cert.AttnBwdIdeal.main_v45_0) = (Cert.AttnBwdIdeal.Gen.dats m 0 c).arrAt 6 Cert.AttnBwdIdeal.cfg0.N
      ∧ r.2.mem ((c.tc : Thread Cert.AttnBwdIdeal.nD Cert.AttnBwdIdeal.τ).loc Cert.AttnBwdIdeal.main_v45_1) = (Cert.AttnBwdIdeal.Gen.dats m 0 c).arrAt 7 Cert.AttnBwdIdeal.cfg0.N
      ∧ r.2.mem ((c.tc : Thread Cert.AttnBwdIdeal.nD Cert.AttnBwdIdeal.τ).loc Cert.AttnBwdIdeal.main_v45_2) = (Cert.AttnBwdIdeal.Gen.dats m 0 c).arrAt 8 Cert.AttnBwdIdeal.cfg0.N
      ∧ r.2.mem ((c.tc : Thread Cert.AttnBwdIdeal.nD Cert.AttnBwdIdeal.τ).loc Cert.AttnBwdIdeal.main_arg0) = A0 m c
      ∧ r.2.mem ((c.tc : Thread Cert.AttnBwdIdeal.nD Cert.AttnBwdIdeal.τ).loc Cert.AttnBwdIdeal.main_arg1) = A1 m c
      ∧ r.2.mem ((c.tc : Thread Cert.AttnBwdIdeal.nD Cert.AttnBwdIdeal.τ).loc Cert.AttnBwdIdeal.main_arg2) = A2 m c
      ∧ r.2.mem ((c.tc : Thread Cert.AttnBwdIdeal.nD Cert.AttnBwdIdeal.τ).loc Cert.AttnBwdIdeal.main_arg3) = A3 m c
      ∧ r.2.mem ((c.tc : Thread Cert.AttnBwdIdeal.nD Cert.AttnBwdIdeal.τ).loc Cert.AttnBwdIdeal.main_arg4) = A4 m c) :=
  (θ_run Cert.AttnBwdIdeal.defs _ _).mono (fun _ h c => ⟨(h.2 c).1 6, (h.2 c).1 7, (h.2 c).1 8, h.1 c⟩)
    (θ_run_and (Cert.AttnBwdIdeal.Gen.unchanged m g) (Cert.AttnBwdIdeal.Gen.run_main m g))

/-- The queries' derivatives: the reference and the kernel end with the same, when the arguments agree. -/
theorem grad_q (hpre : Cert.Pre_AttnBwdIdeal_attn_finite m) (h : Agree m m' c) :
    Cert.AttnBwdRefIdeal.Value.res_main_v96 m' c = (Cert.AttnBwdIdeal.Gen.dats m 0 c).arrAt 6 Cert.AttnBwdIdeal.cfg0.N := by
  obtain ⟨h0, h1, h2, h3, h4⟩ := hpre c
  obtain ⟨e0, e1, e2, e3, e4⟩ := h
  refine (val_main_v96_eq m' c).trans (Eq.trans ?_ (final6 m c (isReal_of_ones _ _ h0) (isReal_of_ones _ _ h1) (isReal_of_ones _ _ h2)
    (isReal_of_ones _ _ h3) (isReal_of_ones _ _ h4)).symm)
  rw [e0, e1, e2, e3, e4]

/-- The derivative of the keys' and values' weights: the reference and the kernel end with the same, when the arguments agree. -/
theorem grad_w (hpre : Cert.Pre_AttnBwdIdeal_attn_finite m) (h : Agree m m' c) :
    Cert.AttnBwdRefIdeal.Value.res_main_v97 m' c = (Cert.AttnBwdIdeal.Gen.dats m 0 c).arrAt 7 Cert.AttnBwdIdeal.cfg0.N := by
  obtain ⟨h0, h1, h2, h3, h4⟩ := hpre c
  obtain ⟨e0, e1, e2, e3, e4⟩ := h
  refine (val_main_v97_eq m' c).trans (Eq.trans ?_ (final7 m c (isReal_of_ones _ _ h0) (isReal_of_ones _ _ h1) (isReal_of_ones _ _ h2)
    (isReal_of_ones _ _ h3) (isReal_of_ones _ _ h4)).symm)
  rw [e0, e1, e2, e3, e4]

/-- The derivative of the memory's gain: the reference and the kernel end with the same, when the arguments agree. -/
theorem grad_g (hpre : Cert.Pre_AttnBwdIdeal_attn_finite m) (h : Agree m m' c) :
    Cert.AttnBwdRefIdeal.Value.res_main_v94 m' c = (Cert.AttnBwdIdeal.Gen.dats m 0 c).arrAt 8 Cert.AttnBwdIdeal.cfg0.N := by
  obtain ⟨h0, h1, h2, h3, h4⟩ := hpre c
  obtain ⟨e0, e1, e2, e3, e4⟩ := h
  refine (val_main_v94_eq m' c).trans (Eq.trans ?_ (final8 m c (isReal_of_ones _ _ h0) (isReal_of_ones _ _ h1) (isReal_of_ones _ _ h2)
    (isReal_of_ones _ _ h3) (isReal_of_ones _ _ h4)).symm)
  rw [e0, e1, e2, e3, e4]

theorem algebraic : Cert.algebraic_AttnBwdIdeal_AttnBwdRefIdeal_pre_attn_finite := by
  intro m g m' g' hpre hagree
  refine ⟨_, _, _, kernel_run m g, (θ_run _ _ _).mono (fun r h c => ?_) (Cert.AttnBwdRefIdeal.Value.run m' g')⟩
  have ha : Agree m m' c := hagree c
  exact ⟨(h c).1.trans (grad_q m m' c hpre ha), (h c).2.1.trans (grad_w m m' c hpre ha), (h c).2.2.1.trans (grad_g m m' c hpre ha), (h c).2.2.2⟩

end

end Cert.AttnBwdClaims
-- ==== Proof.Math.Gate.lean ====
module

public import proofs.«01_k».proof.Proof.Math.SoftmaxGrad

/-! # The gate, the loss and their gradients on real numbers -/

@[expose] public section

noncomputable section

namespace Cert.StepMath

open Idealize.ShloMosaic

theorem word_one : Ideal.ofBits .f32 1065353216#32 = 1 := by
  rw [← EReal.coe_one]; simp [Ideal.ofBits, Ideal.ieee, -EReal.coe_mul, -EReal.coe_one]; norm_num

theorem word_half : Ideal.ofBits .f32 1056964608#32 = ((1 / 2 : ℝ) : EReal) := by
  simp [Ideal.ofBits, Ideal.ieee, -EReal.coe_mul]; norm_num

theorem word_two : Ideal.ofBits .f32 1073741824#32 = ((2 : ℝ) : EReal) := by
  simp [Ideal.ofBits, Ideal.ieee, -EReal.coe_mul]; norm_num

theorem word_inv_1024 : Ideal.ofBits .f32 981467136#32 = ((1 / 1024 : ℝ) : EReal) := by
  simp [Ideal.ofBits, Ideal.ieee, -EReal.coe_mul]; norm_num

/-- Half the mean square's derivative: the halves and the two cancel. -/
theorem dz_scale (e : EReal) : Ideal.div (Ideal.ofBits .f32 1056964608#32) (Ideal.ofBits .f32 1149239296#32) *
    (Ideal.ofBits .f32 1073741824#32 * e) = e * ((1 / 1024 : ℝ) : EReal) := by
  rw [word_half, word_1024, word_two, Ideal.div_coe (by norm_num), ← mul_assoc, ← EReal.coe_mul, ← EReal.coe_mul, mul_comm]
  norm_num

theorem IsReal.sub {a b : EReal} (ha : IsReal a) (hb : IsReal b) : IsReal (a - b) := by
  obtain ⟨x, rfl⟩ := ha; obtain ⟨y, rfl⟩ := hb; exact ⟨x - y, (EReal.coe_sub x y).symm⟩

/-- A mean over a row's 1024 entries is real. -/
theorem IsReal.mean {a : EReal} (ha : IsReal a) : IsReal (Ideal.div a (Ideal.ofBits .f32 1149239296#32)) := by
  rw [word_1024, Ideal.div_coe (by norm_num)]
  exact ha.mul ⟨_, rfl⟩

theorem IsReal.logistic {a : EReal} (ha : IsReal a) : IsReal (Ideal.logistic a) := by
  obtain ⟨x, rfl⟩ := ha; exact ⟨_, Ideal.logistic_coe x⟩

/-- The two ways to write the gradient of `g * s` at the gate `g` with its sigmoid `s`. -/
theorem silu_grad (d y g s : EReal) (hd : IsReal d) (hy : IsReal y) (hg : IsReal g) (hs : IsReal s) :
    d * y * (s * (1 + g * (1 - s))) = y * d * s + g * (y * d) * (s * (1 - s)) := by
  obtain ⟨d, rfl⟩ := hd; obtain ⟨y, rfl⟩ := hy; obtain ⟨g, rfl⟩ := hg; obtain ⟨s, rfl⟩ := hs
  rw [← EReal.coe_one]
  simp only [← EReal.coe_mul, ← EReal.coe_add, ← EReal.coe_sub]
  exact congrArg _ (by ring)

/-- A real factor moves into a sum of reals. -/
theorem mul_sum_real {ι : Type*} (s : Finset ι) (c : EReal) (hc : IsReal c) (f : ι → EReal) (h : ∀ i, IsReal (f i)) :
    c * ∑ i ∈ s, f i = ∑ i ∈ s, c * f i := by
  obtain ⟨r, rfl⟩ := hc
  choose g hg using h
  obtain rfl : f = fun i => (g i : EReal) := funext hg
  simp only [← EReal.coe_mul, coe_sum, Finset.mul_sum]

section all2
variable {A B : Nat}

/-- A host's sum over both axes. -/
theorem hostReduceAdd_all2 (h : (⟨2, ![A, B]⟩ : Shape).ReducesTo [0, 1] ⟨0, ![]⟩) (x : (⟨2, ![A, B]⟩ : Shape).Idx → EReal) (c : EReal) (j : (⟨0, ![]⟩ : Shape).Idx) :
    Ideal.hostReduceAdd h x c j = c + ∑ a : Fin A, ∑ b : Fin B, x (ix2 a b) := by
  refine congrArg (c + ·) ?_
  rw [Finset.sum_filter_eq_sum_of_fiber _ (fun k : Fin A × Fin B => (ix2 k.1 k.2 : (⟨2, ![A, B]⟩ : Shape).Idx))
    (fun k k' e => Prod.ext (congrFun e 0) (congrFun e 1)) (fun i => ⟨fun _ => ⟨(i 0, i 1), by
      funext a; apply Fin.ext
      match a with
      | ⟨0, _⟩ => rfl
      | ⟨1, _⟩ => rfl⟩, fun _ => funext fun a => a.elim0⟩) x, Fintype.sum_prod_type]

end all2

end Cert.StepMath
-- ==== Proof.Tail.Ref.lean ====
module

public import proofs.«01_k».proof.Proof.Gen.TailRefIdeal.Read
public import proofs.«01_k».proof.Proof.Math.Gate
public import Idealize.ShloMosaic.Lib.Pointwise
public import Idealize.ShloMosaic.Lib.IdealHost

/-! # The step's tail and its gradients as the reference writes them, entry by entry -/

@[expose] public section

set_option maxRecDepth 16384

noncomputable section

namespace Cert.TailRefIdeal.Hand

open Cert.TailRefIdeal Cert.TailRefIdeal.Read Idealize.ShloMosaic
open Cert.StepMath

variable (x0 x1 : Vec Ideal S4x2048x384 .f32) (x2 : Vec Ideal S4x2048x256 .f32) (x3 : Vec Ideal S4x2048x2048 .f32) (x4 x5 : Vec Ideal S4x2048x1024 .f32)
  (x6 : Vec Ideal S1x1024x1024 .f32) (x7 : Vec Ideal S1x1024 .f32)

/-- The sigmoid of the gate. -/
theorem sigmoid_at (a : Fin 4) (b : Fin 2048) (q : Fin 1024) :
    val_main_v2_2 (F := Ideal) x3 (ix3 a b q) = Ideal.logistic (val_main_v1 (F := Ideal) x3 (ix3 a b q)) := by
  unfold val_main_v2_2 val_main_call0_v3 val_main_call0_v1 val_main_call0_v0
  generalize val_main_v1 (F := Ideal) x3 = g
  pointwise [val_main_call0_v2, val_main_call0_v4, val_main_call0_cst, val_main_call0_cst_0, Ideal.logistic, word_one]

/-- The projected rows. -/
theorem out_at (a : Fin 4) (b : Fin 2048) (q : Fin 1024) :
    val_main_v5 (F := Ideal) x0 x1 x2 x3 x6 (ix3 a b q) = ∑ k, val_main_v3 (F := Ideal) x0 x1 x2 x3 (ix3 a b k) * x6 (ix3 0 k q) := by
  unfold val_main_v5
  generalize val_main_v3 (F := Ideal) x0 x1 x2 x3 = y
  pointwise [val_main_v4]

/-- The post-norm's scale of one row. -/
theorem scale_at (a : Fin 4) (b : Fin 2048) : val_main_v14 (F := Ideal) x0 x1 x2 x3 x6 (ix3 a b 0) =
    Ideal.rsqrt (msq fun k => val_main_v5 (F := Ideal) x0 x1 x2 x3 x6 (ix3 a b k)) := by
  unfold val_main_v14 val_main_v13 val_main_v11 val_main_v9 val_main_v8 val_main_v7
  generalize val_main_v5 (F := Ideal) x0 x1 x2 x3 x6 = y
  pointwise [val_main_v12, val_main_v10, val_main_cst, val_main_cst_0, val_main_cst_1, msq]

/-- The normed rows. -/
theorem norm_at (a : Fin 4) (b : Fin 2048) (q : Fin 1024) : val_main_v19 (F := Ideal) x0 x1 x2 x3 x6 (ix3 a b q) =
    val_main_v5 (F := Ideal) x0 x1 x2 x3 x6 (ix3 a b q) * Ideal.rsqrt (msq fun k => val_main_v5 (F := Ideal) x0 x1 x2 x3 x6 (ix3 a b k)) := by
  rw [← scale_at]
  unfold val_main_v19 val_main_v18
  generalize val_main_v5 (F := Ideal) x0 x1 x2 x3 x6 = y
  generalize val_main_v14 (F := Ideal) x0 x1 x2 x3 x6 = s
  pointwise []

/-- The error against the target. -/
theorem err_at (a : Fin 4) (b : Fin 2048) (q : Fin 1024) : val_main_v24 (F := Ideal) x0 x1 x2 x3 x4 x5 x6 x7 (ix3 a b q) =
    x4 (ix3 a b q) + val_main_v19 (F := Ideal) x0 x1 x2 x3 x6 (ix3 a b q) * x7 (ix2 0 q) - x5 (ix3 a b q) := by
  unfold val_main_v24 val_main_v23 val_main_v22
  generalize val_main_v19 (F := Ideal) x0 x1 x2 x3 x6 = y
  pointwise [val_main_v21, val_main_v20, val_main_v6]

/-- The error's gradient. -/
theorem dz_at (a : Fin 4) (b : Fin 2048) (q : Fin 1024) : val_main_v38 (F := Ideal) x0 x1 x2 x3 x4 x5 x6 x7 (ix3 a b q) =
    val_main_v24 (F := Ideal) x0 x1 x2 x3 x4 x5 x6 x7 (ix3 a b q) * Ideal.ofBits .f32 981467136#32 := by
  unfold val_main_v38 val_main_v27
  generalize val_main_v24 (F := Ideal) x0 x1 x2 x3 x4 x5 x6 x7 = y
  rw [word_inv_1024]
  pointwise [val_main_v37, val_main_v36, val_main_v35, val_main_v34, val_main_v33, val_main_v26, val_main_cst_3, val_main_cst_8, val_main_cst_9, val_main_cst_10]
  exact dz_scale _

/-- The gradient of the rows with the gain. -/
theorem dn_at (a : Fin 4) (b : Fin 2048) (q : Fin 1024) : val_main_v43 (F := Ideal) x0 x1 x2 x3 x4 x5 x6 x7 (ix3 a b q) =
    val_main_v38 (F := Ideal) x0 x1 x2 x3 x4 x5 x6 x7 (ix3 a b q) * x7 (ix2 0 q) := by
  unfold val_main_v43
  generalize val_main_v38 (F := Ideal) x0 x1 x2 x3 x4 x5 x6 x7 = y
  pointwise [val_main_v42, val_main_v20, val_main_v6]

/-- The gradient of the projected rows, of a row `x` of them and a row `d` of gradients of the normed rows. -/
theorem dout_at (a : Fin 4) (b : Fin 2048) (q : Fin 1024) (x d : Fin 1024 → EReal)
    (hx : ∀ k, val_main_v5 (F := Ideal) x0 x1 x2 x3 x6 (ix3 a b k) = x k)
    (hd : ∀ k, val_main_v43 (F := Ideal) x0 x1 x2 x3 x4 x5 x6 x7 (ix3 a b k) = d k) :
    val_main_v58 (F := Ideal) x0 x1 x2 x3 x4 x5 x6 x7 (ix3 a b q) = d q * Ideal.rsqrt (msq x) + x q * Ideal.div ((∑ k, x k * d k) *
          (Ideal.ofBits .f32 3204448256#32 * Ideal.div (Ideal.rsqrt (msq x)) (msq x))) (Ideal.ofBits .f32 1149239296#32)
        + Ideal.div ((∑ k, x k * d k) *
          (Ideal.ofBits .f32 3204448256#32 * Ideal.div (Ideal.rsqrt (msq x)) (msq x))) (Ideal.ofBits .f32 1149239296#32) * x q := by
  simp only [← hx, ← hd, msq]
  unfold val_main_v58 val_main_v57 val_main_v56 val_main_v55 val_main_v54 val_main_v53 val_main_v52 val_main_v50 val_main_v49 val_main_v48 val_main_v47 val_main_v46 val_main_v45 val_main_v17 val_main_v15 val_main_v14 val_main_v13 val_main_v11 val_main_v9 val_main_v8 val_main_v7
  generalize val_main_v43 (F := Ideal) x0 x1 x2 x3 x4 x5 x6 x7 = e
  generalize val_main_v5 (F := Ideal) x0 x1 x2 x3 x6 = y
  pointwise [val_main_v51, val_main_v16, val_main_v12, val_main_v10, val_main_cst, val_main_cst_0, val_main_cst_1, val_main_cst_2, val_main_cst_13, val_main_cst_14, val_main_cst_15, Fin.sum_univ_one]

/-- The gradient of the gated mixers. -/
theorem dy_at (a : Fin 4) (b : Fin 2048) (q : Fin 1024) : val_main_v62 (F := Ideal) x0 x1 x2 x3 x4 x5 x6 x7 (ix3 a b q) =
    ∑ k, val_main_v58 (F := Ideal) x0 x1 x2 x3 x4 x5 x6 x7 (ix3 a b k) * x6 (ix3 0 q k) := by
  unfold val_main_v62
  generalize val_main_v58 (F := Ideal) x0 x1 x2 x3 x4 x5 x6 x7 = y
  pointwise [val_main_v4]

/-- The gradient of the projection's weights. -/
theorem dw_at (q k : Fin 1024) : val_main_v73 (F := Ideal) x0 x1 x2 x3 x4 x5 x6 x7 (ix2 q k) = ∑ a : Fin 4, ∑ b : Fin 2048,
    val_main_v58 (F := Ideal) x0 x1 x2 x3 x4 x5 x6 x7 (ix3 a b k) * val_main_v3 (F := Ideal) x0 x1 x2 x3 (ix3 a b q) := by
  unfold val_main_v73 val_main_v63 val_main_v61 val_main_v60
  generalize val_main_v58 (F := Ideal) x0 x1 x2 x3 x4 x5 x6 x7 = y
  generalize val_main_v3 (F := Ideal) x0 x1 x2 x3 = z
  pointwise []

/-- The gradient of the post-norm's gain. -/
theorem dg_at (q : Fin 1024) : val_main_v59 (F := Ideal) x0 x1 x2 x3 x4 x5 x6 x7 (ix2 0 q) = ∑ a : Fin 4, ∑ b : Fin 2048,
    val_main_v19 (F := Ideal) x0 x1 x2 x3 x6 (ix3 a b q) * val_main_v38 (F := Ideal) x0 x1 x2 x3 x4 x5 x6 x7 (ix3 a b q) := by
  unfold val_main_v59 val_main_v44 val_main_v41 val_main_v40 val_main_v39
  generalize val_main_v19 (F := Ideal) x0 x1 x2 x3 x6 = y
  generalize val_main_v38 (F := Ideal) x0 x1 x2 x3 x4 x5 x6 x7 = z
  pointwise [val_main_cst_11, val_main_cst_12, hostReduceAdd_lead2]
  simp only [Fin.sum_univ_one]

/-- The loss of one row: half the mean square of its errors, without the half. -/
def rowLoss (e : Fin 1024 → EReal) : EReal := Ideal.div (∑ k, e k * e k) (Ideal.ofBits .f32 1149239296#32)

/-- The loss, on every lane. -/
theorem loss_at (j : Fin 128) : val_main_v74 (F := Ideal) x0 x1 x2 x3 x4 x5 x6 x7 (ix2 0 j) = Ideal.ofBits .f32 1056964608#32 *
    ∑ a : Fin 4, ∑ b : Fin 2048, rowLoss fun k => val_main_v24 (F := Ideal) x0 x1 x2 x3 x4 x5 x6 x7 (ix3 a b k) := by
  unfold val_main_v74 val_main_v32 val_main_v31 val_main_v30 val_main_v28 val_main_v25
  generalize val_main_v24 (F := Ideal) x0 x1 x2 x3 x4 x5 x6 x7 = y
  pointwise [val_main_v29, val_main_cst_4, val_main_cst_5, val_main_cst_6, val_main_cst_7, hostReduceAdd_all2, rowLoss]

/-- The gradient of the mixers' outputs. -/
theorem dycat_at (a : Fin 4) (b : Fin 2048) (q : Fin 1024) : val_main_v65 (F := Ideal) x0 x1 x2 x3 x4 x5 x6 x7 (ix3 a b q) =
    val_main_v62 (F := Ideal) x0 x1 x2 x3 x4 x5 x6 x7 (ix3 a b q) *
      (val_main_v1 (F := Ideal) x3 (ix3 a b q) * Ideal.logistic (val_main_v1 (F := Ideal) x3 (ix3 a b q))) := by
  rw [← sigmoid_at]; rfl

/-- The gradient of the gate. -/
theorem dgate_at (a : Fin 4) (b : Fin 2048) (q : Fin 1024) (g s d : EReal) (hg : val_main_v1 (F := Ideal) x3 (ix3 a b q) = g)
    (hs : val_main_v2_2 (F := Ideal) x3 (ix3 a b q) = s)
    (hd : val_main_v0 (F := Ideal) x0 x1 x2 (ix3 a b q) * val_main_v62 (F := Ideal) x0 x1 x2 x3 x4 x5 x6 x7 (ix3 a b q) = d) :
    val_main_v66 (F := Ideal) x0 x1 x2 x3 x4 x5 x6 x7 (ix3 a b q) = d * s + g * d * (s * (1 - s)) := by
  rw [← hg, ← hs, ← hd]
  unfold val_main_v66 val_main_call1_v2 val_main_call1_v1 val_main_call1_v0 val_main_v64 val_main_v2_1 val_main_call0_v7
  generalize val_main_v0 (F := Ideal) x0 x1 x2 = y
  generalize val_main_v62 (F := Ideal) x0 x1 x2 x3 x4 x5 x6 x7 = z
  generalize val_main_v1 (F := Ideal) x3 = g'
  generalize val_main_v2_2 (F := Ideal) x3 = s'
  pointwise [val_main_call0_v6, val_main_call0_cst_1, word_one]

/-- The gated mixers. -/
theorem gated_at (a : Fin 4) (b : Fin 2048) (q : Fin 1024) : val_main_v3 (F := Ideal) x0 x1 x2 x3 (ix3 a b q) =
    val_main_v0 (F := Ideal) x0 x1 x2 (ix3 a b q) * (val_main_v1 (F := Ideal) x3 (ix3 a b q) * Ideal.logistic (val_main_v1 (F := Ideal) x3 (ix3 a b q))) := by
  rw [← sigmoid_at]; rfl

end Cert.TailRefIdeal.Hand
-- ==== Proof.Tail.Blocks.lean ====
module

public import proofs.«01_k».proof.Proof.Gen.TailIdeal.Frame
public import proofs.«01_k».proof.Proof.Tail.Ref
public import Idealize.ShloMosaic.Lib.Pipeline.ValueKit
public import Idealize.ShloMosaic.Lib.Pipeline.ReadBack
public import Idealize.ShloMosaic.Lib.Claim

/-! # The tail's kernel: what one grid point computes are the reference's rows -/

@[expose] public section

set_option maxRecDepth 16384

noncomputable section

namespace Cert.TailIdeal.Hand

open Cert.TailIdeal Cert.TailIdeal.Gen Idealize.ShloMosaic Idealize.ShloMosaic.TcCoe Idealize.SL.Sem
open Cert.StepMath
open Cert.TailRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 1]
    ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

/-! ## The arguments, and the reference's rows of them -/

abbrev A0 (c : Dev nD) : Vec Ideal Cert.TailRefIdeal.S4x2048x384 .f32 := m (c, Proc.tc.devRef main_arg0)
abbrev A1 (c : Dev nD) : Vec Ideal Cert.TailRefIdeal.S4x2048x384 .f32 := m (c, Proc.tc.devRef main_arg1)
abbrev A2 (c : Dev nD) : Vec Ideal Cert.TailRefIdeal.S4x2048x256 .f32 := m (c, Proc.tc.devRef main_arg2)
abbrev A3 (c : Dev nD) : Vec Ideal Cert.TailRefIdeal.S4x2048x2048 .f32 := m (c, Proc.tc.devRef main_arg3)
abbrev A4 (c : Dev nD) : Vec Ideal Cert.TailRefIdeal.S4x2048x1024 .f32 := m (c, Proc.tc.devRef main_arg4)
abbrev A5 (c : Dev nD) : Vec Ideal Cert.TailRefIdeal.S4x2048x1024 .f32 := m (c, Proc.tc.devRef main_arg5)
abbrev A6 (c : Dev nD) : Vec Ideal Cert.TailRefIdeal.S1x1024x1024 .f32 := m (c, Proc.tc.devRef main_arg6)
abbrev A7 (c : Dev nD) : Vec Ideal Cert.TailRefIdeal.S1x1024 .f32 := m (c, Proc.tc.devRef main_arg7)

def mixed (c : Dev nD) : FVec Ideal Cert.TailRefIdeal.S4x2048x1024 .f32 := val_main_v0 (F := Ideal) (A0 m c) (A1 m c) (A2 m c)
def gate (c : Dev nD) : FVec Ideal Cert.TailRefIdeal.S4x2048x1024 .f32 := val_main_v1 (F := Ideal) (A3 m c)
def gated (c : Dev nD) : FVec Ideal Cert.TailRefIdeal.S4x2048x1024 .f32 := val_main_v3 (F := Ideal) (A0 m c) (A1 m c) (A2 m c) (A3 m c)
def rows (c : Dev nD) : FVec Ideal Cert.TailRefIdeal.S4x2048x1024 .f32 := val_main_v5 (F := Ideal) (A0 m c) (A1 m c) (A2 m c) (A3 m c) (A6 m c)
def normed (c : Dev nD) : FVec Ideal Cert.TailRefIdeal.S4x2048x1024 .f32 := val_main_v19 (F := Ideal) (A0 m c) (A1 m c) (A2 m c) (A3 m c) (A6 m c)
def err (c : Dev nD) : FVec Ideal Cert.TailRefIdeal.S4x2048x1024 .f32 := val_main_v24 (F := Ideal) (A0 m c) (A1 m c) (A2 m c) (A3 m c) (A4 m c) (A5 m c) (A6 m c) (A7 m c)
def dz (c : Dev nD) : FVec Ideal Cert.TailRefIdeal.S4x2048x1024 .f32 := val_main_v38 (F := Ideal) (A0 m c) (A1 m c) (A2 m c) (A3 m c) (A4 m c) (A5 m c) (A6 m c) (A7 m c)
def dn (c : Dev nD) : FVec Ideal Cert.TailRefIdeal.S4x2048x1024 .f32 := val_main_v43 (F := Ideal) (A0 m c) (A1 m c) (A2 m c) (A3 m c) (A4 m c) (A5 m c) (A6 m c) (A7 m c)
def dout (c : Dev nD) : FVec Ideal Cert.TailRefIdeal.S4x2048x1024 .f32 := val_main_v58 (F := Ideal) (A0 m c) (A1 m c) (A2 m c) (A3 m c) (A4 m c) (A5 m c) (A6 m c) (A7 m c)
def dy (c : Dev nD) : FVec Ideal Cert.TailRefIdeal.S4x2048x1024 .f32 := val_main_v62 (F := Ideal) (A0 m c) (A1 m c) (A2 m c) (A3 m c) (A4 m c) (A5 m c) (A6 m c) (A7 m c)

section
variable (c : Dev nD) (a : Fin 4) (b : Fin 2048) (q : Fin 1024)
open Cert.TailRefIdeal

theorem gated_eq : gated m c (ix3 a b q) = mixed m c (ix3 a b q) * (gate m c (ix3 a b q) * Ideal.logistic (gate m c (ix3 a b q))) := Hand.gated_at ..
theorem rows_eq : rows m c (ix3 a b q) = ∑ k, gated m c (ix3 a b k) * A6 m c (ix3 0 k q) := Hand.out_at ..
theorem normed_eq : normed m c (ix3 a b q) = rows m c (ix3 a b q) * Ideal.rsqrt (msq fun k => rows m c (ix3 a b k)) := Hand.norm_at ..
theorem err_eq : err m c (ix3 a b q) = A4 m c (ix3 a b q) + normed m c (ix3 a b q) * A7 m c (ix2 0 q) - A5 m c (ix3 a b q) := Hand.err_at ..
theorem dz_eq : dz m c (ix3 a b q) = err m c (ix3 a b q) * Ideal.ofBits .f32 981467136#32 := Hand.dz_at ..
theorem dn_eq : dn m c (ix3 a b q) = dz m c (ix3 a b q) * A7 m c (ix2 0 q) := Hand.dn_at ..
theorem dy_eq : dy m c (ix3 a b q) = ∑ k, dout m c (ix3 a b k) * A6 m c (ix3 0 q k) := Hand.dy_at ..

end

/-! ## On finite arguments the rows are finite -/

/-- All arguments are finite. -/
structure Fin' (c : Dev nD) : Prop where
  h0 : ∀ i, IsReal (A0 m c i)
  h1 : ∀ i, IsReal (A1 m c i)
  h2 : ∀ i, IsReal (A2 m c i)
  h3 : ∀ i, IsReal (A3 m c i)
  h4 : ∀ i, IsReal (A4 m c i)
  h5 : ∀ i, IsReal (A5 m c i)
  h6 : ∀ i, IsReal (A6 m c i)
  h7 : ∀ i, IsReal (A7 m c i)

variable {m} {c : Dev nD} (h : Fin' m c)
include h

theorem mixed_real (a : Fin 4) (b : Fin 2048) (q : Fin 1024) : IsReal (mixed m c (ix3 a b q)) := by
  unfold mixed
  pointwise [val_main_v0]
  split_ifs <;> first | exact h.h0 _ | exact h.h1 _ | exact h.h2 _

theorem gate_real (a : Fin 4) (b : Fin 2048) (q : Fin 1024) : IsReal (gate m c (ix3 a b q)) := h.h3 _

theorem sigmoid_real (a : Fin 4) (b : Fin 2048) (q : Fin 1024) : IsReal (Ideal.logistic (gate m c (ix3 a b q))) := (gate_real h a b q).logistic

theorem rows_real (a : Fin 4) (b : Fin 2048) (q : Fin 1024) : IsReal (rows m c (ix3 a b q)) := by
  rw [rows_eq]
  refine IsReal.sum _ fun k => IsReal.mul ?_ (h.h6 _)
  rw [gated_eq]
  exact (mixed_real h _ _ _).mul ((gate_real h _ _ _).mul (sigmoid_real h _ _ _))

theorem scale_real (a : Fin 4) (b : Fin 2048) : IsReal (Ideal.rsqrt (msq fun k => rows m c (ix3 a b k))) := rms_real _ fun k => rows_real h a b k

theorem err_real (a : Fin 4) (b : Fin 2048) (q : Fin 1024) : IsReal (err m c (ix3 a b q)) := by
  rw [err_eq, normed_eq]
  exact (((h.h4 _).add (((rows_real h a b q).mul (scale_real h a b)).mul (h.h7 _)))).sub (h.h5 _)

theorem dn_real (a : Fin 4) (b : Fin 2048) (q : Fin 1024) : IsReal (dn m c (ix3 a b q)) := by
  rw [dn_eq, dz_eq, word_inv_1024]
  exact ((err_real h a b q).mul ⟨_, rfl⟩).mul (h.h7 _)

/-- The gradient of the projected rows, in the closed form. -/
theorem dout_closed (a : Fin 4) (b : Fin 2048) (q : Fin 1024) :
    Ideal.rsqrt (msq fun k => rows m c (ix3 a b k)) * (dn m c (ix3 a b q) - rows m c (ix3 a b q) * Ideal.rsqrt (msq fun k => rows m c (ix3 a b k)) *
      Ideal.div (∑ k, dn m c (ix3 a b k) * (rows m c (ix3 a b k) * Ideal.rsqrt (msq fun k => rows m c (ix3 a b k)))) (Ideal.ofBits .f32 1149239296#32)) =
    dout m c (ix3 a b q) := by
  have e := rms_grad (fun k => rows m c (ix3 a b k)) (fun k => dn m c (ix3 a b k)) (rows_real h a b) (dn_real h a b) 0 q
  rw [zero_add, zero_add] at e
  exact e.trans (Cert.TailRefIdeal.Hand.dout_at _ _ _ _ _ _ _ _ a b q _ _ (fun _ => rfl) (fun _ => rfl)).symm

theorem dout_real (a : Fin 4) (b : Fin 2048) (q : Fin 1024) : IsReal (dout m c (ix3 a b q)) := by
  rw [← dout_closed h]
  exact (scale_real h a b).mul ((dn_real h a b q).sub (((rows_real h a b q).mul (scale_real h a b)).mul
    (IsReal.sum _ fun k => (dn_real h a b k).mul ((rows_real h a b k).mul (scale_real h a b))).mean))

theorem dy_real (a : Fin 4) (b : Fin 2048) (q : Fin 1024) : IsReal (dy m c (ix3 a b q)) := by
  rw [dy_eq]
  exact IsReal.sum _ fun k => (dout_real h a b k).mul (h.h6 _)

omit h

/-! ## A grid point's blocks -/

/-- The sequence and the step of a grid point's row. -/
def seqOf (t : Fin cfg0.N) (r : Fin 512) : Fin 4 := ⟨(t.val * 512 + r.val) / 2048, by have : t.val < 16 := lt_of_lt_of_eq t.isLt N_0; omega⟩
def stepOf (t : Fin cfg0.N) (r : Fin 512) : Fin 2048 := ⟨(t.val * 512 + r.val) % 2048, by omega⟩

variable (m c) (t : Fin cfg0.N) (r : Fin 512)

theorem pool_at (k : Fin 384) : iblk m c 0 t (ix2 r k) = A0 m c (ix3 (seqOf t r) (stepOf t r) k) := by blk_point [iblk, V, idx t, seqOf, stepOf]
theorem ssm_at (k : Fin 384) : iblk m c 1 t (ix2 r k) = A1 m c (ix3 (seqOf t r) (stepOf t r) k) := by blk_point [iblk, V, idx t, seqOf, stepOf]
theorem att_at (k : Fin 256) : iblk m c 2 t (ix2 r k) = A2 m c (ix3 (seqOf t r) (stepOf t r) k) := by blk_point [iblk, V, idx t, seqOf, stepOf]
theorem gate_at (k : Fin 1024) : iblk m c 3 t (ix2 r k) = gate m c (ix3 (seqOf t r) (stepOf t r) k) := by
  unfold gate
  pointwise [val_main_v1]
  blk_point [iblk, V, idx t, seqOf, stepOf]
theorem x_at (k : Fin 1024) : iblk m c 4 t (ix2 r k) = A4 m c (ix3 (seqOf t r) (stepOf t r) k) := by blk_point [iblk, V, idx t, seqOf, stepOf]
theorem target_at (k : Fin 1024) : iblk m c 5 t (ix2 r k) = A5 m c (ix3 (seqOf t r) (stepOf t r) k) := by blk_point [iblk, V, idx t, seqOf, stepOf]
theorem w_at (q k : Fin 1024) : iblk m c 6 t (ix2 q k) = A6 m c (ix3 0 q k) := by blk_point [iblk, V, idx t]
theorem gain_at (k : Fin 1024) : iblk m c 7 t (ix2 0 k) = A7 m c (ix2 0 k) := by blk_point [iblk, V, idx t]

/-! ## What the body computes of them -/

theorem mixed_point (q : Fin 1024) : k0_pay9 (F := Ideal) (iblk m c 0 t) (iblk m c 1 t) (iblk m c 2 t) (ix2 r q) = mixed m c (ix3 (seqOf t r) (stepOf t r) q) := by
  unfold mixed
  pointwise [k0_pay9, val_main_v0]
  simp only [pool_at m, ssm_at m, att_at m]

theorem gate_point (q : Fin 1024) : k0_pay10 (F := Ideal) (iblk m c 3 t) (ix2 r q) = gate m c (ix3 (seqOf t r) (stepOf t r) q) := by
  rw [← gate_at]
  pointwise [k0_pay10]

theorem sigmoid_point (q : Fin 1024) : k0_pay11 (F := Ideal) (iblk m c 3 t) (ix2 r q) = Ideal.logistic (gate m c (ix3 (seqOf t r) (stepOf t r) q)) := by
  rw [← gate_point]; rfl

theorem silu_point (q : Fin 1024) : k0_pay12 (F := Ideal) (iblk m c 3 t) (ix2 r q) =
    gate m c (ix3 (seqOf t r) (stepOf t r) q) * Ideal.logistic (gate m c (ix3 (seqOf t r) (stepOf t r) q)) := by
  rw [← sigmoid_point, ← gate_point]; rfl

theorem gated_point (q : Fin 1024) : k0_pay13 (F := Ideal) (iblk m c 0 t) (iblk m c 1 t) (iblk m c 2 t) (iblk m c 3 t) (ix2 r q) =
    gated m c (ix3 (seqOf t r) (stepOf t r) q) := by
  rw [gated_eq, ← silu_point, ← mixed_point]; rfl

abbrev pRows := k0_pay15 (F := Ideal) (iblk m c 0 t) (iblk m c 1 t) (iblk m c 2 t) (iblk m c 3 t) (iblk m c 6 t)
abbrev pScale := k0_pay16 (F := Ideal) (iblk m c 0 t) (iblk m c 1 t) (iblk m c 2 t) (iblk m c 3 t) (iblk m c 6 t)
abbrev pNormed := k0_pay17 (F := Ideal) (iblk m c 0 t) (iblk m c 1 t) (iblk m c 2 t) (iblk m c 3 t) (iblk m c 6 t)
abbrev pSum := k0_pay18 (F := Ideal) (iblk m c 0 t) (iblk m c 1 t) (iblk m c 2 t) (iblk m c 3 t) (iblk m c 6 t) (iblk m c 7 t) (iblk m c 4 t)
abbrev pErr := k0_pay19 (F := Ideal) (pSum m c t) (iblk m c 5 t)
abbrev pDz := k0_pay21 (F := Ideal) (pSum m c t) (iblk m c 5 t)
abbrev pDiff := k0_pay24 (F := Ideal) (pNormed m c t) (iblk m c 7 t) (pSum m c t) (iblk m c 5 t)
abbrev pDout := k0_pay1 (F := Ideal) (pScale m c t) (pDiff m c t)
abbrev pDy := k0_pay3 (F := Ideal) (k0_pay14 (iblk m c 6 t)) (pScale m c t) (pDiff m c t)

theorem rows_point (q : Fin 1024) : pRows m c t (ix2 r q) = rows m c (ix3 (seqOf t r) (stepOf t r) q) := by
  rw [rows_eq]
  simp only [← gated_point, ← w_at m c t]
  unfold pRows k0_pay15
  generalize k0_pay13 (F := Ideal) (iblk m c 0 t) (iblk m c 1 t) (iblk m c 2 t) (iblk m c 3 t) = y
  pointwise [k0_pay14]

theorem scale_point : pScale m c t (ix2 r 0) = Ideal.rsqrt (msq fun k => rows m c (ix3 (seqOf t r) (stepOf t r) k)) := by
  simp only [← rows_point]
  unfold pScale k0_pay16
  generalize hy : pRows m c t = y
  pointwise [hy, msq]

theorem normed_point (q : Fin 1024) : pNormed m c t (ix2 r q) = normed m c (ix3 (seqOf t r) (stepOf t r) q) := by
  rw [normed_eq, ← scale_point, ← rows_point]
  unfold pNormed k0_pay17
  generalize hy : pRows m c t = y
  generalize hs : pScale m c t = s
  pointwise [hy, hs]

theorem err_point (q : Fin 1024) : pErr m c t (ix2 r q) = err m c (ix3 (seqOf t r) (stepOf t r) q) := by
  rw [err_eq, ← normed_point, ← x_at, ← target_at, ← gain_at m c t]
  unfold pErr k0_pay19 pSum k0_pay18
  generalize hy : pNormed m c t = y
  pointwise [hy]

theorem dz_point (q : Fin 1024) : pDz m c t (ix2 r q) = dz m c (ix3 (seqOf t r) (stepOf t r) q) := by
  rw [dz_eq, ← err_point]
  unfold pDz k0_pay21
  generalize hy : pErr m c t = y
  pointwise [hy]

theorem diff_point (q : Fin 1024) : pDiff m c t (ix2 r q) = dn m c (ix3 (seqOf t r) (stepOf t r) q) - normed m c (ix3 (seqOf t r) (stepOf t r) q) *
    Ideal.div (∑ k, dn m c (ix3 (seqOf t r) (stepOf t r) k) * normed m c (ix3 (seqOf t r) (stepOf t r) k)) (Ideal.ofBits .f32 1149239296#32) := by
  simp only [dn_eq, ← normed_point, ← dz_point, ← gain_at m c t]
  unfold pDiff k0_pay24
  generalize hy : pNormed m c t = y
  generalize hz : pDz m c t = z
  pointwise [hz]

include h in
theorem dout_point (q : Fin 1024) : pDout m c t (ix2 r q) = dout m c (ix3 (seqOf t r) (stepOf t r) q) := by
  rw [← dout_closed h]
  simp only [← normed_eq]
  rw [← scale_point, ← diff_point]
  unfold pDout k0_pay1
  generalize pScale m c t = s
  generalize pDiff m c t = d
  pointwise []

include h in
theorem dy_point (q : Fin 1024) : pDy m c t (ix2 r q) = dy m c (ix3 (seqOf t r) (stepOf t r) q) := by
  rw [dy_eq]
  simp only [← dout_point _ _ h, ← w_at m c t]
  unfold pDy k0_pay3
  generalize hy : pDout m c t = y
  pointwise [hy, k0_pay14]

end Cert.TailIdeal.Hand
-- ==== Proof.Tail.Value.lean ====
module

public import proofs.«01_k».proof.Proof.Tail.Blocks

/-! # The tail's kernel: its results are the reference's -/

@[expose] public section

set_option maxRecDepth 16384

noncomputable section

namespace Cert.TailIdeal.Hand

open Cert.TailIdeal Cert.TailIdeal.Gen Idealize.ShloMosaic Idealize.ShloMosaic.TcCoe Idealize.SL.Sem
open Idealize.ShloMosaic.Pipeline (Dat)
open Cert.StepMath
open Cert.TailRefIdeal.Read

section
variable (m : (ℓ : Loc nD τ sig) → Buf (Elt Ideal) ℓ) (c : Dev nD) (h : Fin' m c) (t : Fin cfg0.N) (r : Fin 512)

/-- A block's row among all rows. -/
abbrev rowOf : Fin 8192 := ⟨t.val * 512 + r.val, by have : t.val < 16 := lt_of_lt_of_eq t.isLt N_0; omega⟩

/-- An array of all rows, read at a grid point's row. -/
theorem row_at (y : FVec Ideal Cert.TailRefIdeal.S4x2048x1024 .f32) (q : Fin 1024) :
    shapeCast Cert.TailRefIdeal.S8192x1024 y Cert.TailRefIdeal.Gen.shapeCasts_S4x2048x1024_S8192x1024 (ix2 (rowOf t r) q) = y (ix3 (seqOf t r) (stepOf t r) q) := by
  pointwise [seqOf, stepOf]

/-! ## The rows that each grid point writes -/

abbrev ref0 := val_main_v68 (F := Ideal) (A0 m c) (A1 m c) (A2 m c) (A3 m c) (A4 m c) (A5 m c) (A6 m c) (A7 m c)
abbrev ref1 := val_main_v70 (F := Ideal) (A0 m c) (A1 m c) (A2 m c) (A3 m c) (A4 m c) (A5 m c) (A6 m c) (A7 m c)
abbrev ref2 := val_main_v72 (F := Ideal) (A0 m c) (A1 m c) (A2 m c) (A3 m c) (A4 m c) (A5 m c) (A6 m c) (A7 m c)
abbrev ref3 := val_main_v73 (F := Ideal) (A0 m c) (A1 m c) (A2 m c) (A3 m c) (A4 m c) (A5 m c) (A6 m c) (A7 m c)
abbrev ref4 := val_main_v59 (F := Ideal) (A0 m c) (A1 m c) (A2 m c) (A3 m c) (A4 m c) (A5 m c) (A6 m c) (A7 m c)
abbrev ref5 := val_main_v74 (F := Ideal) (A0 m c) (A1 m c) (A2 m c) (A3 m c) (A4 m c) (A5 m c) (A6 m c) (A7 m c)

theorem dz_out (q : Fin 1024) : k0_pay22 (F := Ideal) (pSum m c t) (iblk m c 5 t) (ix2 r q) = ref0 m c (ix2 (rowOf t r) q) :=
  (dz_point m c t r q).trans (row_at t r (dz m c) q).symm

include h in
theorem dycat_out (q : Fin 1024) : k0_pay4 (F := Ideal) (k0_pay12 (iblk m c 3 t)) (k0_pay14 (iblk m c 6 t)) (pScale m c t) (pDiff m c t) (ix2 r q) =
    ref1 m c (ix2 (rowOf t r) q) := by
  refine Eq.trans ?_ (row_at t r (val_main_v65 (F := Ideal) (A0 m c) (A1 m c) (A2 m c) (A3 m c) (A4 m c) (A5 m c) (A6 m c) (A7 m c)) q).symm
  rw [Cert.TailRefIdeal.Hand.dycat_at]
  refine Eq.trans ?_ (congrArg₂ (· * ·) (dy_point m c h t r q) (silu_point m c t r q))
  unfold k0_pay4
  generalize hy : pDy m c t = y
  generalize k0_pay12 (F := Ideal) (iblk m c 3 t) = s
  pointwise [hy]

include h in
theorem dgate_out (q : Fin 1024) : k0_pay5 (F := Ideal) (k0_pay9 (iblk m c 0 t) (iblk m c 1 t) (iblk m c 2 t)) (k0_pay10 (iblk m c 3 t))
      (k0_pay11 (iblk m c 3 t)) (k0_pay14 (iblk m c 6 t)) (pScale m c t) (pDiff m c t) (ix2 r q) = ref2 m c (ix2 (rowOf t r) q) := by
  refine Eq.trans ?_ (row_at t r (val_main_v66 (F := Ideal) (A0 m c) (A1 m c) (A2 m c) (A3 m c) (A4 m c) (A5 m c) (A6 m c) (A7 m c)) q).symm
  rw [Cert.TailRefIdeal.Hand.dgate_at _ _ _ _ _ _ _ _ (seqOf t r) (stepOf t r) q _ _ _ rfl (Cert.TailRefIdeal.Hand.sigmoid_at ..) rfl]
  refine Eq.trans ?_ (silu_grad (dy m c _) (mixed m c _) (gate m c _) (Ideal.logistic (gate m c _)) (dy_real h _ _ _) (mixed_real h _ _ _) (gate_real h _ _ _) (sigmoid_real h (seqOf t r) (stepOf t r) q))
  rw [← dy_point m c h t r q, ← sigmoid_point m c t r q, ← gate_point m c t r q, ← mixed_point m c t r q]
  unfold k0_pay5
  generalize hy : pDy m c t = y
  generalize k0_pay9 (F := Ideal) (iblk m c 0 t) (iblk m c 1 t) (iblk m c 2 t) = p
  generalize k0_pay11 (F := Ideal) (iblk m c 3 t) = s
  generalize k0_pay10 (F := Ideal) (iblk m c 3 t) = g
  pointwise [hy, word_one]

/-! ## The sums' steps -/

include h in
theorem dw_step (o : Vec Ideal S1024x1024 .f32) (q k : Fin 1024) :
    k0_pay2 (F := Ideal) (k0_pay13 (iblk m c 0 t) (iblk m c 1 t) (iblk m c 2 t) (iblk m c 3 t)) (pScale m c t) (pDiff m c t) o (ix2 q k) =
      o (ix2 q k) + ∑ r : Fin 512, dout m c (ix3 (seqOf t r) (stepOf t r) k) * gated m c (ix3 (seqOf t r) (stepOf t r) q) := by
  simp only [← dout_point m c h, ← gated_point]
  unfold k0_pay2
  generalize hy : pDout m c t = y
  generalize k0_pay13 (F := Ideal) (iblk m c 0 t) (iblk m c 1 t) (iblk m c 2 t) (iblk m c 3 t) = p
  pointwise [hy]
  exact congrArg (o (ix2 q k) + ·) (Finset.sum_congr rfl fun r _ => mul_comm _ _)

theorem dg_step (o : Vec Ideal S1x1024 .f32) (q : Fin 1024) :
    k0_pay23 (F := Ideal) (pNormed m c t) (pSum m c t) (iblk m c 5 t) o (ix2 0 q) =
      o (ix2 0 q) + ∑ r : Fin 512, normed m c (ix3 (seqOf t r) (stepOf t r) q) * dz m c (ix3 (seqOf t r) (stepOf t r) q) := by
  simp only [← normed_point, ← dz_point]
  unfold k0_pay23
  generalize hy : pDz m c t = y
  generalize pNormed m c t = n
  pointwise [hy]
  exact congrArg (o (ix2 0 q) + ·) (Finset.sum_congr rfl fun r _ => mul_comm _ _)

include h in
theorem loss_step (o : Vec Ideal S1x128 .f32) (j : Fin 128) :
    k0_pay20 (F := Ideal) (pSum m c t) (iblk m c 5 t) o (ix2 0 j) = o (ix2 0 j) +
      ∑ r : Fin 512, Ideal.ofBits .f32 1056964608#32 * Cert.TailRefIdeal.Hand.rowLoss fun k => err m c (ix3 (seqOf t r) (stepOf t r) k) := by
  have hr : ∀ r : Fin 512, IsReal (Cert.TailRefIdeal.Hand.rowLoss fun k => err m c (ix3 (seqOf t r) (stepOf t r) k)) := fun r =>
    (IsReal.sum _ fun k => (err_real h _ _ k).mul (err_real h _ _ k)).mean
  rw [← mul_sum_real _ _ ⟨_, word_half⟩ _ hr]
  simp only [← err_point, Cert.TailRefIdeal.Hand.rowLoss]
  unfold k0_pay20
  generalize hy : pErr m c t = y
  pointwise [hy]

end

/-! ## The results -/

variable (m : (ℓ : Loc nD τ sig) → Buf (Elt Ideal) ℓ) (c : Dev nD)

theorem final8 : (dats m 0 c).arrAt 8 cfg0.N = ref0 m c := by
  refine (dats m 0 c).arrAt_eq_of_covers 8 _ (by decide +kernel) fun t _ y => ?_
  blk_simp
  rw [after0_8]
  obtain ⟨r, q, rfl⟩ : ∃ (r : Fin 512) (q : Fin 1024), y = ix2 r q := ⟨y 0, y 1, by blk_ext []⟩
  rw [show ((View.whole main_v12_0).slice (win0_8.rect t)).emb (ix2 r q) = ix2 (rowOf t r) q from by blk_ext [idx t]]
  refine Eq.trans ?_ (dz_out m c t r q)
  by_cases h : t.val % 16 = 0
  · rw [outsAt0_A m c t h]; frame_out
  · rw [outsAt0_B m c t h]; frame_out

theorem final9 (hf : Fin' m c) : (dats m 0 c).arrAt 9 cfg0.N = ref1 m c := by
  refine (dats m 0 c).arrAt_eq_of_covers 9 _ (by decide +kernel) fun t _ y => ?_
  blk_simp
  rw [after0_9]
  obtain ⟨r, q, rfl⟩ : ∃ (r : Fin 512) (q : Fin 1024), y = ix2 r q := ⟨y 0, y 1, by blk_ext []⟩
  rw [show ((View.whole main_v12_1).slice (win0_9.rect t)).emb (ix2 r q) = ix2 (rowOf t r) q from by blk_ext [idx t]]
  refine Eq.trans ?_ (dycat_out m c hf t r q)
  by_cases h : t.val % 16 = 0
  · rw [outsAt0_A m c t h]; frame_out
  · rw [outsAt0_B m c t h]; frame_out

theorem final10 (hf : Fin' m c) : (dats m 0 c).arrAt 10 cfg0.N = ref2 m c := by
  refine (dats m 0 c).arrAt_eq_of_covers 10 _ (by decide +kernel) fun t _ y => ?_
  blk_simp
  rw [after0_10]
  obtain ⟨r, q, rfl⟩ : ∃ (r : Fin 512) (q : Fin 1024), y = ix2 r q := ⟨y 0, y 1, by blk_ext []⟩
  rw [show ((View.whole main_v12_2).slice (win0_10.rect t)).emb (ix2 r q) = ix2 (rowOf t r) q from by blk_ext [idx t]]
  refine Eq.trans ?_ (dgate_out m c hf t r q)
  by_cases h : t.val % 16 = 0
  · rw [outsAt0_A m c t h]; frame_out
  · rw [outsAt0_B m c t h]; frame_out

/-- The sequences' steps are the grid points' rows. -/
theorem sum_rows (f : Fin 4 → Fin 2048 → EReal) : ∑ t : Fin cfg0.N, ∑ r : Fin 512, f (seqOf t r) (stepOf t r) = ∑ a, ∑ b, f a b := by
  have hN : 8192 = cfg0.N * 512 := by rw [show cfg0.N = 16 from N_0]
  rw [← Fin.sum_divmod_congr (F := fun n : Fin 8192 => f ⟨n.val / 2048, by omega⟩ ⟨n.val % 2048, by omega⟩) fun _ _ _ => rfl]
  exact Fin.sum_mul_add_fin cfg0.N 512 (fun n : Fin 8192 => f ⟨n.val / 2048, by omega⟩ ⟨n.val % 2048, by omega⟩) hN

theorem final11 (hf : Fin' m c) : (dats m 0 c).arrAt 11 cfg0.N = ref3 m c := by
  refine (dats m 0 c).arrAt_eq_of_after_last 11 t0_15 (by decide +kernel) _ fun j => ?_
  blk_simp
  obtain ⟨q, k, rfl⟩ : ∃ (q k : Fin 1024), j = ix2 q k := ⟨j 0, j 1, by blk_ext []⟩
  refine Eq.trans ?_ (Cert.TailRefIdeal.Hand.dw_at ..).symm
  rw [after0_11, ← sum_rows, Pipeline.eq_sum_fin_of_reset_step_apply_last (fun n h => (outsAt0 m c n h).2.2.2.1) 16 (fun _ => 0)
    (fun t j => ∑ r : Fin 512, dout m c (ix3 (seqOf t r) (stepOf t r) (j 1)) * gated m c (ix3 (seqOf t r) (stepOf t r) (j 0)))
    (fun t h j => by
      obtain ⟨q, k, rfl⟩ : ∃ (q k : Fin 1024), j = ix2 q k := ⟨j 0, j 1, by blk_ext []⟩
      rw [outsAt0_A m c t h]; frame_out
      refine (dw_step m c hf t _ q k).trans (congrArg (· + _) ?_)
      pointwise [k0_pay6])
    (fun t h j => by
      obtain ⟨q, k, rfl⟩ : ∃ (q k : Fin 1024), j = ix2 q k := ⟨j 0, j 1, by blk_ext []⟩
      rw [outsAt0_B m c t h]; frame_out
      exact dw_step m c hf t _ q k) (le_of_eq N_0) t0_15 rfl, zero_add]
  rfl

theorem final12 : (dats m 0 c).arrAt 12 cfg0.N = ref4 m c := by
  refine (dats m 0 c).arrAt_eq_of_after_last 12 t0_15 (by decide +kernel) _ fun j => ?_
  blk_simp
  obtain ⟨q, rfl⟩ : ∃ q : Fin 1024, j = ix2 0 q := ⟨j 1, by blk_ext []⟩
  refine Eq.trans ?_ (Cert.TailRefIdeal.Hand.dg_at ..).symm
  rw [after0_12, ← sum_rows, Pipeline.eq_sum_fin_of_reset_step_apply_last (fun n h => (outsAt0 m c n h).2.2.2.2.1) 16 (fun _ => 0)
    (fun t j => ∑ r : Fin 512, normed m c (ix3 (seqOf t r) (stepOf t r) (j 1)) * dz m c (ix3 (seqOf t r) (stepOf t r) (j 1)))
    (fun t h j => by
      obtain ⟨q, rfl⟩ : ∃ q : Fin 1024, j = ix2 0 q := ⟨j 1, by blk_ext []⟩
      rw [outsAt0_A m c t h]; frame_out
      refine (dg_step m c t _ q).trans (congrArg (· + _) ?_)
      pointwise [k0_pay7])
    (fun t h j => by
      obtain ⟨q, rfl⟩ : ∃ q : Fin 1024, j = ix2 0 q := ⟨j 1, by blk_ext []⟩
      rw [outsAt0_B m c t h]; frame_out
      exact dg_step m c t _ q) (le_of_eq N_0) t0_15 rfl, zero_add]
  rfl

theorem final13 (hf : Fin' m c) : (dats m 0 c).arrAt 13 cfg0.N = ref5 m c := by
  refine (dats m 0 c).arrAt_eq_of_after_last 13 t0_15 (by decide +kernel) _ fun j => ?_
  blk_simp
  obtain ⟨q, rfl⟩ : ∃ q : Fin 128, j = ix2 0 q := ⟨j 1, by blk_ext []⟩
  have hr : ∀ a b, IsReal (Cert.TailRefIdeal.Hand.rowLoss fun k => err m c (ix3 a b k)) := fun a b =>
    (IsReal.sum _ fun k => (err_real hf _ _ k).mul (err_real hf _ _ k)).mean
  have e := (Cert.TailRefIdeal.Hand.loss_at (A0 m c) (A1 m c) (A2 m c) (A3 m c) (A4 m c) (A5 m c) (A6 m c) (A7 m c) q).trans
    ((mul_sum_real _ _ ⟨_, word_half⟩ _ fun a => IsReal.sum _ fun b => hr a b).trans
      (Finset.sum_congr rfl fun a _ => mul_sum_real _ _ ⟨_, word_half⟩ _ fun b => hr a b))
  refine Eq.trans ?_ e.symm
  rw [after0_13, ← sum_rows, Pipeline.eq_sum_fin_of_reset_step_apply_last (fun n h => (outsAt0 m c n h).2.2.2.2.2) 16 (fun _ => 0)
    (fun t j => ∑ r : Fin 512, Ideal.ofBits .f32 1056964608#32 * Cert.TailRefIdeal.Hand.rowLoss fun k => err m c (ix3 (seqOf t r) (stepOf t r) k))
    (fun t h j => by
      obtain ⟨q, rfl⟩ : ∃ q : Fin 128, j = ix2 0 q := ⟨j 1, by blk_ext []⟩
      rw [outsAt0_A m c t h]; frame_out
      refine (loss_step m c hf t _ q).trans (congrArg (· + _) ?_)
      pointwise [k0_pay8])
    (fun t h j => by
      obtain ⟨q, rfl⟩ : ∃ q : Fin 128, j = ix2 0 q := ⟨j 1, by blk_ext []⟩
      rw [outsAt0_B m c t h]; frame_out
      exact loss_step m c hf t _ q) (le_of_eq N_0) t0_15 rfl, zero_add]

end Cert.TailIdeal.Hand
-- ==== Proof.Tail.Claims.lean ====
module

public import proofs.«01_k».proof.Defs
public import proofs.«01_k».proof.Proof.Gen.Tail
public import proofs.«01_k».proof.Proof.Gen.Tail.Frame
public import proofs.«01_k».proof.Proof.Gen.TailRefIdeal.Run
public import proofs.«01_k».proof.Proof.Gen.Pre_tail_finite
public import proofs.«01_k».proof.Proof.Tail.Value
public import proofs.«01_k».proof.Proof.Math.Finite

/-! # The claims about the step's tail -/

@[expose] public section

set_option maxRecDepth 16384

noncomputable section

namespace Cert.TailClaims

open Idealize.ShloMosaic Idealize.ShloMosaic.TcCoe Idealize.SL.Sem
open Cert.StepMath

attribute [local instance] Cert.Tail.Gen.facts Cert.TailIdeal.Gen.facts Cert.TailRefIdeal.Gen.facts Cert.Pre_tail_finite.Gen.facts

theorem frame_ref : Cert.quiescent_TailRefIdeal := by
  intro m g _
  exact (θ_run Cert.TailRefIdeal.defs _ _).mono (fun r h => ⟨fun c => (h c).2.2.2.2.2.2, sem_eq_zero_of_no_sems (by decide) r.2⟩)
    (Cert.TailRefIdeal.Value.run m g)

theorem frame_ref_pre : Cert.quiescent_TailRefIdeal_pre_tail_finite := fun m g _ => frame_ref m g trivial

section
variable (m : (ℓ : Loc Cert.TailIdeal.nD Cert.TailIdeal.τ Cert.TailIdeal.sig) → Buf (Elt Ideal) ℓ)
  (m' : (ℓ : Loc Cert.TailRefIdeal.nD Cert.TailRefIdeal.τ Cert.TailRefIdeal.sig) → Buf (Elt Ideal) ℓ) (c : Dev Cert.TailIdeal.nD)
open Cert.TailIdeal.Hand Cert.TailRefIdeal.Read

/-- The two programs were given the same arrays. -/
def Agree : Prop := m' ((c.tc : Thread Cert.TailRefIdeal.nD Cert.TailRefIdeal.τ).loc Cert.TailRefIdeal.main_arg0) = A0 m c
    ∧ m' ((c.tc : Thread Cert.TailRefIdeal.nD Cert.TailRefIdeal.τ).loc Cert.TailRefIdeal.main_arg1) = A1 m c
    ∧ m' ((c.tc : Thread Cert.TailRefIdeal.nD Cert.TailRefIdeal.τ).loc Cert.TailRefIdeal.main_arg2) = A2 m c
    ∧ m' ((c.tc : Thread Cert.TailRefIdeal.nD Cert.TailRefIdeal.τ).loc Cert.TailRefIdeal.main_arg3) = A3 m c
    ∧ m' ((c.tc : Thread Cert.TailRefIdeal.nD Cert.TailRefIdeal.τ).loc Cert.TailRefIdeal.main_arg4) = A4 m c
    ∧ m' ((c.tc : Thread Cert.TailRefIdeal.nD Cert.TailRefIdeal.τ).loc Cert.TailRefIdeal.main_arg5) = A5 m c
    ∧ m' ((c.tc : Thread Cert.TailRefIdeal.nD Cert.TailRefIdeal.τ).loc Cert.TailRefIdeal.main_arg6) = A6 m c
    ∧ m' ((c.tc : Thread Cert.TailRefIdeal.nD Cert.TailRefIdeal.τ).loc Cert.TailRefIdeal.main_arg7) = A7 m c

/-- What the kernel's run leaves: its six results, and its arguments unchanged. -/
theorem kernel_run (g : Dev Cert.TailIdeal.nD → PrngReg) :
    θ_run (Cert.TailIdeal.defs (F := Ideal)) (onTc (τ := Cert.TailIdeal.τ) (Cert.TailIdeal.main (F := Ideal))) ⟨m, fun _ => 0, g⟩ (fun r => ∀ c : Dev Cert.TailIdeal.nD,
      r.2.mem ((c.tc : Thread Cert.TailIdeal.nD Cert.TailIdeal.τ).loc Cert.TailIdeal.main_v12_0) = (Cert.TailIdeal.Gen.dats m 0 c).arrAt 8 Cert.TailIdeal.cfg0.N
      ∧ r.2.mem ((c.tc : Thread Cert.TailIdeal.nD Cert.TailIdeal.τ).loc Cert.TailIdeal.main_v12_1) = (Cert.TailIdeal.Gen.dats m 0 c).arrAt 9 Cert.TailIdeal.cfg0.N
      ∧ r.2.mem ((c.tc : Thread Cert.TailIdeal.nD Cert.TailIdeal.τ).loc Cert.TailIdeal.main_v12_2) = (Cert.TailIdeal.Gen.dats m 0 c).arrAt 10 Cert.TailIdeal.cfg0.N
      ∧ r.2.mem ((c.tc : Thread Cert.TailIdeal.nD Cert.TailIdeal.τ).loc Cert.TailIdeal.main_v12_3) = (Cert.TailIdeal.Gen.dats m 0 c).arrAt 11 Cert.TailIdeal.cfg0.N
      ∧ r.2.mem ((c.tc : Thread Cert.TailIdeal.nD Cert.TailIdeal.τ).loc Cert.TailIdeal.main_v12_4) = (Cert.TailIdeal.Gen.dats m 0 c).arrAt 12 Cert.TailIdeal.cfg0.N
      ∧ r.2.mem ((c.tc : Thread Cert.TailIdeal.nD Cert.TailIdeal.τ).loc Cert.TailIdeal.main_v12_5) = (Cert.TailIdeal.Gen.dats m 0 c).arrAt 13 Cert.TailIdeal.cfg0.N
      ∧ r.2.mem ((c.tc : Thread Cert.TailIdeal.nD Cert.TailIdeal.τ).loc Cert.TailIdeal.main_arg0) = A0 m c
      ∧ r.2.mem ((c.tc : Thread Cert.TailIdeal.nD Cert.TailIdeal.τ).loc Cert.TailIdeal.main_arg1) = A1 m c
      ∧ r.2.mem ((c.tc : Thread Cert.TailIdeal.nD Cert.TailIdeal.τ).loc Cert.TailIdeal.main_arg2) = A2 m c
      ∧ r.2.mem ((c.tc : Thread Cert.TailIdeal.nD Cert.TailIdeal.τ).loc Cert.TailIdeal.main_arg3) = A3 m c
      ∧ r.2.mem ((c.tc : Thread Cert.TailIdeal.nD Cert.TailIdeal.τ).loc Cert.TailIdeal.main_arg4) = A4 m c
      ∧ r.2.mem ((c.tc : Thread Cert.TailIdeal.nD Cert.TailIdeal.τ).loc Cert.TailIdeal.main_arg5) = A5 m c
      ∧ r.2.mem ((c.tc : Thread Cert.TailIdeal.nD Cert.TailIdeal.τ).loc Cert.TailIdeal.main_arg6) = A6 m c
      ∧ r.2.mem ((c.tc : Thread Cert.TailIdeal.nD Cert.TailIdeal.τ).loc Cert.TailIdeal.main_arg7) = A7 m c) :=
  (θ_run Cert.TailIdeal.defs _ _).mono (fun _ h c => ⟨(h.2 c).1 8, (h.2 c).1 9, (h.2 c).1 10, (h.2 c).1 11, (h.2 c).1 12, (h.2 c).1 13, h.1 c⟩)
    (θ_run_and (Cert.TailIdeal.Gen.unchanged m g) (Cert.TailIdeal.Gen.run_main m g))

theorem finite_args (hpre : Cert.Pre_TailIdeal_tail_finite m) : Fin' m c := by
  obtain ⟨h0, h1, h2, h3, h4, h5, h6, h7⟩ := hpre c
  exact ⟨isReal_of_ones _ _ h0, isReal_of_ones _ _ h1, isReal_of_ones _ _ h2, isReal_of_ones _ _ h3, isReal_of_ones _ _ h4, isReal_of_ones _ _ h5, isReal_of_ones _ _ h6, isReal_of_ones _ _ h7⟩

/-- The error's gradient: the reference and the kernel end with the same, when the arguments agree. -/
theorem dz_eq (h : Agree m m' c) :
    Cert.TailRefIdeal.Value.res_main_v68 m' c = (Cert.TailIdeal.Gen.dats m 0 c).arrAt 8 Cert.TailIdeal.cfg0.N := by
  obtain ⟨e0, e1, e2, e3, e4, e5, e6, e7⟩ := h
  refine (val_main_v68_eq m' c).trans (Eq.trans ?_ (final8 m c).symm)
  rw [e0, e1, e2, e3, e4, e5, e6, e7]

/-- The mixers' gradient: the reference and the kernel end with the same, when the arguments agree. -/
theorem dycat_eq (hf : Fin' m c) (h : Agree m m' c) :
    Cert.TailRefIdeal.Value.res_main_v70 m' c = (Cert.TailIdeal.Gen.dats m 0 c).arrAt 9 Cert.TailIdeal.cfg0.N := by
  obtain ⟨e0, e1, e2, e3, e4, e5, e6, e7⟩ := h
  refine (val_main_v70_eq m' c).trans (Eq.trans ?_ (final9 m c hf).symm)
  rw [e0, e1, e2, e3, e4, e5, e6, e7]

/-- The gate's gradient: the reference and the kernel end with the same, when the arguments agree. -/
theorem dgate_eq (hf : Fin' m c) (h : Agree m m' c) :
    Cert.TailRefIdeal.Value.res_main_v72 m' c = (Cert.TailIdeal.Gen.dats m 0 c).arrAt 10 Cert.TailIdeal.cfg0.N := by
  obtain ⟨e0, e1, e2, e3, e4, e5, e6, e7⟩ := h
  refine (val_main_v72_eq m' c).trans (Eq.trans ?_ (final10 m c hf).symm)
  rw [e0, e1, e2, e3, e4, e5, e6, e7]

/-- The output projection's gradient: the reference and the kernel end with the same, when the arguments agree. -/
theorem dw_eq (hf : Fin' m c) (h : Agree m m' c) :
    Cert.TailRefIdeal.Value.res_main_v73 m' c = (Cert.TailIdeal.Gen.dats m 0 c).arrAt 11 Cert.TailIdeal.cfg0.N := by
  obtain ⟨e0, e1, e2, e3, e4, e5, e6, e7⟩ := h
  refine (val_main_v73_eq m' c).trans (Eq.trans ?_ (final11 m c hf).symm)
  rw [e0, e1, e2, e3, e4, e5, e6, e7]

/-- The post-norm's gain's gradient: the reference and the kernel end with the same, when the arguments agree. -/
theorem dg_eq (h : Agree m m' c) :
    Cert.TailRefIdeal.Value.res_main_v59 m' c = (Cert.TailIdeal.Gen.dats m 0 c).arrAt 12 Cert.TailIdeal.cfg0.N := by
  obtain ⟨e0, e1, e2, e3, e4, e5, e6, e7⟩ := h
  refine (val_main_v59_eq m' c).trans (Eq.trans ?_ (final12 m c).symm)
  rw [e0, e1, e2, e3, e4, e5, e6, e7]

/-- The loss: the reference and the kernel end with the same, when the arguments agree. -/
theorem loss_eq (hf : Fin' m c) (h : Agree m m' c) :
    Cert.TailRefIdeal.Value.res_main_v74 m' c = (Cert.TailIdeal.Gen.dats m 0 c).arrAt 13 Cert.TailIdeal.cfg0.N := by
  obtain ⟨e0, e1, e2, e3, e4, e5, e6, e7⟩ := h
  refine (val_main_v74_eq m' c).trans (Eq.trans ?_ (final13 m c hf).symm)
  rw [e0, e1, e2, e3, e4, e5, e6, e7]

theorem algebraic : Cert.algebraic_TailIdeal_TailRefIdeal_pre_tail_finite := by
  intro m g m' g' hpre hagree
  refine ⟨_, _, _, _, _, _, kernel_run m g, (θ_run _ _ _).mono (fun r h c => ?_) (Cert.TailRefIdeal.Value.run m' g')⟩
  have ha : Agree m m' c := hagree c
  have hf := finite_args m c hpre
  obtain ⟨r0, r1, r2, r3, r4, r5, k⟩ := h c
  exact ⟨r0.trans (dz_eq m m' c ha), r1.trans (dycat_eq m m' c hf ha), r2.trans (dgate_eq m m' c hf ha), r3.trans (dw_eq m m' c hf ha), r4.trans (dg_eq m m' c ha), r5.trans (loss_eq m m' c hf ha), k⟩

end

end Cert.TailClaims
-- ==== Proof.Math.Window.lean ====
module

public import proofs.«01_k».proof.Proof.Math.Real

/-!
  # Windows over a column of 2048 numbers

  `back k x` is the column `x` moved down by `k` places and `ahead k x` the column moved up, zeros coming in. A causal window of `w` is the sum of the
  first `w` columns moved down: it is what repeated doubling gives, and, on real numbers, a difference of two running sums.
-/

@[expose] public section

set_option maxRecDepth 16384

noncomputable section

namespace Cert.StepMath

open Idealize.ShloMosaic

abbrev Col := Fin 2048 → EReal

/-- The column moved down by `k`. -/
def back (k : ℕ) (x : Col) : Col := fun r => if h : k ≤ r.val then x ⟨r.val - k, by omega⟩ else 0

/-- The column moved up by `k`. -/
def ahead (k : ℕ) (x : Col) : Col := fun r => if h : r.val + k < 2048 then x ⟨r.val + k, h⟩ else 0

/-- The sum of `w` rows that end at a row. -/
def ending (w : ℕ) (x : Col) : Col := fun r => ∑ i ∈ Finset.range w, back i x r

/-- The sum of `w` rows that begin at a row. -/
def starting (w : ℕ) (x : Col) : Col := fun r => ∑ i ∈ Finset.range w, ahead i x r

theorem back_zero (x : Col) : back 0 x = x := by funext r; simp [back]
theorem ahead_zero (x : Col) : ahead 0 x = x := by funext r; simp [ahead]

theorem back_ending (k w : ℕ) (x : Col) (r : Fin 2048) : back k (ending w x) r = ∑ i ∈ Finset.range w, back (k + i) x r := by
  unfold back ending
  split_ifs with h
  · refine Finset.sum_congr rfl fun i _ => ?_
    unfold back
    by_cases h' : k + i ≤ r.val
    · rw [dif_pos (by simp only; omega), dif_pos h']; congr 1; apply Fin.ext; simp only; omega
    · rw [dif_neg (by simp only; omega), dif_neg h']
  · exact (Finset.sum_eq_zero fun i _ => by rw [dif_neg (by omega)]).symm

theorem ahead_starting (k w : ℕ) (x : Col) (r : Fin 2048) : ahead k (starting w x) r = ∑ i ∈ Finset.range w, ahead (k + i) x r := by
  unfold ahead starting
  split_ifs with h
  · refine Finset.sum_congr rfl fun i _ => ?_
    unfold ahead
    by_cases h' : r.val + (k + i) < 2048
    · rw [dif_pos (by simp only; omega), dif_pos h']; congr 1; apply Fin.ext; simp only; omega
    · rw [dif_neg (by simp only; omega), dif_neg h']
  · exact (Finset.sum_eq_zero fun i _ => by rw [dif_neg (by omega)]).symm

/-- A window doubles by adding itself moved by its length. -/
theorem ending_double (w : ℕ) (x : Col) (r : Fin 2048) : ending w x r + back w (ending w x) r = ending (w + w) x r := by
  rw [back_ending]; unfold ending; rw [Finset.sum_range_add]

theorem starting_double (w : ℕ) (x : Col) (r : Fin 2048) : starting w x r + ahead w (starting w x) r = starting (w + w) x r := by
  rw [ahead_starting]; unfold starting; rw [Finset.sum_range_add]

theorem ending_one (x : Col) : ending 1 x = x := by funext r; simp [ending, back_zero]
theorem starting_one (x : Col) : starting 1 x = x := by funext r; simp [starting, ahead_zero]

theorem IsReal.back {x : Col} (h : ∀ r, IsReal (x r)) (k : ℕ) (r : Fin 2048) : IsReal (back k x r) := by
  unfold StepMath.back; split_ifs; exacts [h _, ⟨0, rfl⟩]

theorem IsReal.ahead {x : Col} (h : ∀ r, IsReal (x r)) (k : ℕ) (r : Fin 2048) : IsReal (ahead k x r) := by
  unfold StepMath.ahead; split_ifs; exacts [h _, ⟨0, rfl⟩]

theorem IsReal.ending {x : Col} (h : ∀ r, IsReal (x r)) (w : ℕ) (r : Fin 2048) : IsReal (ending w x r) :=
  IsReal.sum _ fun _ => IsReal.back h _ _

theorem IsReal.starting {x : Col} (h : ∀ r, IsReal (x r)) (w : ℕ) (r : Fin 2048) : IsReal (starting w x r) :=
  IsReal.sum _ fun _ => IsReal.ahead h _ _

/-! ## Running sums -/

/-- Real terms that vanish from some place on: a sum less the same sum `w` later is the first `w` terms. -/
theorem sum_sub_later {X : ℕ → EReal} (hX : ∀ i, IsReal (X i)) (n w : ℕ) (h0 : ∀ i, n ≤ i → X i = 0) :
    (∑ i ∈ Finset.range n, (X i - X (w + i))) = ∑ i ∈ Finset.range w, X i
    ∧ (∑ i ∈ Finset.range n, X i) - (∑ i ∈ Finset.range n, X (w + i)) = ∑ i ∈ Finset.range w, X i := by
  choose Y hY using hX
  have hYf : X = fun i => ((Y i : ℝ) : EReal) := funext hY
  subst hYf
  have key : (∑ i ∈ Finset.range n, Y i) - (∑ i ∈ Finset.range n, Y (w + i)) = ∑ i ∈ Finset.range w, Y i := by
    have e1 := Finset.sum_range_add Y w n
    have e2 := Finset.sum_range_add Y n w
    have e3 : ∑ i ∈ Finset.range w, Y (n + i) = 0 := Finset.sum_eq_zero fun i _ => by
      exact EReal.coe_eq_zero.mp (h0 (n + i) (by omega))
    rw [Nat.add_comm] at e2
    linarith
  simp only [← EReal.coe_sub, coe_sum]
  rw [Finset.sum_sub_distrib, key]
  exact ⟨rfl, rfl⟩

/-- The running sum of a column, less the running sum `w` rows above, is the window. -/
theorem running_sub {x : Col} (hx : ∀ r, IsReal (x r)) (w : ℕ) (r : Fin 2048) :
    ending 2048 x r - back w (ending 2048 x) r = ending w x r := by
  rw [back_ending]
  refine (sum_sub_later (fun i => IsReal.back hx i r) 2048 w fun i hi => ?_).2
  unfold back; rw [dif_neg (by omega)]

/-- The sum from a row on, of a column less itself moved up, is the window that begins at the row. -/
theorem starting_sub {x : Col} (hx : ∀ r, IsReal (x r)) (w : ℕ) (r : Fin 2048) :
    starting 2048 (fun s => x s - ahead w x s) r = starting w x r := by
  refine Eq.trans (Finset.sum_congr rfl fun i _ => ?_) (sum_sub_later (fun i => IsReal.ahead hx i r) 2048 w fun i hi => ?_).1
  · unfold ahead
    by_cases h : r.val + i < 2048
    · rw [dif_pos h, dif_pos h]
      by_cases h' : r.val + (w + i) < 2048
      · beta_reduce
        rw [dif_pos (show r.val + i + w < 2048 by omega), dif_pos h']
        congr 3; show r.val + i + w = r.val + (w + i); omega
      · beta_reduce
        rw [dif_neg (show ¬ r.val + i + w < 2048 by omega), dif_neg h']
    · rw [dif_neg h, dif_neg h, dif_neg (by omega)]; simp
  · unfold ahead; rw [dif_neg (by omega)]

/-! ## The host's running sums -/

section host
variable {A C : ℕ}

theorem foldl_add_finRange (N : ℕ) (f : Fin N → EReal) (v : EReal) : (List.finRange N).foldl (fun r n => r + f n) v = v + ∑ n, f n := by
  rw [Fin.sum_univ_def]
  generalize List.finRange N = l
  induction l generalizing v with
  | nil => simp
  | cons a l ih => rw [List.foldl_cons, ih, List.map_cons, List.sum_cons, add_assoc]

theorem column_bijective : Function.Bijective (fun k : Fin 2048 => (ix3 0 k 0 : (⟨3, ![1, 2048, 1]⟩ : Shape).Idx)) := by
  constructor
  · intro k k' e; exact congrFun e 1
  · intro i
    refine ⟨i 1, ?_⟩
    funext a
    match a with
    | ⟨0, _⟩ => exact Subsingleton.elim (α := Fin 1) _ _
    | ⟨1, _⟩ => rfl
    | ⟨2, _⟩ => exact Subsingleton.elim (α := Fin 1) _ _

theorem sum_rowMajor (F : Fin (⟨3, ![1, 2048, 1]⟩ : Shape).numel → EReal) :
    ∑ n, F n = ∑ k : Fin 2048, F ((⟨3, ![1, 2048, 1]⟩ : Shape).rowMajor (ix3 0 k 0)) :=
  (((⟨3, ![1, 2048, 1]⟩ : Shape).rowMajor.bijective.comp column_bijective).sum_comp F).symm

/-- A sum over windows of one whole column, at an entry. -/
theorem hostReduceWindowAdd_column (lo hi : Fin 3 → ℕ)
    (h : (⟨3, ![A, 2048, C]⟩ : Shape).ReduceWindows ![1, 2048, 1] ![1, 1, 1] lo hi ⟨3, ![A, 2048, C]⟩)
    (h0 : lo 0 = 0) (h2 : lo 2 = 0) (x : (⟨3, ![A, 2048, C]⟩ : Shape).Idx → EReal) (a : Fin A) (t : Fin 2048) (q : Fin C) :
    Ideal.hostReduceWindowAdd ![1, 2048, 1] ![1, 1, 1] lo hi h x 0 (ix3 a t q)
      = ∑ k : Fin 2048, if hin : lo 1 ≤ t.val + k.val ∧ t.val + k.val - lo 1 < 2048 then x (ix3 a ⟨t.val + k.val - lo 1, hin.2⟩ q) else 0 := by
  unfold Ideal.hostReduceWindowAdd Host.reduceWindow
  dsimp only
  rw [foldl_add_finRange, zero_add]
  rw [sum_rowMajor]
  refine Finset.sum_congr rfl fun k _ => ?_
  let J : (⟨3, ![1, 2048, 1]⟩ : Shape).Idx := (⟨3, ![1, 2048, 1]⟩ : Shape).rowMajor.symm ((⟨3, ![1, 2048, 1]⟩ : Shape).rowMajor (ix3 0 k 0))
  have hj : (⟨3, ![1, 2048, 1]⟩ : Shape).rowMajor.symm ((⟨3, ![1, 2048, 1]⟩ : Shape).rowMajor (ix3 0 k 0)) = ix3 0 k 0 := Equiv.symm_apply_apply _ _
  have j0 := congrArg Fin.val (congrFun hj 0)
  have j1 := congrArg Fin.val (congrFun hj 1)
  have j2 := congrArg Fin.val (congrFun hj 2)
  change (J 0).val = 0 at j0; change (J 1).val = k.val at j1; change (J 2).val = 0 at j2
  by_cases hin : lo 1 ≤ t.val + k.val ∧ t.val + k.val - lo 1 < 2048
  · rw [dif_pos hin, dif_pos]
    · congr 1; funext d
      match d with
      | ⟨0, _⟩ => apply Fin.ext; show a.val * 1 + (J 0).val - lo 0 = a.val; omega
      | ⟨1, _⟩ => apply Fin.ext; show t.val * 1 + (J 1).val - lo 1 = t.val + k.val - lo 1; omega
      | ⟨2, _⟩ => apply Fin.ext; show q.val * 1 + (J 2).val - lo 2 = q.val; omega
    · intro d
      match d with
      | ⟨0, _⟩ => show lo 0 ≤ a.val * 1 + (J 0).val ∧ a.val * 1 + (J 0).val - lo 0 < A; omega
      | ⟨1, _⟩ => show lo 1 ≤ t.val * 1 + (J 1).val ∧ t.val * 1 + (J 1).val - lo 1 < 2048; omega
      | ⟨2, _⟩ => show lo 2 ≤ q.val * 1 + (J 2).val ∧ q.val * 1 + (J 2).val - lo 2 < C; omega
  · rw [dif_neg hin, dif_neg]
    intro hin'
    have := hin' 1
    apply hin
    have e : lo 1 ≤ t.val * 1 + (J 1).val ∧ t.val * 1 + (J 1).val - lo 1 < 2048 := this
    omega

/-- The running sum down a column. -/
theorem hostRunning (h : (⟨3, ![A, 2048, C]⟩ : Shape).ReduceWindows ![1, 2048, 1] ![1, 1, 1] ![0, 2047, 0] ![0, 0, 0] ⟨3, ![A, 2048, C]⟩)
    (x : (⟨3, ![A, 2048, C]⟩ : Shape).Idx → EReal) (a : Fin A) (t : Fin 2048) (q : Fin C) :
    Ideal.hostReduceWindowAdd ![1, 2048, 1] ![1, 1, 1] ![0, 2047, 0] ![0, 0, 0] h x 0 (ix3 a t q) = ending 2048 (fun s => x (ix3 a s q)) t := by
  rw [hostReduceWindowAdd_column _ _ h rfl rfl]
  unfold ending
  rw [Finset.sum_range, ← Equiv.sum_comp Fin.revPerm]
  refine Finset.sum_congr rfl fun k _ => ?_
  unfold back
  have hk : (Fin.revPerm k).val = 2047 - k.val := by rw [Fin.revPerm_apply, Fin.val_rev]; omega
  have e : (![0, 2047, 0] : Fin 3 → ℕ) 1 = 2047 := rfl
  by_cases hin : k.val ≤ t.val
  · rw [dif_pos hin, dif_pos (by rw [e]; omega)]
    exact congrArg (fun s => x (ix3 a s q)) (Fin.ext (by simp only [e]; omega))
  · rw [dif_neg hin, dif_neg (by rw [e]; omega)]

/-- The running sum up a column. -/
theorem hostRunning_up (h : (⟨3, ![A, 2048, C]⟩ : Shape).ReduceWindows ![1, 2048, 1] ![1, 1, 1] ![0, 0, 0] ![0, 2047, 0] ⟨3, ![A, 2048, C]⟩)
    (x : (⟨3, ![A, 2048, C]⟩ : Shape).Idx → EReal) (a : Fin A) (t : Fin 2048) (q : Fin C) :
    Ideal.hostReduceWindowAdd ![1, 2048, 1] ![1, 1, 1] ![0, 0, 0] ![0, 2047, 0] h x 0 (ix3 a t q) = starting 2048 (fun s => x (ix3 a s q)) t := by
  rw [hostReduceWindowAdd_column _ _ h rfl rfl]
  unfold starting
  rw [Finset.sum_range]
  refine Finset.sum_congr rfl fun k _ => ?_
  unfold ahead
  have e : (![0, 0, 0] : Fin 3 → ℕ) 1 = 0 := rfl
  by_cases hin : t.val + k.val < 2048
  · rw [dif_pos hin, dif_pos (by rw [e]; omega)]
    congr 2
  · rw [dif_neg hin, dif_neg (by rw [e]; omega)]

end host

end Cert.StepMath

end
-- ==== Proof.Pool.Scratch.lean ====
module

public import proofs.«01_k».proof.Proof.Gen.PoolIdeal.Frame
public import proofs.«01_k».proof.Proof.Math.Window
public import Idealize.ShloMosaic.Lib.Pipeline.ValueKit
public import Idealize.ShloMosaic.Lib.Pipeline.ReadBack
public import Idealize.ShloMosaic.Lib.Claim

/-! # The pool kernels' scratch array: a block beside sixteen rows of zeros, read back moved by some rows -/

@[expose] public section

set_option maxRecDepth 16384

noncomputable section

namespace Cert.PoolIdeal.Hand

open Cert.PoolIdeal Cert.PoolIdeal.Gen Idealize.ShloMosaic Idealize.ShloMosaic.TcCoe Idealize.SL.Sem
open Cert.StepMath

/-- A block moved down. -/
def backArr (k : ℕ) (p : Vec Ideal S2048x384 .f32) : Vec Ideal S2048x384 .f32 := fun i => back k (fun s => p (ix2 s (i 1))) (i 0)
/-- A block moved up. -/
def aheadArr (k : ℕ) (p : Vec Ideal S2048x384 .f32) : Vec Ideal S2048x384 .f32 := fun i => ahead k (fun s => p (ix2 s (i 1))) (i 0)

/-- The writes leave zeros in the rows from `lo` up to `hi`. -/
def Clear (lo hi : ℕ) (L : List (View.Piece (Elt Ideal) S2064x384 .f32)) : Prop :=
  ∀ y : S2064x384.Idx, lo ≤ (y 0).val → (y 0).val < hi → View.canon L y = (0 : EReal)

theorem mem_rows {o n : ℕ} {inb} (y : S2064x384.Idx) : y ∈ (Rect.unit (s := S2064x384) ![o, 0] ![n, 384] inb).toLoadRect.set ↔ o ≤ (y 0).val ∧ (y 0).val < o + n := by
  rw [LoadRect.mem_set]
  constructor
  · intro h
    obtain ⟨j, hj, e⟩ := h 0
    have hj : j < n := hj
    have e : (y 0).val = o + 1 * j := e
    omega
  · rintro ⟨h1, h2⟩ a
    fin_cases a
    · exact ⟨(y 0).val - o, show (y 0).val - o < n by omega, show (y 0).val = o + 1 * ((y 0).val - o) by omega⟩
    · exact ⟨(y 1).val, (y 1).isLt, show (y 1).val = 0 + 1 * (y 1).val by omega⟩

/-- A write elsewhere leaves the zeros. -/
theorem clear_cons {lo hi o n : ℕ} {inb} (p) {L} (h : Clear lo hi L) (hd : hi ≤ o ∨ o + n ≤ lo) :
    Clear lo hi (⟨Rect.unit (s := S2064x384) ![o, 0] ![n, 384] inb, p⟩ :: L) := by
  intro y h1 h2
  rw [View.canon_cons_of_not_mem _ _ (by rw [mem_rows]; omega)]
  exact h y h1 h2

/-- A write of zeros. -/
theorem clear_zero {lo hi o n : ℕ} {inb} (p) {L} (hp : ∀ i, p i = (0 : EReal)) (hd : o ≤ lo ∧ hi ≤ o + n) :
    Clear lo hi (⟨Rect.unit (s := S2064x384) ![o, 0] ![n, 384] inb, p⟩ :: L) := by
  intro y h1 h2
  obtain ⟨x, rfl⟩ := LoadRect.exists_idx_of_mem _ ((mem_rows (inb := inb) y).mpr (by omega))
  exact (View.canon_cons_emb (Rect.unit (s := S2064x384) ![o, 0] ![n, 384] inb) p L x).trans (hp _)

/-- The block below sixteen rows of zeros, read `k` rows higher. -/
theorem back_load (v : View sig .tc .vmem S2064x384 .f32) (p : Vec Ideal S2048x384 .f32) (L) (o k : ℕ) (hk : o + k = 16) (inb inb') (h : Clear 0 16 L) :
    v.readCov (⟨Rect.unit (s := S2064x384) ![16, 0] ![2048, 384] inb, p⟩ :: L) (Rect.unit (s := S2064x384) ![o, 0] ![2048, 384] inb').toLoadRect = backArr k p := by
  rw [View.readCov_eq_canon']
  funext i
  obtain ⟨r, q, rfl⟩ : ∃ (r : Fin 2048) (q : Fin 384), i = ix2 r q := ⟨i 0, i 1, by blk_ext []⟩
  show _ = back k (fun s => p (ix2 s q)) r
  unfold back
  by_cases hr : k ≤ r.val
  · rw [dif_pos hr]
    refine Eq.trans (congrArg (View.canon _) ?_) (View.canon_cons_emb (Rect.unit (s := S2064x384) ![16, 0] ![2048, 384] inb) p L (ix2 ⟨r.val - k, by omega⟩ q))
    funext a; apply Fin.ext
    fin_cases a
    · show o + 1 * r.val = 16 + 1 * (r.val - k); omega
    · rfl
  · rw [dif_neg hr]
    have e : ((Rect.unit (s := S2064x384) ![o, 0] ![2048, 384] inb').toLoadRect.idx (ix2 r q) 0).val = o + 1 * r.val := rfl
    exact clear_cons p h (.inl le_rfl) _ (Nat.zero_le _) (by omega)

/-- The block above sixteen rows of zeros, read `k` rows lower. -/
theorem ahead_load (v : View sig .tc .vmem S2064x384 .f32) (p : Vec Ideal S2048x384 .f32) (L) (k : ℕ) (hk : k ≤ 16) (inb inb') (h : Clear 2048 2064 L) :
    v.readCov (⟨Rect.unit (s := S2064x384) ![0, 0] ![2048, 384] inb, p⟩ :: L) (Rect.unit (s := S2064x384) ![k, 0] ![2048, 384] inb').toLoadRect = aheadArr k p := by
  rw [View.readCov_eq_canon']
  funext i
  obtain ⟨r, q, rfl⟩ : ∃ (r : Fin 2048) (q : Fin 384), i = ix2 r q := ⟨i 0, i 1, by blk_ext []⟩
  show _ = ahead k (fun s => p (ix2 s q)) r
  unfold ahead
  by_cases hr : r.val + k < 2048
  · rw [dif_pos hr]
    refine Eq.trans (congrArg (View.canon _) ?_) (View.canon_cons_emb (Rect.unit (s := S2064x384) ![0, 0] ![2048, 384] inb) p L (ix2 ⟨r.val + k, hr⟩ q))
    funext a; apply Fin.ext
    fin_cases a
    · show k + 1 * r.val = 0 + 1 * (r.val + k); omega
    · rfl
  · rw [dif_neg hr]
    have e : ((Rect.unit (s := S2064x384) ![k, 0] ![2048, 384] inb').toLoadRect.idx (ix2 r q) 0).val = k + 1 * r.val := rfl
    exact clear_cons p h (.inr le_rfl) _ (by omega) (by omega)

end Cert.PoolIdeal.Hand

end
-- ==== Proof.Math.Groups.lean ====
module

public import proofs.«01_k».proof.Proof.Math.Window
public import proofs.«01_k».proof.Proof.Math.Gate

/-!
  # Four groups of 96 columns, each with a window of its own

  Column `q` belongs to group `grp q`, where it is column `pos q`. The groups' windows have 2, 4, 8 and 16 rows, fewer at the top, where only the rows so
  far count. A matrix of four blocks on the diagonal multiplies group by group.
-/

@[expose] public section

set_option maxRecDepth 16384

noncomputable section

namespace Cert.StepMath

open Idealize.ShloMosaic

/-- Column `j` of group `g`. -/
abbrev colOf (g : Fin 4) (j : Fin 96) : Fin 384 := ⟨96 * g.val + j.val, by omega⟩
def grp (q : Fin 384) : Fin 4 := ⟨q.val / 96, by omega⟩
def pos (q : Fin 384) : Fin 96 := ⟨q.val % 96, by omega⟩

theorem grp_colOf (g : Fin 4) (j : Fin 96) : grp (colOf g j) = g := Fin.ext (by show (96 * g.val + j.val) / 96 = _; omega)
theorem pos_colOf (g : Fin 4) (j : Fin 96) : pos (colOf g j) = j := Fin.ext (by show (96 * g.val + j.val) % 96 = _; omega)
theorem colOf_grp_pos (q : Fin 384) : colOf (grp q) (pos q) = q := Fin.ext (by show 96 * (q.val / 96) + q.val % 96 = _; omega)

/-- A column is some column of some group. -/
theorem exists_colOf (q : Fin 384) : ∃ g j, q = colOf g j := ⟨grp q, pos q, (colOf_grp_pos q).symm⟩

/-- A sum over all columns, group by group. -/
theorem sum_cols (f : Fin 384 → EReal) : ∑ q, f q = ∑ g : Fin 4, ∑ j : Fin 96, f (colOf g j) := by
  rw [← Fintype.sum_prod_type']
  refine (Function.Bijective.sum_comp (g := f) (e := fun p : Fin 4 × Fin 96 => colOf p.1 p.2) ⟨fun p p' e => ?_, fun q => ⟨(grp q, pos q), colOf_grp_pos q⟩⟩).symm
  have e1 := congrArg grp e; have e2 := congrArg pos e
  simp only [grp_colOf, pos_colOf] at e1 e2
  exact Prod.ext e1 e2

/-- The length of the window of a column's group. -/
def wide (g : Fin 4) : ℕ := 2 ^ (g.val + 1)

theorem wide_pos (g : Fin 4) : 0 < wide g := Nat.pos_of_ne_zero (by unfold wide; positivity)

/-- How many rows a window that ends at row `t` has. -/
def cnt (g : Fin 4) (t : Fin 2048) : ℝ := min (1 + t.val) (wide g)

theorem cnt_pos (g : Fin 4) (t : Fin 2048) : 0 < cnt g t := lt_min (by positivity) (by exact_mod_cast wide_pos g)

theorem word_four : Ideal.ofBits .f32 1082130432#32 = ((4 : ℝ) : EReal) := by simp [Ideal.ofBits, Ideal.ieee, -EReal.coe_mul]; norm_num
theorem word_eight : Ideal.ofBits .f32 1090519040#32 = ((8 : ℝ) : EReal) := by simp [Ideal.ofBits, Ideal.ieee, -EReal.coe_mul]; norm_num
theorem word_sixteen : Ideal.ofBits .f32 1098907648#32 = ((16 : ℝ) : EReal) := by simp [Ideal.ofBits, Ideal.ieee, -EReal.coe_mul]; norm_num

theorem sitofp_nat (n : ℕ) (h : n < 4096) : (FloatOps.sitofp (F := Ideal) FTy.f32 (BitVec.ofNat 32 n) : EReal) = ((n : ℝ) : EReal) := by
  show (((BitVec.ofNat 32 n).toInt : ℝ) : EReal) = _
  have : (BitVec.ofNat 32 n).toInt = (n : ℤ) := by
    rw [BitVec.toInt_ofNat', Int.bmod_eq_of_le] <;> omega
  rw [this]; norm_cast

theorem IsReal.div_cnt {x : EReal} (h : IsReal x) (g : Fin 4) (t : Fin 2048) : IsReal (Ideal.div x (cnt g t)) := by
  obtain ⟨r, rfl⟩ := h
  exact ⟨_, Ideal.div_coe (cnt_pos g t).ne' r⟩

/-- The block-diagonal matrix of four blocks. -/
def blockDiag (w : Fin 4 → Fin 96 → Fin 96 → EReal) (k q : Fin 384) : EReal := if grp k = grp q then w (grp q) (pos k) (pos q) else 0

theorem blockDiag_same (w : Fin 4 → Fin 96 → Fin 96 → EReal) (g : Fin 4) (k j : Fin 96) : blockDiag w (colOf g k) (colOf g j) = w g k j := by
  unfold blockDiag; rw [grp_colOf, grp_colOf, pos_colOf, pos_colOf, if_pos rfl]

theorem blockDiag_off (w : Fin 4 → Fin 96 → Fin 96 → EReal) {g g' : Fin 4} (h : g ≠ g') (k j : Fin 96) : blockDiag w (colOf g k) (colOf g' j) = 0 := by
  unfold blockDiag; rw [grp_colOf, grp_colOf, if_neg h]

/-- A row times the block-diagonal matrix. -/
theorem sum_blockDiag (w : Fin 4 → Fin 96 → Fin 96 → EReal) (x : Fin 384 → EReal) (g : Fin 4) (j : Fin 96) :
    ∑ k, x k * blockDiag w k (colOf g j) = ∑ k : Fin 96, x (colOf g k) * w g k j := by
  rw [sum_cols, Finset.sum_eq_single g]
  · exact Finset.sum_congr rfl fun k _ => by rw [blockDiag_same]
  · intro g' _ h; exact Finset.sum_eq_zero fun k _ => by rw [blockDiag_off _ h, mul_zero]
  · intro h; exact absurd (Finset.mem_univ _) h

/-- A row times its transpose. -/
theorem sum_blockDiag_transpose (w : Fin 4 → Fin 96 → Fin 96 → EReal) (x : Fin 384 → EReal) (g : Fin 4) (j : Fin 96) :
    ∑ k, x k * blockDiag w (colOf g j) k = ∑ k : Fin 96, x (colOf g k) * w g j k := by
  rw [sum_cols, Finset.sum_eq_single g]
  · exact Finset.sum_congr rfl fun k _ => by rw [blockDiag_same]
  · intro g' _ h; exact Finset.sum_eq_zero fun k _ => by rw [blockDiag_off _ h.symm, mul_zero]
  · intro h; exact absurd (Finset.mem_univ _) h

/-! ## A column's width, as the kernels look it up -/

/-- The width that the comparisons with a column's number choose. -/
abbrev laneWidth (q : Fin 384) : EReal :=
  Scalar.select (IntOp.cmpi CmpIPredicate.slt (BitVec.ofNat 32 q.val) 96#32) (Ideal.ofBits FTy.f32 1073741824#32)
    (Scalar.select (IntOp.cmpi CmpIPredicate.slt (BitVec.ofNat 32 q.val) 192#32) (Ideal.ofBits FTy.f32 1082130432#32)
      (Scalar.select (IntOp.cmpi CmpIPredicate.slt (BitVec.ofNat 32 q.val) 288#32) (Ideal.ofBits FTy.f32 1090519040#32) (Ideal.ofBits FTy.f32 1098907648#32)))

theorem below_each : ∀ q : Fin 384, IntOp.cmpi CmpIPredicate.slt (BitVec.ofNat 32 q.val) 96#32 = (if q.val < 96 then 1#1 else 0#1)
    ∧ IntOp.cmpi CmpIPredicate.slt (BitVec.ofNat 32 q.val) 192#32 = (if q.val < 192 then 1#1 else 0#1)
    ∧ IntOp.cmpi CmpIPredicate.slt (BitVec.ofNat 32 q.val) 288#32 = (if q.val < 288 then 1#1 else 0#1) := by decide +kernel

theorem lane_eq (q : Fin 384) : laneWidth q = ((wide (grp q) : ℝ) : EReal) := by
  obtain ⟨h1, h2, h3⟩ := below_each q
  unfold laneWidth
  rw [h1, h2, h3]
  by_cases a : q.val < 96
  · rw [if_pos a, show grp q = 0 from Fin.ext (show q.val / 96 = 0 by omega)]
    exact word_two.trans (by norm_num [wide])
  rw [if_neg a]
  by_cases b : q.val < 192
  · rw [if_pos b, show grp q = 1 from Fin.ext (show q.val / 96 = 1 by omega)]
    exact word_four.trans (by norm_num [wide])
  rw [if_neg b]
  by_cases d : q.val < 288
  · rw [if_pos d, show grp q = 2 from Fin.ext (show q.val / 96 = 2 by omega)]
    exact word_eight.trans (by norm_num [wide])
  rw [if_neg d, show grp q = 3 from Fin.ext (show q.val / 96 = 3 by omega)]
  exact word_sixteen.trans (by norm_num [wide])

/-- The choice among the four windows by the width. -/
theorem pick (g : Fin 4) (z : EReal) (hz : z = ((wide g : ℝ) : EReal)) (F : ℕ → EReal) :
    (if z = Ideal.ofBits FTy.f32 1073741824#32 then F 2 else if z = Ideal.ofBits FTy.f32 1082130432#32 then F 4
      else if z = Ideal.ofBits FTy.f32 1090519040#32 then F 8 else F 16) = F (wide g) := by
  subst hz
  have h2 : Ideal.ofBits FTy.f32 1073741824#32 = ((2 : ℝ) : EReal) := word_two
  have h4 : Ideal.ofBits FTy.f32 1082130432#32 = ((4 : ℝ) : EReal) := word_four
  have h8 : Ideal.ofBits FTy.f32 1090519040#32 = ((8 : ℝ) : EReal) := word_eight
  rw [h2, h4, h8]
  simp only [EReal.coe_eq_coe_iff]
  fin_cases g <;> norm_num [wide]

/-- The count of a row among the first sixteen. -/
theorem mean_first {g : Fin 4} {r : Fin 2048} {z : EReal} (hz : z = ((wide g : ℝ) : EReal)) :
    min (FloatOps.sitofp (F := Ideal) FTy.f32 (IntOp.addi (BitVec.ofNat 32 r.val) 1#32) : EReal) z = (cnt g r : EReal) := by
  subst hz
  rw [show IntOp.addi (BitVec.ofNat 32 r.val) 1#32 = BitVec.ofNat 32 (r.val + 1) from (BitVec.ofNat_add r.val 1).symm, sitofp_nat _ (by omega),
    ← EReal.coe_strictMono.monotone.map_min]
  unfold cnt
  push_cast
  rw [add_comm]

/-- A row further down has a whole window. -/
theorem mean_rest {g : Fin 4} {r : Fin 2048} (hr : ¬ r.val < 16) {z x : EReal} (hz : z = ((wide g : ℝ) : EReal)) :
    x * Ideal.div 1 z = Ideal.div x (cnt g r) := by
  subst hz
  have hc : cnt g r = wide g := by
    unfold cnt
    refine min_eq_right ?_
    have h1 : (16 : ℝ) ≤ r.val := by exact_mod_cast (not_lt.mp hr)
    have h2 : (wide g : ℝ) ≤ 16 := by fin_cases g <;> norm_num [wide]
    linarith
  have h0 : (wide g : ℝ) ≠ 0 := by fin_cases g <;> norm_num [wide]
  rw [hc, Ideal.div_coe h0, Ideal.div_coe h0, one_mul]

end Cert.StepMath

end
-- ==== Proof.Pool.Ref.lean ====
module

public import proofs.«01_k».proof.Proof.Gen.PoolRefIdeal.Read
public import proofs.«01_k».proof.Proof.Math.Groups

/-!
  # The window means: the reference's rows, entry by entry

  The reference takes the means as differences of running sums. On finite arguments these are the plain windows, and so are the sums of the gradient.
-/

@[expose] public section

set_option maxRecDepth 16384

noncomputable section

namespace Cert.PoolRefIdeal.Hand

open Cert.PoolRefIdeal Cert.PoolRefIdeal.Gen Cert.PoolRefIdeal.Read Idealize.ShloMosaic Idealize.ShloMosaic.TcCoe Idealize.SL.Sem
open Cert.StepMath

variable (u : Vec Ideal S4x2048x384 .f32) (w : Vec Ideal S1x4x96x96 .f32) (ps : Vec Ideal S1x384 .f32) (dy : Vec Ideal S4x2048x384 .f32)

/-! ## What the rows are -/

/-- The weights of the groups. -/
def weight (g : Fin 4) (k j : Fin 96) : EReal := w (ix4 0 g k j)
/-- A window's mean less the row itself. -/
def diff (a : Fin 4) (t : Fin 2048) (q : Fin 384) : EReal :=
  Ideal.div (ending (wide (grp q)) (fun s => u (ix3 a s q)) t) (cnt (grp q) t) - u (ix3 a t q)
/-- The rows after the groups' products. -/
def mix (a : Fin 4) (t : Fin 2048) (q : Fin 384) : EReal := ∑ k, diff u a t (colOf (grp q) k) * weight w (grp q) k (pos q)
/-- The gradient of these rows. -/
def dyo (a : Fin 4) (t : Fin 2048) (q : Fin 384) : EReal := dy (ix3 a t q) * ps (ix2 0 q)
/-- The gradient of the differences. -/
def dd (a : Fin 4) (t : Fin 2048) (q : Fin 384) : EReal := ∑ k, dyo ps dy a t (colOf (grp q) k) * weight w (grp q) (pos q) k
/-- The gradient of the windows' sums. -/
def dwin (a : Fin 4) (q : Fin 384) : Col := fun t => Ideal.div (dd w ps dy a t q) (cnt (grp q) t)

/-! ## The reference's stages -/

variable (a : Fin 4) (t : Fin 2048) (q : Fin 384) (g : Fin 4) (j k : Fin 96)

theorem running_at : val_main_v3 (F := Ideal) u (ix3 a t q) = ending 2048 (fun s => u (ix3 a s q)) t := by
  have h0 : (broadcastInDim S_ ![] bcast_S_S_ (val_main_call0_call0_cst (F := Ideal))) (Shape.Idx.first h_S_) = (0 : EReal) := by
    unfold val_main_call0_call0_cst; pointwise
  unfold val_main_v3 Host.reduceWindowAdd
  rw [show val_main_call0_call0_v0 (F := Ideal) = broadcastInDim S_ ![] bcast_S_S_ val_main_call0_call0_cst from rfl, h0]
  exact hostRunning _ u a t q

/-- A mean as the reference takes it. -/
theorem mean_diff (hu : ∀ i, IsReal (u i)) (b : EReal) (z : EReal) (q : Fin 384) (W : ℕ) (hW : wide (grp q) = W) (hz : z = ((W : ℝ) : EReal))
    (hb : b = back W (ending 2048 fun s => u (ix3 a s q)) t) :
    Ideal.div (ending 2048 (fun s => u (ix3 a s q)) t - b) (min (1 + (FloatOps.sitofp (F := Ideal) FTy.f32 (BitVec.ofNat 32 t.val) : EReal)) z) - u (ix3 a t q) = diff u a t q := by
  subst hb hz hW
  rw [running_sub (fun r => hu _), sitofp_nat _ (by omega), ← EReal.coe_one, ← EReal.coe_add, ← EReal.coe_strictMono.monotone.map_min]
  rfl

theorem v22_at (hu : ∀ i, IsReal (u i)) : val_main_v22 (F := Ideal) u (ix3 a t j) = diff u a t (colOf 0 j) := by
  rw [show colOf 0 j = ⟨j.val, by omega⟩ from Fin.ext (by simp)]
  unfold val_main_v22 val_main_v21 val_main_v20 val_main_v16 val_main_v15 val_main_v13 val_main_v12 val_main_v10 val_main_v4
  generalize hy : val_main_v3 u = y1
  pointwise [val_main_v19, val_main_v18, val_main_v17, val_main_cst_4, val_main_v9, val_main_v8, val_main_v7, val_main_v6, val_main_cst_1, val_main_v14, val_main_v11, val_main_cst_2, val_main_cst_3, val_main_v2, val_main_cst]
  subst hy
  simp only [running_at]
  refine mean_diff u a t hu _ _ ⟨j.val, by omega⟩ 2 (show wide (grp ⟨j.val, _⟩) = 2 by rw [show (⟨j.val, _⟩ : Fin 384) = colOf 0 j from Fin.ext (by simp), grp_colOf]; rfl) (word_two.trans (by norm_num)) ?_
  unfold back
  split_ifs <;> first | rfl | (exfalso; omega) | (rw [dif_neg (by omega)]) | (rw [dif_pos (by omega)]; refine congrArg (ending 2048 _) (Fin.ext ?_); simp only [Nat.sub_sub]) | (refine congrArg (ending 2048 _) (Fin.ext ?_); simp only [Nat.sub_sub])

theorem v38_at (hu : ∀ i, IsReal (u i)) : val_main_v38 (F := Ideal) u (ix3 a t j) = diff u a t (colOf 1 j) := by
  unfold val_main_v38 val_main_v37 val_main_v36 val_main_v32 val_main_v31 val_main_v29 val_main_v28 val_main_v26 val_main_v4
  generalize hy : val_main_v3 u = y1
  pointwise [val_main_v35, val_main_v34, val_main_v33, val_main_cst_7, val_main_v9, val_main_v8, val_main_v7, val_main_v6, val_main_cst_1, val_main_v30, val_main_v27, val_main_cst_5, val_main_cst_6, val_main_v2, val_main_cst]
  subst hy
  simp only [running_at]
  refine mean_diff u a t hu _ _ (colOf 1 j) 4 (by rw [grp_colOf]; rfl) (word_four.trans (by norm_num)) ?_
  unfold back
  split_ifs <;> first | rfl | (exfalso; omega) | (rw [dif_neg (by omega)]) | (rw [dif_pos (by omega)]; refine congrArg (ending 2048 _) (Fin.ext ?_); simp only [Nat.sub_sub]) | (refine congrArg (ending 2048 _) (Fin.ext ?_); simp only [Nat.sub_sub])

theorem v54_at (hu : ∀ i, IsReal (u i)) : val_main_v54 (F := Ideal) u (ix3 a t j) = diff u a t (colOf 2 j) := by
  unfold val_main_v54 val_main_v53 val_main_v52 val_main_v48 val_main_v47 val_main_v45 val_main_v44 val_main_v42 val_main_v4
  generalize hy : val_main_v3 u = y1
  pointwise [val_main_v51, val_main_v50, val_main_v49, val_main_cst_10, val_main_v9, val_main_v8, val_main_v7, val_main_v6, val_main_cst_1, val_main_v46, val_main_v43, val_main_cst_8, val_main_cst_9, val_main_v2, val_main_cst]
  subst hy
  simp only [running_at]
  refine mean_diff u a t hu _ _ (colOf 2 j) 8 (by rw [grp_colOf]; rfl) (word_eight.trans (by norm_num)) ?_
  unfold back
  split_ifs <;> first | rfl | (exfalso; omega) | (rw [dif_neg (by omega)]) | (rw [dif_pos (by omega)]; refine congrArg (ending 2048 _) (Fin.ext ?_); simp only [Nat.sub_sub]) | (refine congrArg (ending 2048 _) (Fin.ext ?_); simp only [Nat.sub_sub])

theorem v70_at (hu : ∀ i, IsReal (u i)) : val_main_v70 (F := Ideal) u (ix3 a t j) = diff u a t (colOf 3 j) := by
  unfold val_main_v70 val_main_v69 val_main_v68 val_main_v64 val_main_v63 val_main_v61 val_main_v60 val_main_v58 val_main_v4
  generalize hy : val_main_v3 u = y1
  pointwise [val_main_v67, val_main_v66, val_main_v65, val_main_cst_13, val_main_v9, val_main_v8, val_main_v7, val_main_v6, val_main_cst_1, val_main_v62, val_main_v59, val_main_cst_11, val_main_cst_12, val_main_v2, val_main_cst]
  subst hy
  simp only [running_at]
  refine mean_diff u a t hu _ _ (colOf 3 j) 16 (by rw [grp_colOf]; rfl) (word_sixteen.trans (by norm_num)) ?_
  unfold back
  split_ifs <;> first | rfl | (exfalso; omega) | (rw [dif_neg (by omega)]) | (rw [dif_pos (by omega)]; refine congrArg (ending 2048 _) (Fin.ext ?_); simp only [Nat.sub_sub]) | (refine congrArg (ending 2048 _) (Fin.ext ?_); simp only [Nat.sub_sub])

theorem v25_at (hu : ∀ i, IsReal (u i)) : val_main_v25 (F := Ideal) u w (ix3 a t j) = mix u w a t (colOf 0 j) := by
  unfold val_main_v25
  generalize hy : val_main_v22 u = y
  pointwise [val_main_v24, val_main_v23, val_main_v0]
  subst hy
  simp only [v22_at u a t _ hu, mix, grp_colOf, pos_colOf]
  rfl

theorem v41_at (hu : ∀ i, IsReal (u i)) : val_main_v41 (F := Ideal) u w (ix3 a t j) = mix u w a t (colOf 1 j) := by
  unfold val_main_v41
  generalize hy : val_main_v38 u = y
  pointwise [val_main_v40, val_main_v39, val_main_v0]
  subst hy
  simp only [v38_at u a t _ hu, mix, grp_colOf, pos_colOf]
  rfl

theorem v57_at (hu : ∀ i, IsReal (u i)) : val_main_v57 (F := Ideal) u w (ix3 a t j) = mix u w a t (colOf 2 j) := by
  unfold val_main_v57
  generalize hy : val_main_v54 u = y
  pointwise [val_main_v56, val_main_v55, val_main_v0]
  subst hy
  simp only [v54_at u a t _ hu, mix, grp_colOf, pos_colOf]
  rfl

theorem v73_at (hu : ∀ i, IsReal (u i)) : val_main_v73 (F := Ideal) u w (ix3 a t j) = mix u w a t (colOf 3 j) := by
  unfold val_main_v73
  generalize hy : val_main_v70 u = y
  pointwise [val_main_v72, val_main_v71, val_main_v0]
  subst hy
  simp only [v70_at u a t _ hu, mix, grp_colOf, pos_colOf]
  rfl

/-- All groups beside each other. -/
theorem mix_at (hu : ∀ i, IsReal (u i)) : val_main_v74 (F := Ideal) u w (ix3 a t q) = mix u w a t q := by
  unfold val_main_v74
  generalize hy1 : val_main_v25 u w = y1
  generalize hy2 : val_main_v41 u w = y2
  generalize hy3 : val_main_v57 u w = y3
  generalize hy4 : val_main_v73 u w = y4
  pointwise
  subst hy1 hy2 hy3 hy4
  simp only [v25_at u w a t _ hu, v41_at u w a t _ hu, v57_at u w a t _ hu, v73_at u w a t _ hu]
  split_ifs <;> refine congrArg (mix u w a t) (Fin.ext ?_) <;> simp <;> omega

theorem y_at (hu : ∀ i, IsReal (u i)) : val_main_v77 (F := Ideal) u w ps (ix3 a t q) = mix u w a t q * ps (ix2 0 q) := by
  rw [← mix_at u w a t q hu]
  unfold val_main_v77
  generalize val_main_v74 u w = y
  pointwise [val_main_v76, val_main_v75, val_main_v1]

theorem dps_at (hu : ∀ i, IsReal (u i)) :
    val_main_v165 (F := Ideal) u w dy (ix2 0 q) = ∑ a : Fin 4, ∑ t : Fin 2048, mix u w a t q * dy (ix3 a t q) := by
  simp only [← mix_at u w _ _ q hu]
  unfold val_main_v165 val_main_v83 val_main_v80 val_main_v79 val_main_v78
  generalize val_main_v74 u w = y
  pointwise [val_main_cst_14, val_main_cst_15, hostReduceAdd_lead2, Fin.sum_univ_one]

theorem dyo_at : val_main_v82 (F := Ideal) ps dy (ix3 a t q) = dyo ps dy a t q := by
  pointwise [val_main_v82, val_main_v81, val_main_v75, val_main_v1, dyo]

theorem v84_at : val_main_v84 (F := Ideal) ps dy (ix3 a t j) = dyo ps dy a t (colOf 0 j) := by
  rw [show colOf 0 j = ⟨j.val, by omega⟩ from Fin.ext (by simp)]
  rw [← dyo_at]
  unfold val_main_v84
  generalize val_main_v82 ps dy = y
  pointwise

theorem v85_at : val_main_v85 (F := Ideal) ps dy (ix3 a t j) = dyo ps dy a t (colOf 1 j) := by
  rw [← dyo_at]
  unfold val_main_v85
  generalize val_main_v82 ps dy = y
  pointwise
  rfl

theorem v86_at : val_main_v86 (F := Ideal) ps dy (ix3 a t j) = dyo ps dy a t (colOf 2 j) := by
  rw [← dyo_at]
  unfold val_main_v86
  generalize val_main_v82 ps dy = y
  pointwise
  rfl

theorem v87_at : val_main_v87 (F := Ideal) ps dy (ix3 a t j) = dyo ps dy a t (colOf 3 j) := by
  rw [← dyo_at]
  unfold val_main_v87
  generalize val_main_v82 ps dy = y
  pointwise
  rfl

theorem v143_at (hu : ∀ i, IsReal (u i)) : val_main_v143 (F := Ideal) u ps dy (ix2 k j) =
    ∑ a : Fin 4, ∑ t : Fin 2048, dyo ps dy a t (colOf 0 j) * diff u a t (colOf 0 k) := by
  simp only [← v84_at, ← v22_at u _ _ _ hu]
  unfold val_main_v143 val_main_v142
  generalize val_main_v84 ps dy = y
  generalize val_main_v22 u = y'
  pointwise

theorem v144_at : val_main_v144 (F := Ideal) w ps dy (ix3 a t j) = dd w ps dy a t (colOf 0 j) := by
  simp only [dd, grp_colOf, pos_colOf, ← v84_at]
  unfold val_main_v144
  generalize val_main_v84 ps dy = y
  pointwise [val_main_v24, val_main_v23, val_main_v0]
  rfl

theorem v124_at (hu : ∀ i, IsReal (u i)) : val_main_v124 (F := Ideal) u ps dy (ix2 k j) =
    ∑ a : Fin 4, ∑ t : Fin 2048, dyo ps dy a t (colOf 1 j) * diff u a t (colOf 1 k) := by
  simp only [← v85_at, ← v38_at u _ _ _ hu]
  unfold val_main_v124 val_main_v123
  generalize val_main_v85 ps dy = y
  generalize val_main_v38 u = y'
  pointwise

theorem v125_at : val_main_v125 (F := Ideal) w ps dy (ix3 a t j) = dd w ps dy a t (colOf 1 j) := by
  simp only [dd, grp_colOf, pos_colOf, ← v85_at]
  unfold val_main_v125
  generalize val_main_v85 ps dy = y
  pointwise [val_main_v40, val_main_v39, val_main_v0]
  rfl

theorem v105_at (hu : ∀ i, IsReal (u i)) : val_main_v105 (F := Ideal) u ps dy (ix2 k j) =
    ∑ a : Fin 4, ∑ t : Fin 2048, dyo ps dy a t (colOf 2 j) * diff u a t (colOf 2 k) := by
  simp only [← v86_at, ← v54_at u _ _ _ hu]
  unfold val_main_v105 val_main_v104
  generalize val_main_v86 ps dy = y
  generalize val_main_v54 u = y'
  pointwise

theorem v106_at : val_main_v106 (F := Ideal) w ps dy (ix3 a t j) = dd w ps dy a t (colOf 2 j) := by
  simp only [dd, grp_colOf, pos_colOf, ← v86_at]
  unfold val_main_v106
  generalize val_main_v86 ps dy = y
  pointwise [val_main_v56, val_main_v55, val_main_v0]
  rfl

theorem v89_at (hu : ∀ i, IsReal (u i)) : val_main_v89 (F := Ideal) u ps dy (ix2 k j) =
    ∑ a : Fin 4, ∑ t : Fin 2048, dyo ps dy a t (colOf 3 j) * diff u a t (colOf 3 k) := by
  simp only [← v87_at, ← v70_at u _ _ _ hu]
  unfold val_main_v89 val_main_v88
  generalize val_main_v87 ps dy = y
  generalize val_main_v70 u = y'
  pointwise

theorem v90_at : val_main_v90 (F := Ideal) w ps dy (ix3 a t j) = dd w ps dy a t (colOf 3 j) := by
  simp only [dd, grp_colOf, pos_colOf, ← v87_at]
  unfold val_main_v90
  generalize val_main_v87 ps dy = y
  pointwise [val_main_v72, val_main_v71, val_main_v0]
  rfl

/-- The parts of the weights' gradient side by side. -/
theorem dw_at (hu : ∀ i, IsReal (u i)) : val_main_v171 (F := Ideal) u ps dy (ix3 g k j) =
    ∑ a : Fin 4, ∑ t : Fin 2048, dyo ps dy a t (colOf g j) * diff u a t (colOf g k) := by
  unfold val_main_v171 val_main_v166 val_main_v147 val_main_v146 val_main_v145 val_main_v128 val_main_v127 val_main_v126 val_main_v109 val_main_v108 val_main_v107 val_main_v92 val_main_v91
  generalize hy1 : val_main_v89 u ps dy = y1
  generalize hy2 : val_main_v105 u ps dy = y2
  generalize hy3 : val_main_v124 u ps dy = y3
  generalize hy4 : val_main_v143 u ps dy = y4
  pointwise [val_main_cst_16, val_main_cst_21, val_main_cst_26, val_main_cst_31]
  subst hy1 hy2 hy3 hy4
  simp only [v89_at u ps dy _ _ hu, v105_at u ps dy _ _ hu, v124_at u ps dy _ _ hu, v143_at u ps dy _ _ hu]
  fin_cases g <;> simp

/-- How many rows a window holds, as the reference counts them. -/
theorem count_eq (z : EReal) (W : ℕ) (hW : wide g = W) (hz : z = ((W : ℝ) : EReal)) :
    min (1 + (FloatOps.sitofp (F := Ideal) FTy.f32 (BitVec.ofNat 32 t.val) : EReal)) z = (cnt g t : EReal) := by
  subst hz hW
  rw [sitofp_nat _ (by omega), ← EReal.coe_one, ← EReal.coe_add, ← EReal.coe_strictMono.monotone.map_min]
  rfl

theorem v152_at : val_main_v152 (F := Ideal) w ps dy (ix3 a t j) = dwin w ps dy a (colOf 0 j) t := by
  unfold val_main_v152
  generalize hy : val_main_v144 w ps dy = y
  pointwise [val_main_v151, val_main_v18, val_main_v17, val_main_cst_4, val_main_v9, val_main_v8, val_main_v7, val_main_v6, val_main_cst_1]
  subst hy
  simp only [v144_at]
  refine congrArg (Ideal.div _) ((count_eq t 0 _ 2 rfl (word_two.trans (by norm_num))).trans ?_)
  rw [grp_colOf]

theorem v158_at : val_main_v158 (F := Ideal) w ps dy (ix3 a ⟨1 + t.val, by omega⟩ j) =
    dwin w ps dy a (colOf 0 j) t - ahead 2 (dwin w ps dy a (colOf 0 j)) t := by
  unfold val_main_v158 val_main_v154 val_main_v157 val_main_v156 val_main_v153
  generalize hy : val_main_v152 w ps dy = y
  pointwise [val_main_cst_33, val_main_cst_34]
  subst hy
  simp only [v152_at, sub_eq_add_neg, ahead]
  refine congrArg₂ (· + ·) ?_ ?_
  · rfl
  · split_ifs
    · exact congrArg (fun r => -dwin w ps dy a (colOf 0 j) r) (Fin.ext (by simp only []; omega))
    · exfalso; omega
    · exfalso; omega
    · exact neg_zero.symm

theorem v133_at : val_main_v133 (F := Ideal) w ps dy (ix3 a t j) = dwin w ps dy a (colOf 1 j) t := by
  unfold val_main_v133
  generalize hy : val_main_v125 w ps dy = y
  pointwise [val_main_v132, val_main_v34, val_main_v33, val_main_cst_7, val_main_v9, val_main_v8, val_main_v7, val_main_v6, val_main_cst_1]
  subst hy
  simp only [v125_at]
  refine congrArg (Ideal.div _) ((count_eq t 1 _ 4 rfl (word_four.trans (by norm_num))).trans ?_)
  rw [grp_colOf]

theorem v139_at : val_main_v139 (F := Ideal) w ps dy (ix3 a ⟨1 + t.val, by omega⟩ j) =
    dwin w ps dy a (colOf 1 j) t - ahead 4 (dwin w ps dy a (colOf 1 j)) t := by
  unfold val_main_v139 val_main_v135 val_main_v138 val_main_v137 val_main_v134
  generalize hy : val_main_v133 w ps dy = y
  pointwise [val_main_cst_28, val_main_cst_29]
  subst hy
  simp only [v133_at, sub_eq_add_neg, ahead]
  refine congrArg₂ (· + ·) ?_ ?_
  · rfl
  · split_ifs
    · exact congrArg (fun r => -dwin w ps dy a (colOf 1 j) r) (Fin.ext (by simp only []; omega))
    · exfalso; omega
    · exfalso; omega
    · exact neg_zero.symm

theorem v114_at : val_main_v114 (F := Ideal) w ps dy (ix3 a t j) = dwin w ps dy a (colOf 2 j) t := by
  unfold val_main_v114
  generalize hy : val_main_v106 w ps dy = y
  pointwise [val_main_v113, val_main_v50, val_main_v49, val_main_cst_10, val_main_v9, val_main_v8, val_main_v7, val_main_v6, val_main_cst_1]
  subst hy
  simp only [v106_at]
  refine congrArg (Ideal.div _) ((count_eq t 2 _ 8 rfl (word_eight.trans (by norm_num))).trans ?_)
  rw [grp_colOf]

theorem v120_at : val_main_v120 (F := Ideal) w ps dy (ix3 a ⟨1 + t.val, by omega⟩ j) =
    dwin w ps dy a (colOf 2 j) t - ahead 8 (dwin w ps dy a (colOf 2 j)) t := by
  unfold val_main_v120 val_main_v116 val_main_v119 val_main_v118 val_main_v115
  generalize hy : val_main_v114 w ps dy = y
  pointwise [val_main_cst_23, val_main_cst_24]
  subst hy
  simp only [v114_at, sub_eq_add_neg, ahead]
  refine congrArg₂ (· + ·) ?_ ?_
  · rfl
  · split_ifs
    · exact congrArg (fun r => -dwin w ps dy a (colOf 2 j) r) (Fin.ext (by simp only []; omega))
    · exfalso; omega
    · exfalso; omega
    · exact neg_zero.symm

theorem v96_at : val_main_v96 (F := Ideal) w ps dy (ix3 a t j) = dwin w ps dy a (colOf 3 j) t := by
  unfold val_main_v96
  generalize hy : val_main_v90 w ps dy = y
  pointwise [val_main_v95, val_main_v66, val_main_v65, val_main_cst_13, val_main_v9, val_main_v8, val_main_v7, val_main_v6, val_main_cst_1]
  subst hy
  simp only [v90_at]
  refine congrArg (Ideal.div _) ((count_eq t 3 _ 16 rfl (word_sixteen.trans (by norm_num))).trans ?_)
  rw [grp_colOf]

theorem v102_at : val_main_v102 (F := Ideal) w ps dy (ix3 a ⟨1 + t.val, by omega⟩ j) =
    dwin w ps dy a (colOf 3 j) t - ahead 16 (dwin w ps dy a (colOf 3 j)) t := by
  unfold val_main_v102 val_main_v98 val_main_v101 val_main_v100 val_main_v97
  generalize hy : val_main_v96 w ps dy = y
  pointwise [val_main_cst_18, val_main_cst_19]
  subst hy
  simp only [v96_at, sub_eq_add_neg, ahead]
  refine congrArg₂ (· + ·) ?_ ?_
  · rfl
  · split_ifs
    · exact congrArg (fun r => -dwin w ps dy a (colOf 3 j) r) (Fin.ext (by simp only []; omega))
    · exfalso; omega
    · exfalso; omega
    · exact neg_zero.symm

/-- What the running sum is taken of: the windows' gradient less itself moved up by the window's width. -/
theorem v162_at : val_main_v162 (F := Ideal) w ps dy (ix3 a t (colOf g j)) =
    dwin w ps dy a (colOf g j) t - ahead (wide g) (dwin w ps dy a (colOf g j)) t := by
  unfold val_main_v162 val_main_v160 val_main_v159 val_main_v141 val_main_v140 val_main_v122 val_main_v121 val_main_v103
  generalize hy1 : val_main_v102 w ps dy = y1
  generalize hy2 : val_main_v120 w ps dy = y2
  generalize hy3 : val_main_v139 w ps dy = y3
  generalize hy4 : val_main_v158 w ps dy = y4
  pointwise [val_main_cst_20, val_main_cst_25, val_main_cst_30, val_main_cst_35]
  subst hy1 hy2 hy3 hy4
  simp only [v102_at, v120_at, v139_at, v158_at]
  fin_cases g
  all_goals
    simp only [Fin.zero_eta, Fin.mk_one, Fin.reduceFinMk]
    split_ifs
  all_goals first
    | (exfalso; omega)
    | (simp only [zero_add, add_zero]
       refine congrArg (fun i => dwin w ps dy a (colOf _ i) t - ahead _ (dwin w ps dy a (colOf _ i)) t) (Fin.ext ?_)
       simp only []; omega)

/-- The direct part of the input's gradient. -/
theorem v150_at : val_main_v150 (F := Ideal) w ps dy (ix3 a t (colOf g j)) = -dd w ps dy a t (colOf g j) := by
  unfold val_main_v150 val_main_v149 val_main_v148 val_main_v131 val_main_v130 val_main_v129 val_main_v112 val_main_v111 val_main_v110 val_main_v94 val_main_v93
  generalize hy1 : val_main_v90 w ps dy = y1
  generalize hy2 : val_main_v106 w ps dy = y2
  generalize hy3 : val_main_v125 w ps dy = y3
  generalize hy4 : val_main_v144 w ps dy = y4
  pointwise [val_main_cst_17, val_main_cst_22, val_main_cst_27, val_main_cst_32]
  subst hy1 hy2 hy3 hy4
  simp only [v90_at, v106_at, v125_at, v144_at]
  fin_cases g
  all_goals
    simp only [Fin.zero_eta, Fin.mk_one, Fin.reduceFinMk]
    split_ifs
  all_goals first
    | (exfalso; omega)
    | (simp only [zero_add, add_zero]
       refine congrArg (fun i => -dd w ps dy a t (colOf _ i)) (Fin.ext ?_)
       simp only []; omega)

/-- The input's gradient, of real arrays. -/
theorem du_at (hd : ∀ t, IsReal (dwin w ps dy a q t)) :
    val_main_v164 (F := Ideal) w ps dy (ix3 a t q) = -dd w ps dy a t q + starting (wide (grp q)) (dwin w ps dy a q) t := by
  obtain ⟨g, j, rfl⟩ := exists_colOf q
  have h0 : (broadcastInDim S_ ![] bcast_S_S_ (val_main_call1_call0_cst (F := Ideal))) (Shape.Idx.first h_S_) = (0 : EReal) := by
    unfold val_main_call1_call0_cst; pointwise
  have h1 : val_main_v163 (F := Ideal) w ps dy (ix3 a t (colOf g j)) = starting (wide g) (dwin w ps dy a (colOf g j)) t := by
    rw [← starting_sub hd]
    unfold val_main_v163 Host.reduceWindowAdd
    rw [show val_main_call1_call0_v0 (F := Ideal) = broadcastInDim S_ ![] bcast_S_S_ val_main_call1_call0_cst from rfl, h0]
    refine (hostRunning_up _ _ a t _).trans (congrArg (fun c => starting 2048 c t) (funext fun s => ?_))
    exact v162_at w ps dy a s g j
  rw [grp_colOf, ← h1, ← v150_at]
  rfl

end Cert.PoolRefIdeal.Hand

end
-- ==== Proof.Pool.Bwd.lean ====
module

public import proofs.«01_k».proof.Proof.Pool.Scratch
public import proofs.«01_k».proof.Proof.Pool.Ref

/-! # The pool's backward kernel: what one grid point computes -/

@[expose] public section

set_option maxRecDepth 16384

noncomputable section

namespace Cert.PoolIdeal.Hand

open Cert.PoolIdeal Cert.PoolIdeal.Gen Idealize.ShloMosaic Idealize.ShloMosaic.TcCoe Idealize.SL.Sem
open Cert.StepMath

variable (V : (c : Dev nD) → (b : Ref sig .tc) → Buf (Elt Ideal) ((c : Thread nD τ).loc b)) (c : Dev nD) (t : Fin cfg1.N)

theorem clear_end {inb} : Clear 2048 2064 [⟨Rect.unit (s := S2064x384) ![2048, 0] ![16, 384] inb, k1_pay7 (F := Ideal)⟩] :=
  clear_zero _ (fun i => by unfold k1_pay7; pointwise) ⟨le_rfl, le_rfl⟩

/-! ## The windows, doubled four times -/

section
variable (W : Vec Ideal S384x384 .bf16) (y : Vec Ideal S2048x384 .bf16) (s : Vec Ideal S1x384 .f32)

abbrev g0 := k1_pay15 (F := Ideal) (k1_pay10 W) (k1_pay11 y) s
abbrev g1 := k1_pay16 (F := Ideal) k1_pay8 (k1_pay10 W) (k1_pay11 y) s
abbrev f1 := aheadArr 1 (k1_pay17 (F := Ideal) k1_pay8 (k1_pay10 W) (k1_pay11 y) s)
abbrev g2 := k1_pay18 (F := Ideal) k1_pay8 (k1_pay10 W) (k1_pay11 y) s (f1 W y s)
abbrev f2 := aheadArr 2 (k1_pay19 (F := Ideal) k1_pay8 (k1_pay10 W) (k1_pay11 y) s (f1 W y s))
abbrev g4 := k1_pay20 (F := Ideal) k1_pay8 (k1_pay10 W) (k1_pay11 y) s (f1 W y s) (f2 W y s)
abbrev f4 := aheadArr 4 (k1_pay1 (F := Ideal) (g4 W y s))
abbrev g8 := k1_pay2 (F := Ideal) (g4 W y s) (f4 W y s)
abbrev f8 := aheadArr 8 (k1_pay3 (F := Ideal) (g4 W y s) (f4 W y s))
/-- The gradient's block. -/
def duBlk : FVec Ideal S2048x384 .bf16 := k1_pay4 (F := Ideal) k1_pay8 (g0 W y s) (g2 W y s) (g4 W y s) (f4 W y s) (f8 W y s)

variable (r : Fin 2048) (q : Fin 384)

/-- The differences' gradient. -/
def ddBlk : EReal := ∑ k, (y (ix2 r k) * s (ix2 0 k)) * W (ix2 q k)
/-- The windows' gradient. -/
def dwBlk : Col := fun r => Ideal.div (ddBlk W y s r q) (cnt (grp q) r)

theorem g0_at : g0 W y s (ix2 r q) = ddBlk W y s r q := by
  unfold g0 k1_pay15 ddBlk
  pointwise [k1_pay10, k1_pay11, k1_pay13]

theorem lane_at : k1_pay8 (F := Ideal) (ix2 0 q) = laneWidth q := by
  unfold k1_pay8
  pointwise

theorem g1_at : g1 W y s (ix2 r q) = dwBlk W y s q r := by
  unfold g1 k1_pay16 dwBlk
  rw [← g0_at]
  unfold g0
  generalize hx : k1_pay15 (F := Ideal) (k1_pay10 W) (k1_pay11 y) s = x
  generalize hl : k1_pay8 (F := Ideal) = l
  pointwise
  subst hl
  simp only [lane_at]
  by_cases hr : r.val < 16
  · rw [dif_pos hr]
    exact congrArg (Ideal.div _) (mean_first (lane_eq q))
  · rw [dif_neg hr]
    refine Eq.trans (congrArg (fun z : Fin 2048 => x (ix2 z q) * _) (Fin.ext ?_)) (mean_rest hr (lane_eq q))
    show 16 + (r.val - 16) = r.val
    omega

theorem g2_at : g2 W y s (ix2 r q) = starting 2 (dwBlk W y s q) r := by
  refine Eq.trans ?_ (starting_double 1 (dwBlk W y s q) r)
  rw [starting_one]
  unfold g2 k1_pay18
  have h : f1 W y s (ix2 r q) = ahead 1 (dwBlk W y s q) r := congrArg (fun x => ahead 1 x r) (funext fun i => by
    unfold k1_pay17; refine Eq.trans ?_ (g1_at W y s i q); unfold g1; generalize k1_pay16 (F := Ideal) k1_pay8 (k1_pay10 W) (k1_pay11 y) s = z; pointwise)
  exact congrArg₂ (· + ·) (g1_at W y s r q) h

theorem g4_at : g4 W y s (ix2 r q) = starting 4 (dwBlk W y s q) r := by
  refine Eq.trans ?_ (starting_double 2 (dwBlk W y s q) r)
  unfold g4 k1_pay20
  have h : f2 W y s (ix2 r q) = ahead 2 (starting 2 (dwBlk W y s q)) r := congrArg (fun x => ahead 2 x r) (funext fun i => by
    unfold k1_pay19; refine Eq.trans ?_ (g2_at W y s i q); unfold g2; generalize k1_pay18 (F := Ideal) k1_pay8 (k1_pay10 W) (k1_pay11 y) s (f1 W y s) = z; pointwise)
  exact congrArg₂ (· + ·) (g2_at W y s r q) h

theorem g8_at : g8 W y s (ix2 r q) = starting 8 (dwBlk W y s q) r := by
  refine Eq.trans ?_ (starting_double 4 (dwBlk W y s q) r)
  unfold g8 k1_pay2
  have h : f4 W y s (ix2 r q) = ahead 4 (starting 4 (dwBlk W y s q)) r := congrArg (fun x => ahead 4 x r) (funext fun i => by
    unfold k1_pay1; refine Eq.trans ?_ (g4_at W y s i q); generalize g4 W y s = z; pointwise)
  exact congrArg₂ (· + ·) (g4_at W y s r q) h

theorem g16_at : g8 W y s (ix2 r q) + f8 W y s (ix2 r q) = starting 16 (dwBlk W y s q) r := by
  refine Eq.trans ?_ (starting_double 8 (dwBlk W y s q) r)
  have h : f8 W y s (ix2 r q) = ahead 8 (starting 8 (dwBlk W y s q)) r := congrArg (fun x => ahead 8 x r) (funext fun i => by
    unfold k1_pay3; refine Eq.trans ?_ (g8_at W y s i q); unfold g8; generalize k1_pay2 (F := Ideal) (g4 W y s) (f4 W y s) = z; pointwise)
  exact congrArg₂ (· + ·) (g8_at W y s r q) h

theorem duBlk_at : duBlk W y s (ix2 r q) = starting (wide (grp q)) (dwBlk W y s q) r - ddBlk W y s r q := by
  unfold duBlk k1_pay4
  rw [← g0_at, ← pick (grp q) (laneWidth q) (lane_eq q) fun n => starting n (dwBlk W y s q) r, ← lane_at, ← g2_at, ← g4_at, ← g16_at, ← g8_at]
  unfold g8
  generalize g0 W y s = z0
  generalize g2 W y s = z2
  generalize f8 W y s = z8'
  generalize k1_pay2 (F := Ideal) (g4 W y s) (f4 W y s) = z8
  generalize g4 W y s = z4
  generalize k1_pay8 (F := Ideal) = l
  pointwise

end

end Cert.PoolIdeal.Hand

end
-- ==== Proof.Pool.Fwd.lean ====
module

public import proofs.«01_k».proof.Proof.Pool.Scratch
public import proofs.«01_k».proof.Proof.Pool.Ref

/-! # The pool's forward kernel: what one grid point computes are the reference's rows -/

@[expose] public section

set_option maxRecDepth 16384

noncomputable section

namespace Cert.PoolIdeal.Hand

open Cert.PoolIdeal Cert.PoolIdeal.Gen Idealize.ShloMosaic Idealize.ShloMosaic.TcCoe Idealize.SL.Sem
open Cert.StepMath
open Cert.PoolRefIdeal.Read

variable (V : (c : Dev nD) → (b : Ref sig .tc) → Buf (Elt Ideal) ((c : Thread nD τ).loc b)) (c : Dev nD) (t : Fin cfg0.N)

theorem clear_top {inb} : Clear 0 16 [⟨Rect.unit (s := S2064x384) ![0, 0] ![16, 384] inb, k0_pay2 (F := Ideal)⟩] :=
  clear_zero _ (fun i => by unfold k0_pay2; pointwise) ⟨le_rfl, le_rfl⟩

/-! ## The windows, doubled four times -/

section
variable (u : Vec Ideal S2048x384 .bf16)
abbrev b1 := backArr 1 (k0_pay4 (F := Ideal) u)
abbrev b2 := backArr 2 (k0_pay6 (F := Ideal) u (b1 u))
abbrev b4 := backArr 4 (k0_pay8 (F := Ideal) u (b1 u) (b2 u))
abbrev b8 := backArr 8 (k0_pay10 (F := Ideal) u (b1 u) (b2 u) (b4 u))
/-- The differences' block. -/
def dBlk : FVec Ideal S2048x384 .bf16 := k0_pay14 (F := Ideal) (k0_pay3 u) (k0_pay5 u (b1 u)) (k0_pay7 u (b1 u) (b2 u)) (k0_pay9 u (b1 u) (b2 u) (b4 u))
  (k0_pay11 u (b1 u) (b2 u) (b4 u) (b8 u)) (iota Kind.tc S1x384 32 [1] iota_S1x384_d1_w32) k0_pay12 k0_pay13

variable (r : Fin 2048) (q : Fin 384)

theorem s1_at : k0_pay3 (F := Ideal) u (ix2 r q) = u (ix2 r q) := by unfold k0_pay3; pointwise

theorem s2_at : k0_pay5 (F := Ideal) u (b1 u) (ix2 r q) = ending 2 (fun s => u (ix2 s q)) r := by
  refine Eq.trans ?_ (ending_double 1 (fun s => u (ix2 s q)) r)
  rw [ending_one]
  unfold k0_pay5
  have h : b1 u (ix2 r q) = back 1 (fun s => u (ix2 s q)) r := congrArg (fun x => back 1 x r) (funext fun s => by unfold k0_pay4; pointwise [s1_at])
  refine congrArg₂ (· + ·) (s1_at u r q) h

theorem s4_at : k0_pay7 (F := Ideal) u (b1 u) (b2 u) (ix2 r q) = ending 4 (fun s => u (ix2 s q)) r := by
  refine Eq.trans ?_ (ending_double 2 (fun s => u (ix2 s q)) r)
  unfold k0_pay7
  have h : b2 u (ix2 r q) = back 2 (ending 2 fun s => u (ix2 s q)) r := congrArg (fun x => back 2 x r) (funext fun s => by
    unfold k0_pay6; refine Eq.trans ?_ (s2_at u s q); generalize k0_pay5 u (b1 u) = y; pointwise)
  exact congrArg₂ (· + ·) (s2_at u r q) h

theorem s8_at : k0_pay9 (F := Ideal) u (b1 u) (b2 u) (b4 u) (ix2 r q) = ending 8 (fun s => u (ix2 s q)) r := by
  refine Eq.trans ?_ (ending_double 4 (fun s => u (ix2 s q)) r)
  unfold k0_pay9
  have h : b4 u (ix2 r q) = back 4 (ending 4 fun s => u (ix2 s q)) r := congrArg (fun x => back 4 x r) (funext fun s => by
    unfold k0_pay8; refine Eq.trans ?_ (s4_at u s q); generalize k0_pay7 u (b1 u) (b2 u) = y; pointwise)
  exact congrArg₂ (· + ·) (s4_at u r q) h

theorem s16_at : k0_pay11 (F := Ideal) u (b1 u) (b2 u) (b4 u) (b8 u) (ix2 r q) = ending 16 (fun s => u (ix2 s q)) r := by
  refine Eq.trans ?_ (ending_double 8 (fun s => u (ix2 s q)) r)
  unfold k0_pay11
  have h : b8 u (ix2 r q) = back 8 (ending 8 fun s => u (ix2 s q)) r := congrArg (fun x => back 8 x r) (funext fun s => by
    unfold k0_pay10; refine Eq.trans ?_ (s8_at u s q); generalize k0_pay9 u (b1 u) (b2 u) (b4 u) = y; pointwise)
  exact congrArg₂ (· + ·) (s8_at u r q) h

theorem dBlk_at : dBlk u (ix2 r q) = Ideal.div (ending (wide (grp q)) (fun s => u (ix2 s q)) r) (cnt (grp q) r) - u (ix2 r q) := by
  unfold dBlk k0_pay14
  generalize hy1 : k0_pay3 (F := Ideal) u = y1
  generalize hy2 : k0_pay5 (F := Ideal) u (b1 u) = y2
  generalize hy3 : k0_pay7 (F := Ideal) u (b1 u) (b2 u) = y3
  generalize hy4 : k0_pay9 (F := Ideal) u (b1 u) (b2 u) (b4 u) = y4
  generalize hy5 : k0_pay11 (F := Ideal) u (b1 u) (b2 u) (b4 u) (b8 u) = y5
  pointwise [k0_pay12, k0_pay13]
  subst hy1 hy2 hy3 hy4 hy5
  simp only [s1_at, s2_at, s4_at, s8_at, s16_at]
  refine congrArg (· - _) ?_
  have hp := fun r => pick (grp q) (laneWidth q) (lane_eq q) fun w => ending w (fun s => u (ix2 s q)) r
  by_cases hr : r.val < 16
  · rw [dif_pos hr]
    exact congrArg₂ Ideal.div (hp r) (mean_first (lane_eq q))
  · rw [dif_neg hr]
    refine Eq.trans (congrArg (· * _) ((hp _).trans (congrArg _ (Fin.ext ?_)))) (mean_rest hr (lane_eq q))
    show 16 + (r.val - 16) = r.val
    omega

end

theorem d_block : (outsAt0 V c t).2 = dBlk (iblk0 V c 0 t) := by
  dsimp only [outsAt0]
  frame_open
  simp (disch := decide) only [↓ View.readCov_skip, ↓ View.readCov_cons_toLoadRect, ↓ View.readCov_fill]
  frame_out
  have c0 := fun (inb) => clear_top (inb := inb)
  have c1 := fun (p : Vec Ideal S2048x384 .f32) inb inb' => clear_cons (inb := inb) (o := 16) (n := 2048) p (c0 inb') (.inl le_rfl)
  rw [back_load _ _ _ 15 1 rfl _ _ (c0 _)]
  rw [back_load _ _ _ 14 2 rfl _ _ (c1 _ _ _)]
  rw [back_load _ _ _ 12 4 rfl _ _ (clear_cons _ (c1 _ _ _) (.inl le_rfl))]
  rw [back_load _ _ _ 8 8 rfl _ _ (clear_cons _ (clear_cons _ (c1 _ _ _) (.inl le_rfl)) (.inl le_rfl))]
  rfl

theorem y_block : (outsAt0 V c t).1 = k0_pay1 (F := Ideal) (dBlk (iblk0 V c 0 t)) (k0_pay15 (iblk0 V c 1 t)) (constant S2048x384 .f32 0x00000000#32) (iblk0 V c 2 t) := by
  rw [← d_block]
  dsimp only [outsAt0]
  frame_open
  simp (disch := decide) only [↓ View.readCov_skip, ↓ View.readCov_cons_toLoadRect, ↓ View.readCov_fill]
  frame_out

end Cert.PoolIdeal.Hand

end
-- ==== Proof.Pool.FwdValue.lean ====
module

public import proofs.«01_k».proof.Proof.Pool.Fwd

/-! # The pool's forward kernel leaves the reference's rows, and the differences -/

@[expose] public section

set_option maxRecDepth 16384

noncomputable section

namespace Cert.PoolIdeal.Hand

open Cert.PoolIdeal Cert.PoolIdeal.Gen Idealize.ShloMosaic Idealize.ShloMosaic.TcCoe Idealize.SL.Sem
open Cert.StepMath
open Cert.PoolRefIdeal.Read
open Cert.PoolRefIdeal.Hand (weight diff mix dyo dd dwin)

theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- Sequence `a`'s row `r` among all rows. -/
def row (a : Fin 4) (r : Fin 2048) : Fin 8192 := ⟨a.val * 2048 + r.val, by omega⟩
/-- The sequence a grid point reads. -/
def seq0 (t : Fin cfg0.N) : Fin 4 := ⟨t.val, lt_of_lt_of_eq t.isLt N_0⟩

theorem row_of (i : Fin 8192) : i = row ⟨i.val / 2048, by omega⟩ ⟨i.val % 2048, by omega⟩ := Fin.ext (by simp only [row]; omega)

/-- The differences, row by row. -/
def dRows (u : Vec Ideal Cert.PoolRefIdeal.S4x2048x384 .f32) : Vec Ideal S8192x384 .bf16 :=
  fun i => diff u ⟨(i 0).val / 2048, Nat.div_lt_of_lt_mul (i 0).isLt⟩ ⟨(i 0).val % 2048, Nat.mod_lt _ (by decide)⟩ (i 1)

theorem dRows_at (u : Vec Ideal Cert.PoolRefIdeal.S4x2048x384 .f32) (a : Fin 4) (r : Fin 2048) (q : Fin 384) : dRows u (ix2 (row a r) q) = diff u a r q := by
  have h1 : (a.val * 2048 + r.val) / 2048 = a.val := by omega
  have h2 : (a.val * 2048 + r.val) % 2048 = r.val := by omega
  exact congrArg₂ (fun x y => diff u x y q) (Fin.ext h1) (Fin.ext h2)

variable (V : (c : Dev nD) → (b : Ref sig .tc) → Buf (Elt Ideal) ((c : Thread nD τ).loc b)) (c : Dev nD)
variable (u : Vec Ideal Cert.PoolRefIdeal.S4x2048x384 .f32) (w : Vec Ideal Cert.PoolRefIdeal.S1x4x96x96 .f32) (ps : Vec Ideal Cert.PoolRefIdeal.S1x384 .f32)

/-- The arrays the kernel reads: the rows, the block-diagonal matrix of the weights, the scale. -/
structure Reads0 : Prop where
  u_at : ∀ a r q, (V c main_v15 : Vec Ideal S8192x384 .bf16) (ix2 (row a r) q) = u (ix3 a r q)
  w_at : ∀ k q, (V c main_v13 : Vec Ideal S384x384 .bf16) (ix2 k q) = blockDiag (weight w) k q
  s_at : ∀ q, (V c main_arg2 : Vec Ideal S1x384 .f32) (ix2 0 q) = ps (ix2 0 q)

variable {V c u w ps} (h : Reads0 V c u w ps)
include h

theorem in0_0 (t : Fin cfg0.N) (r : Fin 2048) (q : Fin 384) : (iblk0 V c 0 t : Vec Ideal S2048x384 .bf16) (ix2 r q) = u (ix3 (seq0 t) r q) := by
  refine Eq.trans ?_ (h.u_at (seq0 t) r q)
  blk_point [iblk0, idx0 t, row, seq0]
theorem in0_1 (t : Fin cfg0.N) (k q : Fin 384) : (iblk0 V c 1 t : Vec Ideal S384x384 .bf16) (ix2 k q) = blockDiag (weight w) k q := by
  refine Eq.trans ?_ (h.w_at k q)
  blk_point [iblk0, idx0 t]
theorem in0_2 (t : Fin cfg0.N) (q : Fin 384) : (iblk0 V c 2 t : Vec Ideal S1x384 .f32) (ix2 0 q) = ps (ix2 0 q) := by
  refine Eq.trans ?_ (h.s_at q)
  blk_point [iblk0, idx0 t]

theorem dBlk_eq (t : Fin cfg0.N) (r : Fin 2048) (q : Fin 384) : dBlk (iblk0 V c 0 t) (ix2 r q) = diff u (seq0 t) r q := by
  rw [dBlk_at]
  simp only [in0_0 h]
  rfl

theorem y_row (t : Fin cfg0.N) (r : Fin 2048) (q : Fin 384) :
    k0_pay1 (F := Ideal) (dBlk (iblk0 V c 0 t)) (k0_pay15 (iblk0 V c 1 t)) (constant S2048x384 .f32 0x00000000#32) (iblk0 V c 2 t) (ix2 r q)
      = mix u w (seq0 t) r q * ps (ix2 0 q) := by
  unfold k0_pay1
  generalize hd : dBlk (iblk0 V c 0 t) = d
  pointwise [k0_pay15]
  subst hd
  simp only [dBlk_eq h, in0_1 h, in0_2 h]
  refine congrArg (· * _) ?_
  obtain ⟨g, j, rfl⟩ := exists_colOf q
  rw [sum_blockDiag]
  unfold mix
  rw [grp_colOf, pos_colOf]

theorem final_y (hu : ∀ i, IsReal (u i)) : (dat0 V c).arrAt 3 cfg0.N = val_main_v168 (F := Ideal) u w ps := by
  refine (dat0 V c).arrAt_eq_of_covers 3 _ (by decide +kernel) fun t _ y => ?_
  blk_simp
  rw [after0_3, y_block]
  obtain ⟨r, q, rfl⟩ : ∃ (r : Fin 2048) (q : Fin 384), y = ix2 r q := ⟨y 0, y 1, by blk_ext []⟩
  rw [show ((View.whole main_v16_0).slice (win0_3.rect t)).emb (ix2 r q) = ix2 (row (seq0 t) r) q from by blk_ext [idx0 t, row, seq0]]
  refine (y_row h t r q).trans ?_
  refine Eq.trans ?_ (show val_main_v77 (F := Ideal) u w ps (ix3 (seq0 t) r q) = _ from ?_)
  · exact (Cert.PoolRefIdeal.Hand.y_at u w ps _ _ _ hu).symm
  · unfold val_main_v168 val_main_v167
    generalize val_main_v77 (F := Ideal) u w ps = y
    pointwise [row]

theorem final_d : (dat0 V c).arrAt 4 cfg0.N = dRows u := by
  refine (dat0 V c).arrAt_eq_of_covers 4 _ (by decide +kernel) fun t _ y => ?_
  blk_simp
  rw [after0_4, d_block]
  obtain ⟨r, q, rfl⟩ : ∃ (r : Fin 2048) (q : Fin 384), y = ix2 r q := ⟨y 0, y 1, by blk_ext []⟩
  rw [show ((View.whole main_v16_1).slice (win0_4.rect t)).emb (ix2 r q) = ix2 (row (seq0 t) r) q from by blk_ext [idx0 t, row, seq0]]
  exact (dBlk_eq h t r q).trans (dRows_at ..).symm

end Cert.PoolIdeal.Hand

end
-- ==== Proof.Pool.BwdValue.lean ====
module

public import proofs.«01_k».proof.Proof.Pool.Bwd
public import proofs.«01_k».proof.Proof.Pool.FwdValue

/-! # The pool's backward kernel leaves the reference's gradients -/

@[expose] public section

set_option maxRecDepth 16384

noncomputable section

namespace Cert.PoolIdeal.Hand

open Cert.PoolIdeal Cert.PoolIdeal.Gen Idealize.ShloMosaic Idealize.ShloMosaic.TcCoe Idealize.SL.Sem
open Cert.StepMath
open Cert.PoolRefIdeal.Read
open Cert.PoolRefIdeal.Hand (weight diff mix dyo dd dwin)

theorem idx1 : ∀ t : Fin cfg1.N, win1_0.index t = ![t.val, 0] ∧ win1_1.index t = ![t.val, 0] ∧ win1_2.index t = ![0, 0] ∧ win1_3.index t = ![0, 0]
    ∧ win1_4.index t = ![t.val, 0] ∧ win1_5.index t = ![0, 0] ∧ win1_6.index t = ![0, 0] :=
  (by decide +kernel : ∀ t : Fin grid1.N, _)

/-- The sequence a grid point reads. -/
def seq1 (t : Fin cfg1.N) : Fin 4 := ⟨t.val, lt_of_lt_of_eq t.isLt N_1⟩

/-- The sequences are the grid points. -/
theorem sum_seq (f : Fin 4 → EReal) : ∑ t : Fin cfg1.N, f (seq1 t) = ∑ a, f a := Fintype.sum_equiv (finCongr N_1) _ _ fun _ => rfl

/-- The gradient's rows. -/
def dwRows (u : Vec Ideal Cert.PoolRefIdeal.S4x2048x384 .f32) (ps : Vec Ideal Cert.PoolRefIdeal.S1x384 .f32) (dy : Vec Ideal Cert.PoolRefIdeal.S4x2048x384 .f32) :
    Vec Ideal S384x384 .f32 := fun i => ∑ a : Fin 4, ∑ r : Fin 2048, dyo ps dy a r (i 1) * diff u a r (i 0)

variable (V : (c : Dev nD) → (b : Ref sig .tc) → Buf (Elt Ideal) ((c : Thread nD τ).loc b)) (c : Dev nD)
variable (u : Vec Ideal Cert.PoolRefIdeal.S4x2048x384 .f32) (w : Vec Ideal Cert.PoolRefIdeal.S1x4x96x96 .f32) (ps : Vec Ideal Cert.PoolRefIdeal.S1x384 .f32)
variable (dy : Vec Ideal Cert.PoolRefIdeal.S4x2048x384 .f32)

/-! ## One grid point -/

theorem du_block (t : Fin cfg1.N) : (outsAt1 V c t.val t.isLt).1 = duBlk (iblk1 V c 2 t) (iblk1 V c 1 t) (iblk1 V c 3 t) := by
  have e0 := fun (inb) => clear_end (inb := inb)
  have e1 := fun (p : Vec Ideal S2048x384 .f32) inb inb' => clear_cons (inb := inb) (o := 0) (n := 2048) p (e0 inb') (.inr le_rfl)
  by_cases h : t.val % 4 = 0
  on_goal 1 => rw [outsAt1_A V c t h]
  on_goal 2 => rw [outsAt1_B V c t h]
  all_goals
    frame_open
    simp (disch := decide) only [↓ View.readCov_skip, ↓ View.readCov_cons_toLoadRect, ↓ View.readCov_fill]
    frame_out
    rw [ahead_load _ _ _ 1 (by decide) _ _ (e0 _)]
    rw [ahead_load _ _ _ 2 (by decide) _ _ (e1 _ _ _)]
    rw [ahead_load _ _ _ 4 (by decide) _ _ (clear_cons _ (e1 _ _ _) (.inr le_rfl))]
    rw [ahead_load _ _ _ 8 (by decide) _ _ (clear_cons _ (clear_cons _ (e1 _ _ _) (.inr le_rfl)) (.inr le_rfl))]
    rfl

/-- The arrays the kernel reads: the differences, the gradient of the result, the block-diagonal matrix, the scale. -/
structure Reads1 : Prop where
  d_at : ∀ a r q, (V c main_v16_1 : Vec Ideal S8192x384 .bf16) (ix2 (row a r) q) = diff u a r q
  y_at : ∀ a r q, (V c main_v18 : Vec Ideal S8192x384 .bf16) (ix2 (row a r) q) = dy (ix3 a r q)
  w_at : ∀ k q, (V c main_v13 : Vec Ideal S384x384 .bf16) (ix2 k q) = blockDiag (weight w) k q
  s_at : ∀ q, (V c main_arg2 : Vec Ideal S1x384 .f32) (ix2 0 q) = ps (ix2 0 q)

variable {V c u w ps dy} (h : Reads1 V c u w ps dy)
include h

theorem in1_0 (t : Fin cfg1.N) (r : Fin 2048) (q : Fin 384) : (iblk1 V c 0 t : Vec Ideal S2048x384 .bf16) (ix2 r q) = diff u (seq1 t) r q := by
  refine Eq.trans ?_ (h.d_at (seq1 t) r q)
  blk_point [iblk1, idx1 t, row, seq1]
theorem in1_1 (t : Fin cfg1.N) (r : Fin 2048) (q : Fin 384) : (iblk1 V c 1 t : Vec Ideal S2048x384 .bf16) (ix2 r q) = dy (ix3 (seq1 t) r q) := by
  refine Eq.trans ?_ (h.y_at (seq1 t) r q)
  blk_point [iblk1, idx1 t, row, seq1]
theorem in1_2 (t : Fin cfg1.N) (k q : Fin 384) : (iblk1 V c 2 t : Vec Ideal S384x384 .bf16) (ix2 k q) = blockDiag (weight w) k q := by
  refine Eq.trans ?_ (h.w_at k q)
  blk_point [iblk1, idx1 t]
theorem in1_3 (t : Fin cfg1.N) (q : Fin 384) : (iblk1 V c 3 t : Vec Ideal S1x384 .f32) (ix2 0 q) = ps (ix2 0 q) := by
  refine Eq.trans ?_ (h.s_at q)
  blk_point [iblk1, idx1 t]

theorem dd_row (t : Fin cfg1.N) (r : Fin 2048) (q : Fin 384) : ddBlk (iblk1 V c 2 t) (iblk1 V c 1 t) (iblk1 V c 3 t) r q = dd w ps dy (seq1 t) r q := by
  unfold ddBlk dd
  simp only [in1_1 h, in1_2 h, in1_3 h]
  obtain ⟨g, j, rfl⟩ := exists_colOf q
  rw [grp_colOf, pos_colOf]
  exact sum_blockDiag_transpose (weight w) (dyo ps dy (seq1 t) r) g j

theorem du_row (t : Fin cfg1.N) (r : Fin 2048) (q : Fin 384) : duBlk (iblk1 V c 2 t) (iblk1 V c 1 t) (iblk1 V c 3 t) (ix2 r q) =
    -dd w ps dy (seq1 t) r q + starting (wide (grp q)) (dwin w ps dy (seq1 t) q) r := by
  rw [duBlk_at, dd_row h, sub_eq_add_neg, add_comm]
  refine congrArg (fun x => _ + starting _ x r) (funext fun s => ?_)
  unfold dwBlk dwin
  rw [dd_row h]

theorem final_du (hd : ∀ a q t, IsReal (dwin w ps dy a q t)) : (dat1 V c).arrAt 4 cfg1.N = val_main_v170 (F := Ideal) w ps dy := by
  refine (dat1 V c).arrAt_eq_of_covers 4 _ (by decide +kernel) fun t _ y => ?_
  blk_simp
  rw [after1_4, du_block]
  obtain ⟨r, q, rfl⟩ : ∃ (r : Fin 2048) (q : Fin 384), y = ix2 r q := ⟨y 0, y 1, by blk_ext []⟩
  rw [show ((View.whole main_v19_0).slice (win1_4.rect t)).emb (ix2 r q) = ix2 (row (seq1 t) r) q from by blk_ext [idx1 t, row, seq1]]
  refine (du_row h t r q).trans ?_
  refine Eq.trans ?_ (show val_main_v164 (F := Ideal) w ps dy (ix3 (seq1 t) r q) = _ from ?_)
  · exact (Cert.PoolRefIdeal.Hand.du_at w ps dy _ _ _ (hd _ _)).symm
  · unfold val_main_v170 val_main_v169
    generalize val_main_v164 (F := Ideal) w ps dy = y
    pointwise [row]

/-! ## The sums' steps -/

theorem dw_step (t : Fin cfg1.N) (o : Vec Ideal S384x384 .f32) (k j : Fin 384) :
    k1_pay14 (F := Ideal) (k1_pay9 (iblk1 V c 0 t)) (k1_pay11 (iblk1 V c 1 t)) (iblk1 V c 3 t) o (ix2 k j) =
      o (ix2 k j) + ∑ r : Fin 2048, dyo ps dy (seq1 t) r j * diff u (seq1 t) r k := by
  unfold k1_pay14
  pointwise [k1_pay9, k1_pay11, k1_pay13]
  simp only [in1_0 h, in1_1 h, in1_3 h]
  exact congrArg (o (ix2 k j) + ·) (Finset.sum_congr rfl fun r _ => mul_comm _ _)

theorem ds_step (t : Fin cfg1.N) (o : Vec Ideal S1x384 .f32) (q : Fin 384) :
    k1_pay12 (F := Ideal) (iblk1 V c 0 t) (iblk1 V c 2 t) (iblk1 V c 1 t) o (ix2 0 q) =
      o (ix2 0 q) + ∑ r : Fin 2048, mix u w (seq1 t) r q * dy (ix3 (seq1 t) r q) := by
  unfold k1_pay12
  pointwise [k1_pay9, k1_pay10, k1_pay11]
  simp only [in1_0 h, in1_1 h, in1_2 h]
  refine congrArg (o (ix2 0 q) + ·) (Finset.sum_congr rfl fun r _ => (mul_comm _ _).trans (congrArg (· * _) ?_))
  obtain ⟨g, j, rfl⟩ := exists_colOf q
  unfold mix
  rw [grp_colOf, pos_colOf]
  exact sum_blockDiag (weight w) (diff u (seq1 t) r) g j

theorem final_dw : (dat1 V c).arrAt 5 cfg1.N = dwRows u ps dy := by
  refine (dat1 V c).arrAt_eq_of_after_last 5 t1_3 (by decide +kernel) _ fun j => ?_
  blk_simp
  obtain ⟨q, k, rfl⟩ : ∃ (q k : Fin 384), j = ix2 q k := ⟨j 0, j 1, by blk_ext []⟩
  unfold dwRows
  rw [after1_5, ← sum_seq, Pipeline.eq_sum_fin_of_reset_step_apply_last (fun n h => (outsAt1 V c n h).2.1) 4 (fun _ => 0)
    (fun t j => ∑ r : Fin 2048, dyo ps dy (seq1 t) r (j 1) * diff u (seq1 t) r (j 0))
    (fun t h' j => by
      obtain ⟨q, k, rfl⟩ : ∃ (q k : Fin 384), j = ix2 q k := ⟨j 0, j 1, by blk_ext []⟩
      rw [outsAt1_A V c t h']; frame_out
      refine (dw_step h t _ q k).trans (congrArg (· + _) ?_)
      pointwise [k1_pay5])
    (fun t h' j => by
      obtain ⟨q, k, rfl⟩ : ∃ (q k : Fin 384), j = ix2 q k := ⟨j 0, j 1, by blk_ext []⟩
      rw [outsAt1_B V c t h']; frame_out
      exact dw_step h t _ q k) (le_of_eq N_1) t1_3 rfl, zero_add]

theorem final_ds (hu : ∀ i, IsReal (u i)) : (dat1 V c).arrAt 6 cfg1.N = val_main_v165 (F := Ideal) u w dy := by
  refine (dat1 V c).arrAt_eq_of_after_last 6 t1_3 (by decide +kernel) _ fun j => ?_
  blk_simp
  obtain ⟨q, rfl⟩ : ∃ q : Fin 384, j = ix2 0 q := ⟨j 1, by blk_ext []⟩
  refine Eq.trans ?_ (Cert.PoolRefIdeal.Hand.dps_at u w dy q hu).symm
  rw [after1_6, ← sum_seq, Pipeline.eq_sum_fin_of_reset_step_apply_last (fun n h => (outsAt1 V c n h).2.2) 4 (fun _ => 0)
    (fun t j => ∑ r : Fin 2048, mix u w (seq1 t) r (j 1) * dy (ix3 (seq1 t) r (j 1)))
    (fun t h' j => by
      obtain ⟨q, rfl⟩ : ∃ q : Fin 384, j = ix2 0 q := ⟨j 1, by blk_ext []⟩
      rw [outsAt1_A V c t h']; frame_out
      refine (ds_step h t _ q).trans (congrArg (· + _) ?_)
      pointwise [k1_pay6])
    (fun t h' j => by
      obtain ⟨q, rfl⟩ : ∃ q : Fin 384, j = ix2 0 q := ⟨j 1, by blk_ext []⟩
      rw [outsAt1_B V c t h']; frame_out
      exact ds_step h t _ q) (le_of_eq N_1) t1_3 rfl, zero_add]
  rfl

end Cert.PoolIdeal.Hand

end
-- ==== Proof.Pool.Host.lean ====
module

public import proofs.«01_k».proof.Proof.Pool.BwdValue
public import Idealize.ShloMosaic.Lib.StableHlo.RunRead
public import Idealize.ShloMosaic.Lib.StableHlo.ReadAt

/-! # The arrays the pool's kernels read, and what the host makes of what they leave -/

@[expose] public section

set_option maxRecDepth 16384

noncomputable section

namespace Cert.PoolIdeal.Hand

open Cert.PoolIdeal Cert.PoolIdeal.Gen Idealize.ShloMosaic Idealize.ShloMosaic.TcCoe Idealize.SL.Sem
open Cert.StepMath
open Cert.PoolRefIdeal.Hand (weight diff mix dyo dd dwin)

variable (m : (ℓ : Loc nD τ sig) → Buf (Elt Ideal) ℓ) (ρ : Dev nD → PrngReg) (c : Dev nD)

abbrev A0 : Vec Ideal Cert.PoolRefIdeal.S4x2048x384 .f32 := m (c, Proc.tc.devRef main_arg0)
abbrev A1 : Vec Ideal Cert.PoolRefIdeal.S1x4x96x96 .f32 := m (c, Proc.tc.devRef main_arg1)
abbrev A2 : Vec Ideal Cert.PoolRefIdeal.S1x384 .f32 := m (c, Proc.tc.devRef main_arg2)
abbrev A3 : Vec Ideal Cert.PoolRefIdeal.S4x2048x384 .f32 := m (c, Proc.tc.devRef main_arg3)

theorem u_host (a : Fin 4) (r : Fin 2048) (q : Fin 384) : (V9 m ρ c main_v15 : Vec Ideal S8192x384 .bf16) (ix2 (row a r) q) = A0 m c (ix3 a r q) := by
  have h : W8 m ρ c (Proc.devRef .tc main_arg0) = A0 m c := W8_args m ρ c main_arg0 (by decide)
  rw [← h]
  show StableHlo.after hostOps0_8 (W8 m ρ c) (Proc.devRef .tc main_v15) (ix2 (row a r) q) = _
  generalize W8 m ρ c = W
  after_reads_at
  exact congrArg₂ (fun x y => W (Proc.devRef .tc main_arg0) (ix3 x y q)) (Fin.ext (by simp only [row]; omega)) (Fin.ext (by simp only [row]; omega))

/-! ## The block-diagonal matrix, band by band -/

/-- A band holds its block in its own columns. -/
theorem band (w : Fin 4 → Fin 96 → Fin 96 → EReal) (g : Fin 4) (k : Fin 96) (q : Fin 384) (z : EReal)
    (hz : ∀ h : 96 * g.val ≤ q.val ∧ q.val - 96 * g.val < 96, z = w g k ⟨q.val - 96 * g.val, h.2⟩)
    (h0 : ¬ (96 * g.val ≤ q.val ∧ q.val - 96 * g.val < 96) → z = 0) : z = blockDiag w (colOf g k) q := by
  obtain ⟨g', j, rfl⟩ := exists_colOf q
  by_cases hg : g = g'
  · subst hg
    rw [blockDiag_same, hz ⟨by simp only [colOf]; omega, by simp only [colOf]; omega⟩]
    exact congrArg (w g k) (Fin.ext (by simp only [colOf]; omega))
  · rw [blockDiag_off _ hg]
    refine h0 fun h => hg (Fin.ext ?_)
    simp only [colOf] at h
    omega

theorem zero_word : (FloatOps.sitofp (F := Ideal) FTy.f32 (0#32) : EReal) = 0 := by
  rw [show (0#32 : BitVec 32) = BitVec.ofNat 32 0 from rfl, sitofp_nat 0 (by decide)]; simp

theorem band0 (k : Fin 96) (q : Fin 384) : (W2 m ρ c (Proc.devRef .tc main_v2) : Vec Ideal S96x384 .f32) (ix2 k q) = blockDiag (weight (A1 m c)) (colOf 0 k) q := by
  show StableHlo.after hostOps0_1 (StableHlo.after hostOps0 (W0 m ρ c)) (Proc.devRef .tc main_v2) (ix2 k q) = _
  after_reads_at
  refine band _ 0 k q _ (fun h => ?_) fun h => ?_
  · rw [dif_pos (by simpa using h.2)]; rfl
  · rw [dif_neg (by simpa using h), zero_word]

theorem band1 (k : Fin 96) (q : Fin 384) : (W4 m ρ c (Proc.devRef .tc main_v5) : Vec Ideal S96x384 .f32) (ix2 k q) = blockDiag (weight (A1 m c)) (colOf 1 k) q := by
  have h : W2 m ρ c (Proc.devRef .tc main_arg1) = A1 m c := W2_args m ρ c main_arg1 (by decide)
  rw [← h]
  show StableHlo.after hostOps0_3 (StableHlo.after hostOps0_2 (W2 m ρ c)) (Proc.devRef .tc main_v5) (ix2 k q) = _
  generalize W2 m ρ c = W
  after_reads_at
  refine band _ 1 k q _ (fun h => ?_) fun h => ?_
  · rw [dif_pos (by simpa using h)]; rfl
  · rw [dif_neg (by simpa using h), zero_word]

theorem band2 (k : Fin 96) (q : Fin 384) : (W6 m ρ c (Proc.devRef .tc main_v8) : Vec Ideal S96x384 .f32) (ix2 k q) = blockDiag (weight (A1 m c)) (colOf 2 k) q := by
  have h : W4 m ρ c (Proc.devRef .tc main_arg1) = A1 m c := W4_args m ρ c main_arg1 (by decide)
  rw [← h]
  show StableHlo.after hostOps0_5 (StableHlo.after hostOps0_4 (W4 m ρ c)) (Proc.devRef .tc main_v8) (ix2 k q) = _
  generalize W4 m ρ c = W
  after_reads_at
  refine band _ 2 k q _ (fun h => ?_) fun h => ?_
  · rw [dif_pos (by simpa using h)]; rfl
  · rw [dif_neg (by simpa using h), zero_word]

theorem band3 (k : Fin 96) (q : Fin 384) : (W8 m ρ c (Proc.devRef .tc main_v11) : Vec Ideal S96x384 .f32) (ix2 k q) = blockDiag (weight (A1 m c)) (colOf 3 k) q := by
  have h : W6 m ρ c (Proc.devRef .tc main_arg1) = A1 m c := W6_args m ρ c main_arg1 (by decide)
  rw [← h]
  show StableHlo.after hostOps0_7 (StableHlo.after hostOps0_6 (W6 m ρ c)) (Proc.devRef .tc main_v11) (ix2 k q) = _
  generalize W6 m ρ c = W
  after_reads_at
  refine band _ 3 k q _ (fun h => ?_) fun h => ?_
  · rw [dif_pos (by simpa using h)]; rfl
  · rw [dif_neg (by simpa using h), zero_word]

theorem w_host (k q : Fin 384) : (V9 m ρ c main_v13 : Vec Ideal S384x384 .bf16) (ix2 k q) = blockDiag (weight (A1 m c)) k q := by
  have h0 : W8 m ρ c (Proc.devRef .tc main_v2) = W2 m ρ c (Proc.devRef .tc main_v2) := by
    rw [W8_of _ _ _ _ (by decide), W7_of _ _ _ _ (by decide), W6_of _ _ _ _ (by decide), W5_of _ _ _ _ (by decide), W4_of _ _ _ _ (by decide), W3_of _ _ _ _ (by decide)]
  have h1 : W8 m ρ c (Proc.devRef .tc main_v5) = W4 m ρ c (Proc.devRef .tc main_v5) := by
    rw [W8_of _ _ _ _ (by decide), W7_of _ _ _ _ (by decide), W6_of _ _ _ _ (by decide), W5_of _ _ _ _ (by decide)]
  have h2 : W8 m ρ c (Proc.devRef .tc main_v8) = W6 m ρ c (Proc.devRef .tc main_v8) := by
    rw [W8_of _ _ _ _ (by decide), W7_of _ _ _ _ (by decide)]
  have b0 := fun k => (congrFun h0 _).trans (band0 m ρ c k q)
  have b1 := fun k => (congrFun h1 _).trans (band1 m ρ c k q)
  have b2 := fun k => (congrFun h2 _).trans (band2 m ρ c k q)
  have b3 := fun k => band3 m ρ c k q
  show StableHlo.after hostOps0_8 (W8 m ρ c) (Proc.devRef .tc main_v13) (ix2 k q) = _
  generalize W8 m ρ c = W at *
  after_reads_at
  have e := fun (x y : Fin 384) (hx : x.val = y.val) => congrArg (fun x => blockDiag (weight (A1 m c)) x q) (Fin.ext hx)
  by_cases c0 : k.val < 96
  · rw [dif_pos c0]; exact (b0 _).trans (e _ _ (show 96 * 0 + k.val = k.val by omega))
  rw [dif_neg c0]
  by_cases c1 : k.val - 96 < 96
  · rw [dif_pos c1]; exact (b1 _).trans (e _ _ (show 96 * 1 + (k.val - 96) = k.val by omega))
  rw [dif_neg c1]
  by_cases c2 : k.val - 96 - 96 < 96
  · rw [dif_pos c2]; exact (b2 _).trans (e _ _ (show 96 * 2 + (k.val - 96 - 96) = k.val by omega))
  rw [dif_neg c2]
  exact (b3 _).trans (e _ _ (show 96 * 3 + (k.val - 96 - 96 - 96) = k.val by omega))

theorem dy_host (a : Fin 4) (r : Fin 2048) (q : Fin 384) : (V11 m ρ c main_v18 : Vec Ideal S8192x384 .bf16) (ix2 (row a r) q) = A3 m c (ix3 a r q) := by
  have h : W10 m ρ c (Proc.devRef .tc main_arg3) = A3 m c := W10_args m ρ c main_arg3 (by decide)
  rw [← h]
  show StableHlo.after hostOps1 (W10 m ρ c) (Proc.devRef .tc main_v18) (ix2 (row a r) q) = _
  generalize W10 m ρ c = W
  after_reads_at
  exact congrArg₂ (fun x y => W (Proc.devRef .tc main_arg3) (ix3 x y q)) (Fin.ext (by simp only [row]; omega)) (Fin.ext (by simp only [row]; omega))

theorem dw_host (g : Fin 4) (k j : Fin 96) : (W13 m ρ c (Proc.devRef .tc main_v28) : Vec Ideal S4x96x96 .f32) (ix3 g k j) =
    (W12 m ρ c (Proc.devRef .tc main_v19_1) : Vec Ideal S384x384 .f32) (ix2 (colOf g k) (colOf g j)) := by
  show StableHlo.after hostOps2 (W12 m ρ c) (Proc.devRef .tc main_v28) (ix3 g k j) = _
  generalize W12 m ρ c = W
  after_results_simp
  pointwise
  split_ifs with c0 c1 c2
  all_goals
    after_results_simp
    pointwise
    refine congrArg (W (Proc.devRef .tc main_v19_1)) (congrArg₂ ix2 (Fin.ext ?_) (Fin.ext ?_)) <;> simp only [colOf] <;> omega
end Cert.PoolIdeal.Hand

end
-- ==== Proof.Pool.Run.lean ====
module

public import proofs.«01_k».proof.Proof.Pool.Host

/-! # What the pool's run leaves in the buffers -/

@[expose] public section

set_option maxRecDepth 16384

noncomputable section

namespace Cert.PoolIdeal.Hand

open Cert.PoolIdeal Cert.PoolIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every buffer of a device ends with what the chain of its host lines and its two kernels leaves there. -/
theorem run_all : θ_run defs (onTc (τ := τ) (main (F := Ideal))) ⟨m, fun _ => 0, ρ⟩ (fun r =>
    ∀ c : Dev nD, ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.PoolIdeal.Hand

end
-- ==== Proof.Pool.Claims.lean ====
module

public import proofs.«01_k».proof.Defs
public import proofs.«01_k».proof.Proof.Gen.Pool
public import proofs.«01_k».proof.Proof.Gen.Pool.Frame
public import proofs.«01_k».proof.Proof.Gen.PoolRefIdeal.Run
public import proofs.«01_k».proof.Proof.Gen.Pre_pool_finite
public import proofs.«01_k».proof.Proof.Pool.Run
public import proofs.«01_k».proof.Proof.Math.Finite

/-! # The claims about the pool's backward call -/

@[expose] public section

set_option maxRecDepth 16384

noncomputable section

namespace Cert.PoolClaims

open Idealize.ShloMosaic Idealize.ShloMosaic.TcCoe Idealize.SL.Sem
open Cert.StepMath

attribute [local instance] Cert.Pool.Gen.facts Cert.PoolIdeal.Gen.facts Cert.PoolRefIdeal.Gen.facts Cert.Pre_pool_finite.Gen.facts

theorem frame_ref : Cert.quiescent_PoolRefIdeal := by
  intro m g _
  exact (θ_run Cert.PoolRefIdeal.defs _ _).mono (fun r h => ⟨fun c => (h c).2.2.2.2, sem_eq_zero_of_no_sems (by decide) r.2⟩)
    (Cert.PoolRefIdeal.Value.run m g)

theorem frame_ref_pre : Cert.quiescent_PoolRefIdeal_pre_pool_finite := fun m g _ => frame_ref m g trivial

section
variable (m : (ℓ : Loc Cert.PoolIdeal.nD Cert.PoolIdeal.τ Cert.PoolIdeal.sig) → Buf (Elt Ideal) ℓ) (g : Dev Cert.PoolIdeal.nD → PrngReg) (c : Dev Cert.PoolIdeal.nD)
open Cert.PoolIdeal Cert.PoolIdeal.Gen Cert.PoolIdeal.Hand Cert.PoolRefIdeal.Read
open Cert.PoolRefIdeal.Hand (weight diff mix dyo dd dwin)

/-- All arguments are finite. -/
structure Fin' : Prop where
  h0 : ∀ i, IsReal (A0 m c i)
  h1 : ∀ i, IsReal (A1 m c i)
  h2 : ∀ i, IsReal (A2 m c i)
  h3 : ∀ i, IsReal (A3 m c i)

theorem finite_args (hpre : Cert.Pre_PoolIdeal_pool_finite m) : Fin' m c := by
  obtain ⟨h0, h1, h2, h3⟩ := hpre c
  exact ⟨isReal_of_ones _ _ h0, isReal_of_ones _ _ h1, isReal_of_ones _ _ h2, isReal_of_ones _ _ h3⟩

variable {m c} in
/-- On finite arguments the windows' gradients are finite. -/
theorem dwin_real (h : Fin' m c) (a : Fin 4) (q : Fin 384) (t : Fin 2048) : IsReal (dwin (A1 m c) (A2 m c) (A3 m c) a q t) :=
  IsReal.div_cnt (IsReal.sum _ fun k => ((h.h3 _).mul (h.h2 _)).mul (h.h1 _)) _ _

theorem reads0 : Reads0 (V9 m g) c (A0 m c) (A1 m c) (A2 m c) :=
  ⟨u_host m g c, w_host m g c, fun q => congrFun (W9_args m g c main_arg2 (by decide)) _⟩

theorem reads1 : Reads1 (V11 m g) c (A0 m c) (A1 m c) (A2 m c) (A3 m c) where
  d_at a r q := by
    refine Eq.trans (congrFun (?_ : _ = dRows (A0 m c)) _) (dRows_at ..)
    exact (W11_of m g c main_v16_1 (by decide)).trans ((W10_arr m g c 4).trans (final_d (reads0 m g c)))
  y_at := dy_host m g c
  w_at k q := (congrFun ((W11_of m g c main_v13 (by decide)).trans (W10_of m g c main_v13 (by decide))) _).trans (w_host m g c k q)
  s_at q := congrFun (W11_args m g c main_arg2 (by decide)) _

theorem y_eq (h : Fin' m c) : W13 m g c (Proc.devRef .tc main_v16_0) = val_main_v168 (F := Ideal) (A0 m c) (A1 m c) (A2 m c) :=
  (W13_of m g c main_v16_0 (by decide)).trans ((W12_of m g c main_v16_0 (by decide)).trans ((W11_of m g c main_v16_0 (by decide)).trans
    ((W10_arr m g c 3).trans (final_y (reads0 m g c) h.h0))))

theorem du_eq (h : Fin' m c) : W13 m g c (Proc.devRef .tc main_v19_0) = val_main_v170 (F := Ideal) (A1 m c) (A2 m c) (A3 m c) :=
  (W13_of m g c main_v19_0 (by decide)).trans ((W12_arr m g c 4).trans (final_du (reads1 m g c) (dwin_real h)))

theorem ds_eq (h : Fin' m c) : W13 m g c (Proc.devRef .tc main_v19_2) = val_main_v165 (F := Ideal) (A0 m c) (A1 m c) (A3 m c) :=
  (W13_of m g c main_v19_2 (by decide)).trans ((W12_arr m g c 6).trans (final_ds (reads1 m g c) h.h0))

theorem dw_eq (h : Fin' m c) : W13 m g c (Proc.devRef .tc main_v28) = val_main_v171 (F := Ideal) (A0 m c) (A2 m c) (A3 m c) := by
  refine funext fun i => ?_
  obtain ⟨a, k, j, rfl⟩ : ∃ (a : Fin 4) (k j : Fin 96), i = ix3 a k j := ⟨i 0, i 1, i 2, by blk_ext []⟩
  refine (dw_host m g c a k j).trans ((congrFun ((W12_arr m g c 5).trans (final_dw (reads1 m g c))) _).trans ?_)
  exact (Cert.PoolRefIdeal.Hand.dw_at (A0 m c) (A2 m c) (A3 m c) a j k h.h0).symm

end

theorem algebraic : Cert.algebraic_PoolIdeal_PoolRefIdeal_pre_pool_finite := by
  intro m g m' g' hpre hagree
  refine ⟨fun c => Cert.PoolIdeal.Gen.W13 m g c (Proc.devRef .tc Cert.PoolIdeal.main_v16_0), fun c => Cert.PoolIdeal.Gen.W13 m g c (Proc.devRef .tc Cert.PoolIdeal.main_v19_0), fun c => Cert.PoolIdeal.Gen.W13 m g c (Proc.devRef .tc Cert.PoolIdeal.main_v28), fun c => Cert.PoolIdeal.Gen.W13 m g c (Proc.devRef .tc Cert.PoolIdeal.main_v19_2),
    (θ_run _ _ _).mono (fun r h c => ?_) (Cert.PoolIdeal.Hand.run_all m g), (θ_run _ _ _).mono (fun r h c => ?_) (Cert.PoolRefIdeal.Value.run m' g')⟩
  · exact ⟨h c _ (Cert.PoolIdeal.Gen.mem_uc Cert.PoolIdeal.main_v16_0 (by decide)), h c _ (Cert.PoolIdeal.Gen.mem_uc Cert.PoolIdeal.main_v19_0 (by decide)),
      h c _ (Cert.PoolIdeal.Gen.mem_uc Cert.PoolIdeal.main_v28 (by decide)), h c _ (Cert.PoolIdeal.Gen.mem_uc Cert.PoolIdeal.main_v19_2 (by decide)),
      (h c _ (Cert.PoolIdeal.Gen.mem_uc Cert.PoolIdeal.main_arg0 (by decide))).trans (Cert.PoolIdeal.Gen.W13_main_arg0 m g c),
      (h c _ (Cert.PoolIdeal.Gen.mem_uc Cert.PoolIdeal.main_arg1 (by decide))).trans (Cert.PoolIdeal.Gen.W13_main_arg1 m g c),
      (h c _ (Cert.PoolIdeal.Gen.mem_uc Cert.PoolIdeal.main_arg2 (by decide))).trans (Cert.PoolIdeal.Gen.W13_main_arg2 m g c),
      (h c _ (Cert.PoolIdeal.Gen.mem_uc Cert.PoolIdeal.main_arg3 (by decide))).trans (Cert.PoolIdeal.Gen.W13_main_arg3 m g c)⟩
  · have hf := finite_args m c hpre
    obtain ⟨e0, e1, e2, e3⟩ := hagree c
    obtain ⟨r0, r1, r2, r3, k⟩ := h c
    refine ⟨r0.trans ?_, r1.trans ?_, r2.trans ?_, r3.trans ?_, k⟩
    · refine (Cert.PoolRefIdeal.Read.val_main_v168_eq (StableHlo.launchContents m' c)).trans (Eq.trans ?_ (y_eq m g c hf).symm)
      show Cert.PoolRefIdeal.Read.val_main_v168 (F := Ideal) (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) = _
      rw [e0, e1, e2]
    · refine (Cert.PoolRefIdeal.Read.val_main_v170_eq (StableHlo.launchContents m' c)).trans (Eq.trans ?_ (du_eq m g c hf).symm)
      show Cert.PoolRefIdeal.Read.val_main_v170 (F := Ideal) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3)) = _
      rw [e1, e2, e3]
    · refine (Cert.PoolRefIdeal.Read.val_main_v171_eq (StableHlo.launchContents m' c)).trans (Eq.trans ?_ (dw_eq m g c hf).symm)
      show Cert.PoolRefIdeal.Read.val_main_v171 (F := Ideal) (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3)) = _
      rw [e0, e2, e3]
    · refine (Cert.PoolRefIdeal.Read.val_main_v165_eq (StableHlo.launchContents m' c)).trans (Eq.trans ?_ (ds_eq m g c hf).symm)
      show Cert.PoolRefIdeal.Read.val_main_v165 (F := Ideal) (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg3)) = _
      rw [e0, e1, e3]

end Cert.PoolClaims
-- ==== Proof.Math.States.lean ====
module

public import proofs.«01_k».proof.Proof.Math.Finite
public import Mathlib.Algebra.BigOperators.Fin

/-! # The states of the 24 groups, 64 to a group, counted through -/

@[expose] public section

noncomputable section

namespace Cert.StepMath

open Idealize.ShloMosaic

/-- State `n` of group `g` among all states. -/
def st (g : Fin 24) (n : Fin 64) : Fin 1536 := ⟨g.val * 64 + n.val, by omega⟩

theorem exists_st (s : Fin 1536) : ∃ g n, s = st g n :=
  ⟨⟨s.val / 64, by omega⟩, ⟨s.val % 64, by omega⟩, Fin.ext (by simp only [st]; omega)⟩

theorem st_div (g : Fin 24) (n : Fin 64) (h) : (⟨(g.val * 64 + n.val) / 64, h⟩ : Fin 24) = g := Fin.ext (by show (g.val * 64 + n.val) / 64 = _; omega)
theorem st_mod (g : Fin 24) (n : Fin 64) (h) : (⟨(g.val * 64 + n.val) % 64, h⟩ : Fin 64) = n := Fin.ext (by show (g.val * 64 + n.val) % 64 = _; omega)

/-- A sum over all states, group by group. -/
theorem sum_states (f : Fin 1536 → EReal) : ∑ s, f s = ∑ g : Fin 24, ∑ n : Fin 64, f (st g n) := by
  rw [← Fintype.sum_prod_type' (f := fun g n => f (st g n))]
  refine (Fintype.sum_equiv (finProdFinEquiv (m := 24) (n := 64)) _ _ fun p => congrArg f (Fin.ext ?_)).symm
  simp only [st, finProdFinEquiv, Equiv.coe_fn_mk]; omega

/-- A number below 2³¹ is read back from its word as itself. -/
theorem toInt_small {a : ℕ} (h : a < 2147483648) : (BitVec.ofNat 32 a).toInt = a := by
  rw [BitVec.toInt_ofNat']; norm_num [Int.bmod]; omega

/-- Whether a state lies in a lane's group, as the kernel decides it: `64 l ≤ s < 64 (l + 1)`. -/
theorem inGroup_word (s : Fin 1536) (l : Fin 128) :
    IntOp.cmpi CmpIPredicate.sge (BitVec.ofNat 32 s.val) (BitVec.ofNat 32 l.val * 64#32) &&& IntOp.cmpi CmpIPredicate.slt (BitVec.ofNat 32 s.val) ((BitVec.ofNat 32 l.val + 1#32) * 64#32)
      = if s.val / 64 = l.val then 1#1 else 0#1 := by
  have e1 : BitVec.ofNat 32 l.val * 64#32 = BitVec.ofNat 32 (l.val * 64) := by rw [BitVec.ofNat_mul]
  have e2 : (BitVec.ofNat 32 l.val + 1#32) * 64#32 = BitVec.ofNat 32 ((l.val + 1) * 64) := by rw [BitVec.ofNat_mul, BitVec.ofNat_add]
  rw [e1, e2]
  simp only [IntOp.cmpi, BitVec.sle, BitVec.slt, toInt_small (show s.val < 2147483648 by omega), toInt_small (show l.val * 64 < 2147483648 by omega),
    toInt_small (show (l.val + 1) * 64 < 2147483648 by omega)]
  by_cases h : s.val / 64 = l.val
  · have h1 : (l.val : ℤ) * 64 ≤ s.val := by omega
    have h2 : (s.val : ℤ) < (l.val + 1) * 64 := by omega
    simp [h, h1, h2]
  · rcases lt_or_gt_of_ne h with h' | h'
    · have h1 : ¬ (l.val : ℤ) * 64 ≤ s.val := by omega
      simp [h, h1]
    · have h2 : ¬ (s.val : ℤ) < (l.val + 1) * 64 := by omega
      simp [h, h2]

/-- The states of one lane's group, summed: the lanes beyond the groups hold none. -/
theorem sum_inGroup (x : Fin 1536 → EReal) (l : Fin 128) :
    ∑ s : Fin 1536, x s * (if s.val / 64 = l.val then 1 else 0) = if h : l.val < 24 then ∑ n : Fin 64, x (st ⟨l.val, h⟩ n) else 0 := by
  have hq : ∀ (g : Fin 24) (n : Fin 64), (st g n).val / 64 = g.val := fun g n => by simp only [st]; omega
  rw [sum_states]
  simp only [hq]
  split_ifs with h
  · rw [Finset.sum_eq_single (⟨l.val, h⟩ : Fin 24)]
    · simp
    · intro g _ hg
      have : g.val ≠ l.val := fun e => hg (Fin.ext e)
      simp [this]
    · simp
  · refine Finset.sum_eq_zero fun g _ => Finset.sum_eq_zero fun n _ => ?_
    have : g.val ≠ l.val := by omega
    simp [this]

/-- Multiplying by a finite number that is not negative goes through a sum, whatever is summed. -/
theorem sum_mul_nonneg {ι : Type} (s : Finset ι) (f : ι → EReal) {d : ℝ} (hd : 0 ≤ d) : (∑ i ∈ s, f i) * (d : EReal) = ∑ i ∈ s, f i * (d : EReal) := by
  classical
  induction s using Finset.induction_on with
  | empty => simp
  | insert a s ha ih =>
    rw [Finset.sum_insert ha, Finset.sum_insert ha, ← ih]
    exact EReal.right_distrib_of_nonneg_of_ne_top (by exact_mod_cast hd) (EReal.coe_ne_top d) _ _

end Cert.StepMath

end
-- ==== Proof.Param.Layout.lean ====
module

public import proofs.«01_k».proof.Proof.Gen.ParamIdeal.Frame
public import proofs.«01_k».proof.Proof.Gen.ParamRefIdeal.Read
public import proofs.«01_k».proof.Proof.Math.States
public import Idealize.ShloMosaic.Lib.Pipeline.ValueKit
public import Idealize.ShloMosaic.Lib.Pipeline.ReadBack
public import Idealize.ShloMosaic.Lib.Claim

/-! # The kernel's layout: a row has a lane for every state, a matrix a row for every channel

`Row k r`: the kernel's row `k` holds the array `r` of groups and states. `Mat k r`: the kernel's matrix `k` holds the array `r` of groups, states and
channels. Each operation on rows and matrices does what the same operation does on the arrays. -/

@[expose] public section

set_option maxRecDepth 16384

noncomputable section

namespace Cert.ParamIdeal.Hand

open Cert.ParamIdeal Cert.ParamIdeal.Gen Idealize.ShloMosaic Idealize.ShloMosaic.TcCoe Idealize.SL.Sem
open Cert.StepMath
open Cert.ParamRefIdeal (S24x64 S24x64x1 S24x64x16 S_)

def Row (k : FVec Ideal S1x1536 .f32) (r : FVec Ideal S24x64 .f32) : Prop := ∀ g n, k (ix2 0 (st g n)) = r (ix2 g n)
def Mat (k : FVec Ideal S16x1536 .f32) (r : FVec Ideal S24x64x16 .f32) : Prop := ∀ j g n, k (ix2 j (st g n)) = r (ix3 g n j)

/-- A load of a whole row, and of a whole matrix. -/
theorem ld_row (k : Vec Ideal S1x1536 .f32) : (View.ld k r0_0 : Vec Ideal S1x1536 .f32) = k :=
  View.ld_unit_zero (off := ![0, 0]) (by funext a; fin_cases a <;> rfl) inb_S1x1536_S1x1536_0_0 k
theorem ld_mat (k : Vec Ideal S16x1536 .f32) : (View.ld k r0_1 : Vec Ideal S16x1536 .f32) = k :=
  View.ld_unit_zero (off := ![0, 0]) (by funext a; fin_cases a <;> rfl) inb_S16x1536_S16x1536_0_0 k

section
variable {k k' : FVec Ideal S1x1536 .f32} {r r' : FVec Ideal S24x64 .f32} (h : Row k r) (h' : Row k' r')
include h

theorem Row.ld : Row (View.ld (k : Vec Ideal S1x1536 .f32) r0_0 : Vec Ideal S1x1536 .f32) r := by rw [ld_row]; exact h
theorem Row.cast (q) : Row (shapeCast S1x1536 k q) r := fun g n => by rw [← h g n]; pointwise []
theorem Row.exp : Row (Idealize.ShloMosaic.exp k) (Host.exp r) := fun g n => congrArg Ideal.exp (h g n)
theorem Row.cos : Row (Idealize.ShloMosaic.cos k) (Host.cos r) := fun g n => congrArg Ideal.cos (h g n)
theorem Row.sin : Row (Idealize.ShloMosaic.sin k) (Host.sin r) := fun g n => congrArg Ideal.sin (h g n)
theorem Row.neg : Row (subf (broadcast S1x1536 (Scalar.ofBits .f32 0x00000000#32)) k) (Host.negf r) := fun g n => by
  have e := h g n
  pointwise [e]
  exact zero_sub _

include h'
theorem Row.mul : Row (mulf k k') (mulf r r') := fun g n => congrArg₂ (· * ·) (h g n) (h' g n)
theorem Row.add : Row (addf k k') (addf r r') := fun g n => congrArg₂ (· + ·) (h g n) (h' g n)
theorem Row.sub : Row (subf k k') (subf r r') := fun g n => congrArg₂ (· - ·) (h g n) (h' g n)
theorem Row.div : Row (divf k k') (Host.divf r r') := fun g n => congrArg₂ Ideal.div (h g n) (h' g n)
end

theorem Row.one (q) : Row (broadcast S1x1536 (Scalar.ofBits .f32 0x3F800000#32)) (broadcastInDim S24x64 ![] q (constant (F := Ideal) S_ .f32 0x3F800000#32)) :=
  fun g n => by pointwise []

section
variable {k k' : FVec Ideal S16x1536 .f32} {r r' : FVec Ideal S24x64x16 .f32} (h : Mat k r) (h' : Mat k' r')
include h

theorem Mat.ld : Mat (View.ld (k : Vec Ideal S16x1536 .f32) r0_1 : Vec Ideal S16x1536 .f32) r := by rw [ld_mat]; exact h
theorem Mat.cast (q) : Mat (shapeCast S16x1536 k q) r := fun j g n => by rw [← h j g n]; pointwise []
theorem Mat.castRef (q) : Mat k (shapeCast S24x64x16 r q) := fun j g n => by rw [h j g n]; pointwise []
theorem Mat.neg : Mat (subf (broadcast S16x1536 (Scalar.ofBits .f32 0x00000000#32)) k) (Host.negf r) := fun j g n => by
  have e := h j g n
  pointwise [e]
  exact zero_sub _

/-- The sum over the channels. -/
theorem Mat.sum (q q' q'' q''') (hz : S24x64x16.ReducesTo [2] S24x64) (hs : 0 < S_.numel) : Row (shapeCast S1x1536 (multiReduction .add [0] S1536 k 0x00000000#32 q q' q'') q''')
    (Host.reduceAdd r (constant (F := Ideal) S_ .f32 0x00000000#32) hz hs) := fun g n => by
  have e := fun j => h j g n
  pointwise [e]

include h'
theorem Mat.mul : Mat (mulf k k') (mulf r r') := fun j g n => congrArg₂ (· * ·) (h j g n) (h' j g n)
theorem Mat.add : Mat (addf k k') (addf r r') := fun j g n => congrArg₂ (· + ·) (h j g n) (h' j g n)
end

/-- One value of a state for all channels. -/
theorem Row.spread {k : FVec Ideal S1x1536 .f32} {r : FVec Ideal S24x64 .f32} (h : Row k r) (q q' q'') :
    Mat (broadcastTo S16x1536 k q) (broadcastInDim S24x64x16 ![0, 1, 2] q' (broadcastInDim S24x64x1 ![0, 1] q'' r)) := fun j g n => by
  have e := h g n
  pointwise [e]

end Cert.ParamIdeal.Hand

end
-- ==== Proof.Param.Value.lean ====
module

public import proofs.«01_k».proof.Proof.Param.Layout

/-! # The gradients of the discretisation: the kernel's rows and matrices hold the reference's arrays

Both differentiate `exp (lam * dt)` and `(exp (lam * dt) - 1) / lam * b`, so each stage of the kernel is the reference's stage in another layout. Only
the step's gradient is summed in another order: the kernel multiplies by the step before it sums a group's states, the reference after. -/

@[expose] public section

set_option maxRecDepth 16384

noncomputable section

namespace Cert.ParamIdeal.Hand

open Cert.ParamIdeal Cert.ParamIdeal.Gen Idealize.ShloMosaic Idealize.ShloMosaic.TcCoe Idealize.SL.Sem
open Cert.StepMath
open Cert.ParamRefIdeal.Read

variable {P0 P1 P2 P5 P6 : Vec Ideal S1x1536 .f32} {P3 P4 P7 P8 : Vec Ideal S16x1536 .f32}
  {x0 x1 : Vec Ideal Cert.ParamRefIdeal.S1x24x64 .f32} {x2 : Vec Ideal Cert.ParamRefIdeal.S1x24 .f32} {x3 x4 : Vec Ideal Cert.ParamRefIdeal.S1x24x64x16 .f32}
  {x5 x6 : Vec Ideal Cert.ParamRefIdeal.S24x64 .f32} {x7 x8 : Vec Ideal Cert.ParamRefIdeal.S24x64x16 .f32}

/-- The kernel's rows and matrices hold the reference's arguments. -/
structure Holds (P0 P1 P2 P5 P6 : Vec Ideal S1x1536 .f32) (P3 P4 P7 P8 : Vec Ideal S16x1536 .f32)
    (x0 x1 : Vec Ideal Cert.ParamRefIdeal.S1x24x64 .f32) (x2 : Vec Ideal Cert.ParamRefIdeal.S1x24 .f32) (x3 x4 : Vec Ideal Cert.ParamRefIdeal.S1x24x64x16 .f32)
    (x5 x6 : Vec Ideal Cert.ParamRefIdeal.S24x64 .f32) (x7 x8 : Vec Ideal Cert.ParamRefIdeal.S24x64x16 .f32) : Prop where
  re : Row P0 (val_main_v0 x0)
  im : Row P1 (val_main_v1 x1)
  step : ∀ g n, P2 (ix2 0 (st g n)) = x2 (ix2 0 g)
  b_re : Mat P3 (val_main_v3 x3)
  b_im : Mat P4 (val_main_v4 x4)
  g_re : Row P5 x5
  g_im : Row P6 x6
  gb_re : Mat P7 x7
  gb_im : Mat P8 x8

variable (H : Holds P0 P1 P2 P5 P6 P3 P4 P7 P8 x0 x1 x2 x3 x4 x5 x6 x7 x8)
include H

/-! ## The stages of the forward lines -/

theorem re_row : Row (k0_pay47 (F := Ideal) P0 P1 P2 P3 P4 P5 P6 P7 P8) (val_main_v0 x0) := (H.re.ld).cast _
theorem im_row : Row (k0_pay48 (F := Ideal) P0 P1 P2 P3 P4 P5 P6 P7 P8) (val_main_v1 x1) := (H.im.ld).cast _
theorem bre_mat : Mat (k0_pay49 (F := Ideal) P0 P1 P2 P3 P4 P5 P6 P7 P8) (val_main_v3 x3) := (H.b_re.ld).cast _
theorem bim_mat : Mat (k0_pay50 (F := Ideal) P0 P1 P2 P3 P4 P5 P6 P7 P8) (val_main_v4 x4) := (H.b_im.ld).cast _
/-- The step of a state's group. -/
theorem step_row : Row (k0_pay51 (F := Ideal) P0 P1 P2 P3 P4 P5 P6 P7 P8) (val_main_v7 x2) := by
  have e : Row P2 (broadcastInDim Cert.ParamRefIdeal.S24x64 ![0, 1] Cert.ParamRefIdeal.Gen.bcast_S24x1_S24x64_0_1
      (broadcastInDim Cert.ParamRefIdeal.S24x1 ![0] Cert.ParamRefIdeal.Gen.bcast_S24_S24x1_0 (val_main_v2 x2))) := fun g n => by
    rw [H.step g n]; pointwise [val_main_v2]
  exact (e.ld.cast _).exp
/-- The size of the factor. -/
theorem size_row : Row (k0_pay52 (F := Ideal) P0 P1 P2 P3 P4 P5 P6 P7 P8) (val_main_v9 x0 x2) := ((re_row H).mul (step_row H)).exp
/-- The angle of the factor. -/
theorem angle_row : Row (k0_pay8 (F := Ideal) (View.ld P1 r0_0) (View.ld P2 r0_0)) (val_main_v11 x1 x2) := (im_row H).mul (step_row H)
theorem cos_row : Row (k0_pay53 (F := Ideal) P0 P1 P2 P3 P4 P5 P6 P7 P8) (val_main_v12 x1 x2) := (angle_row H).cos
theorem sin_row : Row (k0_pay54 (F := Ideal) P0 P1 P2 P3 P4 P5 P6 P7 P8) (val_main_v13 x1 x2) := (angle_row H).sin
theorem sin_row' : Row (k0_pay55 (F := Ideal) P0 P1 P2 P3 P4 P5 P6 P7 P8) (val_main_v15 x1 x2) := (angle_row H).sin
theorem cos_row' : Row (k0_pay56 (F := Ideal) P0 P1 P2 P3 P4 P5 P6 P7 P8) (val_main_v16 x1 x2) := (angle_row H).cos
/-- The factor's imaginary part. -/
theorem fac_im : Row (k0_pay57 (F := Ideal) P0 P1 P2 P3 P4 P5 P6 P7 P8) (val_main_v17 x0 x1 x2) := (size_row H).mul (sin_row' H)
/-- The factor's real part, less one. -/
theorem fac_re : Row (k0_pay58 (F := Ideal) P0 P1 P2 P3 P4 P5 P6 P7 P8) (val_main_v22 x0 x1 x2) := ((size_row H).mul (cos_row H)).sub (Row.one _)
theorem norm_row : Row (k0_pay59 (F := Ideal) P0 P1 P2 P3 P4 P5 P6 P7 P8) (val_main_v20 x0 x1) := ((re_row H).mul (re_row H)).add ((im_row H).mul (im_row H))
theorem num_re : Row (k0_pay16 (F := Ideal) (View.ld P0 r0_0) (View.ld P1 r0_0) (View.ld P2 r0_0)) (val_main_v25 x0 x1 x2) := ((fac_re H).mul (re_row H)).add ((fac_im H).mul (im_row H))
theorem num_im : Row (k0_pay19 (F := Ideal) (View.ld P0 r0_0) (View.ld P1 r0_0) (View.ld P2 r0_0)) (val_main_v35 x0 x1 x2) := ((fac_im H).mul (re_row H)).sub ((fac_re H).mul (im_row H))
theorem quo_re : Row (k0_pay60 (F := Ideal) P0 P1 P2 P3 P4 P5 P6 P7 P8) (val_main_v26 x0 x1 x2) := (num_re H).div (norm_row H)
theorem quo_im : Row (k0_pay61 (F := Ideal) P0 P1 P2 P3 P4 P5 P6 P7 P8) (val_main_v36 x0 x1 x2) := (num_im H).div (norm_row H)
theorem inv_sq : Row (k0_pay18 (F := Ideal) (View.ld P0 r0_0) (View.ld P1 r0_0)) (val_main_v29 x0 x1) := (Row.one _).div ((norm_row H).mul (norm_row H))
theorem inv_sq' : Row (k0_pay21 (F := Ideal) (View.ld P0 r0_0) (View.ld P1 r0_0)) (val_main_v39 x0 x1) := (Row.one _).div ((norm_row H).mul (norm_row H))

/-! ## The gradients of the input matrix, and of the quotient -/

theorem gre_mat : Mat (k0_pay24 (F := Ideal) (View.ld P7 r0_1)) (val_main_v63 x7) := ((H.gb_re.ld).cast _).castRef _
theorem gre_neg : Mat (k0_pay26 (F := Ideal) (View.ld P7 r0_1)) (val_main_v64 x7) := ((H.gb_re.ld).cast _).neg
theorem gim_mat : Mat (k0_pay25 (F := Ideal) (View.ld P8 r0_1)) (val_main_v52 x8) := ((H.gb_im.ld).cast _).castRef _
/-- The gradient of the input matrix's imaginary part. -/
theorem dbim_mat : Mat (k0_pay27 (k0_pay60 P0 P1 P2 P3 P4 P5 P6 P7 P8) (k0_pay61 P0 P1 P2 P3 P4 P5 P6 P7 P8) (View.ld P7 r0_1) (View.ld P8 r0_1)) (val_main_v67 x0 x1 x2 x7 x8) := (((quo_re H).spread _ _ _).mul (gim_mat H)).add (((quo_im H).spread _ _ _).mul (gre_neg H))
/-- The gradient of the input matrix's real part. -/
theorem dbre_mat : Mat (k0_pay29 (k0_pay60 P0 P1 P2 P3 P4 P5 P6 P7 P8) (k0_pay61 P0 P1 P2 P3 P4 P5 P6 P7 P8) (View.ld P7 r0_1) (View.ld P8 r0_1)) (val_main_v74 x0 x1 x2 x7 x8) := (((quo_im H).spread _ _ _).mul (gim_mat H)).add (((quo_re H).spread _ _ _).mul (gre_mat H))
omit H in
/-- A sum over an axis of one entry. -/
theorem one_entry (y z : FVec Ideal Cert.ParamRefIdeal.S24x64 .f32) :
    Host.reduceAdd (addf (shapeCast Cert.ParamRefIdeal.S24x64x1 y Cert.ParamRefIdeal.Gen.shapeCasts_S24x64_S24x64x1)
      (shapeCast Cert.ParamRefIdeal.S24x64x1 z Cert.ParamRefIdeal.Gen.shapeCasts_S24x64_S24x64x1)) (constant (F := Ideal) Cert.ParamRefIdeal.S_ .f32 0x00000000#32)
      Cert.ParamRefIdeal.Gen.reducesTo_S24x64x1_S24x64_d2 Cert.ParamRefIdeal.Gen.h_S_ = addf y z := by
  funext i
  obtain ⟨g, n, rfl⟩ : ∃ (g : Fin 24) (n : Fin 64), i = ix2 g n := ⟨i 0, i 1, by blk_ext []⟩
  pointwise []
  exact Fin.sum_univ_one _

/-- The gradient of the quotient's imaginary part. -/
theorem dq_im : Row (k0_pay28 (F := Ideal) (k0_pay49 (F := Ideal) P0 P1 P2 P3 P4 P5 P6 P7 P8) (k0_pay50 (F := Ideal) P0 P1 P2 P3 P4 P5 P6 P7 P8) (View.ld P7 r0_1) (View.ld P8 r0_1)) (val_main_v79 x3 x4 x7 x8) := by
  rw [show val_main_v79 x3 x4 x7 x8 = addf (val_main_v56 x3 x8) (val_main_v69 x4 x7) from one_entry _ _]
  exact (((gim_mat H).mul (bre_mat H)).sum _ _ _ _ _ _).add (((gre_neg H).mul (bim_mat H)).sum _ _ _ _ _ _)
/-- The gradient of the quotient's real part. -/
theorem dq_re : Row (k0_pay62 (F := Ideal) P0 P1 P2 P3 P4 P5 P6 P7 P8) (val_main_v91 x3 x4 x7 x8) := by
  rw [show val_main_v91 x3 x4 x7 x8 = addf (val_main_v61 x4 x8) (val_main_v76 x3 x7) from one_entry _ _]
  exact (((gim_mat H).mul (bim_mat H)).sum _ _ _ _ _ _).add (((gre_mat H).mul (bre_mat H)).sum _ _ _ _ _ _)

/-! ## The gradients of the norm and of the factor -/

/-- The gradient of the norm of `lam`. -/
theorem dnorm : Row (k0_pay65 (F := Ideal) P0 P1 P2 P3 P4 P5 P6 P7 P8) (val_main_v95 x0 x1 x2 x3 x4 x7 x8) := ((((dq_im H).mul (inv_sq' H)).mul (num_im H)).neg).add ((((dq_re H).mul (inv_sq H)).mul (num_re H)).neg)
theorem dn_im : Row (k0_pay31 (F := Ideal) (k0_pay49 (F := Ideal) P0 P1 P2 P3 P4 P5 P6 P7 P8) (k0_pay50 (F := Ideal) P0 P1 P2 P3 P4 P5 P6 P7 P8) (k0_pay59 (F := Ideal) P0 P1 P2 P3 P4 P5 P6 P7 P8) (View.ld P7 r0_1) (View.ld P8 r0_1)) (val_main_v83 x0 x1 x3 x4 x7 x8) := (dq_im H).div (norm_row H)
theorem dn_re : Row (k0_pay38 (F := Ideal) (k0_pay59 (F := Ideal) P0 P1 P2 P3 P4 P5 P6 P7 P8) (k0_pay62 (F := Ideal) P0 P1 P2 P3 P4 P5 P6 P7 P8)) (val_main_v96 x0 x1 x3 x4 x7 x8) := (dq_re H).div (norm_row H)
theorem dfac_re0 : Row (k0_pay63 (F := Ideal) P0 P1 P2 P3 P4 P5 P6 P7 P8) (val_main_v87 x0 x1 x3 x4 x5 x7 x8) := ((H.g_re.ld).cast _).add ((dn_im H).neg.mul (im_row H))
theorem dfac_im0 : Row (k0_pay64 (F := Ideal) P0 P1 P2 P3 P4 P5 P6 P7 P8) (val_main_v90 x0 x1 x3 x4 x6 x7 x8) := ((H.g_im.ld).cast _).add ((dn_im H).mul (re_row H))
/-- The gradient of the factor's imaginary part. -/
theorem dfac_im : Row (k0_pay39 (F := Ideal) (k0_pay48 (F := Ideal) P0 P1 P2 P3 P4 P5 P6 P7 P8) (k0_pay59 (F := Ideal) P0 P1 P2 P3 P4 P5 P6 P7 P8) (k0_pay62 (F := Ideal) P0 P1 P2 P3 P4 P5 P6 P7 P8) (k0_pay64 (F := Ideal) P0 P1 P2 P3 P4 P5 P6 P7 P8)) (val_main_v100 x0 x1 x3 x4 x6 x7 x8) := (dfac_im0 H).add ((dn_re H).mul (im_row H))
/-- The gradient of the factor's real part. -/
theorem dfac_re : Row (k0_pay40 (F := Ideal) (k0_pay47 (F := Ideal) P0 P1 P2 P3 P4 P5 P6 P7 P8) (k0_pay59 (F := Ideal) P0 P1 P2 P3 P4 P5 P6 P7 P8) (k0_pay62 (F := Ideal) P0 P1 P2 P3 P4 P5 P6 P7 P8) (k0_pay63 (F := Ideal) P0 P1 P2 P3 P4 P5 P6 P7 P8)) (val_main_v104 x0 x1 x3 x4 x5 x7 x8) := (dfac_re0 H).add ((dn_re H).mul (re_row H))
/-- The gradient of the angle. -/
theorem dangle : Row (k0_pay41 (F := Ideal) (k0_pay47 (F := Ideal) P0 P1 P2 P3 P4 P5 P6 P7 P8) (k0_pay48 (F := Ideal) P0 P1 P2 P3 P4 P5 P6 P7 P8) (k0_pay52 (F := Ideal) P0 P1 P2 P3 P4 P5 P6 P7 P8) (k0_pay54 (F := Ideal) P0 P1 P2 P3 P4 P5 P6 P7 P8) (k0_pay56 (F := Ideal) P0 P1 P2 P3 P4 P5 P6 P7 P8) (k0_pay59 (F := Ideal) P0 P1 P2 P3 P4 P5 P6 P7 P8) (k0_pay62 (F := Ideal) P0 P1 P2 P3 P4 P5 P6 P7 P8) (k0_pay63 (F := Ideal) P0 P1 P2 P3 P4 P5 P6 P7 P8) (k0_pay64 (F := Ideal) P0 P1 P2 P3 P4 P5 P6 P7 P8)) (val_main_v121 x0 x1 x2 x3 x4 x5 x6 x7 x8) := (((size_row H).mul (dfac_im H)).mul (cos_row' H)).add ((((size_row H).mul (dfac_re H)).neg).mul (sin_row H))
/-- The gradient of the exponent of the size. -/
theorem dexpo : Row (k0_pay43 (F := Ideal) (k0_pay47 (F := Ideal) P0 P1 P2 P3 P4 P5 P6 P7 P8) (k0_pay48 (F := Ideal) P0 P1 P2 P3 P4 P5 P6 P7 P8) (k0_pay52 (F := Ideal) P0 P1 P2 P3 P4 P5 P6 P7 P8) (k0_pay53 (F := Ideal) P0 P1 P2 P3 P4 P5 P6 P7 P8) (k0_pay55 (F := Ideal) P0 P1 P2 P3 P4 P5 P6 P7 P8) (k0_pay59 (F := Ideal) P0 P1 P2 P3 P4 P5 P6 P7 P8) (k0_pay62 (F := Ideal) P0 P1 P2 P3 P4 P5 P6 P7 P8) (k0_pay63 (F := Ideal) P0 P1 P2 P3 P4 P5 P6 P7 P8) (k0_pay64 (F := Ideal) P0 P1 P2 P3 P4 P5 P6 P7 P8)) (val_main_v128 x0 x1 x2 x3 x4 x5 x6 x7 x8) := (((dfac_im H).mul (sin_row' H)).add ((dfac_re H).mul (cos_row H))).mul (size_row H)

/-! ## The gradients of `lam` and of the step -/

/-- The gradient of the imaginary parts of `lam`. -/
theorem dim_row : Row (k0_pay42 (k0_pay47 P0 P1 P2 P3 P4 P5 P6 P7 P8) (k0_pay48 P0 P1 P2 P3 P4 P5 P6 P7 P8) (k0_pay51 P0 P1 P2 P3 P4 P5 P6 P7 P8) (k0_pay52 P0 P1 P2 P3 P4 P5 P6 P7 P8) (k0_pay54 P0 P1 P2 P3 P4 P5 P6 P7 P8) (k0_pay56 P0 P1 P2 P3 P4 P5 P6 P7 P8) (k0_pay57 P0 P1 P2 P3 P4 P5 P6 P7 P8) (k0_pay59 P0 P1 P2 P3 P4 P5 P6 P7 P8) (k0_pay62 P0 P1 P2 P3 P4 P5 P6 P7 P8) (k0_pay33 (k0_pay49 P0 P1 P2 P3 P4 P5 P6 P7 P8) (k0_pay50 P0 P1 P2 P3 P4 P5 P6 P7 P8) (k0_pay58 P0 P1 P2 P3 P4 P5 P6 P7 P8) (k0_pay59 P0 P1 P2 P3 P4 P5 P6 P7 P8) (View.ld P7 r0_1) (View.ld P8 r0_1)) (k0_pay63 P0 P1 P2 P3 P4 P5 P6 P7 P8) (k0_pay64 P0 P1 P2 P3 P4 P5 P6 P7 P8) (k0_pay65 P0 P1 P2 P3 P4 P5 P6 P7 P8)) (val_main_v127 x0 x1 x2 x3 x4 x5 x6 x7 x8) := ((((((fac_re H).mul (dn_im H).neg).add ((fac_im H).mul (dn_re H))).add ((im_row H).mul (dnorm H))).add ((dnorm H).mul (im_row H))).add ((dangle H).mul (step_row H)))
/-- The gradient of the real parts of `lam`. -/
theorem dre_row : Row (k0_pay44 (k0_pay47 P0 P1 P2 P3 P4 P5 P6 P7 P8) (k0_pay48 P0 P1 P2 P3 P4 P5 P6 P7 P8) (k0_pay51 P0 P1 P2 P3 P4 P5 P6 P7 P8) (k0_pay52 P0 P1 P2 P3 P4 P5 P6 P7 P8) (k0_pay53 P0 P1 P2 P3 P4 P5 P6 P7 P8) (k0_pay55 P0 P1 P2 P3 P4 P5 P6 P7 P8) (k0_pay58 P0 P1 P2 P3 P4 P5 P6 P7 P8) (k0_pay59 P0 P1 P2 P3 P4 P5 P6 P7 P8) (k0_pay62 P0 P1 P2 P3 P4 P5 P6 P7 P8) (k0_pay63 P0 P1 P2 P3 P4 P5 P6 P7 P8) (k0_pay35 (k0_pay49 P0 P1 P2 P3 P4 P5 P6 P7 P8) (k0_pay50 P0 P1 P2 P3 P4 P5 P6 P7 P8) (k0_pay57 P0 P1 P2 P3 P4 P5 P6 P7 P8) (k0_pay59 P0 P1 P2 P3 P4 P5 P6 P7 P8) (View.ld P7 r0_1) (View.ld P8 r0_1)) (k0_pay64 P0 P1 P2 P3 P4 P5 P6 P7 P8) (k0_pay65 P0 P1 P2 P3 P4 P5 P6 P7 P8)) (val_main_v135 x0 x1 x2 x3 x4 x5 x6 x7 x8) := ((((((fac_im H).mul (dn_im H)).add ((fac_re H).mul (dn_re H))).add ((re_row H).mul (dnorm H))).add ((dnorm H).mul (re_row H))).add ((dexpo H).mul (step_row H)))
/-- A state's part in the gradient of the step's logarithm. -/
theorem dstep_row : Row (k0_pay45 (k0_pay47 P0 P1 P2 P3 P4 P5 P6 P7 P8) (k0_pay48 P0 P1 P2 P3 P4 P5 P6 P7 P8) (k0_pay51 P0 P1 P2 P3 P4 P5 P6 P7 P8) (k0_pay52 P0 P1 P2 P3 P4 P5 P6 P7 P8) (k0_pay53 P0 P1 P2 P3 P4 P5 P6 P7 P8) (k0_pay54 P0 P1 P2 P3 P4 P5 P6 P7 P8) (k0_pay55 P0 P1 P2 P3 P4 P5 P6 P7 P8) (k0_pay56 P0 P1 P2 P3 P4 P5 P6 P7 P8) (k0_pay59 P0 P1 P2 P3 P4 P5 P6 P7 P8) (k0_pay62 P0 P1 P2 P3 P4 P5 P6 P7 P8) (k0_pay63 P0 P1 P2 P3 P4 P5 P6 P7 P8) (k0_pay64 P0 P1 P2 P3 P4 P5 P6 P7 P8)) (mulf (addf (val_main_v122 x0 x1 x2 x3 x4 x5 x6 x7 x8) (val_main_v129 x0 x1 x2 x3 x4 x5 x6 x7 x8)) (val_main_v7 x2)) := (((im_row H).mul (dangle H)).add ((re_row H).mul (dexpo H))).mul (step_row H)

omit H in
/-- The kernel's product with the groups' indicator: the sum of the states of a lane's group. -/
theorem lanes_at (v : FVec Ideal S1x1536 .f32) (l : Fin 128) : k0_pay1 (F := Ideal) v k0_pay46 (Scalar.ofBits .f32 0x3F800000#32) (ix2 0 l)
    = ∑ s : Fin 1536, v (ix2 0 s) * (if s.val / 64 = l.val then 1 else 0) := by
  unfold k0_pay1 k0_pay46
  pointwise []
  refine Finset.sum_congr rfl fun s _ => ?_
  rw [show IntOp.andi (IntOp.cmpi CmpIPredicate.sge (BitVec.ofNat 32 s.val) (IntOp.muli (BitVec.ofNat 32 l.val) 64#32))
    (IntOp.cmpi CmpIPredicate.slt (BitVec.ofNat 32 s.val) (IntOp.muli (IntOp.addi (BitVec.ofNat 32 l.val) 1#32) 64#32)) = _ from inGroup_word s l]
  split_ifs <;> simp [Scalar.select]

omit H in
/-- The reference's gradient of the step's logarithm. -/
theorem ref_step (l : Fin 128) : val_main_v146 (F := Ideal) x0 x1 x2 x3 x4 x5 x6 x7 x8 (ix2 0 l)
    = if h : l.val < 24 then ((∑ n, val_main_v122 x0 x1 x2 x3 x4 x5 x6 x7 x8 (ix2 ⟨l.val, h⟩ n)) + ∑ n, val_main_v129 x0 x1 x2 x3 x4 x5 x6 x7 x8 (ix2 ⟨l.val, h⟩ n))
        * Ideal.exp (x2 (ix2 0 ⟨l.val, h⟩)) else 0 := by
  unfold val_main_v146 val_main_v140 val_main_v137 val_main_v136 val_main_v132 val_main_v131 val_main_v130 val_main_v124 val_main_v123
  generalize val_main_v122 (F := Ideal) x0 x1 x2 x3 x4 x5 x6 x7 x8 = y
  generalize val_main_v129 (F := Ideal) x0 x1 x2 x3 x4 x5 x6 x7 x8 = z
  by_cases h : l.val < 24
  · rw [dif_pos h]
    pointwise [val_main_v5, val_main_v2, val_main_cst_9, val_main_cst_10, val_main_cst_11]
    rw [dif_pos h, Fin.sum_univ_one]
  · rw [dif_neg h]
    pointwise [val_main_v145, val_main_cst_12]
    rw [dif_neg h]

/-- The gradient of the step's logarithm: a lane for every group, and zeros beyond. -/
theorem dlog_at (hfin : ∀ i, IsReal (x2 i)) (l : Fin 128) : (k0_pay1 (k0_pay45 (k0_pay47 P0 P1 P2 P3 P4 P5 P6 P7 P8) (k0_pay48 P0 P1 P2 P3 P4 P5 P6 P7 P8) (k0_pay51 P0 P1 P2 P3 P4 P5 P6 P7 P8) (k0_pay52 P0 P1 P2 P3 P4 P5 P6 P7 P8) (k0_pay53 P0 P1 P2 P3 P4 P5 P6 P7 P8) (k0_pay54 P0 P1 P2 P3 P4 P5 P6 P7 P8) (k0_pay55 P0 P1 P2 P3 P4 P5 P6 P7 P8) (k0_pay56 P0 P1 P2 P3 P4 P5 P6 P7 P8) (k0_pay59 P0 P1 P2 P3 P4 P5 P6 P7 P8) (k0_pay62 P0 P1 P2 P3 P4 P5 P6 P7 P8) (k0_pay63 P0 P1 P2 P3 P4 P5 P6 P7 P8) (k0_pay64 P0 P1 P2 P3 P4 P5 P6 P7 P8)) k0_pay46 (Scalar.ofBits .f32 0x3F800000#32)) (ix2 0 l) = val_main_v146 x0 x1 x2 x3 x4 x5 x6 x7 x8 (ix2 0 l) := by
  rw [ref_step]
  refine (lanes_at _ l).trans ((sum_inGroup _ l).trans ?_)
  split_ifs with h
  · obtain ⟨d, hd⟩ := hfin (ix2 0 ⟨l.val, h⟩)
    rw [hd, Ideal.exp_coe, ← Finset.sum_add_distrib, sum_mul_nonneg _ _ (Real.exp_pos d).le]
    refine Finset.sum_congr rfl fun n _ => (dstep_row H ⟨l.val, h⟩ n).trans ?_
    pointwise [val_main_v7, val_main_v6, val_main_v5, val_main_v2]
    rw [hd, Ideal.exp_coe]
  · rfl

end Cert.ParamIdeal.Hand

end
-- ==== Proof.Param.Final.lean ====
module

public import proofs.«01_k».proof.Proof.Param.Value
public import Idealize.ShloMosaic.Lib.StableHlo.RunRead
public import Idealize.ShloMosaic.Lib.StableHlo.ReadAt

/-! # What the call on the discretisation's gradients leaves are the reference's arrays -/

@[expose] public section

set_option maxRecDepth 16384

noncomputable section

namespace Cert.ParamIdeal.Hand

open Cert.ParamIdeal Cert.ParamIdeal.Gen Idealize.ShloMosaic Idealize.ShloMosaic.TcCoe Idealize.SL.Sem
open Cert.StepMath
open Cert.ParamRefIdeal.Read

variable (m : (ℓ : Loc nD τ sig) → Buf (Elt Ideal) ℓ) (c : Dev nD) (t : Fin cfg0.N)

abbrev A0 : Vec Ideal Cert.ParamRefIdeal.S1x24x64 .f32 := m (c, Proc.tc.devRef main_arg0)
abbrev A1 : Vec Ideal Cert.ParamRefIdeal.S1x24x64 .f32 := m (c, Proc.tc.devRef main_arg1)
abbrev A2 : Vec Ideal Cert.ParamRefIdeal.S1x24 .f32 := m (c, Proc.tc.devRef main_arg2)
abbrev A3 : Vec Ideal Cert.ParamRefIdeal.S1x24x64x16 .f32 := m (c, Proc.tc.devRef main_arg3)
abbrev A4 : Vec Ideal Cert.ParamRefIdeal.S1x24x64x16 .f32 := m (c, Proc.tc.devRef main_arg4)
abbrev A5 : Vec Ideal Cert.ParamRefIdeal.S24x64 .f32 := m (c, Proc.tc.devRef main_arg5)
abbrev A6 : Vec Ideal Cert.ParamRefIdeal.S24x64 .f32 := m (c, Proc.tc.devRef main_arg6)
abbrev A7 : Vec Ideal Cert.ParamRefIdeal.S24x64x16 .f32 := m (c, Proc.tc.devRef main_arg7)
abbrev A8 : Vec Ideal Cert.ParamRefIdeal.S24x64x16 .f32 := m (c, Proc.tc.devRef main_arg8)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

/-! ## The arrays the kernel reads hold the arguments -/

theorem in0 (g : Fin 24) (n : Fin 64) : (iblk m c 0 t : Vec Ideal S1x1536 .f32) (ix2 0 (st g n)) = val_main_v0 (A0 m c) (ix2 g n) := by
  refine Eq.trans (b := (V m c main_v3 : Vec Ideal S1x1536 .f32) (ix2 0 (st g n))) (by blk_point [iblk, idx t]) ?_
  show StableHlo.after hostOps0 (fun b => m (c, b)) (Proc.devRef .tc main_v3) (ix2 0 (st g n)) = _
  after_reads_at
  pointwise [st, val_main_v0]
  simp only [st_div, st_mod]
theorem in1 (g : Fin 24) (n : Fin 64) : (iblk m c 1 t : Vec Ideal S1x1536 .f32) (ix2 0 (st g n)) = val_main_v1 (A1 m c) (ix2 g n) := by
  refine Eq.trans (b := (V m c main_v4 : Vec Ideal S1x1536 .f32) (ix2 0 (st g n))) (by blk_point [iblk, idx t]) ?_
  show StableHlo.after hostOps0 (fun b => m (c, b)) (Proc.devRef .tc main_v4) (ix2 0 (st g n)) = _
  after_reads_at
  pointwise [st, val_main_v1]
  simp only [st_div, st_mod]
theorem in2 (g : Fin 24) (n : Fin 64) : (iblk m c 2 t : Vec Ideal S1x1536 .f32) (ix2 0 (st g n)) = A2 m c (ix2 0 g) := by
  refine Eq.trans (b := (V m c main_v2 : Vec Ideal S1x1536 .f32) (ix2 0 (st g n))) (by blk_point [iblk, idx t]) ?_
  show StableHlo.after hostOps0 (fun b => m (c, b)) (Proc.devRef .tc main_v2) (ix2 0 (st g n)) = _
  after_reads_at
  pointwise [st]
  simp only [st_div, st_mod]
theorem in5 (g : Fin 24) (n : Fin 64) : (iblk m c 5 t : Vec Ideal S1x1536 .f32) (ix2 0 (st g n)) = A5 m c (ix2 g n) := by
  refine Eq.trans (b := (V m c main_v11 : Vec Ideal S1x1536 .f32) (ix2 0 (st g n))) (by blk_point [iblk, idx t]) ?_
  show StableHlo.after hostOps0 (fun b => m (c, b)) (Proc.devRef .tc main_v11) (ix2 0 (st g n)) = _
  after_reads_at
  pointwise [st]
  simp only [st_div, st_mod]
theorem in6 (g : Fin 24) (n : Fin 64) : (iblk m c 6 t : Vec Ideal S1x1536 .f32) (ix2 0 (st g n)) = A6 m c (ix2 g n) := by
  refine Eq.trans (b := (V m c main_v12 : Vec Ideal S1x1536 .f32) (ix2 0 (st g n))) (by blk_point [iblk, idx t]) ?_
  show StableHlo.after hostOps0 (fun b => m (c, b)) (Proc.devRef .tc main_v12) (ix2 0 (st g n)) = _
  after_reads_at
  pointwise [st]
  simp only [st_div, st_mod]
theorem in3 (j : Fin 16) (g : Fin 24) (n : Fin 64) : (iblk m c 3 t : Vec Ideal S16x1536 .f32) (ix2 j (st g n)) = val_main_v3 (A3 m c) (ix3 g n j) := by
  refine Eq.trans (b := (V m c main_v7 : Vec Ideal S16x1536 .f32) (ix2 j (st g n))) (by blk_point [iblk, idx t]) ?_
  show StableHlo.after hostOps0 (fun b => m (c, b)) (Proc.devRef .tc main_v7) (ix2 j (st g n)) = _
  after_reads_at
  pointwise [st, val_main_v3]
  simp only [st_div, st_mod]
theorem in4 (j : Fin 16) (g : Fin 24) (n : Fin 64) : (iblk m c 4 t : Vec Ideal S16x1536 .f32) (ix2 j (st g n)) = val_main_v4 (A4 m c) (ix3 g n j) := by
  refine Eq.trans (b := (V m c main_v10 : Vec Ideal S16x1536 .f32) (ix2 j (st g n))) (by blk_point [iblk, idx t]) ?_
  show StableHlo.after hostOps0 (fun b => m (c, b)) (Proc.devRef .tc main_v10) (ix2 j (st g n)) = _
  after_reads_at
  pointwise [st, val_main_v4]
  simp only [st_div, st_mod]
theorem in7 (j : Fin 16) (g : Fin 24) (n : Fin 64) : (iblk m c 7 t : Vec Ideal S16x1536 .f32) (ix2 j (st g n)) = A7 m c (ix3 g n j) := by
  refine Eq.trans (b := (V m c main_v14 : Vec Ideal S16x1536 .f32) (ix2 j (st g n))) (by blk_point [iblk, idx t]) ?_
  show StableHlo.after hostOps0 (fun b => m (c, b)) (Proc.devRef .tc main_v14) (ix2 j (st g n)) = _
  after_reads_at
  pointwise [st]
  simp only [st_div, st_mod]
theorem in8 (j : Fin 16) (g : Fin 24) (n : Fin 64) : (iblk m c 8 t : Vec Ideal S16x1536 .f32) (ix2 j (st g n)) = A8 m c (ix3 g n j) := by
  refine Eq.trans (b := (V m c main_v16 : Vec Ideal S16x1536 .f32) (ix2 j (st g n))) (by blk_point [iblk, idx t]) ?_
  show StableHlo.after hostOps0 (fun b => m (c, b)) (Proc.devRef .tc main_v16) (ix2 j (st g n)) = _
  after_reads_at
  pointwise [st]
  simp only [st_div, st_mod]

theorem holds : Holds (iblk m c 0 t) (iblk m c 1 t) (iblk m c 2 t) (iblk m c 5 t) (iblk m c 6 t) (iblk m c 3 t) (iblk m c 4 t) (iblk m c 7 t) (iblk m c 8 t) (A0 m c) (A1 m c) (A2 m c) (A3 m c) (A4 m c) (A5 m c) (A6 m c) (A7 m c) (A8 m c) :=
  ⟨in0 m c t, in1 m c t, in2 m c t, in3 m c t, in4 m c t, in5 m c t, in6 m c t, in7 m c t, in8 m c t⟩

/-! ## The results -/

theorem out_row (w : Vec Ideal S1x1536 .f32) (x : S1x1536.Idx) : View.canon [(⟨r0_0, w⟩ : View.Piece (Elt Ideal) S1x1536 .f32)] x = w x := by
  frame_out
theorem out_mat (w : Vec Ideal S16x1536 .f32) (x : S16x1536.Idx) : View.canon [(⟨r0_1, w⟩ : View.Piece (Elt Ideal) S16x1536 .f32)] x = w x := by
  frame_out
theorem out_lanes (w : Vec Ideal S1x128 .f32) (x : S1x128.Idx) : View.canon [(⟨r0_2, w⟩ : View.Piece (Elt Ideal) S1x128 .f32)] x = w x := by
  frame_out

/-- The gradient of the real parts of `lam`. -/
theorem final9 : (dats m 0 c).arrAt 9 cfg0.N = val_main_v143 (F := Ideal) (A0 m c) (A1 m c) (A2 m c) (A3 m c) (A4 m c) (A5 m c) (A6 m c) (A7 m c) (A8 m c) := by
  refine (dats m 0 c).arrAt_eq_of_covers 9 _ (by decide +kernel) fun t _ y => ?_
  blk_simp
  rw [after0_9]
  obtain ⟨q, s, rfl⟩ : ∃ (q : Fin 1) (s : Fin 1536), y = ix2 q s := ⟨y 0, y 1, by blk_ext []⟩
  obtain ⟨g, n, rfl⟩ := exists_st s
  obtain rfl : q = 0 := Subsingleton.elim _ _
  rw [show ((View.whole main_v17_0).slice (win0_9.rect t)).emb (ix2 0 (st g n)) = (ix2 0 (st g n)) from by blk_ext [idx t]]
  refine ((out_row _ _).trans (dre_row (holds m c t) g n)).trans ?_
  unfold val_main_v143 val_main_v142
  generalize val_main_v135 (F := Ideal) (A0 m c) (A1 m c) (A2 m c) (A3 m c) (A4 m c) (A5 m c) (A6 m c) (A7 m c) (A8 m c) = y
  pointwise [st]

/-- The gradient of the imaginary parts of `lam`. -/
theorem final10 : (dats m 0 c).arrAt 10 cfg0.N = val_main_v144 (F := Ideal) (A0 m c) (A1 m c) (A2 m c) (A3 m c) (A4 m c) (A5 m c) (A6 m c) (A7 m c) (A8 m c) := by
  refine (dats m 0 c).arrAt_eq_of_covers 10 _ (by decide +kernel) fun t _ y => ?_
  blk_simp
  rw [after0_10]
  obtain ⟨q, s, rfl⟩ : ∃ (q : Fin 1) (s : Fin 1536), y = ix2 q s := ⟨y 0, y 1, by blk_ext []⟩
  obtain ⟨g, n, rfl⟩ := exists_st s
  obtain rfl : q = 0 := Subsingleton.elim _ _
  rw [show ((View.whole main_v17_1).slice (win0_10.rect t)).emb (ix2 0 (st g n)) = (ix2 0 (st g n)) from by blk_ext [idx t]]
  refine ((out_row _ _).trans (dim_row (holds m c t) g n)).trans ?_
  unfold val_main_v144 val_main_v141
  generalize val_main_v127 (F := Ideal) (A0 m c) (A1 m c) (A2 m c) (A3 m c) (A4 m c) (A5 m c) (A6 m c) (A7 m c) (A8 m c) = y
  pointwise [st]

/-- The gradient of the input matrix's real part. -/
theorem final12 : (dats m 0 c).arrAt 12 cfg0.N = val_main_v149 (F := Ideal) (A0 m c) (A1 m c) (A2 m c) (A7 m c) (A8 m c) := by
  refine (dats m 0 c).arrAt_eq_of_covers 12 _ (by decide +kernel) fun t _ y => ?_
  blk_simp
  rw [after0_12]
  obtain ⟨j, s, rfl⟩ : ∃ (j : Fin 16) (s : Fin 1536), y = ix2 j s := ⟨y 0, y 1, by blk_ext []⟩
  obtain ⟨g, n, rfl⟩ := exists_st s
  rw [show ((View.whole main_v17_3).slice (win0_12.rect t)).emb (ix2 j (st g n)) = (ix2 j (st g n)) from by blk_ext [idx t]]
  refine ((out_mat _ _).trans (dbre_mat (holds m c t) j g n)).trans ?_
  unfold val_main_v149 val_main_v148 val_main_v147 val_main_v139
  generalize val_main_v74 (F := Ideal) (A0 m c) (A1 m c) (A2 m c) (A7 m c) (A8 m c) = y
  pointwise [st]

/-- The gradient of the input matrix's imaginary part. -/
theorem final13 : (dats m 0 c).arrAt 13 cfg0.N = val_main_v152 (F := Ideal) (A0 m c) (A1 m c) (A2 m c) (A7 m c) (A8 m c) := by
  refine (dats m 0 c).arrAt_eq_of_covers 13 _ (by decide +kernel) fun t _ y => ?_
  blk_simp
  rw [after0_13]
  obtain ⟨j, s, rfl⟩ : ∃ (j : Fin 16) (s : Fin 1536), y = ix2 j s := ⟨y 0, y 1, by blk_ext []⟩
  obtain ⟨g, n, rfl⟩ := exists_st s
  rw [show ((View.whole main_v17_4).slice (win0_13.rect t)).emb (ix2 j (st g n)) = (ix2 j (st g n)) from by blk_ext [idx t]]
  refine ((out_mat _ _).trans (dbim_mat (holds m c t) j g n)).trans ?_
  unfold val_main_v152 val_main_v151 val_main_v150 val_main_v138
  generalize val_main_v67 (F := Ideal) (A0 m c) (A1 m c) (A2 m c) (A7 m c) (A8 m c) = y
  pointwise [st]

/-- The gradient of the step's logarithm, which is finite. -/
theorem final11 (hfin : ∀ i, IsReal (A2 m c i)) : (dats m 0 c).arrAt 11 cfg0.N = val_main_v146 (F := Ideal) (A0 m c) (A1 m c) (A2 m c) (A3 m c) (A4 m c) (A5 m c) (A6 m c) (A7 m c) (A8 m c) := by
  refine (dats m 0 c).arrAt_eq_of_covers 11 _ (by decide +kernel) fun t _ y => ?_
  blk_simp
  rw [after0_11]
  obtain ⟨q, l, rfl⟩ : ∃ (q : Fin 1) (l : Fin 128), y = ix2 q l := ⟨y 0, y 1, by blk_ext []⟩
  obtain rfl : q = 0 := Subsingleton.elim _ _
  rw [show ((View.whole main_v17_2).slice (win0_11.rect t)).emb (ix2 0 l) = ix2 0 l from by blk_ext [idx t]]
  exact (out_lanes _ _).trans (dlog_at (holds m c t) hfin l)

end Cert.ParamIdeal.Hand

end
-- ==== Proof.Param.Claims.lean ====
module

public import proofs.«01_k».proof.Defs
public import proofs.«01_k».proof.Proof.Gen.Param
public import proofs.«01_k».proof.Proof.Gen.Param.Frame
public import proofs.«01_k».proof.Proof.Gen.ParamRefIdeal.Run
public import proofs.«01_k».proof.Proof.Gen.Pre_steps_finite
public import proofs.«01_k».proof.Proof.Param.Final
public import proofs.«01_k».proof.Proof.Math.Finite

/-! # The claims about the discretisation's gradients -/

@[expose] public section

set_option maxRecDepth 16384

noncomputable section

namespace Cert.ParamClaims

open Idealize.ShloMosaic Idealize.ShloMosaic.TcCoe Idealize.SL.Sem
open Cert.StepMath

attribute [local instance] Cert.Param.Gen.facts Cert.ParamIdeal.Gen.facts Cert.ParamRefIdeal.Gen.facts Cert.Pre_steps_finite.Gen.facts

theorem frame_ref : Cert.quiescent_ParamRefIdeal := by
  intro m g _
  exact (θ_run Cert.ParamRefIdeal.defs _ _).mono (fun r h => ⟨fun c => (h c).2.2.2.2.2, sem_eq_zero_of_no_sems (by decide) r.2⟩)
    (Cert.ParamRefIdeal.Value.run m g)

theorem frame_ref_pre : Cert.quiescent_ParamRefIdeal_pre_steps_finite := fun m g _ => frame_ref m g trivial

variable (m : (ℓ : Loc Cert.ParamIdeal.nD Cert.ParamIdeal.τ Cert.ParamIdeal.sig) → Buf (Elt Ideal) ℓ)
  (m' : (ℓ : Loc Cert.ParamRefIdeal.nD Cert.ParamRefIdeal.τ Cert.ParamRefIdeal.sig) → Buf (Elt Ideal) ℓ) (c : Dev Cert.ParamIdeal.nD)
open Cert.ParamIdeal.Hand Cert.ParamRefIdeal.Read

/-- The two programs were given the same arrays. -/
def Agree : Prop := m' ((c.tc : Thread Cert.ParamRefIdeal.nD Cert.ParamRefIdeal.τ).loc Cert.ParamRefIdeal.main_arg0) = A0 m c
    ∧ m' ((c.tc : Thread Cert.ParamRefIdeal.nD Cert.ParamRefIdeal.τ).loc Cert.ParamRefIdeal.main_arg1) = A1 m c
    ∧ m' ((c.tc : Thread Cert.ParamRefIdeal.nD Cert.ParamRefIdeal.τ).loc Cert.ParamRefIdeal.main_arg2) = A2 m c
    ∧ m' ((c.tc : Thread Cert.ParamRefIdeal.nD Cert.ParamRefIdeal.τ).loc Cert.ParamRefIdeal.main_arg3) = A3 m c
    ∧ m' ((c.tc : Thread Cert.ParamRefIdeal.nD Cert.ParamRefIdeal.τ).loc Cert.ParamRefIdeal.main_arg4) = A4 m c
    ∧ m' ((c.tc : Thread Cert.ParamRefIdeal.nD Cert.ParamRefIdeal.τ).loc Cert.ParamRefIdeal.main_arg5) = A5 m c
    ∧ m' ((c.tc : Thread Cert.ParamRefIdeal.nD Cert.ParamRefIdeal.τ).loc Cert.ParamRefIdeal.main_arg6) = A6 m c
    ∧ m' ((c.tc : Thread Cert.ParamRefIdeal.nD Cert.ParamRefIdeal.τ).loc Cert.ParamRefIdeal.main_arg7) = A7 m c
    ∧ m' ((c.tc : Thread Cert.ParamRefIdeal.nD Cert.ParamRefIdeal.τ).loc Cert.ParamRefIdeal.main_arg8) = A8 m c

/-- What the kernel's run leaves: its five results, and its arguments unchanged. -/
theorem kernel_run (g : Dev Cert.ParamIdeal.nD → PrngReg) :
    θ_run (Cert.ParamIdeal.defs (F := Ideal)) (onTc (τ := Cert.ParamIdeal.τ) (Cert.ParamIdeal.main (F := Ideal))) ⟨m, fun _ => 0, g⟩ (fun r => ∀ c : Dev Cert.ParamIdeal.nD,
      r.2.mem ((c.tc : Thread Cert.ParamIdeal.nD Cert.ParamIdeal.τ).loc Cert.ParamIdeal.main_v17_0) = (Cert.ParamIdeal.Gen.dats m 0 c).arrAt 9 Cert.ParamIdeal.cfg0.N
      ∧ r.2.mem ((c.tc : Thread Cert.ParamIdeal.nD Cert.ParamIdeal.τ).loc Cert.ParamIdeal.main_v17_1) = (Cert.ParamIdeal.Gen.dats m 0 c).arrAt 10 Cert.ParamIdeal.cfg0.N
      ∧ r.2.mem ((c.tc : Thread Cert.ParamIdeal.nD Cert.ParamIdeal.τ).loc Cert.ParamIdeal.main_v17_2) = (Cert.ParamIdeal.Gen.dats m 0 c).arrAt 11 Cert.ParamIdeal.cfg0.N
      ∧ r.2.mem ((c.tc : Thread Cert.ParamIdeal.nD Cert.ParamIdeal.τ).loc Cert.ParamIdeal.main_v17_3) = (Cert.ParamIdeal.Gen.dats m 0 c).arrAt 12 Cert.ParamIdeal.cfg0.N
      ∧ r.2.mem ((c.tc : Thread Cert.ParamIdeal.nD Cert.ParamIdeal.τ).loc Cert.ParamIdeal.main_v17_4) = (Cert.ParamIdeal.Gen.dats m 0 c).arrAt 13 Cert.ParamIdeal.cfg0.N
      ∧ r.2.mem ((c.tc : Thread Cert.ParamIdeal.nD Cert.ParamIdeal.τ).loc Cert.ParamIdeal.main_arg0) = A0 m c
      ∧ r.2.mem ((c.tc : Thread Cert.ParamIdeal.nD Cert.ParamIdeal.τ).loc Cert.ParamIdeal.main_arg1) = A1 m c
      ∧ r.2.mem ((c.tc : Thread Cert.ParamIdeal.nD Cert.ParamIdeal.τ).loc Cert.ParamIdeal.main_arg2) = A2 m c
      ∧ r.2.mem ((c.tc : Thread Cert.ParamIdeal.nD Cert.ParamIdeal.τ).loc Cert.ParamIdeal.main_arg3) = A3 m c
      ∧ r.2.mem ((c.tc : Thread Cert.ParamIdeal.nD Cert.ParamIdeal.τ).loc Cert.ParamIdeal.main_arg4) = A4 m c
      ∧ r.2.mem ((c.tc : Thread Cert.ParamIdeal.nD Cert.ParamIdeal.τ).loc Cert.ParamIdeal.main_arg5) = A5 m c
      ∧ r.2.mem ((c.tc : Thread Cert.ParamIdeal.nD Cert.ParamIdeal.τ).loc Cert.ParamIdeal.main_arg6) = A6 m c
      ∧ r.2.mem ((c.tc : Thread Cert.ParamIdeal.nD Cert.ParamIdeal.τ).loc Cert.ParamIdeal.main_arg7) = A7 m c
      ∧ r.2.mem ((c.tc : Thread Cert.ParamIdeal.nD Cert.ParamIdeal.τ).loc Cert.ParamIdeal.main_arg8) = A8 m c) :=
  (θ_run Cert.ParamIdeal.defs _ _).mono (fun _ h c => ⟨(h.2 c).1 9, (h.2 c).1 10, (h.2 c).1 11, (h.2 c).1 12, (h.2 c).1 13, h.1 c⟩)
    (θ_run_and (Cert.ParamIdeal.Gen.unchanged m g) (Cert.ParamIdeal.Gen.run_main m g))

/-- The reference and the kernel end with the same five arrays, when the arguments agree. -/
theorem results_eq (hf : ∀ i, IsReal (A2 m c i)) (h : Agree m m' c) :
    Cert.ParamRefIdeal.Value.res_main_v143 m' c = (Cert.ParamIdeal.Gen.dats m 0 c).arrAt 9 Cert.ParamIdeal.cfg0.N
    ∧ Cert.ParamRefIdeal.Value.res_main_v144 m' c = (Cert.ParamIdeal.Gen.dats m 0 c).arrAt 10 Cert.ParamIdeal.cfg0.N
    ∧ Cert.ParamRefIdeal.Value.res_main_v146 m' c = (Cert.ParamIdeal.Gen.dats m 0 c).arrAt 11 Cert.ParamIdeal.cfg0.N
    ∧ Cert.ParamRefIdeal.Value.res_main_v149 m' c = (Cert.ParamIdeal.Gen.dats m 0 c).arrAt 12 Cert.ParamIdeal.cfg0.N
    ∧ Cert.ParamRefIdeal.Value.res_main_v152 m' c = (Cert.ParamIdeal.Gen.dats m 0 c).arrAt 13 Cert.ParamIdeal.cfg0.N := by
  obtain ⟨e0, e1, e2, e3, e4, e5, e6, e7, e8⟩ := h
  refine ⟨(val_main_v143_eq m' c).trans (Eq.trans ?_ (final9 m c).symm), (val_main_v144_eq m' c).trans (Eq.trans ?_ (final10 m c).symm),
    (val_main_v146_eq m' c).trans (Eq.trans ?_ (final11 m c hf).symm), (val_main_v149_eq m' c).trans (Eq.trans ?_ (final12 m c).symm),
    (val_main_v152_eq m' c).trans (Eq.trans ?_ (final13 m c).symm)⟩ <;> simp only [e0, e1, e2, e3, e4, e5, e6, e7, e8]

theorem algebraic : Cert.algebraic_ParamIdeal_ParamRefIdeal_pre_steps_finite := by
  intro m g m' g' hpre hagree
  refine ⟨_, _, _, _, _, kernel_run m g, (θ_run _ _ _).mono (fun r h c => ?_) (Cert.ParamRefIdeal.Value.run m' g')⟩
  obtain ⟨e0, e1, e2, e3, e4⟩ := results_eq m m' c (isReal_of_ones _ _ (hpre c)) (hagree c)
  obtain ⟨r0, r1, r2, r3, r4, k⟩ := h c
  exact ⟨r0.trans e0, r1.trans e1, r2.trans e2, r3.trans e3, r4.trans e4, k⟩

end Cert.ParamClaims

end
-- ==== Proof.lean ====
module

public import proofs.«01_k».proof.Defs
public import proofs.«01_k».proof.Proof.InProj.Claims
public import proofs.«01_k».proof.Proof.Attn.FwdClaims
public import proofs.«01_k».proof.Proof.Attn.BwdClaims
public import proofs.«01_k».proof.Proof.Tail.Claims
public import proofs.«01_k».proof.Proof.Pool.Claims
public import proofs.«01_k».proof.Proof.Param.Claims
public import proofs.«01_k».proof.Proof.Gen.InProjBwd.Frame
public import proofs.«01_k».proof.Proof.Gen.InProjBwdIdeal.Frame
public import proofs.«01_k».proof.Proof.Gen.InProjBwdIdeal.Value
public import proofs.«01_k».proof.Proof.Gen.InProjBwdRefIdeal.Run
public import proofs.«01_k».proof.Proof.Gen.InProjBwdRefIdeal.Read
public import proofs.«01_k».proof.Proof.Gen.Pre_in_proj_finite
public import proofs.«01_k».proof.Proof.Gen.Pre_attn_finite
public import proofs.«01_k».proof.Proof.Gen.Pre_tail_finite
public import proofs.«01_k».proof.Proof.Gen.Pre_pool_finite
public import proofs.«01_k».proof.Proof.Gen.Pre_steps_finite
public import proofs.«01_k».proof.Proof.Gen.Param.Frame
public import proofs.«01_k».proof.Proof.Gen.ParamIdeal.Frame
public import proofs.«01_k».proof.Proof.Gen.ParamRefIdeal.Run
public import proofs.«01_k».proof.Proof.Gen.ParamRefIdeal.Read
public import proofs.«01_k».proof.Proof.Gen.Pool.Frame
public import proofs.«01_k».proof.Proof.Gen.PoolIdeal.Frame
public import proofs.«01_k».proof.Proof.Gen.PoolRefIdeal.Run
public import proofs.«01_k».proof.Proof.Gen.PoolRefIdeal.Read
public import proofs.«01_k».proof.Proof.Gen.Tail.Frame
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnBwd.Frame
public import proofs.«01_k».proof.Proof.Gen.AttnBwdIdeal.Frame
public import proofs.«01_k».proof.Proof.Gen.AttnBwdIdeal.Value
public import proofs.«01_k».proof.Proof.Gen.AttnFwdRefIdeal.Run
public import proofs.«01_k».proof.Proof.Gen.AttnFwdRefIdeal.Read
public import proofs.«01_k».proof.Proof.Gen.AttnBwdRefIdeal.Run
public import proofs.«01_k».proof.Proof.Gen.AttnBwdRefIdeal.Read
public import Idealize.ShloMosaic.Adequacy
public import Idealize.ShloMosaic.Init

@[expose] public section

noncomputable section

namespace Cert.Proof

open Idealize.ShloMosaic Idealize.SL.Sem

/-- The programs terminate, change nothing but their results and leave every semaphore at zero; each kernel ends with what the reference ends with. -/
theorem claim : Cert.Claim := ⟨Cert.InProjBwd.Gen.facts, Cert.InProjBwdIdeal.Gen.facts, Cert.InProjBwdRefIdeal.Gen.facts, Cert.AttnFwd.Gen.facts, Cert.AttnFwdIdeal.Gen.facts,
  Cert.AttnFwdRefIdeal.Gen.facts, Cert.AttnBwd.Gen.facts, Cert.AttnBwdIdeal.Gen.facts, Cert.AttnBwdRefIdeal.Gen.facts, Cert.Tail.Gen.facts, Cert.TailIdeal.Gen.facts,
  Cert.TailRefIdeal.Gen.facts, Cert.Pool.Gen.facts, Cert.PoolIdeal.Gen.facts, Cert.PoolRefIdeal.Gen.facts, Cert.Param.Gen.facts,
  Cert.ParamIdeal.Gen.facts, Cert.ParamRefIdeal.Gen.facts, Cert.Pre_in_proj_finite.Gen.facts, Cert.Pre_attn_finite.Gen.facts, Cert.Pre_tail_finite.Gen.facts,
  Cert.Pre_pool_finite.Gen.facts, Cert.Pre_steps_finite.Gen.facts, by
  exact ⟨fun m ρ _ => Cert.InProjBwd.Gen.frame m ρ, fun m ρ _ => Cert.InProjBwdIdeal.Gen.frame m ρ, fun m ρ _ => Cert.InProjBwdIdeal.Gen.frame m ρ,
    Cert.InProj.frame_ref, Cert.InProj.frame_ref_pre,
    fun m ρ _ => Cert.AttnFwd.Gen.frame m ρ, fun m ρ _ => Cert.AttnFwdIdeal.Gen.frame m ρ, Cert.AttnFwdClaims.frame_ref,
    fun m ρ _ => Cert.AttnBwd.Gen.frame m ρ, fun m ρ _ => Cert.AttnBwdIdeal.Gen.frame m ρ, fun m ρ _ => Cert.AttnBwdIdeal.Gen.frame m ρ,
    Cert.AttnBwdClaims.frame_ref, Cert.AttnBwdClaims.frame_ref_pre,
    fun m ρ _ => Cert.Tail.Gen.frame m ρ, fun m ρ _ => Cert.TailIdeal.Gen.frame m ρ, fun m ρ _ => Cert.TailIdeal.Gen.frame m ρ,
    Cert.TailClaims.frame_ref, Cert.TailClaims.frame_ref_pre,
    fun m ρ _ => Cert.Pool.Gen.frame m ρ, fun m ρ _ => Cert.PoolIdeal.Gen.frame m ρ, fun m ρ _ => Cert.PoolIdeal.Gen.frame m ρ,
    Cert.PoolClaims.frame_ref, Cert.PoolClaims.frame_ref_pre,
    fun m ρ _ => Cert.Param.Gen.frame m ρ, fun m ρ _ => Cert.ParamIdeal.Gen.frame m ρ, fun m ρ _ => Cert.ParamIdeal.Gen.frame m ρ,
    Cert.ParamClaims.frame_ref, Cert.ParamClaims.frame_ref_pre,
    trivial, Cert.InProj.algebraic, trivial, Cert.AttnFwdClaims.algebraic, trivial, Cert.AttnBwdClaims.algebraic,
    trivial, Cert.TailClaims.algebraic, trivial, Cert.PoolClaims.algebraic, trivial, Cert.ParamClaims.algebraic⟩⟩

end Cert.Proof

end
